-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite_fwd [hPre_finite_fwd : Cert.Pre_finite_fwd.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite_fwd.fn (F := Ideal) (m ((c.tc : Thread Cert.Kernel21Ideal.nD Cert.Kernel21Ideal.τ).loc Cert.Kernel21Ideal.main_arg0))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite_fwd [hPre_finite_fwd : Cert.Pre_finite_fwd.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite_fwd.fn (F := Ideal) (m ((c.tc : Thread Cert.Reference21Ideal.nD Cert.Reference21Ideal.τ).loc Cert.Reference21Ideal.main_arg0))) = (fun _ => 1#1)

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Kernel30Ideal_finite_pool [hPre_finite_pool : Cert.Pre_finite_pool.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_finite_pool.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_finite_pool [hPre_finite_pool : Cert.Pre_finite_pool.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_finite_pool.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Kernel21Ideal_pre_finite_fwd [hKernel21Ideal : Cert.Kernel21Ideal.Facts] [hPre_finite_fwd : Cert.Pre_finite_fwd.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite_fwd m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def quiescent_Reference21Ideal_pre_finite_fwd [hReference21Ideal : Cert.Reference21Ideal.Facts] [hPre_finite_fwd : Cert.Pre_finite_fwd.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite_fwd m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Kernel30Ideal_pre_finite_pool [hKernel30Ideal : Cert.Kernel30Ideal.Facts] [hPre_finite_pool : Cert.Pre_finite_pool.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal_finite_pool m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Reference30Ideal_pre_finite_pool [hReference30Ideal : Cert.Reference30Ideal.Facts] [hPre_finite_pool : Cert.Pre_finite_pool.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_finite_pool m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)) (v2 : (c : Dev Cert.Kernel22Ideal.nD) → Buf (Elt Ideal) ((c.tc : Thread Cert.Kernel22Ideal.nD Cert.Kernel22Ideal.τ).loc Cert.Kernel22Ideal.main_v1_2)) (v3 : (c : Dev Cert.Kernel22Ideal.nD) → Buf (Elt Ideal) ((c.tc : Thread Cert.Kernel22Ideal.nD Cert.Kernel22Ideal.τ).loc Cert.Kernel22Ideal.main_v1_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_v1_2) = v2 c
          ∧ r.2.mem ((c.tc : Thread Cert.Kernel22Ideal.nD Cert.Kernel22Ideal.τ).loc Cert.Kernel22Ideal.main_v1_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v30) = v0 c
          ∧ r.2.mem ((c.tc : Thread Cert.Reference22Ideal.nD Cert.Reference22Ideal.τ).loc Cert.Reference22Ideal.main_v31) = v1 c
          ∧ r.2.mem ((c.tc : Thread Cert.Reference22Ideal.nD Cert.Reference22Ideal.τ).loc Cert.Reference22Ideal.main_v32) = v2 c
          ∧ r.2.mem ((c.tc : Thread Cert.Reference22Ideal.nD Cert.Reference22Ideal.τ).loc Cert.Reference22Ideal.main_v33) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v1_1)) (v2 : (c : Dev Cert.Kernel23Ideal.nD) → Buf (Elt Ideal) ((c.tc : Thread Cert.Kernel23Ideal.nD Cert.Kernel23Ideal.τ).loc Cert.Kernel23Ideal.main_v1_2)) (v3 : (c : Dev Cert.Kernel23Ideal.nD) → Buf (Elt Ideal) ((c.tc : Thread Cert.Kernel23Ideal.nD Cert.Kernel23Ideal.τ).loc Cert.Kernel23Ideal.main_v1_3)) (v4 : (c : Dev Cert.Kernel23Ideal.nD) → Buf (Elt Ideal) ((c.tc : Thread Cert.Kernel23Ideal.nD Cert.Kernel23Ideal.τ).loc Cert.Kernel23Ideal.main_v1_4)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v1_1) = v1 c
          ∧ r.2.mem ((c.tc : Thread Cert.Kernel23Ideal.nD Cert.Kernel23Ideal.τ).loc Cert.Kernel23Ideal.main_v1_2) = v2 c
          ∧ r.2.mem ((c.tc : Thread Cert.Kernel23Ideal.nD Cert.Kernel23Ideal.τ).loc Cert.Kernel23Ideal.main_v1_3) = v3 c
          ∧ r.2.mem ((c.tc : Thread Cert.Kernel23Ideal.nD Cert.Kernel23Ideal.τ).loc Cert.Kernel23Ideal.main_v1_4) = v4 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v48) = v0 c
          ∧ r.2.mem ((c.tc : Thread Cert.Reference23Ideal.nD Cert.Reference23Ideal.τ).loc Cert.Reference23Ideal.main_v49) = v1 c
          ∧ r.2.mem ((c.tc : Thread Cert.Reference23Ideal.nD Cert.Reference23Ideal.τ).loc Cert.Reference23Ideal.main_v50) = v2 c
          ∧ r.2.mem ((c.tc : Thread Cert.Reference23Ideal.nD Cert.Reference23Ideal.τ).loc Cert.Reference23Ideal.main_v51) = v3 c
          ∧ r.2.mem ((c.tc : Thread Cert.Reference23Ideal.nD Cert.Reference23Ideal.τ).loc Cert.Reference23Ideal.main_v52) = v4 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v40) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)) (v2 : (c : Dev Cert.Kernel25Ideal.nD) → Buf (Elt Ideal) ((c.tc : Thread Cert.Kernel25Ideal.nD Cert.Kernel25Ideal.τ).loc Cert.Kernel25Ideal.main_v1_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_v1_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v36) = v0 c
          ∧ r.2.mem ((c.tc : Thread Cert.Reference25Ideal.nD Cert.Reference25Ideal.τ).loc Cert.Reference25Ideal.main_v37) = v1 c
          ∧ r.2.mem ((c.tc : Thread Cert.Reference25Ideal.nD Cert.Reference25Ideal.τ).loc Cert.Reference25Ideal.main_v38) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v13) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v34) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v3) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v14) = v0 c
          ∧ r.2.mem ((c.tc : Thread Cert.Reference28Ideal.nD Cert.Reference28Ideal.τ).loc Cert.Reference28Ideal.main_v15) = v1 c
          ∧ r.2.mem ((c.tc : Thread Cert.Reference28Ideal.nD Cert.Reference28Ideal.τ).loc Cert.Reference28Ideal.main_v8) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v6) = v2 c
          ∧ r.2.mem ((c.tc : Thread Cert.Reference29Ideal.nD Cert.Reference29Ideal.τ).loc Cert.Reference29Ideal.main_v12) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel21_Kernel21Ideal : Prop :=
  True

def algebraic_Kernel21Ideal_Reference21Ideal_pre_finite_fwd [hKernel21Ideal : Cert.Kernel21Ideal.Facts] [hReference21Ideal : Cert.Reference21Ideal.Facts] [hPre_finite_fwd : Cert.Pre_finite_fwd.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite_fwd m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v54) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def preserves_Kernel30_Kernel30Ideal : Prop :=
  True

def algebraic_Kernel30Ideal_Reference30Ideal_pre_finite_pool [hKernel30Ideal : Cert.Kernel30Ideal.Facts] [hReference30Ideal : Cert.Reference30Ideal.Facts] [hPre_finite_pool : Cert.Pre_finite_pool.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal_finite_pool m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v2) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v116) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel21 : Cert.Kernel21.Facts) (hKernel21Ideal : Cert.Kernel21Ideal.Facts) (hReference21Ideal : Cert.Reference21Ideal.Facts) (hKernel30 : Cert.Kernel30.Facts) (hKernel30Ideal : Cert.Kernel30Ideal.Facts) (hReference30Ideal : Cert.Reference30Ideal.Facts) (hPre_finite : Cert.Pre_finite.Facts) (hPre_finite_fwd : Cert.Pre_finite_fwd.Facts) (hPre_finite_pool : Cert.Pre_finite_pool.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel21 (hKernel21 := hKernel21)
    ∧ quiescent_Kernel21Ideal (hKernel21Ideal := hKernel21Ideal)
    ∧ quiescent_Kernel21Ideal_pre_finite_fwd (hKernel21Ideal := hKernel21Ideal) (hPre_finite_fwd := hPre_finite_fwd)
    ∧ quiescent_Reference21Ideal (hReference21Ideal := hReference21Ideal)
    ∧ quiescent_Reference21Ideal_pre_finite_fwd (hReference21Ideal := hReference21Ideal) (hPre_finite_fwd := hPre_finite_fwd)
    ∧ quiescent_Kernel30 (hKernel30 := hKernel30)
    ∧ quiescent_Kernel30Ideal (hKernel30Ideal := hKernel30Ideal)
    ∧ quiescent_Kernel30Ideal_pre_finite_pool (hKernel30Ideal := hKernel30Ideal) (hPre_finite_pool := hPre_finite_pool)
    ∧ quiescent_Reference30Ideal (hReference30Ideal := hReference30Ideal)
    ∧ quiescent_Reference30Ideal_pre_finite_pool (hReference30Ideal := hReference30Ideal) (hPre_finite_pool := hPre_finite_pool)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel21_Kernel21Ideal
    ∧ algebraic_Kernel21Ideal_Reference21Ideal_pre_finite_fwd (hKernel21Ideal := hKernel21Ideal) (hReference21Ideal := hReference21Ideal) (hPre_finite_fwd := hPre_finite_fwd)
    ∧ preserves_Kernel30_Kernel30Ideal
    ∧ algebraic_Kernel30Ideal_Reference30Ideal_pre_finite_pool (hKernel30Ideal := hKernel30Ideal) (hReference30Ideal := hReference30Ideal) (hPre_finite_pool := hPre_finite_pool)
-- ==== Pre_finite.lean ====
abbrev S8192x3072 : Shape := ⟨2, ![8192, 3072]⟩
abbrev S8192x512 : Shape := ⟨2, ![8192, 512]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  bcast_S_S8192x512 : S_.BroadcastsInDim S8192x512 (![] : Fin 0 → Fin S8192x512.rank)

variable [Facts]

def fn {F : FTy → Type} [FloatOps F] (main_arg0 : FVec F S8192x3072 .bf16) (main_arg1 : FVec F S8192x512 .bf16) : IVec S8192x3072 1 × IVec S8192x512 1 :=
  let main_v0 : FVec F S8192x3072 .f32 := (extf .f32 · bitsLt_bf16_f32) main_arg0
  let main_v1 : FVec F S8192x512 .f32 := (extf .f32 · bitsLt_bf16_f32) main_arg1
  let main_v2 : FVec F S8192x3072 .f32 := subf main_v0 main_v0
  let main_cst : FVec F S_ .f32 := constant S_ .f32 0x00000000#32
  let main_v3 : FVec F S8192x3072 .f32 := broadcastInDim S8192x3072 ![] bcast_S_S8192x3072 main_cst
  let main_v4 : IVec S8192x3072 1 := cmpf .oeq main_v2 main_v3
  let main_v5 : FVec F S8192x512 .f32 := subf main_v1 main_v1
  let main_cst_0 : FVec F S_ .f32 := constant S_ .f32 0x00000000#32
  let main_v6 : FVec F S8192x512 .f32 := broadcastInDim S8192x512 ![] bcast_S_S8192x512 main_cst_0
  let main_v7 : IVec S8192x512 1 := cmpf .oeq main_v5 main_v6
  (main_v4, main_v7)
-- ==== Pre_finite_fwd.lean ====
abbrev S8192x3072 : Shape := ⟨2, ![8192, 3072]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)

variable [Facts]

def fn {F : FTy → Type} [FloatOps F] (main_arg0 : FVec F S8192x3072 .bf16) : IVec S8192x3072 1 :=
  let main_v0 : FVec F S8192x3072 .f32 := (extf .f32 · bitsLt_bf16_f32) main_arg0
  let main_v1 : FVec F S8192x3072 .f32 := subf main_v0 main_v0
  let main_cst : FVec F S_ .f32 := constant S_ .f32 0x00000000#32
  let main_v2 : FVec F S8192x3072 .f32 := broadcastInDim S8192x3072 ![] bcast_S_S8192x3072 main_cst
  let main_v3 : IVec S8192x3072 1 := cmpf .oeq main_v1 main_v2
  main_v3
-- ==== Pre_finite_pool.lean ====
abbrev S8192x512 : Shape := ⟨2, ![8192, 512]⟩
abbrev S4x128x128 : Shape := ⟨3, ![4, 128, 128]⟩
abbrev S512 : Shape := ⟨1, ![512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S4x128x128 .f32) (main_arg2 : FVec F S512 .f32) : IVec S8192x512 1 :=
  let main_v0 : FVec F S8192x512 .f32 := subf main_arg0 main_arg0
  let main_cst : FVec F S_ .f32 := constant S_ .f32 0x00000000#32
  let main_v1 : FVec F S8192x512 .f32 := broadcastInDim S8192x512 ![] bcast_S_S8192x512 main_cst
  let main_v2 : IVec S8192x512 1 := cmpf .oeq main_v0 main_v1
  main_v2
-- ==== Kernel.lean ====
abbrev S8192x3072 : Shape := ⟨2, ![8192, 3072]⟩
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x15 : Shape := ⟨3, ![8, 8192, 15]⟩
abbrev S8x8192x128 : Shape := ⟨3, ![8, 8192, 128]⟩
abbrev S4x2x16x512x128 : Shape := ⟨5, ![4, 2, 16, 512, 128]⟩
abbrev S4x16x2x512x128 : Shape := ⟨5, ![4, 16, 2, 512, 128]⟩
abbrev S4x16x1024x128 : Shape := ⟨4, ![4, 16, 1024, 128]⟩
abbrev S512x8192 : Shape := ⟨2, ![512, 8192]⟩
abbrev S512x128 : Shape := ⟨2, ![512, 128]⟩
abbrev S8192x128 : Shape := ⟨2, ![8192, 128]⟩
abbrev S1x1x1024x128 : Shape := ⟨4, ![1, 1, 1024, 128]⟩
abbrev S128x8192 : Shape := ⟨2, ![128, 8192]⟩
abbrev S1024x128 : Shape := ⟨2, ![1024, 128]⟩
abbrev S1024x1 : Shape := ⟨2, ![1024, 1]⟩
abbrev S1024x512 : Shape := ⟨2, ![1024, 512]⟩
abbrev S256x256 : Shape := ⟨2, ![256, 256]⟩
abbrev S128x1024 : Shape := ⟨2, ![128, 1024]⟩
abbrev S128x512 : Shape := ⟨2, ![128, 512]⟩
abbrev S1024 : Shape := ⟨1, ![1024]⟩
abbrev S1024x256 : Shape := ⟨2, ![1024, 256]⟩

abbrev nBuf : Space → Nat
  | .hbm => 55
  | .vmem => 22
  | .smem => 0
  | _ => 0

abbrev bufTy : (tb : Table) → Fin (tcTables nBuf tb) → BufTy
  | .hbm, ⟨0, _⟩ => ⟨S8192x3072, .bf16⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S8192x8x64, .f32⟩
  | .hbm, ⟨5, _⟩ => ⟨S8192x512, .bf16⟩
  | .hbm, ⟨6, _⟩ => ⟨S8192x512, .f32⟩
  | .hbm, ⟨7, _⟩ => ⟨S8192x8x64, .f32⟩
  | .hbm, ⟨8, _⟩ => ⟨S8x8192x8192, .f32⟩
  | .hbm, ⟨9, _⟩ => ⟨S8x8192x8192, .bf16⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S_, .f32⟩
  | .hbm, ⟨39, _⟩ => ⟨S8x8192x8192, .i1⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S_, .f32⟩
  | .hbm, ⟨44, _⟩ => ⟨S8x8192x8192, .f32⟩
  | .hbm, ⟨45, _⟩ => ⟨S8x8192x15, .f32⟩
  | .hbm, ⟨46, _⟩ => ⟨S_, .i32⟩
  | .hbm, ⟨47, _⟩ => ⟨S_, .f32⟩
  | .hbm, ⟨48, _⟩ => ⟨S8x8192x128, .f32⟩
  | .hbm, ⟨49, _⟩ => ⟨S4x2x16x512x128, .f32⟩
  | .hbm, ⟨50, _⟩ => ⟨S4x16x2x512x128, .f32⟩
  | .hbm, ⟨51, _⟩ => ⟨S4x16x1024x128, .f32⟩
  | .hbm, ⟨52, _⟩ => ⟨S8192x512, .bf16⟩
  | .hbm, ⟨53, _⟩ => ⟨S512x8192, .f32⟩
  | .hbm, ⟨54, _⟩ => ⟨S512x8192, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x1x1024x128, .f32⟩
  | .local _ .vmem, ⟨7, _⟩ => ⟨S1x1x1024x128, .f32⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S128x8192, .f32⟩
  | .local _ .vmem, ⟨13, _⟩ => ⟨S128x8192, .f32⟩
  | .local _ .vmem, ⟨14, _⟩ => ⟨S128x8192, .f32⟩
  | .local _ .vmem, ⟨15, _⟩ => ⟨S128x8192, .f32⟩
  | .local _ .vmem, ⟨16, _⟩ => ⟨S1024x128, .f32⟩
  | .local _ .vmem, ⟨17, _⟩ => ⟨S1024x1, .f32⟩
  | .local _ .vmem, ⟨18, _⟩ => ⟨S1024x512, .f32⟩
  | .local _ .vmem, ⟨19, _⟩ => ⟨S1024x512, .f32⟩
  | .local _ .vmem, ⟨20, _⟩ => ⟨S1024x512, .bf16⟩
  | .local _ .vmem, ⟨21, _⟩ => ⟨S1024x512, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_call2_cst : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_c : Ref sig .tc := ⟨.hbm, 46, rfl⟩
abbrev main_call3_v0 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26_0 : Ref sig .tc := ⟨.hbm, 52, rfl⟩
abbrev main_v26_1 : Ref sig .tc := ⟨.hbm, 53, rfl⟩
abbrev main_v26_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_mult1 : BitVec 32 :=
  let c0_i32_25 : BitVec 32 := 0#32
  c0_i32_25
def k0_mult2 : BitVec 32 :=
  let c0_i32_28 : BitVec 32 := 0#32
  c0_i32_28
@[reducible] def k0_t1_loop (i : grid0.Coords) : Scf.Loop 32 :=
  let c0_i32_40 : BitVec 32 := 0#32
  let arg1 : BitVec 32 := BitVec.ofNat 32 (i 1).val
  let c0_i32_35 : BitVec 32 := 0#32
  let v74 : BitVec 32 := Scalar.subi arg1 c0_i32_35
  let c1_i32 : BitVec 32 := 1#32
  let c1_i32_36 : BitVec 32 := 1#32
  let v75 : BitVec 32 := Scalar.subi c1_i32 c1_i32_36
  let v76 : BitVec 32 := Scalar.addi v74 v75
  let c1_i32_37 : BitVec 32 := 1#32
  let v77 : BitVec 32 := Scalar.divsi v76 c1_i32_37
  let v78 : BitVec 32 := Scalar.subi v77 c0_i32_40
  let c1_i32_41 : BitVec 32 := 1#32
  let v80 : BitVec 32 := Scalar.divsi v78 c1_i32_41
  let v81 : BitVec 32 := Scalar.muli v80 c1_i32_41
  let v82 : BitVec 32 := Scalar.addi c0_i32_40 v81
  let c1_i32_42 : BitVec 32 := 1#32
  ⟨c0_i32_40, v82, c1_i32_42⟩
def k0_mult3 (i : grid0.Coords) (k0_t1 : Fin (k0_t1_loop i).trips) : BitVec 32 :=
  let c0_i32_39 : BitVec 32 := 0#32
  let c0_i32_40 : BitVec 32 := 0#32
  let c1_i32_42 : BitVec 32 := 1#32
  let arg16 : BitVec 32 := Scf.iv c0_i32_40 c1_i32_42 k0_t1
  let c1_i32_38 : BitVec 32 := 1#32
  let v218 : BitVec 32 := Scalar.muli arg16 c1_i32_38
  let v219 : BitVec 32 := Scalar.addi c0_i32_39 v218
  let c1_i32_110 : BitVec 32 := 1#32
  let v222 : BitVec 32 := Scalar.subi v219 c1_i32_110
  let c0_i32_111 : BitVec 32 := 0#32
  let v223 : BitVec 32 := Scalar.maxsi v222 c0_i32_111
  let c512_i32_116 : BitVec 32 := 512#32
  let v226 : BitVec 32 := Scalar.muli v223 c512_i32_116
  v226
def k0_mult4 (i : grid0.Coords) (k0_t1 : Fin (k0_t1_loop i).trips) : BitVec 32 :=
  let c0_i32_39 : BitVec 32 := 0#32
  let c0_i32_40 : BitVec 32 := 0#32
  let c1_i32_42 : BitVec 32 := 1#32
  let arg16 : BitVec 32 := Scf.iv c0_i32_40 c1_i32_42 k0_t1
  let c1_i32_38 : BitVec 32 := 1#32
  let v218 : BitVec 32 := Scalar.muli arg16 c1_i32_38
  let v219 : BitVec 32 := Scalar.addi c0_i32_39 v218
  let c1_i32_110 : BitVec 32 := 1#32
  let v222 : BitVec 32 := Scalar.subi v219 c1_i32_110
  let c0_i32_111 : BitVec 32 := 0#32
  let v223 : BitVec 32 := Scalar.maxsi v222 c0_i32_111
  let c512_i32_119 : BitVec 32 := 512#32
  let v229 : BitVec 32 := Scalar.muli v223 c512_i32_119
  v229
def k0_off1 (i : grid0.Coords) (k0_t1 : Fin (k0_t1_loop i).trips) : Fin 2 → Nat :=
  let c0_i32_39 : BitVec 32 := 0#32
  let c0_i32_40 : BitVec 32 := 0#32
  let c1_i32_42 : BitVec 32 := 1#32
  let arg16 : BitVec 32 := Scf.iv c0_i32_40 c1_i32_42 k0_t1
  let c1_i32_38 : BitVec 32 := 1#32
  let v218 : BitVec 32 := Scalar.muli arg16 c1_i32_38
  let v219 : BitVec 32 := Scalar.addi c0_i32_39 v218
  let c1_i32_110 : BitVec 32 := 1#32
  let v222 : BitVec 32 := Scalar.subi v219 c1_i32_110
  let c0_i32_111 : BitVec 32 := 0#32
  let v223 : BitVec 32 := Scalar.maxsi v222 c0_i32_111
  let c512_i32_119 : BitVec 32 := 512#32
  let v229 : BitVec 32 := Scalar.muli v223 c512_i32_119
  let v230 : BitVec 32 := v229
  let v231 : Index := Scalar.indexCast v230
  let c0_120 : Index := 0#32
  ![v231.toNat, 0]
def k0_off2 (i : grid0.Coords) (k0_t1 : Fin (k0_t1_loop i).trips) : Fin 2 → Nat :=
  let c0_124 : Index := 0#32
  let c0_i32_39 : BitVec 32 := 0#32
  let c0_i32_40 : BitVec 32 := 0#32
  let c1_i32_42 : BitVec 32 := 1#32
  let arg16 : BitVec 32 := Scf.iv c0_i32_40 c1_i32_42 k0_t1
  let c1_i32_38 : BitVec 32 := 1#32
  let v218 : BitVec 32 := Scalar.muli arg16 c1_i32_38
  let v219 : BitVec 32 := Scalar.addi c0_i32_39 v218
  let c1_i32_110 : BitVec 32 := 1#32
  let v222 : BitVec 32 := Scalar.subi v219 c1_i32_110
  let c0_i32_111 : BitVec 32 := 0#32
  let v223 : BitVec 32 := Scalar.maxsi v222 c0_i32_111
  let c512_i32_116 : BitVec 32 := 512#32
  let v226 : BitVec 32 := Scalar.muli v223 c512_i32_116
  let v227 : BitVec 32 := v226
  let v238 : Index := Scalar.indexCast v227
  ![0, v238.toNat]
def k0_mult5 (i : grid0.Coords) (k0_t1 : Fin (k0_t1_loop i).trips) : BitVec 32 :=
  let c0_i32_39 : BitVec 32 := 0#32
  let c0_i32_40 : BitVec 32 := 0#32
  let c1_i32_42 : BitVec 32 := 1#32
  let arg16 : BitVec 32 := Scf.iv c0_i32_40 c1_i32_42 k0_t1
  let c1_i32_38 : BitVec 32 := 1#32
  let v218 : BitVec 32 := Scalar.muli arg16 c1_i32_38
  let v219 : BitVec 32 := Scalar.addi c0_i32_39 v218
  let c1_i32_155 : BitVec 32 := 1#32
  let v324 : BitVec 32 := Scalar.addi v219 c1_i32_155
  let c512_i32_156 : BitVec 32 := 512#32
  let v325 : BitVec 32 := Scalar.muli v324 c512_i32_156
  v325
def k0_off3 (i : grid0.Coords) (k0_t1 : Fin (k0_t1_loop i).trips) : Fin 2 → Nat :=
  let c0_i32_39 : BitVec 32 := 0#32
  let c0_i32_40 : BitVec 32 := 0#32
  let c1_i32_42 : BitVec 32 := 1#32
  let arg16 : BitVec 32 := Scf.iv c0_i32_40 c1_i32_42 k0_t1
  let c1_i32_38 : BitVec 32 := 1#32
  let v218 : BitVec 32 := Scalar.muli arg16 c1_i32_38
  let v219 : BitVec 32 := Scalar.addi c0_i32_39 v218
  let c1_i32_155 : BitVec 32 := 1#32
  let v324 : BitVec 32 := Scalar.addi v219 c1_i32_155
  let c512_i32_156 : BitVec 32 := 512#32
  let v325 : BitVec 32 := Scalar.muli v324 c512_i32_156
  let v326 : BitVec 32 := v325
  let v327 : Index := Scalar.indexCast v326
  let c0_157 : Index := 0#32
  ![v327.toNat, 0]
def k0_mult6 (i : grid0.Coords) (k0_t1 : Fin (k0_t1_loop i).trips) : BitVec 32 :=
  let c0_i32_39 : BitVec 32 := 0#32
  let c0_i32_40 : BitVec 32 := 0#32
  let c1_i32_42 : BitVec 32 := 1#32
  let arg16 : BitVec 32 := Scf.iv c0_i32_40 c1_i32_42 k0_t1
  let c1_i32_38 : BitVec 32 := 1#32
  let v218 : BitVec 32 := Scalar.muli arg16 c1_i32_38
  let v219 : BitVec 32 := Scalar.addi c0_i32_39 v218
  let c1_i32_155 : BitVec 32 := 1#32
  let v324 : BitVec 32 := Scalar.addi v219 c1_i32_155
  let c512_i32_159 : BitVec 32 := 512#32
  let v330 : BitVec 32 := Scalar.muli v324 c512_i32_159
  v330
@[reducible] def k0_t2_loop (i : grid0.Coords) : Scf.Loop 32 :=
  let c0_i32_40 : BitVec 32 := 0#32
  let arg1 : BitVec 32 := BitVec.ofNat 32 (i 1).val
  let c0_i32_35 : BitVec 32 := 0#32
  let v74 : BitVec 32 := Scalar.subi arg1 c0_i32_35
  let c1_i32 : BitVec 32 := 1#32
  let c1_i32_36 : BitVec 32 := 1#32
  let v75 : BitVec 32 := Scalar.subi c1_i32 c1_i32_36
  let v76 : BitVec 32 := Scalar.addi v74 v75
  let c1_i32_37 : BitVec 32 := 1#32
  let v77 : BitVec 32 := Scalar.divsi v76 c1_i32_37
  let v78 : BitVec 32 := Scalar.subi v77 c0_i32_40
  let c1_i32_41 : BitVec 32 := 1#32
  let v80 : BitVec 32 := Scalar.divsi v78 c1_i32_41
  let v81 : BitVec 32 := Scalar.muli v80 c1_i32_41
  let v82 : BitVec 32 := Scalar.addi c0_i32_40 v81
  let v79 : BitVec 32 := Scalar.addi c0_i32_40 v78
  let c1_i32_43 : BitVec 32 := 1#32
  ⟨v82, v79, c1_i32_43⟩
def k0_mult7 (i : grid0.Coords) (k0_t2 : Fin (k0_t2_loop i).trips) : BitVec 32 :=
  let c0_i32_39 : BitVec 32 := 0#32
  let c0_i32_40 : BitVec 32 := 0#32
  let arg1 : BitVec 32 := BitVec.ofNat 32 (i 1).val
  let c0_i32_35 : BitVec 32 := 0#32
  let v74 : BitVec 32 := Scalar.subi arg1 c0_i32_35
  let c1_i32 : BitVec 32 := 1#32
  let c1_i32_36 : BitVec 32 := 1#32
  let v75 : BitVec 32 := Scalar.subi c1_i32 c1_i32_36
  let v76 : BitVec 32 := Scalar.addi v74 v75
  let c1_i32_37 : BitVec 32 := 1#32
  let v77 : BitVec 32 := Scalar.divsi v76 c1_i32_37
  let v78 : BitVec 32 := Scalar.subi v77 c0_i32_40
  let c1_i32_41 : BitVec 32 := 1#32
  let v80 : BitVec 32 := Scalar.divsi v78 c1_i32_41
  let v81 : BitVec 32 := Scalar.muli v80 c1_i32_41
  let v82 : BitVec 32 := Scalar.addi c0_i32_40 v81
  let c1_i32_43 : BitVec 32 := 1#32
  let arg16 : BitVec 32 := Scf.iv v82 c1_i32_43 k0_t2
  let c1_i32_38 : BitVec 32 := 1#32
  let v218 : BitVec 32 := Scalar.muli arg16 c1_i32_38
  let v219 : BitVec 32 := Scalar.addi c0_i32_39 v218
  let c1_i32_110 : BitVec 32 := 1#32
  let v222 : BitVec 32 := Scalar.subi v219 c1_i32_110
  let c0_i32_111 : BitVec 32 := 0#32
  let v223 : BitVec 32 := Scalar.maxsi v222 c0_i32_111
  let c512_i32_116 : BitVec 32 := 512#32
  let v226 : BitVec 32 := Scalar.muli v223 c512_i32_116
  v226
def k0_mult8 (i : grid0.Coords) (k0_t2 : Fin (k0_t2_loop i).trips) : BitVec 32 :=
  let c0_i32_39 : BitVec 32 := 0#32
  let c0_i32_40 : BitVec 32 := 0#32
  let arg1 : BitVec 32 := BitVec.ofNat 32 (i 1).val
  let c0_i32_35 : BitVec 32 := 0#32
  let v74 : BitVec 32 := Scalar.subi arg1 c0_i32_35
  let c1_i32 : BitVec 32 := 1#32
  let c1_i32_36 : BitVec 32 := 1#32
  let v75 : BitVec 32 := Scalar.subi c1_i32 c1_i32_36
  let v76 : BitVec 32 := Scalar.addi v74 v75
  let c1_i32_37 : BitVec 32 := 1#32
  let v77 : BitVec 32 := Scalar.divsi v76 c1_i32_37
  let v78 : BitVec 32 := Scalar.subi v77 c0_i32_40
  let c1_i32_41 : BitVec 32 := 1#32
  let v80 : BitVec 32 := Scalar.divsi v78 c1_i32_41
  let v81 : BitVec 32 := Scalar.muli v80 c1_i32_41
  let v82 : BitVec 32 := Scalar.addi c0_i32_40 v81
  let c1_i32_43 : BitVec 32 := 1#32
  let arg16 : BitVec 32 := Scf.iv v82 c1_i32_43 k0_t2
  let c1_i32_38 : BitVec 32 := 1#32
  let v218 : BitVec 32 := Scalar.muli arg16 c1_i32_38
  let v219 : BitVec 32 := Scalar.addi c0_i32_39 v218
  let c1_i32_110 : BitVec 32 := 1#32
  let v222 : BitVec 32 := Scalar.subi v219 c1_i32_110
  let c0_i32_111 : BitVec 32 := 0#32
  let v223 : BitVec 32 := Scalar.maxsi v222 c0_i32_111
  let c512_i32_119 : BitVec 32 := 512#32
  let v229 : BitVec 32 := Scalar.muli v223 c512_i32_119
  v229
def k0_off4 (i : grid0.Coords) (k0_t2 : Fin (k0_t2_loop i).trips) : Fin 2 → Nat :=
  let c0_i32_39 : BitVec 32 := 0#32
  let c0_i32_40 : BitVec 32 := 0#32
  let arg1 : BitVec 32 := BitVec.ofNat 32 (i 1).val
  let c0_i32_35 : BitVec 32 := 0#32
  let v74 : BitVec 32 := Scalar.subi arg1 c0_i32_35
  let c1_i32 : BitVec 32 := 1#32
  let c1_i32_36 : BitVec 32 := 1#32
  let v75 : BitVec 32 := Scalar.subi c1_i32 c1_i32_36
  let v76 : BitVec 32 := Scalar.addi v74 v75
  let c1_i32_37 : BitVec 32 := 1#32
  let v77 : BitVec 32 := Scalar.divsi v76 c1_i32_37
  let v78 : BitVec 32 := Scalar.subi v77 c0_i32_40
  let c1_i32_41 : BitVec 32 := 1#32
  let v80 : BitVec 32 := Scalar.divsi v78 c1_i32_41
  let v81 : BitVec 32 := Scalar.muli v80 c1_i32_41
  let v82 : BitVec 32 := Scalar.addi c0_i32_40 v81
  let c1_i32_43 : BitVec 32 := 1#32
  let arg16 : BitVec 32 := Scf.iv v82 c1_i32_43 k0_t2
  let c1_i32_38 : BitVec 32 := 1#32
  let v218 : BitVec 32 := Scalar.muli arg16 c1_i32_38
  let v219 : BitVec 32 := Scalar.addi c0_i32_39 v218
  let c1_i32_110 : BitVec 32 := 1#32
  let v222 : BitVec 32 := Scalar.subi v219 c1_i32_110
  let c0_i32_111 : BitVec 32 := 0#32
  let v223 : BitVec 32 := Scalar.maxsi v222 c0_i32_111
  let c512_i32_119 : BitVec 32 := 512#32
  let v229 : BitVec 32 := Scalar.muli v223 c512_i32_119
  let v230 : BitVec 32 := v229
  let v231 : Index := Scalar.indexCast v230
  let c0_120 : Index := 0#32
  ![v231.toNat, 0]
def k0_off5 (i : grid0.Coords) (k0_t2 : Fin (k0_t2_loop i).trips) : Fin 2 → Nat :=
  let c0_124 : Index := 0#32
  let c0_i32_39 : BitVec 32 := 0#32
  let c0_i32_40 : BitVec 32 := 0#32
  let arg1 : BitVec 32 := BitVec.ofNat 32 (i 1).val
  let c0_i32_35 : BitVec 32 := 0#32
  let v74 : BitVec 32 := Scalar.subi arg1 c0_i32_35
  let c1_i32 : BitVec 32 := 1#32
  let c1_i32_36 : BitVec 32 := 1#32
  let v75 : BitVec 32 := Scalar.subi c1_i32 c1_i32_36
  let v76 : BitVec 32 := Scalar.addi v74 v75
  let c1_i32_37 : BitVec 32 := 1#32
  let v77 : BitVec 32 := Scalar.divsi v76 c1_i32_37
  let v78 : BitVec 32 := Scalar.subi v77 c0_i32_40
  let c1_i32_41 : BitVec 32 := 1#32
  let v80 : BitVec 32 := Scalar.divsi v78 c1_i32_41
  let v81 : BitVec 32 := Scalar.muli v80 c1_i32_41
  let v82 : BitVec 32 := Scalar.addi c0_i32_40 v81
  let c1_i32_43 : BitVec 32 := 1#32
  let arg16 : BitVec 32 := Scf.iv v82 c1_i32_43 k0_t2
  let c1_i32_38 : BitVec 32 := 1#32
  let v218 : BitVec 32 := Scalar.muli arg16 c1_i32_38
  let v219 : BitVec 32 := Scalar.addi c0_i32_39 v218
  let c1_i32_110 : BitVec 32 := 1#32
  let v222 : BitVec 32 := Scalar.subi v219 c1_i32_110
  let c0_i32_111 : BitVec 32 := 0#32
  let v223 : BitVec 32 := Scalar.maxsi v222 c0_i32_111
  let c512_i32_116 : BitVec 32 := 512#32
  let v226 : BitVec 32 := Scalar.muli v223 c512_i32_116
  let v227 : BitVec 32 := v226
  let v238 : Index := Scalar.indexCast v227
  ![0, v238.toNat]
def k0_mult9 (i : grid0.Coords) (k0_t2 : Fin (k0_t2_loop i).trips) : BitVec 32 :=
  let c0_i32_39 : BitVec 32 := 0#32
  let c0_i32_40 : BitVec 32 := 0#32
  let arg1 : BitVec 32 := BitVec.ofNat 32 (i 1).val
  let c0_i32_35 : BitVec 32 := 0#32
  let v74 : BitVec 32 := Scalar.subi arg1 c0_i32_35
  let c1_i32 : BitVec 32 := 1#32
  let c1_i32_36 : BitVec 32 := 1#32
  let v75 : BitVec 32 := Scalar.subi c1_i32 c1_i32_36
  let v76 : BitVec 32 := Scalar.addi v74 v75
  let c1_i32_37 : BitVec 32 := 1#32
  let v77 : BitVec 32 := Scalar.divsi v76 c1_i32_37
  let v78 : BitVec 32 := Scalar.subi v77 c0_i32_40
  let c1_i32_41 : BitVec 32 := 1#32
  let v80 : BitVec 32 := Scalar.divsi v78 c1_i32_41
  let v81 : BitVec 32 := Scalar.muli v80 c1_i32_41
  let v82 : BitVec 32 := Scalar.addi c0_i32_40 v81
  let c1_i32_43 : BitVec 32 := 1#32
  let arg16 : BitVec 32 := Scf.iv v82 c1_i32_43 k0_t2
  let c1_i32_38 : BitVec 32 := 1#32
  let v218 : BitVec 32 := Scalar.muli arg16 c1_i32_38
  let v219 : BitVec 32 := Scalar.addi c0_i32_39 v218
  let c1_i32_155 : BitVec 32 := 1#32
  let v324 : BitVec 32 := Scalar.addi v219 c1_i32_155
  let c512_i32_156 : BitVec 32 := 512#32
  let v325 : BitVec 32 := Scalar.muli v324 c512_i32_156
  v325
def k0_off6 (i : grid0.Coords) (k0_t2 : Fin (k0_t2_loop i).trips) : Fin 2 → Nat :=
  let c0_i32_39 : BitVec 32 := 0#32
  let c0_i32_40 : BitVec 32 := 0#32
  let arg1 : BitVec 32 := BitVec.ofNat 32 (i 1).val
  let c0_i32_35 : BitVec 32 := 0#32
  let v74 : BitVec 32 := Scalar.subi arg1 c0_i32_35
  let c1_i32 : BitVec 32 := 1#32
  let c1_i32_36 : BitVec 32 := 1#32
  let v75 : BitVec 32 := Scalar.subi c1_i32 c1_i32_36
  let v76 : BitVec 32 := Scalar.addi v74 v75
  let c1_i32_37 : BitVec 32 := 1#32
  let v77 : BitVec 32 := Scalar.divsi v76 c1_i32_37
  let v78 : BitVec 32 := Scalar.subi v77 c0_i32_40
  let c1_i32_41 : BitVec 32 := 1#32
  let v80 : BitVec 32 := Scalar.divsi v78 c1_i32_41
  let v81 : BitVec 32 := Scalar.muli v80 c1_i32_41
  let v82 : BitVec 32 := Scalar.addi c0_i32_40 v81
  let c1_i32_43 : BitVec 32 := 1#32
  let arg16 : BitVec 32 := Scf.iv v82 c1_i32_43 k0_t2
  let c1_i32_38 : BitVec 32 := 1#32
  let v218 : BitVec 32 := Scalar.muli arg16 c1_i32_38
  let v219 : BitVec 32 := Scalar.addi c0_i32_39 v218
  let c1_i32_155 : BitVec 32 := 1#32
  let v324 : BitVec 32 := Scalar.addi v219 c1_i32_155
  let c512_i32_156 : BitVec 32 := 512#32
  let v325 : BitVec 32 := Scalar.muli v324 c512_i32_156
  let v326 : BitVec 32 := v325
  let v327 : Index := Scalar.indexCast v326
  let c0_157 : Index := 0#32
  ![v327.toNat, 0]
def k0_mult10 (i : grid0.Coords) (k0_t2 : Fin (k0_t2_loop i).trips) : BitVec 32 :=
  let c0_i32_39 : BitVec 32 := 0#32
  let c0_i32_40 : BitVec 32 := 0#32
  let arg1 : BitVec 32 := BitVec.ofNat 32 (i 1).val
  let c0_i32_35 : BitVec 32 := 0#32
  let v74 : BitVec 32 := Scalar.subi arg1 c0_i32_35
  let c1_i32 : BitVec 32 := 1#32
  let c1_i32_36 : BitVec 32 := 1#32
  let v75 : BitVec 32 := Scalar.subi c1_i32 c1_i32_36
  let v76 : BitVec 32 := Scalar.addi v74 v75
  let c1_i32_37 : BitVec 32 := 1#32
  let v77 : BitVec 32 := Scalar.divsi v76 c1_i32_37
  let v78 : BitVec 32 := Scalar.subi v77 c0_i32_40
  let c1_i32_41 : BitVec 32 := 1#32
  let v80 : BitVec 32 := Scalar.divsi v78 c1_i32_41
  let v81 : BitVec 32 := Scalar.muli v80 c1_i32_41
  let v82 : BitVec 32 := Scalar.addi c0_i32_40 v81
  let c1_i32_43 : BitVec 32 := 1#32
  let arg16 : BitVec 32 := Scf.iv v82 c1_i32_43 k0_t2
  let c1_i32_38 : BitVec 32 := 1#32
  let v218 : BitVec 32 := Scalar.muli arg16 c1_i32_38
  let v219 : BitVec 32 := Scalar.addi c0_i32_39 v218
  let c1_i32_155 : BitVec 32 := 1#32
  let v324 : BitVec 32 := Scalar.addi v219 c1_i32_155
  let c512_i32_159 : BitVec 32 := 512#32
  let v330 : BitVec 32 := Scalar.muli v324 c512_i32_159
  v330
def k0_mult11 (i : grid0.Coords) : BitVec 32 :=
  let arg1 : BitVec 32 := BitVec.ofNat 32 (i 1).val
  let c1_i32_44 : BitVec 32 := 1#32
  let v83 : BitVec 32 := Scalar.subi arg1 c1_i32_44
  let c0_i32_45 : BitVec 32 := 0#32
  let v84 : BitVec 32 := Scalar.maxsi v83 c0_i32_45
  let c512_i32 : BitVec 32 := 512#32
  let v87 : BitVec 32 := Scalar.muli v84 c512_i32
  v87
def k0_mult12 (i : grid0.Coords) : BitVec 32 :=
  let arg1 : BitVec 32 := BitVec.ofNat 32 (i 1).val
  let c1_i32_44 : BitVec 32 := 1#32
  let v83 : BitVec 32 := Scalar.subi arg1 c1_i32_44
  let c0_i32_45 : BitVec 32 := 0#32
  let v84 : BitVec 32 := Scalar.maxsi v83 c0_i32_45
  let c512_i32_52 : BitVec 32 := 512#32
  let v90 : BitVec 32 := Scalar.muli v84 c512_i32_52
  v90
def k0_off7 (i : grid0.Coords) : Fin 2 → Nat :=
  let arg1 : BitVec 32 := BitVec.ofNat 32 (i 1).val
  let c1_i32_44 : BitVec 32 := 1#32
  let v83 : BitVec 32 := Scalar.subi arg1 c1_i32_44
  let c0_i32_45 : BitVec 32 := 0#32
  let v84 : BitVec 32 := Scalar.maxsi v83 c0_i32_45
  let c512_i32_52 : BitVec 32 := 512#32
  let v90 : BitVec 32 := Scalar.muli v84 c512_i32_52
  let v91 : BitVec 32 := v90
  let v92 : Index := Scalar.indexCast v91
  let c0_53 : Index := 0#32
  ![v92.toNat, 0]
def k0_off8 (i : grid0.Coords) : Fin 2 → Nat :=
  let c0_57 : Index := 0#32
  let arg1 : BitVec 32 := BitVec.ofNat 32 (i 1).val
  let c1_i32_44 : BitVec 32 := 1#32
  let v83 : BitVec 32 := Scalar.subi arg1 c1_i32_44
  let c0_i32_45 : BitVec 32 := 0#32
  let v84 : BitVec 32 := Scalar.maxsi v83 c0_i32_45
  let c512_i32 : BitVec 32 := 512#32
  let v87 : BitVec 32 := Scalar.muli v84 c512_i32
  let v88 : BitVec 32 := v87
  let v99 : Index := Scalar.indexCast v88
  ![0, v99.toNat]
def k0_mult13 (i : grid0.Coords) : BitVec 32 :=
  let arg1 : BitVec 32 := BitVec.ofNat 32 (i 1).val
  let c512_i32_86 : BitVec 32 := 512#32
  let v181 : BitVec 32 := Scalar.muli arg1 c512_i32_86
  v181
def k0_mult14 (i : grid0.Coords) : BitVec 32 :=
  let arg1 : BitVec 32 := BitVec.ofNat 32 (i 1).val
  let c512_i32_89 : BitVec 32 := 512#32
  let v184 : BitVec 32 := Scalar.muli arg1 c512_i32_89
  v184
def k0_off9 (i : grid0.Coords) : Fin 2 → Nat :=
  let arg1 : BitVec 32 := BitVec.ofNat 32 (i 1).val
  let c512_i32_89 : BitVec 32 := 512#32
  let v184 : BitVec 32 := Scalar.muli arg1 c512_i32_89
  let v185 : BitVec 32 := v184
  let v186 : Index := Scalar.indexCast v185
  let c0_90 : Index := 0#32
  ![v186.toNat, 0]
def k0_off10 (i : grid0.Coords) : Fin 2 → Nat :=
  let c0_94 : Index := 0#32
  let arg1 : BitVec 32 := BitVec.ofNat 32 (i 1).val
  let c512_i32_86 : BitVec 32 := 512#32
  let v181 : BitVec 32 := Scalar.muli arg1 c512_i32_86
  let v182 : BitVec 32 := v181
  let v193 : Index := Scalar.indexCast v182
  ![0, v193.toNat]
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8192x3072 : Shape := ⟨2, ![8192, 3072]⟩
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩
abbrev S512x8192 : Shape := ⟨2, ![512, 8192]⟩

abbrev nBuf : Space → Nat
  | .hbm => 187
  | .vmem => 0
  | .smem => 0
  | _ => 0

abbrev hbmTy0_0 (i : Nat) : BufTy := match i % 128 with
  | 0 => ⟨S8192x3072, .bf16⟩
  | 1 => ⟨S8192x512, .bf16⟩
  | 2 => ⟨S8192x512, .bf16⟩
  | 3 => ⟨S8192x512, .f32⟩
  | 4 => ⟨S8192x8x64, .f32⟩
  | 5 => ⟨S8192x512, .bf16⟩
  | 6 => ⟨S8192x512, .f32⟩
  | 7 => ⟨S8192x8x64, .f32⟩
  | 8 => ⟨S8192x512, .bf16⟩
  | 9 => ⟨S8192x512, .f32⟩
  | 10 => ⟨S8192x8x64, .f32⟩
  | 11 => ⟨S8192x512, .f32⟩
  | 12 => ⟨S8192x8x64, .f32⟩
  | 13 => ⟨S8x8192x8192, .f32⟩
  | 14 => ⟨S8x8192x8192, .bf16⟩
  | 15 => ⟨S8x8192x8192, .f32⟩
  | 16 => ⟨S_, .f32⟩
  | 17 => ⟨S8x8192x8192, .f32⟩
  | 18 => ⟨S8x8192x8192, .f32⟩
  | 19 => ⟨S8192, .i32⟩
  | 20 => ⟨S1x8192, .i32⟩
  | 21 => ⟨S8192x1, .i32⟩
  | 22 => ⟨S8192x8192, .i32⟩
  | 23 => ⟨S8192x8192, .i32⟩
  | 24 => ⟨S8192x8192, .i1⟩
  | 25 => ⟨S8x8192x8192, .f32⟩
  | 26 => ⟨S8x8192x8192, .f32⟩
  | 27 => ⟨S_, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .i1⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S8x8192x8192, .f32⟩
  | 41 => ⟨S_, .f32⟩
  | 42 => ⟨S8x8192x8192, .f32⟩
  | 43 => ⟨S8x8192x8192, .i1⟩
  | 44 => ⟨S_, .f32⟩
  | 45 => ⟨S8x8192x8192, .f32⟩
  | 46 => ⟨S8x8192x8192, .f32⟩
  | 47 => ⟨S_, .f32⟩
  | 48 => ⟨S8x8192x8192, .f32⟩
  | 49 => ⟨S8x8192x8192, .i1⟩
  | 50 => ⟨S_, .f32⟩
  | 51 => ⟨S8x8192x8192, .f32⟩
  | 52 => ⟨S8x8192x8192, .f32⟩
  | 53 => ⟨S8x8192x8192, .f32⟩
  | 54 => ⟨S8x8192x8192, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S8x8192x8192, .f32⟩
  | 63 => ⟨S8x8192x8192, .i1⟩
  | 64 => ⟨S_, .f32⟩
  | 65 => ⟨S8x8192x8192, .f32⟩
  | 66 => ⟨S8x8192x8192, .f32⟩
  | 67 => ⟨S8x8192x8192, .f32⟩
  | 68 => ⟨S8x8192x8192, .f32⟩
  | 69 => ⟨S8x8192x8192, .f32⟩
  | 70 => ⟨S_, .f32⟩
  | 71 => ⟨S8x8192x8192, .f32⟩
  | 72 => ⟨S8x8192x8192, .f32⟩
  | 73 => ⟨S8x8192x8192, .f32⟩
  | 74 => ⟨S_, .f32⟩
  | 75 => ⟨S_, .f32⟩
  | 76 => ⟨S8x8192x8192, .i1⟩
  | 77 => ⟨S8x8192x8192, .f32⟩
  | 78 => ⟨S8x8192x8192, .f32⟩
  | 79 => ⟨S_, .f32⟩
  | 80 => ⟨S8x8192x8192, .f32⟩
  | 81 => ⟨S_, .f32⟩
  | 82 => ⟨S_, .f32⟩
  | 83 => ⟨S8x8192x8192, .f32⟩
  | 84 => ⟨S8x8192x8192, .f32⟩
  | 85 => ⟨S8x8192x8192, .f32⟩
  | 86 => ⟨S_, .f32⟩
  | 87 => ⟨S8x8192x8192, .f32⟩
  | 88 => ⟨S8x8192x8192, .f32⟩
  | 89 => ⟨S8x8192x8192, .f32⟩
  | 90 => ⟨S8x8192x8192, .f32⟩
  | 91 => ⟨S8x8192x8192, .i1⟩
  | 92 => ⟨S8x8192x8192, .f32⟩
  | 93 => ⟨S8x8192x8192, .f32⟩
  | 94 => ⟨S8x8192x8192, .f32⟩
  | 95 => ⟨S8x8192x8192, .f32⟩
  | 96 => ⟨S8x8192x8192, .f32⟩
  | 97 => ⟨S8x8192x8192, .f32⟩
  | 98 => ⟨S8x8192x8192, .f32⟩
  | 99 => ⟨S8x8192x8192, .f32⟩
  | 100 => ⟨S_, .f32⟩
  | 101 => ⟨S8x8192x8192, .f32⟩
  | 102 => ⟨S8x8192x8192, .i1⟩
  | 103 => ⟨S_, .f32⟩
  | 104 => ⟨S8x8192x8192, .f32⟩
  | 105 => ⟨S8x8192x8192, .f32⟩
  | 106 => ⟨S_, .f32⟩
  | 107 => ⟨S8x8192x8192, .f32⟩
  | 108 => ⟨S8x8192x8192, .i1⟩
  | 109 => ⟨S_, .f32⟩
  | 110 => ⟨S8x8192x8192, .f32⟩
  | 111 => ⟨S8x8192x8192, .f32⟩
  | 112 => ⟨S8x8192x8192, .f32⟩
  | 113 => ⟨S8x8192x8192, .f32⟩
  | 114 => ⟨S_, .f32⟩
  | 115 => ⟨S_, .f32⟩
  | 116 => ⟨S_, .i1⟩
  | 117 => ⟨S_, .f32⟩
  | 118 => ⟨S_, .f32⟩
  | 119 => ⟨S_, .f32⟩
  | 120 => ⟨S_, .f32⟩
  | 121 => ⟨S8x8192x8192, .f32⟩
  | 122 => ⟨S8x8192x8192, .i1⟩
  | 123 => ⟨S_, .f32⟩
  | 124 => ⟨S8x8192x8192, .f32⟩
  | 125 => ⟨S8x8192x8192, .f32⟩
  | 126 => ⟨S8x8192x8192, .f32⟩
  | 127 => ⟨S8x8192x8192, .f32⟩
  | _ => ⟨S8192x3072, .bf16⟩

abbrev hbmTy0_1 (i : Nat) : BufTy := match i % 128 with
  | 0 => ⟨S8x8192x8192, .f32⟩
  | 1 => ⟨S_, .f32⟩
  | 2 => ⟨S8x8192x8192, .f32⟩
  | 3 => ⟨S8x8192x8192, .f32⟩
  | 4 => ⟨S8x8192x8192, .f32⟩
  | 5 => ⟨S8x8192x8192, .f32⟩
  | 6 => ⟨S8x8192x8192, .f32⟩
  | 7 => ⟨S_, .f32⟩
  | 8 => ⟨S_, .f32⟩
  | 9 => ⟨S8x8192x8192, .i1⟩
  | 10 => ⟨S8x8192x8192, .f32⟩
  | 11 => ⟨S8x8192x8192, .f32⟩
  | 12 => ⟨S_, .f32⟩
  | 13 => ⟨S8x8192x8192, .f32⟩
  | 14 => ⟨S8x8192x8192, .bf16⟩
  | 15 => ⟨S8x8192x8192, .f32⟩
  | 16 => ⟨S8x64x8192, .f32⟩
  | 17 => ⟨S8192x8x64, .f32⟩
  | 18 => ⟨S8x64x8192, .f32⟩
  | 19 => ⟨S8x8192x8192, .f32⟩
  | 20 => ⟨S8x64x8192, .f32⟩
  | 21 => ⟨S8192x8x64, .f32⟩
  | 22 => ⟨S8x8192x8192, .bf16⟩
  | 23 => ⟨S8x8192x8192, .f32⟩
  | 24 => ⟨S_, .f32⟩
  | 25 => ⟨S8x8192x8192, .f32⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S_, .f32⟩
  | 33 => ⟨S_, .f32⟩
  | 34 => ⟨S8x8192x8192, .f32⟩
  | 35 => ⟨S8x8192x8192, .f32⟩
  | 36 => ⟨S_, .f32⟩
  | 37 => ⟨S8x8192x8192, .f32⟩
  | 38 => ⟨S8x8192x8192, .f32⟩
  | 39 => ⟨S8x8192x8192, .f32⟩
  | 40 => ⟨S8x8192x8192, .f32⟩
  | 41 => ⟨S8x8192x8192, .f32⟩
  | 42 => ⟨S8x8192x8192, .f32⟩
  | 43 => ⟨S8x8192x8192, .f32⟩
  | 44 => ⟨S_, .f32⟩
  | 45 => ⟨S8x8192x8192, .f32⟩
  | 46 => ⟨S8x8192x8192, .f32⟩
  | 47 => ⟨S8x8192x8192, .bf16⟩
  | 48 => ⟨S8x8192x8192, .f32⟩
  | 49 => ⟨S8x8192x64, .f32⟩
  | 50 => ⟨S8192x8x64, .f32⟩
  | 51 => ⟨S8x8192x64, .f32⟩
  | 52 => ⟨S8192x8x64, .f32⟩
  | 53 => ⟨S8192x512, .f32⟩
  | 54 => ⟨S8192x512, .bf16⟩
  | 55 => ⟨S8192x512, .f32⟩
  | 56 => ⟨S512x8192, .f32⟩
  | 57 => ⟨S8192x512, .f32⟩
  | 58 => ⟨S512x8192, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1_0 : Ref sig .tc := ⟨.hbm, 40, rfl⟩
abbrev main_call0_call0_cst_0 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_cst_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_cst_2 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_cst_3 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_v21 : Ref sig .tc := ⟨.hbm, 53, rfl⟩
abbrev main_v23_1 : Ref sig .tc := ⟨.hbm, 54, rfl⟩
abbrev main_call0_call0_cst_4 : Ref sig .tc := ⟨.hbm, 55, rfl⟩
abbrev main_call0_call0_cst_5 : Ref sig .tc := ⟨.hbm, 56, rfl⟩
abbrev main_call0_call0_v23 : Ref sig .tc := ⟨.hbm, 57, rfl⟩
abbrev main_call0_call0_cst_6 : Ref sig .tc := ⟨.hbm, 58, rfl⟩
abbrev main_call0_call0_cst_7 : Ref sig .tc := ⟨.hbm, 59, rfl⟩
abbrev main_call0_call0_v24 : Ref sig .tc := ⟨.hbm, 60, rfl⟩
abbrev main_call0_call0_cst_8 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_cst_9 : Ref sig .tc := ⟨.hbm, 64, rfl⟩
abbrev main_call0_call0_v27 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_cst_10 : Ref sig .tc := ⟨.hbm, 70, rfl⟩
abbrev main_call0_call0_v32 : Ref sig .tc := ⟨.hbm, 71, rfl⟩
abbrev main_v23_2 : Ref sig .tc := ⟨.hbm, 72, rfl⟩
abbrev main_v23_0 : Ref sig .tc := ⟨.hbm, 73, rfl⟩
abbrev main_cst_0 : Ref sig .tc := ⟨.hbm, 74, rfl⟩
abbrev main_call1_v0 : Ref sig .tc := ⟨.hbm, 75, rfl⟩
abbrev main_v24_1 : Ref sig .tc := ⟨.hbm, 76, rfl⟩
abbrev main_call1_v2 : Ref sig .tc := ⟨.hbm, 77, rfl⟩
abbrev main_v24_0 : Ref sig .tc := ⟨.hbm, 78, rfl⟩
abbrev main_call1_cst : Ref sig .tc := ⟨.hbm, 79, rfl⟩
abbrev main_v24_2 : Ref sig .tc := ⟨.hbm, 80, rfl⟩
abbrev main_call2_cst : Ref sig .tc := ⟨.hbm, 81, rfl⟩
abbrev main_call2_v0 : Ref sig .tc := ⟨.hbm, 82, rfl⟩
abbrev main_v25 : Ref sig .tc := ⟨.hbm, 83, rfl⟩
abbrev main_v26 : Ref sig .tc := ⟨.hbm, 84, rfl⟩
abbrev main_call3_v0 : Ref sig .tc := ⟨.hbm, 85, rfl⟩
abbrev main_call3_call0_cst : Ref sig .tc := ⟨.hbm, 86, rfl⟩
abbrev main_call3_call0_v0 : Ref sig .tc := ⟨.hbm, 87, rfl⟩
abbrev main_call3_call0_v1 : Ref sig .tc := ⟨.hbm, 88, rfl⟩
abbrev main_call3_call0_v2 : Ref sig .tc := ⟨.hbm, 89, rfl⟩
abbrev main_call3_call0_v3 : Ref sig .tc := ⟨.hbm, 90, rfl⟩
abbrev main_call3_call0_v4 : Ref sig .tc := ⟨.hbm, 91, rfl⟩
abbrev main_call3_call0_v5 : Ref sig .tc := ⟨.hbm, 92, rfl⟩
abbrev main_call3_call0_v6 : Ref sig .tc := ⟨.hbm, 93, rfl⟩
abbrev main_call3_call0_v7 : Ref sig .tc := ⟨.hbm, 94, rfl⟩
abbrev main_call3_call0_v8 : Ref sig .tc := ⟨.hbm, 95, rfl⟩
abbrev main_call3_call0_v9 : Ref sig .tc := ⟨.hbm, 96, rfl⟩
abbrev main_call3_call0_v10 : Ref sig .tc := ⟨.hbm, 97, rfl⟩
abbrev main_call3_call0_v11 : Ref sig .tc := ⟨.hbm, 98, rfl⟩
abbrev main_call3_v1_0 : Ref sig .tc := ⟨.hbm, 99, rfl⟩
abbrev main_call3_call0_cst_0 : Ref sig .tc := ⟨.hbm, 100, rfl⟩
abbrev main_call3_call0_v13 : Ref sig .tc := ⟨.hbm, 101, rfl⟩
abbrev main_call3_call0_v14 : Ref sig .tc := ⟨.hbm, 102, rfl⟩
abbrev main_call3_call0_cst_1 : Ref sig .tc := ⟨.hbm, 103, rfl⟩
abbrev main_call3_call0_v15 : Ref sig .tc := ⟨.hbm, 104, rfl⟩
abbrev main_call3_call0_v16 : Ref sig .tc := ⟨.hbm, 105, rfl⟩
abbrev main_call3_call0_cst_2 : Ref sig .tc := ⟨.hbm, 106, rfl⟩
abbrev main_call3_call0_v17 : Ref sig .tc := ⟨.hbm, 107, rfl⟩
abbrev main_call3_call0_v18 : Ref sig .tc := ⟨.hbm, 108, rfl⟩
abbrev main_call3_call0_cst_3 : Ref sig .tc := ⟨.hbm, 109, rfl⟩
abbrev main_call3_call0_v19 : Ref sig .tc := ⟨.hbm, 110, rfl⟩
abbrev main_call3_call0_v20 : Ref sig .tc := ⟨.hbm, 111, rfl⟩
abbrev main_call3_call0_v21 : Ref sig .tc := ⟨.hbm, 112, rfl⟩
abbrev main_v27_1 : Ref sig .tc := ⟨.hbm, 113, rfl⟩
abbrev main_call3_call0_cst_4 : Ref sig .tc := ⟨.hbm, 114, rfl⟩
abbrev main_call3_call0_cst_5 : Ref sig .tc := ⟨.hbm, 115, rfl⟩
abbrev main_call3_call0_v23 : Ref sig .tc := ⟨.hbm, 116, rfl⟩
abbrev main_call3_call0_cst_6 : Ref sig .tc := ⟨.hbm, 117, rfl⟩
abbrev main_call3_call0_cst_7 : Ref sig .tc := ⟨.hbm, 118, rfl⟩
abbrev main_call3_call0_v24 : Ref sig .tc := ⟨.hbm, 119, rfl⟩
abbrev main_call3_call0_cst_8 : Ref sig .tc := ⟨.hbm, 120, rfl⟩
abbrev main_call3_call0_v25 : Ref sig .tc := ⟨.hbm, 121, rfl⟩
abbrev main_call3_call0_v26 : Ref sig .tc := ⟨.hbm, 122, rfl⟩
abbrev main_call3_call0_cst_9 : Ref sig .tc := ⟨.hbm, 123, rfl⟩
abbrev main_call3_call0_v27 : Ref sig .tc := ⟨.hbm, 124, rfl⟩
abbrev main_call3_call0_v28 : Ref sig .tc := ⟨.hbm, 125, rfl⟩
abbrev main_call3_call0_v29 : Ref sig .tc := ⟨.hbm, 126, rfl⟩
abbrev main_call3_call0_v30 : Ref sig .tc := ⟨.hbm, 127, rfl⟩
abbrev main_call3_call0_v31 : Ref sig .tc := ⟨.hbm, 128, rfl⟩
abbrev main_call3_call0_cst_10 : Ref sig .tc := ⟨.hbm, 129, rfl⟩
abbrev main_call3_call0_v32 : Ref sig .tc := ⟨.hbm, 130, rfl⟩
abbrev main_v27_2 : Ref sig .tc := ⟨.hbm, 131, rfl⟩
abbrev main_v27_0 : Ref sig .tc := ⟨.hbm, 132, rfl⟩
abbrev main_v28 : Ref sig .tc := ⟨.hbm, 133, rfl⟩
abbrev main_v29 : Ref sig .tc := ⟨.hbm, 134, rfl⟩
abbrev main_cst_1 : Ref sig .tc := ⟨.hbm, 135, rfl⟩
abbrev main_call4_v0 : Ref sig .tc := ⟨.hbm, 136, rfl⟩
abbrev main_v30_1 : Ref sig .tc := ⟨.hbm, 137, rfl⟩
abbrev main_call4_v2 : Ref sig .tc := ⟨.hbm, 138, rfl⟩
abbrev main_v30_0 : Ref sig .tc := ⟨.hbm, 139, rfl⟩
abbrev main_call4_cst : Ref sig .tc := ⟨.hbm, 140, rfl⟩
abbrev main_v30_2 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_call5_cst : Ref sig .tc := ⟨.hbm, 152, rfl⟩
abbrev main_call5_v0 : Ref sig .tc := ⟨.hbm, 153, rfl⟩
abbrev main_v41 : Ref sig .tc := ⟨.hbm, 154, rfl⟩
abbrev main_v42 : Ref sig .tc := ⟨.hbm, 155, rfl⟩
abbrev main_call6_v0 : Ref sig .tc := ⟨.hbm, 156, rfl⟩
abbrev main_call6_v1 : Ref sig .tc := ⟨.hbm, 157, rfl⟩
abbrev main_v43 : Ref sig .tc := ⟨.hbm, 158, rfl⟩
abbrev main_v44 : Ref sig .tc := ⟨.hbm, 159, rfl⟩
abbrev main_call7_cst : Ref sig .tc := ⟨.hbm, 160, rfl⟩
abbrev main_call7_v0 : Ref sig .tc := ⟨.hbm, 161, rfl⟩
abbrev main_v45 : Ref sig .tc := ⟨.hbm, 162, rfl⟩
abbrev main_v46 : Ref sig .tc := ⟨.hbm, 163, rfl⟩
abbrev main_call8_cst : Ref sig .tc := ⟨.hbm, 164, rfl⟩
abbrev main_call8_v0 : Ref sig .tc := ⟨.hbm, 165, rfl⟩
abbrev main_v47 : Ref sig .tc := ⟨.hbm, 166, rfl⟩
abbrev main_call9_v0 : Ref sig .tc := ⟨.hbm, 167, rfl⟩
abbrev main_call9_v1 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_cst_2 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_v63 : Ref sig .tc := ⟨.hbm, 185, rfl⟩
abbrev main_v64 : Ref sig .tc := ⟨.hbm, 186, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S_, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x3072 : Shape := ⟨2, ![8192, 3072]⟩
abbrev S1024x3072 : Shape := ⟨2, ![1024, 3072]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x3072 : Shape := ⟨2, ![8192, 3072]⟩
abbrev S1024x3072 : Shape := ⟨2, ![1024, 3072]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S_, .f32⟩
  | .hbm, ⟨3, _⟩ => ⟨S8192x1024, .f32⟩
  | .hbm, ⟨4, _⟩ => ⟨S1024x3072, .f32⟩
  | .hbm, ⟨5, _⟩ => ⟨S8192x3072, .f32⟩
  | .hbm, ⟨6, _⟩ => ⟨S8192x3072, .f32⟩
  | .hbm, ⟨7, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x3072 : Shape := ⟨2, ![8192, 3072]⟩
abbrev S1024x3072 : Shape := ⟨2, ![1024, 3072]⟩
abbrev S8192x1024 : Shape := ⟨2, ![8192, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x3072 : Shape := ⟨2, ![8192, 3072]⟩
abbrev S1024x3072 : Shape := ⟨2, ![1024, 3072]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S8192x1024, .f32⟩
  | .hbm, ⟨9, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | .hbm, ⟨8, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x1024, .f32⟩
  | .hbm, ⟨3, _⟩ => ⟨S1024x512, .f32⟩
  | .hbm, ⟨4, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S8192x512 : Shape := ⟨2, ![8192, 512]⟩
abbrev S1024x512 : Shape := ⟨2, ![1024, 512]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .f32⟩
  | .hbm, ⟨3, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S8192x512 : Shape := ⟨2, ![8192, 512]⟩
abbrev S1024x512 : Shape := ⟨2, ![1024, 512]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x512, .f32⟩
  | .hbm, ⟨6, _⟩ => ⟨S8192x512, .f32⟩
  | .hbm, ⟨7, _⟩ => ⟨S8192x512, .f32⟩
  | .hbm, ⟨8, _⟩ => ⟨S8192x1024, .f32⟩
  | .hbm, ⟨9, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel20.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel22.lean ====
abbrev S8192x512 : Shape := ⟨2, ![8192, 512]⟩
abbrev S8192x3072 : Shape := ⟨2, ![8192, 3072]⟩
abbrev S3072 : Shape := ⟨1, ![3072]⟩
abbrev S512x1024 : Shape := ⟨2, ![512, 1024]⟩
abbrev S1x3072 : Shape := ⟨2, ![1, 3072]⟩
abbrev S8192x1024 : Shape := ⟨2, ![8192, 1024]⟩
abbrev S256x512 : Shape := ⟨2, ![256, 512]⟩
abbrev S256x3072 : Shape := ⟨2, ![256, 3072]⟩
abbrev S256x1024 : Shape := ⟨2, ![256, 1024]⟩
abbrev S1x1024 : Shape := ⟨2, ![1, 1024]⟩

abbrev nBuf : Space → Nat
  | .hbm => 13
  | .vmem => 20
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x3072, .f32⟩
  | .hbm, ⟨4, _⟩ => ⟨S3072, .f32⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1x3072, .f32⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x3072, .f32⟩
  | .local _ .vmem, ⟨7, _⟩ => ⟨S256x3072, .f32⟩
  | .local _ .vmem, ⟨8, _⟩ => ⟨S1x3072, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference22Ideal.lean ====
abbrev S8192x512 : Shape := ⟨2, ![8192, 512]⟩
abbrev S8192x3072 : Shape := ⟨2, ![8192, 3072]⟩
abbrev S3072 : Shape := ⟨1, ![3072]⟩
abbrev S512x1024 : Shape := ⟨2, ![512, 1024]⟩
abbrev S8192x1024 : Shape := ⟨2, ![8192, 1024]⟩
abbrev S1x3072 : Shape := ⟨2, ![1, 3072]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x3072, .f32⟩
  | .hbm, ⟨4, _⟩ => ⟨S3072, .f32⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S8192x512, .f32⟩
  | .hbm, ⟨9, _⟩ => ⟨S512x1024, .f32⟩
  | .hbm, ⟨10, _⟩ => ⟨S8192x1024, .f32⟩
  | .hbm, ⟨11, _⟩ => ⟨S8192x512, .f32⟩
  | .hbm, ⟨12, _⟩ => ⟨S512x1024, .f32⟩
  | .hbm, ⟨13, _⟩ => ⟨S8192x1024, .f32⟩
  | .hbm, ⟨14, _⟩ => ⟨S8192x512, .f32⟩
  | .hbm, ⟨15, _⟩ => ⟨S512x1024, .f32⟩
  | .hbm, ⟨16, _⟩ => ⟨S8192x1024, .f32⟩
  | .hbm, ⟨17, _⟩ => ⟨S1x3072, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S_, .f32⟩
  | .hbm, ⟨23, _⟩ => ⟨S8192x3072, .f32⟩
  | .hbm, ⟨24, _⟩ => ⟨S8192x3072, .f32⟩
  | .hbm, ⟨25, _⟩ => ⟨S_, .f32⟩
  | .hbm, ⟨26, _⟩ => ⟨S8192x3072, .f32⟩
  | .hbm, ⟨27, _⟩ => ⟨S8192x3072, .f32⟩
  | .hbm, ⟨28, _⟩ => ⟨S8192x3x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | .hbm, ⟨41, _⟩ => ⟨S8192x1024, .bf16⟩
  | .hbm, ⟨42, _⟩ => ⟨S8192x1024, .bf16⟩
  | .hbm, ⟨43, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel23.lean ====
abbrev S8192x1024 : Shape := ⟨2, ![8192, 1024]⟩
abbrev S8192x3072 : Shape := ⟨2, ![8192, 3072]⟩
abbrev S3072 : Shape := ⟨1, ![3072]⟩
abbrev S1x3072 : Shape := ⟨2, ![1, 3072]⟩
abbrev S256x1024 : Shape := ⟨2, ![256, 1024]⟩
abbrev S256x3072 : Shape := ⟨2, ![256, 3072]⟩
abbrev S1x1024 : Shape := ⟨2, ![1, 1024]⟩
abbrev S1024 : Shape := ⟨1, ![1024]⟩

abbrev nBuf : Space → Nat
  | .hbm => 12
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S3072, .f32⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S1x3072, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x3072, .bf16⟩
  | .hbm, ⟨11, _⟩ => ⟨S1x3072, .f32⟩
  | .local _ .vmem, ⟨0, _⟩ => ⟨S256x1024, .f32⟩
  | .local _ .vmem, ⟨1, _⟩ => ⟨S256x1024, .f32⟩
  | .local _ .vmem, ⟨2, _⟩ => ⟨S256x3072, .f32⟩
  | .local _ .vmem, ⟨3, _⟩ => ⟨S256x3072, .f32⟩
  | .local _ .vmem, ⟨4, _⟩ => ⟨S1x3072, .f32⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x3072, .bf16⟩
  | .local _ .vmem, ⟨18, _⟩ => ⟨S256x3072, .bf16⟩
  | .local _ .vmem, ⟨19, _⟩ => ⟨S1x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference23Ideal.lean ====
abbrev S8192x1024 : Shape := ⟨2, ![8192, 1024]⟩
abbrev S8192x3072 : Shape := ⟨2, ![8192, 3072]⟩
abbrev S3072 : Shape := ⟨1, ![3072]⟩
abbrev S1x3072 : Shape := ⟨2, ![1, 3072]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S3072, .f32⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1x3072, .f32⟩
  | .hbm, ⟨10, _⟩ => ⟨S8192x3072, .f32⟩
  | .hbm, ⟨11, _⟩ => ⟨S8192x3072, .f32⟩
  | .hbm, ⟨12, _⟩ => ⟨S8192x3072, .f32⟩
  | .hbm, ⟨13, _⟩ => ⟨S8192x3072, .f32⟩
  | .hbm, ⟨14, _⟩ => ⟨S_, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S_, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S8192x3x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1x1024, .f32⟩
  | .hbm, ⟨41, _⟩ => ⟨S_, .f32⟩
  | .hbm, ⟨42, _⟩ => ⟨S8192x3x1024, .f32⟩
  | .hbm, ⟨43, _⟩ => ⟨S8192x1024, .f32⟩
  | .hbm, ⟨44, _⟩ => ⟨S8192x1024, .f32⟩
  | .hbm, ⟨45, _⟩ => ⟨S8192x1x1024, .f32⟩
  | .hbm, ⟨46, _⟩ => ⟨S_, .f32⟩
  | .hbm, ⟨47, _⟩ => ⟨S8192x3x1024, .f32⟩
  | .hbm, ⟨48, _⟩ => ⟨S8192x3x1024, .f32⟩
  | .hbm, ⟨49, _⟩ => ⟨S8192x1024, .f32⟩
  | .hbm, ⟨50, _⟩ => ⟨S8192x1024, .f32⟩
  | .hbm, ⟨51, _⟩ => ⟨S8192x1x1024, .f32⟩
  | .hbm, ⟨52, _⟩ => ⟨S_, .f32⟩
  | .hbm, ⟨53, _⟩ => ⟨S8192x3x1024, .f32⟩
  | .hbm, ⟨54, _⟩ => ⟨S8192x3x1024, .f32⟩
  | .hbm, ⟨55, _⟩ => ⟨S8192x3072, .f32⟩
  | .hbm, ⟨56, _⟩ => ⟨S8192x3072, .f32⟩
  | .hbm, ⟨57, _⟩ => ⟨S_, .f32⟩
  | .hbm, ⟨58, _⟩ => ⟨S3072, .f32⟩
  | .hbm, ⟨59, _⟩ => ⟨S1x3072, .f32⟩
  | .hbm, ⟨60, _⟩ => ⟨S_, .f32⟩
  | .hbm, ⟨61, _⟩ => ⟨S3072, .f32⟩
  | .hbm, ⟨62, _⟩ => ⟨S8192x1024, .bf16⟩
  | .hbm, ⟨63, _⟩ => ⟨S8192x1024, .bf16⟩
  | .hbm, ⟨64, _⟩ => ⟨S8192x1024, .bf16⟩
  | .hbm, ⟨65, _⟩ => ⟨S8192x3072, .bf16⟩
  | .hbm, ⟨66, _⟩ => ⟨S1x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Kernel24.lean ====
abbrev S8192x5632 : Shape := ⟨2, ![8192, 5632]⟩
abbrev S3x5632 : Shape := ⟨2, ![3, 5632]⟩
abbrev S1024x512 : Shape := ⟨2, ![1024, 512]⟩
abbrev S16x512 : Shape := ⟨2, ![16, 512]⟩
abbrev S3x512 : Shape := ⟨2, ![3, 512]⟩
abbrev S1040x512 : Shape := ⟨2, ![1040, 512]⟩
abbrev S1x512 : Shape := ⟨2, ![1, 512]⟩

abbrev nBuf : Space → Nat
  | .hbm => 3
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S8192x5632, .bf16⟩
  | .local _ .vmem, ⟨0, _⟩ => ⟨S1024x512, .bf16⟩
  | .local _ .vmem, ⟨1, _⟩ => ⟨S1024x512, .bf16⟩
  | .local _ .vmem, ⟨2, _⟩ => ⟨S16x512, .bf16⟩
  | .local _ .vmem, ⟨3, _⟩ => ⟨S16x512, .bf16⟩
  | .local _ .vmem, ⟨4, _⟩ => ⟨S3x512, .f32⟩
  | .local _ .vmem, ⟨5, _⟩ => ⟨S3x512, .f32⟩
  | .local _ .vmem, ⟨6, _⟩ => ⟨S1024x512, .bf16⟩
  | .local _ .vmem, ⟨7, _⟩ => ⟨S1024x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference24Ideal.lean ====
abbrev S8192x5632 : Shape := ⟨2, ![8192, 5632]⟩
abbrev S3x5632 : Shape := ⟨2, ![3, 5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩

abbrev nBuf : Space → Nat
  | .hbm => 50
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S_, .f32⟩
  | .hbm, ⟨3, _⟩ => ⟨S8192x5632, .f32⟩
  | .hbm, ⟨4, _⟩ => ⟨S_, .f32⟩
  | .hbm, ⟨5, _⟩ => ⟨S2x5632, .f32⟩
  | .hbm, ⟨6, _⟩ => ⟨S8194x5632, .f32⟩
  | .hbm, ⟨7, _⟩ => ⟨S_, .f32⟩
  | .hbm, ⟨8, _⟩ => ⟨S2x5632, .f32⟩
  | .hbm, ⟨9, _⟩ => ⟨S1x5632, .f32⟩
  | .hbm, ⟨10, _⟩ => ⟨S5632, .f32⟩
  | .hbm, ⟨11, _⟩ => ⟨S8192x5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S1x5632, .f32⟩
  | .hbm, ⟨19, _⟩ => ⟨S5632, .f32⟩
  | .hbm, ⟨20, _⟩ => ⟨S8192x5632, .f32⟩
  | .hbm, ⟨21, _⟩ => ⟨S1x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S1x5632, .f32⟩
  | .hbm, ⟨26, _⟩ => ⟨S5632, .f32⟩
  | .hbm, ⟨27, _⟩ => ⟨S8192x5632, .f32⟩
  | .hbm, ⟨28, _⟩ => ⟨S1x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8194x5632, .f32⟩
  | .hbm, ⟨37, _⟩ => ⟨S8192x5632, .f32⟩
  | .hbm, ⟨38, _⟩ => ⟨S8192x5632, .f32⟩
  | .hbm, ⟨39, _⟩ => ⟨S_, .f32⟩
  | .hbm, ⟨40, _⟩ => ⟨S8194x5632, .f32⟩
  | .hbm, ⟨41, _⟩ => ⟨S8194x5632, .f32⟩
  | .hbm, ⟨42, _⟩ => ⟨S8192x5632, .f32⟩
  | .hbm, ⟨43, _⟩ => ⟨S8192x5632, .f32⟩
  | .hbm, ⟨44, _⟩ => ⟨S_, .f32⟩
  | .hbm, ⟨45, _⟩ => ⟨S8194x5632, .f32⟩
  | .hbm, ⟨46, _⟩ => ⟨S8194x5632, .f32⟩
  | .hbm, ⟨47, _⟩ => ⟨S2x5632, .f32⟩
  | .hbm, ⟨48, _⟩ => ⟨S8192x5632, .f32⟩
  | .hbm, ⟨49, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Kernel25.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference25Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | .hbm, ⟨51, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel26.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel27.lean ====
abbrev S8192x5632 : Shape := ⟨2, ![8192, 5632]⟩
abbrev S3x5632 : Shape := ⟨2, ![3, 5632]⟩
abbrev S5632 : Shape := ⟨1, ![5632]⟩
abbrev S1x5632 : Shape := ⟨2, ![1, 5632]⟩
abbrev S8192x2816 : Shape := ⟨2, ![8192, 2816]⟩
abbrev S1024x512 : Shape := ⟨2, ![1024, 512]⟩
abbrev S16x512 : Shape := ⟨2, ![16, 512]⟩
abbrev S3x512 : Shape := ⟨2, ![3, 512]⟩
abbrev S1x512 : Shape := ⟨2, ![1, 512]⟩
abbrev S1024x256 : Shape := ⟨2, ![1024, 256]⟩
abbrev S1040x512 : Shape := ⟨2, ![1040, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S5632, .f32⟩
  | .hbm, ⟨3, _⟩ => ⟨S1x5632, .f32⟩
  | .hbm, ⟨4, _⟩ => ⟨S8192x2816, .bf16⟩
  | .local _ .vmem, ⟨0, _⟩ => ⟨S1024x512, .bf16⟩
  | .local _ .vmem, ⟨1, _⟩ => ⟨S1024x512, .bf16⟩
  | .local _ .vmem, ⟨2, _⟩ => ⟨S16x512, .bf16⟩
  | .local _ .vmem, ⟨3, _⟩ => ⟨S16x512, .bf16⟩
  | .local _ .vmem, ⟨4, _⟩ => ⟨S3x512, .f32⟩
  | .local _ .vmem, ⟨5, _⟩ => ⟨S3x512, .f32⟩
  | .local _ .vmem, ⟨6, _⟩ => ⟨S1x512, .f32⟩
  | .local _ .vmem, ⟨7, _⟩ => ⟨S1x512, .f32⟩
  | .local _ .vmem, ⟨8, _⟩ => ⟨S1024x256, .bf16⟩
  | .local _ .vmem, ⟨9, _⟩ => ⟨S1024x256, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference27Ideal.lean ====
abbrev S8192x5632 : Shape := ⟨2, ![8192, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S8192x11x2x256 : Shape := ⟨4, ![8192, 11, 2, 256]⟩
abbrev S8192x11x1x256 : Shape := ⟨4, ![8192, 11, 1, 256]⟩
abbrev S8192x11x256 : Shape := ⟨3, ![8192, 11, 256]⟩
abbrev S8192x2816 : Shape := ⟨2, ![8192, 2816]⟩

abbrev nBuf : Space → Nat
  | .hbm => 47
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S5632, .f32⟩
  | .hbm, ⟨3, _⟩ => ⟨S8192x5632, .f32⟩
  | .hbm, ⟨4, _⟩ => ⟨S_, .f32⟩
  | .hbm, ⟨5, _⟩ => ⟨S2x5632, .f32⟩
  | .hbm, ⟨6, _⟩ => ⟨S8194x5632, .f32⟩
  | .hbm, ⟨7, _⟩ => ⟨S1x5632, .f32⟩
  | .hbm, ⟨8, _⟩ => ⟨S5632, .f32⟩
  | .hbm, ⟨9, _⟩ => ⟨S8192x5632, .f32⟩
  | .hbm, ⟨10, _⟩ => ⟨S1x5632, .f32⟩
  | .hbm, ⟨11, _⟩ => ⟨S8192x5632, .f32⟩
  | .hbm, ⟨12, _⟩ => ⟨S8192x5632, .f32⟩
  | .hbm, ⟨13, _⟩ => ⟨S1x5632, .f32⟩
  | .hbm, ⟨14, _⟩ => ⟨S8192x5632, .f32⟩
  | .hbm, ⟨15, _⟩ => ⟨S8192x5632, .f32⟩
  | .hbm, ⟨16, _⟩ => ⟨S1x5632, .f32⟩
  | .hbm, ⟨17, _⟩ => ⟨S5632, .f32⟩
  | .hbm, ⟨18, _⟩ => ⟨S8192x5632, .f32⟩
  | .hbm, ⟨19, _⟩ => ⟨S1x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S1x5632, .f32⟩
  | .hbm, ⟨24, _⟩ => ⟨S5632, .f32⟩
  | .hbm, ⟨25, _⟩ => ⟨S8192x5632, .f32⟩
  | .hbm, ⟨26, _⟩ => ⟨S1x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x11x2x256, .f32⟩
  | .hbm, ⟨31, _⟩ => ⟨S8192x11x1x256, .f32⟩
  | .hbm, ⟨32, _⟩ => ⟨S8192x11x256, .f32⟩
  | .hbm, ⟨33, _⟩ => ⟨S8192x11x256, .f32⟩
  | .hbm, ⟨34, _⟩ => ⟨S8192x11x256, .f32⟩
  | .hbm, ⟨35, _⟩ => ⟨S_, .f32⟩
  | .hbm, ⟨36, _⟩ => ⟨S8192x11x256, .f32⟩
  | .hbm, ⟨37, _⟩ => ⟨S8192x11x256, .f32⟩
  | .hbm, ⟨38, _⟩ => ⟨S_, .f32⟩
  | .hbm, ⟨39, _⟩ => ⟨S8192x11x256, .f32⟩
  | .hbm, ⟨40, _⟩ => ⟨S8192x11x256, .f32⟩
  | .hbm, ⟨41, _⟩ => ⟨S8192x11x256, .f32⟩
  | .hbm, ⟨42, _⟩ => ⟨S8192x11x1x256, .f32⟩
  | .hbm, ⟨43, _⟩ => ⟨S8192x11x256, .f32⟩
  | .hbm, ⟨44, _⟩ => ⟨S8192x11x256, .f32⟩
  | .hbm, ⟨45, _⟩ => ⟨S8192x2816, .f32⟩
  | .hbm, ⟨46, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel28.lean ====
abbrev S8192x1024 : Shape := ⟨2, ![8192, 1024]⟩
abbrev S16x8x1024 : Shape := ⟨3, ![16, 8, 1024]⟩
abbrev S512x1024 : Shape := ⟨2, ![512, 1024]⟩
abbrev S1x8x1024 : Shape := ⟨3, ![1, 8, 1024]⟩
abbrev S1024 : Shape := ⟨1, ![1024]⟩
abbrev S1x1024 : Shape := ⟨2, ![1, 1024]⟩
abbrev S8x1024 : Shape := ⟨2, ![8, 1024]⟩
abbrev S16x1x1024 : Shape := ⟨3, ![16, 1, 1024]⟩
abbrev S16x1024 : Shape := ⟨2, ![16, 1024]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S16x8x1024, .f32⟩
  | .hbm, ⟨5, _⟩ => ⟨S16x1x1024, .f32⟩
  | .hbm, ⟨6, _⟩ => ⟨S16x1024, .f32⟩
  | .hbm, ⟨7, _⟩ => ⟨S_, .f32⟩
  | .hbm, ⟨8, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x8x1024, .f32⟩
  | .local _ .vmem, ⟨9, _⟩ => ⟨S1x8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference28Ideal.lean ====
abbrev S8192x1024 : Shape := ⟨2, ![8192, 1024]⟩
abbrev S_ : Shape := ⟨0, ![]⟩
abbrev S8192 : Shape := ⟨1, ![8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel29.lean ====
abbrev S8x1024x832 : Shape := ⟨3, ![8, 1024, 832]⟩
abbrev S1024x832 : Shape := ⟨2, ![1024, 832]⟩
abbrev S8x256x832 : Shape := ⟨3, ![8, 256, 832]⟩
abbrev S256x832 : Shape := ⟨2, ![256, 832]⟩
abbrev S1x256x832 : Shape := ⟨3, ![1, 256, 832]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x832, .bf16⟩
  | .hbm, ⟨1, _⟩ => ⟨S1024x832, .f32⟩
  | .hbm, ⟨2, _⟩ => ⟨S1024x832, .f32⟩
  | .hbm, ⟨3, _⟩ => ⟨S1024x832, .f32⟩
  | .hbm, ⟨4, _⟩ => ⟨S1024x832, .f32⟩
  | .hbm, ⟨5, _⟩ => ⟨S1024x832, .f32⟩
  | .hbm, ⟨6, _⟩ => ⟨S1024x832, .f32⟩
  | .hbm, ⟨7, _⟩ => ⟨S1024x832, .f32⟩
  | .local _ .vmem, ⟨0, _⟩ => ⟨S8x256x832, .bf16⟩
  | .local _ .vmem, ⟨1, _⟩ => ⟨S8x256x832, .bf16⟩
  | .local _ .vmem, ⟨2, _⟩ => ⟨S256x832, .f32⟩
  | .local _ .vmem, ⟨3, _⟩ => ⟨S256x832, .f32⟩
  | .local _ .vmem, ⟨4, _⟩ => ⟨S256x832, .f32⟩
  | .local _ .vmem, ⟨5, _⟩ => ⟨S256x832, .f32⟩
  | .local _ .vmem, ⟨6, _⟩ => ⟨S256x832, .f32⟩
  | .local _ .vmem, ⟨7, _⟩ => ⟨S256x832, .f32⟩
  | .local _ .vmem, ⟨8, _⟩ => ⟨S256x832, .f32⟩
  | .local _ .vmem, ⟨9, _⟩ => ⟨S256x832, .f32⟩
  | .local _ .vmem, ⟨10, _⟩ => ⟨S256x832, .f32⟩
  | .local _ .vmem, ⟨11, _⟩ => ⟨S256x832, .f32⟩
  | .local _ .vmem, ⟨12, _⟩ => ⟨S256x832, .f32⟩
  | .local _ .vmem, ⟨13, _⟩ => ⟨S256x832, .f32⟩
  | .local _ .vmem, ⟨14, _⟩ => ⟨S256x832, .f32⟩
  | .local _ .vmem, ⟨15, _⟩ => ⟨S256x832, .f32⟩
  | _, _ => ⟨S8x1024x832, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x832 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x832 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x832 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x832 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x832 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x832 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x832 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference29Ideal.lean ====
abbrev S8x1024x832 : Shape := ⟨3, ![8, 1024, 832]⟩
abbrev S1024x832 : Shape := ⟨2, ![1024, 832]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x832, .bf16⟩
  | .hbm, ⟨1, _⟩ => ⟨S1024x832, .f32⟩
  | .hbm, ⟨2, _⟩ => ⟨S1024x832, .f32⟩
  | .hbm, ⟨3, _⟩ => ⟨S1024x832, .f32⟩
  | .hbm, ⟨4, _⟩ => ⟨S8x1024x832, .f32⟩
  | .hbm, ⟨5, _⟩ => ⟨S_, .f32⟩
  | .hbm, ⟨6, _⟩ => ⟨S1024x832, .f32⟩
  | .hbm, ⟨7, _⟩ => ⟨S_, .f32⟩
  | .hbm, ⟨8, _⟩ => ⟨S1024x832, .f32⟩
  | .hbm, ⟨9, _⟩ => ⟨S1024x832, .f32⟩
  | .hbm, ⟨10, _⟩ => ⟨S_, .f32⟩
  | .hbm, ⟨11, _⟩ => ⟨S1024x832, .f32⟩
  | .hbm, ⟨12, _⟩ => ⟨S1024x832, .f32⟩
  | .hbm, ⟨13, _⟩ => ⟨S1024x832, .f32⟩
  | .hbm, ⟨14, _⟩ => ⟨S_, .f32⟩
  | .hbm, ⟨15, _⟩ => ⟨S1024x832, .f32⟩
  | .hbm, ⟨16, _⟩ => ⟨S1024x832, .f32⟩
  | .hbm, ⟨17, _⟩ => ⟨S1024x832, .f32⟩
  | .hbm, ⟨18, _⟩ => ⟨S_, .f32⟩
  | .hbm, ⟨19, _⟩ => ⟨S1024x832, .f32⟩
  | .hbm, ⟨20, _⟩ => ⟨S1024x832, .f32⟩
  | .hbm, ⟨21, _⟩ => ⟨S1024x832, .f32⟩
  | .hbm, ⟨22, _⟩ => ⟨S_, .f32⟩
  | .hbm, ⟨23, _⟩ => ⟨S1024x832, .f32⟩
  | .hbm, ⟨24, _⟩ => ⟨S1024x832, .f32⟩
  | .hbm, ⟨25, _⟩ => ⟨S_, .f32⟩
  | .hbm, ⟨26, _⟩ => ⟨S1024x832, .f32⟩
  | .hbm, ⟨27, _⟩ => ⟨S1024x832, .f32⟩
  | .hbm, ⟨28, _⟩ => ⟨S1024x832, .f32⟩
  | .hbm, ⟨29, _⟩ => ⟨S_, .f32⟩
  | .hbm, ⟨30, _⟩ => ⟨S1024x832, .f32⟩
  | .hbm, ⟨31, _⟩ => ⟨S1024x832, .f32⟩
  | .hbm, ⟨32, _⟩ => ⟨S1024x832, .f32⟩
  | .hbm, ⟨33, _⟩ => ⟨S_, .f32⟩
  | .hbm, ⟨34, _⟩ => ⟨S1024x832, .f32⟩
  | .hbm, ⟨35, _⟩ => ⟨S1024x832, .f32⟩
  | .hbm, ⟨36, _⟩ => ⟨S1024x832, .f32⟩
  | .hbm, ⟨37, _⟩ => ⟨S_, .f32⟩
  | .hbm, ⟨38, _⟩ => ⟨S1024x832, .f32⟩
  | .hbm, ⟨39, _⟩ => ⟨S1024x832, .f32⟩
  | _, _ => ⟨S8x1024x832, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S8192x3072 : Shape := ⟨2, ![8192, 3072]⟩
abbrev S8192x512 : Shape := ⟨2, ![8192, 512]⟩
abbrev S4x16x1024x128 : Shape := ⟨4, ![4, 16, 1024, 128]⟩
abbrev S512x128 : Shape := ⟨2, ![512, 128]⟩
abbrev S8192x128 : Shape := ⟨2, ![8192, 128]⟩
abbrev S1x1x1024x128 : Shape := ⟨4, ![1, 1, 1024, 128]⟩
abbrev S1024x128 : Shape := ⟨2, ![1024, 128]⟩
abbrev S1024x1 : Shape := ⟨2, ![1024, 1]⟩
abbrev S1024x512 : Shape := ⟨2, ![1024, 512]⟩
abbrev S256x256 : Shape := ⟨2, ![256, 256]⟩
abbrev S1024x256 : Shape := ⟨2, ![1024, 256]⟩
abbrev S1024 : Shape := ⟨1, ![1024]⟩

abbrev nBuf : Space → Nat
  | .hbm => 3
  | .vmem => 14
  | .smem => 0
  | _ => 0

abbrev bufTy : (tb : Table) → Fin (tcTables nBuf tb) → BufTy
  | .hbm, ⟨0, _⟩ => ⟨S8192x3072, .bf16⟩
  | .hbm, ⟨1, _⟩ => ⟨S8192x512, .bf16⟩
  | .hbm, ⟨2, _⟩ => ⟨S4x16x1024x128, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S1x1x1024x128, .f32⟩
  | .local _ .vmem, ⟨9, _⟩ => ⟨S1x1x1024x128, .f32⟩
  | .local _ .vmem, ⟨10, _⟩ => ⟨S1024x128, .f32⟩
  | .local _ .vmem, ⟨11, _⟩ => ⟨S1024x1, .f32⟩
  | .local _ .vmem, ⟨12, _⟩ => ⟨S1024x512, .f32⟩
  | .local _ .vmem, ⟨13, _⟩ => ⟨S1024x512, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v22 : BitVec 32 := Scalar.muli arg1 c512_i32
  v22
def k0_off1 (i : grid0.Coords) : Fin 2 → Nat :=
  let arg1 : BitVec 32 := BitVec.ofNat 32 (i 1).val
  let c512_i32 : BitVec 32 := 512#32
  let v22 : BitVec 32 := Scalar.muli arg1 c512_i32
  let v23 : BitVec 32 := v22
  let v24 : Index := Scalar.indexCast v23
  let c0_5 : Index := 0#32
  ![v24.toNat, 0]
def k0_mult2 (i : grid0.Coords) : BitVec 32 :=
  let arg1 : BitVec 32 := BitVec.ofNat 32 (i 1).val
  let c1_i32 : BitVec 32 := 1#32
  let v73 : BitVec 32 := Scalar.subi arg1 c1_i32
  let c0_i32 : BitVec 32 := 0#32
  let v74 : BitVec 32 := Scalar.maxsi v73 c0_i32
  let c512_i32_22 : BitVec 32 := 512#32
  let v75 : BitVec 32 := Scalar.muli v74 c512_i32_22
  v75
def k0_off2 (i : grid0.Coords) : Fin 2 → Nat :=
  let arg1 : BitVec 32 := BitVec.ofNat 32 (i 1).val
  let c1_i32 : BitVec 32 := 1#32
  let v73 : BitVec 32 := Scalar.subi arg1 c1_i32
  let c0_i32 : BitVec 32 := 0#32
  let v74 : BitVec 32 := Scalar.maxsi v73 c0_i32
  let c512_i32_22 : BitVec 32 := 512#32
  let v75 : BitVec 32 := Scalar.muli v74 c512_i32_22
  let v76 : BitVec 32 := v75
  let v77 : Index := Scalar.indexCast v76
  let c0_23 : Index := 0#32
  ![v77.toNat, 0]
@[reducible] def k0_t1_loop (i : grid0.Coords) : Scf.Loop 32 :=
  let c0_i32_41 : BitVec 32 := 0#32
  let arg1 : BitVec 32 := BitVec.ofNat 32 (i 1).val
  let c0_i32_35 : BitVec 32 := 0#32
  let v91 : BitVec 32 := Scalar.subi arg1 c0_i32_35
  let c1_i32_36 : BitVec 32 := 1#32
  let c1_i32_37 : BitVec 32 := 1#32
  let v92 : BitVec 32 := Scalar.subi c1_i32_36 c1_i32_37
  let v93 : BitVec 32 := Scalar.addi v91 v92
  let c1_i32_38 : BitVec 32 := 1#32
  let v94 : BitVec 32 := Scalar.divsi v93 c1_i32_38
  let v95 : BitVec 32 := Scalar.subi v94 c0_i32_41
  let c1_i32_42 : BitVec 32 := 1#32
  let v97 : BitVec 32 := Scalar.divsi v95 c1_i32_42
  let v98 : BitVec 32 := Scalar.muli v97 c1_i32_42
  let v99 : BitVec 32 := Scalar.addi c0_i32_41 v98
  let c1_i32_43 : BitVec 32 := 1#32
  ⟨c0_i32_41, v99, c1_i32_43⟩
def k0_mult3 (i : grid0.Coords) (k0_t1 : Fin (k0_t1_loop i).trips) : BitVec 32 :=
  let arg1 : BitVec 32 := BitVec.ofNat 32 (i 1).val
  let c1_i32_55 : BitVec 32 := 1#32
  let v117 : BitVec 32 := Scalar.subi arg1 c1_i32_55
  let c0_i32_40 : BitVec 32 := 0#32
  let c0_i32_41 : BitVec 32 := 0#32
  let c1_i32_43 : BitVec 32 := 1#32
  let arg11 : BitVec 32 := Scf.iv c0_i32_41 c1_i32_43 k0_t1
  let c1_i32_39 : BitVec 32 := 1#32
  let v115 : BitVec 32 := Scalar.muli arg11 c1_i32_39
  let v116 : BitVec 32 := Scalar.addi c0_i32_40 v115
  let v118 : BitVec 32 := Scalar.subi v117 v116
  let c1_i32_58 : BitVec 32 := 1#32
  let v120 : BitVec 32 := Scalar.subi v118 c1_i32_58
  let c0_i32_59 : BitVec 32 := 0#32
  let v121 : BitVec 32 := Scalar.maxsi v120 c0_i32_59
  let c512_i32_60 : BitVec 32 := 512#32
  let v122 : BitVec 32 := Scalar.muli v121 c512_i32_60
  v122
def k0_off3 (i : grid0.Coords) (k0_t1 : Fin (k0_t1_loop i).trips) : Fin 2 → Nat :=
  let arg1 : BitVec 32 := BitVec.ofNat 32 (i 1).val
  let c1_i32_55 : BitVec 32 := 1#32
  let v117 : BitVec 32 := Scalar.subi arg1 c1_i32_55
  let c0_i32_40 : BitVec 32 := 0#32
  let c0_i32_41 : BitVec 32 := 0#32
  let c1_i32_43 : BitVec 32 := 1#32
  let arg11 : BitVec 32 := Scf.iv c0_i32_41 c1_i32_43 k0_t1
  let c1_i32_39 : BitVec 32 := 1#32
  let v115 : BitVec 32 := Scalar.muli arg11 c1_i32_39
  let v116 : BitVec 32 := Scalar.addi c0_i32_40 v115
  let v118 : BitVec 32 := Scalar.subi v117 v116
  let c1_i32_58 : BitVec 32 := 1#32
  let v120 : BitVec 32 := Scalar.subi v118 c1_i32_58
  let c0_i32_59 : BitVec 32 := 0#32
  let v121 : BitVec 32 := Scalar.maxsi v120 c0_i32_59
  let c512_i32_60 : BitVec 32 := 512#32
  let v122 : BitVec 32 := Scalar.muli v121 c512_i32_60
  let v123 : BitVec 32 := v122
  let v124 : Index := Scalar.indexCast v123
  let c0_61 : Index := 0#32
  ![v124.toNat, 0]
def k0_mult4 (i : grid0.Coords) (k0_t1 : Fin (k0_t1_loop i).trips) : BitVec 32 :=
  let arg1 : BitVec 32 := BitVec.ofNat 32 (i 1).val
  let c1_i32_55 : BitVec 32 := 1#32
  let v117 : BitVec 32 := Scalar.subi arg1 c1_i32_55
  let c0_i32_40 : BitVec 32 := 0#32
  let c0_i32_41 : BitVec 32 := 0#32
  let c1_i32_43 : BitVec 32 := 1#32
  let arg11 : BitVec 32 := Scf.iv c0_i32_41 c1_i32_43 k0_t1
  let c1_i32_39 : BitVec 32 := 1#32
  let v115 : BitVec 32 := Scalar.muli arg11 c1_i32_39
  let v116 : BitVec 32 := Scalar.addi c0_i32_40 v115
  let v118 : BitVec 32 := Scalar.subi v117 v116
  let c1_i32_69 : BitVec 32 := 1#32
  let v132 : BitVec 32 := Scalar.addi v118 c1_i32_69
  let c512_i32_70 : BitVec 32 := 512#32
  let v133 : BitVec 32 := Scalar.muli v132 c512_i32_70
  v133
def k0_off4 (i : grid0.Coords) (k0_t1 : Fin (k0_t1_loop i).trips) : Fin 2 → Nat :=
  let arg1 : BitVec 32 := BitVec.ofNat 32 (i 1).val
  let c1_i32_55 : BitVec 32 := 1#32
  let v117 : BitVec 32 := Scalar.subi arg1 c1_i32_55
  let c0_i32_40 : BitVec 32 := 0#32
  let c0_i32_41 : BitVec 32 := 0#32
  let c1_i32_43 : BitVec 32 := 1#32
  let arg11 : BitVec 32 := Scf.iv c0_i32_41 c1_i32_43 k0_t1
  let c1_i32_39 : BitVec 32 := 1#32
  let v115 : BitVec 32 := Scalar.muli arg11 c1_i32_39
  let v116 : BitVec 32 := Scalar.addi c0_i32_40 v115
  let v118 : BitVec 32 := Scalar.subi v117 v116
  let c1_i32_69 : BitVec 32 := 1#32
  let v132 : BitVec 32 := Scalar.addi v118 c1_i32_69
  let c512_i32_70 : BitVec 32 := 512#32
  let v133 : BitVec 32 := Scalar.muli v132 c512_i32_70
  let v134 : BitVec 32 := v133
  let v135 : Index := Scalar.indexCast v134
  let c0_71 : Index := 0#32
  ![v135.toNat, 0]
@[reducible] def k0_t2_loop (i : grid0.Coords) : Scf.Loop 32 :=
  let c0_i32_41 : BitVec 32 := 0#32
  let arg1 : BitVec 32 := BitVec.ofNat 32 (i 1).val
  let c0_i32_35 : BitVec 32 := 0#32
  let v91 : BitVec 32 := Scalar.subi arg1 c0_i32_35
  let c1_i32_36 : BitVec 32 := 1#32
  let c1_i32_37 : BitVec 32 := 1#32
  let v92 : BitVec 32 := Scalar.subi c1_i32_36 c1_i32_37
  let v93 : BitVec 32 := Scalar.addi v91 v92
  let c1_i32_38 : BitVec 32 := 1#32
  let v94 : BitVec 32 := Scalar.divsi v93 c1_i32_38
  let v95 : BitVec 32 := Scalar.subi v94 c0_i32_41
  let c1_i32_42 : BitVec 32 := 1#32
  let v97 : BitVec 32 := Scalar.divsi v95 c1_i32_42
  let v98 : BitVec 32 := Scalar.muli v97 c1_i32_42
  let v99 : BitVec 32 := Scalar.addi c0_i32_41 v98
  let v96 : BitVec 32 := Scalar.addi c0_i32_41 v95
  let c1_i32_44 : BitVec 32 := 1#32
  ⟨v99, v96, c1_i32_44⟩
def k0_mult5 (i : grid0.Coords) (k0_t2 : Fin (k0_t2_loop i).trips) : BitVec 32 :=
  let arg1 : BitVec 32 := BitVec.ofNat 32 (i 1).val
  let c1_i32_55 : BitVec 32 := 1#32
  let v117 : BitVec 32 := Scalar.subi arg1 c1_i32_55
  let c0_i32_40 : BitVec 32 := 0#32
  let c0_i32_41 : BitVec 32 := 0#32
  let c0_i32_35 : BitVec 32 := 0#32
  let v91 : BitVec 32 := Scalar.subi arg1 c0_i32_35
  let c1_i32_36 : BitVec 32 := 1#32
  let c1_i32_37 : BitVec 32 := 1#32
  let v92 : BitVec 32 := Scalar.subi c1_i32_36 c1_i32_37
  let v93 : BitVec 32 := Scalar.addi v91 v92
  let c1_i32_38 : BitVec 32 := 1#32
  let v94 : BitVec 32 := Scalar.divsi v93 c1_i32_38
  let v95 : BitVec 32 := Scalar.subi v94 c0_i32_41
  let c1_i32_42 : BitVec 32 := 1#32
  let v97 : BitVec 32 := Scalar.divsi v95 c1_i32_42
  let v98 : BitVec 32 := Scalar.muli v97 c1_i32_42
  let v99 : BitVec 32 := Scalar.addi c0_i32_41 v98
  let c1_i32_44 : BitVec 32 := 1#32
  let arg11 : BitVec 32 := Scf.iv v99 c1_i32_44 k0_t2
  let c1_i32_39 : BitVec 32 := 1#32
  let v115 : BitVec 32 := Scalar.muli arg11 c1_i32_39
  let v116 : BitVec 32 := Scalar.addi c0_i32_40 v115
  let v118 : BitVec 32 := Scalar.subi v117 v116
  let c1_i32_58 : BitVec 32 := 1#32
  let v120 : BitVec 32 := Scalar.subi v118 c1_i32_58
  let c0_i32_59 : BitVec 32 := 0#32
  let v121 : BitVec 32 := Scalar.maxsi v120 c0_i32_59
  let c512_i32_60 : BitVec 32 := 512#32
  let v122 : BitVec 32 := Scalar.muli v121 c512_i32_60
  v122
def k0_off5 (i : grid0.Coords) (k0_t2 : Fin (k0_t2_loop i).trips) : Fin 2 → Nat :=
  let arg1 : BitVec 32 := BitVec.ofNat 32 (i 1).val
  let c1_i32_55 : BitVec 32 := 1#32
  let v117 : BitVec 32 := Scalar.subi arg1 c1_i32_55
  let c0_i32_40 : BitVec 32 := 0#32
  let c0_i32_41 : BitVec 32 := 0#32
  let c0_i32_35 : BitVec 32 := 0#32
  let v91 : BitVec 32 := Scalar.subi arg1 c0_i32_35
  let c1_i32_36 : BitVec 32 := 1#32
  let c1_i32_37 : BitVec 32 := 1#32
  let v92 : BitVec 32 := Scalar.subi c1_i32_36 c1_i32_37
  let v93 : BitVec 32 := Scalar.addi v91 v92
  let c1_i32_38 : BitVec 32 := 1#32
  let v94 : BitVec 32 := Scalar.divsi v93 c1_i32_38
  let v95 : BitVec 32 := Scalar.subi v94 c0_i32_41
  let c1_i32_42 : BitVec 32 := 1#32
  let v97 : BitVec 32 := Scalar.divsi v95 c1_i32_42
  let v98 : BitVec 32 := Scalar.muli v97 c1_i32_42
  let v99 : BitVec 32 := Scalar.addi c0_i32_41 v98
  let c1_i32_44 : BitVec 32 := 1#32
  let arg11 : BitVec 32 := Scf.iv v99 c1_i32_44 k0_t2
  let c1_i32_39 : BitVec 32 := 1#32
  let v115 : BitVec 32 := Scalar.muli arg11 c1_i32_39
  let v116 : BitVec 32 := Scalar.addi c0_i32_40 v115
  let v118 : BitVec 32 := Scalar.subi v117 v116
  let c1_i32_58 : BitVec 32 := 1#32
  let v120 : BitVec 32 := Scalar.subi v118 c1_i32_58
  let c0_i32_59 : BitVec 32 := 0#32
  let v121 : BitVec 32 := Scalar.maxsi v120 c0_i32_59
  let c512_i32_60 : BitVec 32 := 512#32
  let v122 : BitVec 32 := Scalar.muli v121 c512_i32_60
  let v123 : BitVec 32 := v122
  let v124 : Index := Scalar.indexCast v123
  let c0_61 : Index := 0#32
  ![v124.toNat, 0]
def k0_mult6 (i : grid0.Coords) (k0_t2 : Fin (k0_t2_loop i).trips) : BitVec 32 :=
  let arg1 : BitVec 32 := BitVec.ofNat 32 (i 1).val
  let c1_i32_55 : BitVec 32 := 1#32
  let v117 : BitVec 32 := Scalar.subi arg1 c1_i32_55
  let c0_i32_40 : BitVec 32 := 0#32
  let c0_i32_41 : BitVec 32 := 0#32
  let c0_i32_35 : BitVec 32 := 0#32
  let v91 : BitVec 32 := Scalar.subi arg1 c0_i32_35
  let c1_i32_36 : BitVec 32 := 1#32
  let c1_i32_37 : BitVec 32 := 1#32
  let v92 : BitVec 32 := Scalar.subi c1_i32_36 c1_i32_37
  let v93 : BitVec 32 := Scalar.addi v91 v92
  let c1_i32_38 : BitVec 32 := 1#32
  let v94 : BitVec 32 := Scalar.divsi v93 c1_i32_38
  let v95 : BitVec 32 := Scalar.subi v94 c0_i32_41
  let c1_i32_42 : BitVec 32 := 1#32
  let v97 : BitVec 32 := Scalar.divsi v95 c1_i32_42
  let v98 : BitVec 32 := Scalar.muli v97 c1_i32_42
  let v99 : BitVec 32 := Scalar.addi c0_i32_41 v98
  let c1_i32_44 : BitVec 32 := 1#32
  let arg11 : BitVec 32 := Scf.iv v99 c1_i32_44 k0_t2
  let c1_i32_39 : BitVec 32 := 1#32
  let v115 : BitVec 32 := Scalar.muli arg11 c1_i32_39
  let v116 : BitVec 32 := Scalar.addi c0_i32_40 v115
  let v118 : BitVec 32 := Scalar.subi v117 v116
  let c1_i32_69 : BitVec 32 := 1#32
  let v132 : BitVec 32 := Scalar.addi v118 c1_i32_69
  let c512_i32_70 : BitVec 32 := 512#32
  let v133 : BitVec 32 := Scalar.muli v132 c512_i32_70
  v133
def k0_off6 (i : grid0.Coords) (k0_t2 : Fin (k0_t2_loop i).trips) : Fin 2 → Nat :=
  let arg1 : BitVec 32 := BitVec.ofNat 32 (i 1).val
  let c1_i32_55 : BitVec 32 := 1#32
  let v117 : BitVec 32 := Scalar.subi arg1 c1_i32_55
  let c0_i32_40 : BitVec 32 := 0#32
  let c0_i32_41 : BitVec 32 := 0#32
  let c0_i32_35 : BitVec 32 := 0#32
  let v91 : BitVec 32 := Scalar.subi arg1 c0_i32_35
  let c1_i32_36 : BitVec 32 := 1#32
  let c1_i32_37 : BitVec 32 := 1#32
  let v92 : BitVec 32 := Scalar.subi c1_i32_36 c1_i32_37
  let v93 : BitVec 32 := Scalar.addi v91 v92
  let c1_i32_38 : BitVec 32 := 1#32
  let v94 : BitVec 32 := Scalar.divsi v93 c1_i32_38
  let v95 : BitVec 32 := Scalar.subi v94 c0_i32_41
  let c1_i32_42 : BitVec 32 := 1#32
  let v97 : BitVec 32 := Scalar.divsi v95 c1_i32_42
  let v98 : BitVec 32 := Scalar.muli v97 c1_i32_42
  let v99 : BitVec 32 := Scalar.addi c0_i32_41 v98
  let c1_i32_44 : BitVec 32 := 1#32
  let arg11 : BitVec 32 := Scf.iv v99 c1_i32_44 k0_t2
  let c1_i32_39 : BitVec 32 := 1#32
  let v115 : BitVec 32 := Scalar.muli arg11 c1_i32_39
  let v116 : BitVec 32 := Scalar.addi c0_i32_40 v115
  let v118 : BitVec 32 := Scalar.subi v117 v116
  let c1_i32_69 : BitVec 32 := 1#32
  let v132 : BitVec 32 := Scalar.addi v118 c1_i32_69
  let c512_i32_70 : BitVec 32 := 512#32
  let v133 : BitVec 32 := Scalar.muli v132 c512_i32_70
  let v134 : BitVec 32 := v133
  let v135 : Index := Scalar.indexCast v134
  let c0_71 : Index := 0#32
  ![v135.toNat, 0]
def k0_mult7 : BitVec 32 :=
  let c0_i32_49 : BitVec 32 := 0#32
  c0_i32_49
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference21Ideal.lean ====
abbrev S8192x3072 : Shape := ⟨2, ![8192, 3072]⟩
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x15 : Shape := ⟨3, ![8, 8192, 15]⟩
abbrev S8x8192x128 : Shape := ⟨3, ![8, 8192, 128]⟩
abbrev S4x2x16x512x128 : Shape := ⟨5, ![4, 2, 16, 512, 128]⟩
abbrev S4x16x2x512x128 : Shape := ⟨5, ![4, 16, 2, 512, 128]⟩
abbrev S4x16x1024x128 : Shape := ⟨4, ![4, 16, 1024, 128]⟩

abbrev nBuf : Space → Nat
  | .hbm => 121
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x512, .bf16⟩
  | .hbm, ⟨2, _⟩ => ⟨S8192x512, .f32⟩
  | .hbm, ⟨3, _⟩ => ⟨S8192x8x64, .f32⟩
  | .hbm, ⟨4, _⟩ => ⟨S8192x512, .bf16⟩
  | .hbm, ⟨5, _⟩ => ⟨S8192x512, .f32⟩
  | .hbm, ⟨6, _⟩ => ⟨S8192x8x64, .f32⟩
  | .hbm, ⟨7, _⟩ => ⟨S8192x512, .bf16⟩
  | .hbm, ⟨8, _⟩ => ⟨S8192x512, .f32⟩
  | .hbm, ⟨9, _⟩ => ⟨S8192x8x64, .f32⟩
  | .hbm, ⟨10, _⟩ => ⟨S8x8192x8192, .f32⟩
  | .hbm, ⟨11, _⟩ => ⟨S8x8192x8192, .bf16⟩
  | .hbm, ⟨12, _⟩ => ⟨S8x8192x8192, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8x8192x8192, .f32⟩
  | .hbm, ⟨23, _⟩ => ⟨S8x8192x8192, .f32⟩
  | .hbm, ⟨24, _⟩ => ⟨S_, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .i1⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S_, .f32⟩
  | .hbm, ⟨41, _⟩ => ⟨S8x8192x8192, .i1⟩
  | .hbm, ⟨42, _⟩ => ⟨S8x8192x8192, .f32⟩
  | .hbm, ⟨43, _⟩ => ⟨S8x8192x8192, .f32⟩
  | .hbm, ⟨44, _⟩ => ⟨S_, .f32⟩
  | .hbm, ⟨45, _⟩ => ⟨S_, .f32⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S_, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S8x8192x8192, .i1⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S_, .f32⟩
  | .hbm, ⟨68, _⟩ => ⟨S8x8192x8192, .i1⟩
  | .hbm, ⟨69, _⟩ => ⟨S8x8192x8192, .f32⟩
  | .hbm, ⟨70, _⟩ => ⟨S8x8192x8192, .f32⟩
  | .hbm, ⟨71, _⟩ => ⟨S8x8192x8192, .bf16⟩
  | .hbm, ⟨72, _⟩ => ⟨S8x8192x8192, .f32⟩
  | .hbm, ⟨73, _⟩ => ⟨S8x64x8192, .f32⟩
  | .hbm, ⟨74, _⟩ => ⟨S8192x8x64, .f32⟩
  | .hbm, ⟨75, _⟩ => ⟨S8192x512, .f32⟩
  | .hbm, ⟨76, _⟩ => ⟨S8192x512, .bf16⟩
  | .hbm, ⟨77, _⟩ => ⟨S8x8192x8192, .f32⟩
  | .hbm, ⟨78, _⟩ => ⟨S8x8192x8192, .bf16⟩
  | .hbm, ⟨79, _⟩ => ⟨S8x8192x8192, .f32⟩
  | .hbm, ⟨80, _⟩ => ⟨S_, .f32⟩
  | .hbm, ⟨81, _⟩ => ⟨S8x8192x8192, .f32⟩
  | .hbm, ⟨82, _⟩ => ⟨S8x8192x8192, .f32⟩
  | .hbm, ⟨83, _⟩ => ⟨S8192, .i32⟩
  | .hbm, ⟨84, _⟩ => ⟨S1x8192, .i32⟩
  | .hbm, ⟨85, _⟩ => ⟨S8192x1, .i32⟩
  | .hbm, ⟨86, _⟩ => ⟨S8192x8192, .i32⟩
  | .hbm, ⟨87, _⟩ => ⟨S8192x8192, .i32⟩
  | .hbm, ⟨88, _⟩ => ⟨S8192x8192, .i1⟩
  | .hbm, ⟨89, _⟩ => ⟨S8x8192x8192, .f32⟩
  | .hbm, ⟨90, _⟩ => ⟨S8x8192x8192, .f32⟩
  | .hbm, ⟨91, _⟩ => ⟨S_, .f32⟩
  | .hbm, ⟨92, _⟩ => ⟨S8x8192x8192, .f32⟩
  | .hbm, ⟨93, _⟩ => ⟨S8x8192x8192, .f32⟩
  | .hbm, ⟨94, _⟩ => ⟨S8x8192x8192, .f32⟩
  | .hbm, ⟨95, _⟩ => ⟨S8x8192x8192, .f32⟩
  | .hbm, ⟨96, _⟩ => ⟨S8x8192x8192, .i1⟩
  | .hbm, ⟨97, _⟩ => ⟨S8x8192x8192, .f32⟩
  | .hbm, ⟨98, _⟩ => ⟨S8x8192x8192, .f32⟩
  | .hbm, ⟨99, _⟩ => ⟨S8x8192x8192, .f32⟩
  | .hbm, ⟨100, _⟩ => ⟨S8x8192x8192, .f32⟩
  | .hbm, ⟨101, _⟩ => ⟨S8x8192x8192, .f32⟩
  | .hbm, ⟨102, _⟩ => ⟨S8x8192x8192, .f32⟩
  | .hbm, ⟨103, _⟩ => ⟨S8x8192x8192, .f32⟩
  | .hbm, ⟨104, _⟩ => ⟨S8x8192x8192, .f32⟩
  | .hbm, ⟨105, _⟩ => ⟨S8x8192x8192, .f32⟩
  | .hbm, ⟨106, _⟩ => ⟨S_, .f32⟩
  | .hbm, ⟨107, _⟩ => ⟨S_, .f32⟩
  | .hbm, ⟨108, _⟩ => ⟨S8x8192x8192, .i1⟩
  | .hbm, ⟨109, _⟩ => ⟨S8x8192x8192, .f32⟩
  | .hbm, ⟨110, _⟩ => ⟨S8x8192x8192, .f32⟩
  | .hbm, ⟨111, _⟩ => ⟨S_, .f32⟩
  | .hbm, ⟨112, _⟩ => ⟨S_, .f32⟩
  | .hbm, ⟨113, _⟩ => ⟨S8x8192x8192, .f32⟩
  | .hbm, ⟨114, _⟩ => ⟨S8x8192x15, .f32⟩
  | .hbm, ⟨115, _⟩ => ⟨S_, .i32⟩
  | .hbm, ⟨116, _⟩ => ⟨S_, .f32⟩
  | .hbm, ⟨117, _⟩ => ⟨S8x8192x128, .f32⟩
  | .hbm, ⟨118, _⟩ => ⟨S4x2x16x512x128, .f32⟩
  | .hbm, ⟨119, _⟩ => ⟨S4x16x2x512x128, .f32⟩
  | .hbm, ⟨120, _⟩ => ⟨S4x16x1024x128, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v21 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v22 : Ref sig .tc := ⟨.hbm, 43, rfl⟩
abbrev main_call2_cst : Ref sig .tc := ⟨.hbm, 44, rfl⟩
abbrev main_call2_v0 : Ref sig .tc := ⟨.hbm, 45, rfl⟩
abbrev main_v23 : Ref sig .tc := ⟨.hbm, 46, rfl⟩
abbrev main_v24 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_2 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_call5_v0 : Ref sig .tc := ⟨.hbm, 90, rfl⟩
abbrev main_call5_call0_cst : Ref sig .tc := ⟨.hbm, 91, rfl⟩
abbrev main_call5_call0_v0 : Ref sig .tc := ⟨.hbm, 92, rfl⟩
abbrev main_call5_call0_v1 : Ref sig .tc := ⟨.hbm, 93, rfl⟩
abbrev main_call5_call0_v2 : Ref sig .tc := ⟨.hbm, 94, rfl⟩
abbrev main_call5_call0_v3 : Ref sig .tc := ⟨.hbm, 95, rfl⟩
abbrev main_call5_call0_v4 : Ref sig .tc := ⟨.hbm, 96, rfl⟩
abbrev main_call5_call0_v5 : Ref sig .tc := ⟨.hbm, 97, rfl⟩
abbrev main_call5_call0_v6 : Ref sig .tc := ⟨.hbm, 98, rfl⟩
abbrev main_call5_call0_v7 : Ref sig .tc := ⟨.hbm, 99, rfl⟩
abbrev main_call5_call0_v8 : Ref sig .tc := ⟨.hbm, 100, rfl⟩
abbrev main_call5_call0_v9 : Ref sig .tc := ⟨.hbm, 101, rfl⟩
abbrev main_call5_call0_v10 : Ref sig .tc := ⟨.hbm, 102, rfl⟩
abbrev main_call5_call0_v11 : Ref sig .tc := ⟨.hbm, 103, rfl⟩
abbrev main_call5_v1 : Ref sig .tc := ⟨.hbm, 104, rfl⟩
abbrev main_v47 : Ref sig .tc := ⟨.hbm, 105, rfl⟩
abbrev main_cst_3 : Ref sig .tc := ⟨.hbm, 106, rfl⟩
abbrev main_call6_v0 : Ref sig .tc := ⟨.hbm, 107, rfl⟩
abbrev main_call6_v1 : Ref sig .tc := ⟨.hbm, 108, rfl⟩
abbrev main_call6_v2 : Ref sig .tc := ⟨.hbm, 109, rfl⟩
abbrev main_v48 : Ref sig .tc := ⟨.hbm, 110, rfl⟩
abbrev main_call7_cst : Ref sig .tc := ⟨.hbm, 111, rfl⟩
abbrev main_call7_v0 : Ref sig .tc := ⟨.hbm, 112, rfl⟩
abbrev main_v49 : Ref sig .tc := ⟨.hbm, 113, rfl⟩
abbrev main_v50 : Ref sig .tc := ⟨.hbm, 114, rfl⟩
abbrev main_c : Ref sig .tc := ⟨.hbm, 115, rfl⟩
abbrev main_call8_v0 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩

abbrev nD : Nat := 1
abbrev τ : Topo := Topo.v7x

variable {F : FTy → Type} [FloatOps F]
-- ==== Kernel30.lean ====
abbrev S8192x512 : Shape := ⟨2, ![8192, 512]⟩
abbrev S4x128x128 : Shape := ⟨3, ![4, 128, 128]⟩
abbrev S512 : Shape := ⟨1, ![512]⟩
abbrev S1x512 : Shape := ⟨2, ![1, 512]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S4x128x128, .f32⟩
  | .hbm, ⟨2, _⟩ => ⟨S512, .f32⟩
  | .hbm, ⟨3, _⟩ => ⟨S4x128x128, .bf16⟩
  | .hbm, ⟨4, _⟩ => ⟨S1x512, .f32⟩
  | .hbm, ⟨5, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S4x128x128, .bf16⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference30Ideal.lean ====
abbrev S8192x512 : Shape := ⟨2, ![8192, 512]⟩
abbrev S4x128x128 : Shape := ⟨3, ![4, 128, 128]⟩
abbrev S512 : Shape := ⟨1, ![512]⟩
abbrev S512x8192 : Shape := ⟨2, ![512, 8192]⟩
abbrev S4x128x8192 : Shape := ⟨3, ![4, 128, 8192]⟩
abbrev S_ : Shape := ⟨0, ![]⟩
abbrev S8192 : Shape := ⟨1, ![8192]⟩
abbrev S128x2 : Shape := ⟨2, ![128, 2]⟩
abbrev S1x128x8190 : Shape := ⟨3, ![1, 128, 8190]⟩
abbrev S128x8190 : Shape := ⟨2, ![128, 8190]⟩
abbrev S128x8192 : Shape := ⟨2, ![128, 8192]⟩
abbrev S1x128x8192 : Shape := ⟨3, ![1, 128, 8192]⟩
abbrev S1x8192 : Shape := ⟨2, ![1, 8192]⟩
abbrev S8192x128 : Shape := ⟨2, ![8192, 128]⟩
abbrev S1x128x128 : Shape := ⟨3, ![1, 128, 128]⟩
abbrev S128x128 : Shape := ⟨2, ![128, 128]⟩
abbrev S128x4 : Shape := ⟨2, ![128, 4]⟩
abbrev S1x128x8188 : Shape := ⟨3, ![1, 128, 8188]⟩
abbrev S128x8188 : Shape := ⟨2, ![128, 8188]⟩
abbrev S128x8 : Shape := ⟨2, ![128, 8]⟩
abbrev S1x128x8184 : Shape := ⟨3, ![1, 128, 8184]⟩
abbrev S128x8184 : Shape := ⟨2, ![128, 8184]⟩
abbrev S128x16 : Shape := ⟨2, ![128, 16]⟩
abbrev S1x128x8176 : Shape := ⟨3, ![1, 128, 8176]⟩
abbrev S128x8176 : Shape := ⟨2, ![128, 8176]⟩
abbrev S1x512 : Shape := ⟨2, ![1, 512]⟩

abbrev nBuf : Space → Nat
  | .hbm => 142
  | .vmem => 0
  | .smem => 0
  | _ => 0

abbrev hbmTy0_0 (i : Nat) : BufTy := match i % 128 with
  | 0 => ⟨S8192x512, .f32⟩
  | 1 => ⟨S4x128x128, .f32⟩
  | 2 => ⟨S512, .f32⟩
  | 3 => ⟨S512x8192, .f32⟩
  | 4 => ⟨S4x128x8192, .f32⟩
  | 5 => ⟨S_, .f32⟩
  | 6 => ⟨S_, .f32⟩
  | 7 => ⟨S4x128x8192, .f32⟩
  | 8 => ⟨S8192, .i32⟩
  | 9 => ⟨S_, .i32⟩
  | 10 => ⟨S8192, .i32⟩
  | 11 => ⟨S8192, .i32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .f32⟩
  | 19 => ⟨S128x2, .f32⟩
  | 20 => ⟨S1x128x8190, .f32⟩
  | 21 => ⟨S128x8190, .f32⟩
  | 22 => ⟨S128x8192, .f32⟩
  | 23 => ⟨S_, .i32⟩
  | 24 => ⟨S8192, .i32⟩
  | 25 => ⟨S8192, .i32⟩
  | 26 => ⟨S8192, .i32⟩
  | 27 => ⟨S8192, .f32⟩
  | 28 => ⟨S1x128x8192, .f32⟩
  | 29 => ⟨S128x8192, .f32⟩
  | 30 => ⟨S128x8192, .f32⟩
  | 31 => ⟨S1x8192, .f32⟩
  | 32 => ⟨S128x8192, .f32⟩
  | 33 => ⟨S128x8192, .f32⟩
  | 34 => ⟨S1x128x8192, .f32⟩
  | 35 => ⟨S128x8192, .f32⟩
  | 36 => ⟨S128x8192, .f32⟩
  | 37 => ⟨S8192x128, .f32⟩
  | 38 => ⟨S1x128x128, .f32⟩
  | 39 => ⟨S128x128, .f32⟩
  | 40 => ⟨S8192x128, .f32⟩
  | 41 => ⟨S_, .i32⟩
  | 42 => ⟨S8192, .i32⟩
  | 43 => ⟨S8192, .i32⟩
  | 44 => ⟨S_, .i32⟩
  | 45 => ⟨S8192, .i32⟩
  | 46 => ⟨S8192, .i32⟩
  | 47 => ⟨S_, .i32⟩
  | 48 => ⟨S8192, .i32⟩
  | 49 => ⟨S8192, .i32⟩
  | 50 => ⟨S_, .f32⟩
  | 51 => ⟨S128x4, .f32⟩
  | 52 => ⟨S1x128x8188, .f32⟩
  | 53 => ⟨S128x8188, .f32⟩
  | 54 => ⟨S128x8192, .f32⟩
  | 55 => ⟨S_, .i32⟩
  | 56 => ⟨S8192, .i32⟩
  | 57 => ⟨S8192, .i32⟩
  | 58 => ⟨S8192, .i32⟩
  | 59 => ⟨S8192, .f32⟩
  | 60 => ⟨S1x128x8192, .f32⟩
  | 61 => ⟨S128x8192, .f32⟩
  | 62 => ⟨S128x8192, .f32⟩
  | 63 => ⟨S1x8192, .f32⟩
  | 64 => ⟨S128x8192, .f32⟩
  | 65 => ⟨S128x8192, .f32⟩
  | 66 => ⟨S1x128x8192, .f32⟩
  | 67 => ⟨S128x8192, .f32⟩
  | 68 => ⟨S128x8192, .f32⟩
  | 69 => ⟨S8192x128, .f32⟩
  | 70 => ⟨S1x128x128, .f32⟩
  | 71 => ⟨S128x128, .f32⟩
  | 72 => ⟨S8192x128, .f32⟩
  | 73 => ⟨S_, .i32⟩
  | 74 => ⟨S8192, .i32⟩
  | 75 => ⟨S8192, .i32⟩
  | 76 => ⟨S_, .i32⟩
  | 77 => ⟨S8192, .i32⟩
  | 78 => ⟨S8192, .i32⟩
  | 79 => ⟨S_, .i32⟩
  | 80 => ⟨S8192, .i32⟩
  | 81 => ⟨S8192, .i32⟩
  | 82 => ⟨S_, .f32⟩
  | 83 => ⟨S128x8, .f32⟩
  | 84 => ⟨S1x128x8184, .f32⟩
  | 85 => ⟨S128x8184, .f32⟩
  | 86 => ⟨S128x8192, .f32⟩
  | 87 => ⟨S_, .i32⟩
  | 88 => ⟨S8192, .i32⟩
  | 89 => ⟨S8192, .i32⟩
  | 90 => ⟨S8192, .i32⟩
  | 91 => ⟨S8192, .f32⟩
  | 92 => ⟨S1x128x8192, .f32⟩
  | 93 => ⟨S128x8192, .f32⟩
  | 94 => ⟨S128x8192, .f32⟩
  | 95 => ⟨S1x8192, .f32⟩
  | 96 => ⟨S128x8192, .f32⟩
  | 97 => ⟨S128x8192, .f32⟩
  | 98 => ⟨S1x128x8192, .f32⟩
  | 99 => ⟨S128x8192, .f32⟩
  | 100 => ⟨S128x8192, .f32⟩
  | 101 => ⟨S8192x128, .f32⟩
  | 102 => ⟨S1x128x128, .f32⟩
  | 103 => ⟨S128x128, .f32⟩
  | 104 => ⟨S8192x128, .f32⟩
  | 105 => ⟨S_, .i32⟩
  | 106 => ⟨S8192, .i32⟩
  | 107 => ⟨S8192, .i32⟩
  | 108 => ⟨S_, .i32⟩
  | 109 => ⟨S8192, .i32⟩
  | 110 => ⟨S8192, .i32⟩
  | 111 => ⟨S_, .i32⟩
  | 112 => ⟨S8192, .i32⟩
  | 113 => ⟨S8192, .i32⟩
  | 114 => ⟨S_, .f32⟩
  | 115 => ⟨S128x16, .f32⟩
  | 116 => ⟨S1x128x8176, .f32⟩
  | 117 => ⟨S128x8176, .f32⟩
  | 118 => ⟨S128x8192, .f32⟩
  | 119 => ⟨S_, .i32⟩
  | 120 => ⟨S8192, .i32⟩
  | 121 => ⟨S8192, .i32⟩
  | 122 => ⟨S8192, .i32⟩
  | 123 => ⟨S8192, .f32⟩
  | 124 => ⟨S1x128x8192, .f32⟩
  | 125 => ⟨S128x8192, .f32⟩
  | 126 => ⟨S128x8192, .f32⟩
  | 127 => ⟨S1x8192, .f32⟩
  | _ => ⟨S8192x512, .f32⟩

abbrev hbmTy0_1 (i : Nat) : BufTy := match i % 128 with
  | 0 => ⟨S128x8192, .f32⟩
  | 1 => ⟨S128x8192, .f32⟩
  | 2 => ⟨S1x128x8192, .f32⟩
  | 3 => ⟨S128x8192, .f32⟩
  | 4 => ⟨S128x8192, .f32⟩
  | 5 => ⟨S8192x128, .f32⟩
  | 6 => ⟨S1x128x128, .f32⟩
  | 7 => ⟨S128x128, .f32⟩
  | 8 => ⟨S8192x128, .f32⟩
  | 9 => ⟨S8192x512, .f32⟩
  | 10 => ⟨S1x512, .f32⟩
  | 11 => ⟨S8192x512, .f32⟩
  | 12 => ⟨S8192x512, .f32⟩
  | 13 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_8 : Ref sig .tc := ⟨.hbm, 73, rfl⟩
abbrev main_v58 : Ref sig .tc := ⟨.hbm, 74, rfl⟩
abbrev main_v59 : Ref sig .tc := ⟨.hbm, 75, rfl⟩
abbrev main_c_9 : Ref sig .tc := ⟨.hbm, 76, rfl⟩
abbrev main_v60 : Ref sig .tc := ⟨.hbm, 77, rfl⟩
abbrev main_v61 : Ref sig .tc := ⟨.hbm, 78, rfl⟩
abbrev main_c_10 : Ref sig .tc := ⟨.hbm, 79, rfl⟩
abbrev main_v62 : Ref sig .tc := ⟨.hbm, 80, rfl⟩
abbrev main_v63 : Ref sig .tc := ⟨.hbm, 81, rfl⟩
abbrev main_cst_11 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c_12 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_c_13 : Ref sig .tc := ⟨.hbm, 105, rfl⟩
abbrev main_v85 : Ref sig .tc := ⟨.hbm, 106, rfl⟩
abbrev main_v86 : Ref sig .tc := ⟨.hbm, 107, rfl⟩
abbrev main_c_14 : Ref sig .tc := ⟨.hbm, 108, rfl⟩
abbrev main_v87 : Ref sig .tc := ⟨.hbm, 109, rfl⟩
abbrev main_v88 : Ref sig .tc := ⟨.hbm, 110, rfl⟩
abbrev main_c_15 : Ref sig .tc := ⟨.hbm, 111, rfl⟩
abbrev main_v89 : Ref sig .tc := ⟨.hbm, 112, rfl⟩
abbrev main_v90 : Ref sig .tc := ⟨.hbm, 113, rfl⟩
abbrev main_cst_16 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_c_17 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩

abbrev nD : Nat := 1
abbrev τ : Topo := Topo.v7x

variable {F : FTy → Type} [FloatOps F]
-- ==== Proof.Trip.lean ====
/- One trip of the counted loop of the attention gradient, as a function on the contents of its buffers, and the loop by
   its invariant: the contents after `k` trips. For any float values. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow
public import Mathlib.Tactic.IntervalCases

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## Where a block sits -/

theorem offR_inb (j : ℕ) : ∀ a, (![512 * min j 15, 0] : Fin 2 → ℕ) a + S512x128.size a ≤ S8192x128.size a := by
  intro a; fin_cases a
  · show 512 * min j 15 + 512 ≤ 8192; omega
  · show 0 + 128 ≤ 128; omega

theorem offC_inb (j : ℕ) : ∀ a, (![0, 512 * min j 15] : Fin 2 → ℕ) a + S128x512.size a ≤ S128x8192.size a := by
  intro a; fin_cases a
  · show 0 + 128 ≤ 128; omega
  · show 512 * min j 15 + 512 ≤ 8192; omega

/-- Rows `512 j … 512 j + 511` of an array of keys or values. -/
def rows (x : Vec F S8192x128 .bf16) (j : ℕ) : Vec F S512x128 .bf16 :=
  VecWindow.window (s := S8192x128) x ![512 * min j 15, 0] S512x128.size (offR_inb j)

/-- Columns `512 j … 512 j + 511` of an array of transposed gradients. -/
def cols (x : Vec F S128x8192 .f32) (j : ℕ) : Vec F S128x512 .f32 :=
  VecWindow.window (s := S128x8192) x ![0, 512 * min j 15] S128x512.size (offC_inb j)

/-- The same array with those columns replaced. -/
def setCols (x : Vec F S128x8192 .f32) (j : ℕ) (w : Vec F S128x512 .f32) : Vec F S128x8192 .f32 :=
  VecWindow.put (s := S128x8192) x ![0, 512 * min j 15] S128x512.size w

theorem trips_le (i : grid0.Coords) (k : Fin (k0_t1_loop i).trips) : k.val < 15 := Nat.lt_of_lt_of_le k.isLt (k0_t1_abs i).2.1

/-- The block's number as the trip computes it. -/
def word (k : ℕ) : BitVec 32 := Scalar.addi 0#32 (Scalar.muli (Scf.iv 0#32 1#32 k) 1#32)

theorem prevWord : ∀ n : Fin 15, (Scalar.indexCast (Scalar.muli (Scalar.maxsi (Scalar.subi (word n.val) 1#32) 0#32) 512#32) : Index).toNat
    = 512 * min (n.val - 1) 15 := by decide +kernel

theorem nextWord : ∀ n : Fin 15, (Scalar.indexCast (Scalar.muli (Scalar.addi (word n.val) 1#32) 512#32) : Index).toNat
    = 512 * min (n.val + 1) 15 := by decide +kernel

theorem off1_eq (i : grid0.Coords) (k : Fin (k0_t1_loop i).trips) : k0_off1 i k = ![512 * min (k.val - 1) 15, 0] :=
  congrArg (fun n : ℕ => (![n, 0] : Fin 2 → ℕ)) (prevWord ⟨k.val, trips_le i k⟩)

theorem off2_eq (i : grid0.Coords) (k : Fin (k0_t1_loop i).trips) : k0_off2 i k = ![0, 512 * min (k.val - 1) 15] :=
  congrArg (fun n : ℕ => (![0, n] : Fin 2 → ℕ)) (prevWord ⟨k.val, trips_le i k⟩)

theorem off3_eq (i : grid0.Coords) (k : Fin (k0_t1_loop i).trips) : k0_off3 i k = ![512 * min (k.val + 1) 15, 0] :=
  congrArg (fun n : ℕ => (![n, 0] : Fin 2 → ℕ)) (nextWord ⟨k.val, trips_le i k⟩)

theorem off7_eq : ∀ i : grid0.Coords, k0_off7 i = ![512 * min ((i 1).val - 1) 15, 0] := by decide +kernel
theorem off8_eq : ∀ i : grid0.Coords, k0_off8 i = ![0, 512 * min ((i 1).val - 1) 15] := by decide +kernel
theorem off9_eq : ∀ i : grid0.Coords, k0_off9 i = ![512 * min (i 1).val 15, 0] := by decide +kernel
theorem off10_eq : ∀ i : grid0.Coords, k0_off10 i = ![0, 512 * min (i 1).val 15] := by decide +kernel
theorem trips_eq : ∀ i : grid0.Coords, (k0_t1_loop i).trips = (i 1).val := by decide +kernel

instance closed1 (i : grid0.Coords) (k : Fin (k0_t1_loop i).trips) : ClosedOff (k0_off1 i k) := ⟨_, off1_eq i k⟩
instance closed2 (i : grid0.Coords) (k : Fin (k0_t1_loop i).trips) : ClosedOff (k0_off2 i k) := ⟨_, off2_eq i k⟩
instance closed3 (i : grid0.Coords) (k : Fin (k0_t1_loop i).trips) : ClosedOff (k0_off3 i k) := ⟨_, off3_eq i k⟩
instance closed7 (i : grid0.Coords) : ClosedOff (k0_off7 i) := ⟨_, off7_eq i⟩
instance closed8 (i : grid0.Coords) : ClosedOff (k0_off8 i) := ⟨_, off8_eq i⟩
instance closed9 (i : grid0.Coords) : ClosedOff (k0_off9 i) := ⟨_, off9_eq i⟩
instance closed10 (i : grid0.Coords) : ClosedOff (k0_off10 i) := ⟨_, off10_eq i⟩

/-! ## The state a trip changes -/

/-- The contents of the buffers a trip writes: the two gradients gathered over all queries, the query gradient's
    accumulator, the running sum of `g` over the keys before, this block's products, and what the block before left to
    be multiplied. -/
structure St (F : FTy → Type) [FloatOps F] where
  dk : Vec F S128x8192 .f32
  dv : Vec F S128x8192 .f32
  acc : Vec F S1024x128 .f32
  bef : Vec F S1024x1 .f32
  z : Vec F S1024x512 .f32
  dw : Vec F S1024x512 .f32
  dz : Vec F S1024x512 .bf16
  w : Vec F S1024x512 .bf16

/-- One trip: the products of the block before are gathered, this block's weights and cotangents are made, and the next
    block's products are taken. -/
def step (K V : Vec F S8192x128 .bf16) (car : Vec F S1x1x1024x128 .f32) (v9 v16 : FVec F S256x256 .bf16) (v30 v40 : FVec F S1024x128 .bf16)
    (v41 : IVec S1024x128 32) (v42 v43 : FVec F S128x1024 .bf16) (k : ℕ) (s : St F) : St F where
  acc := k0_pay5 s.dz s.acc (rows K (k - 1))
  dk := setCols s.dk (k - 1) (k0_pay6 v42 s.dz (cols s.dk (k - 1)))
  dv := setCols s.dv (k - 1) (k0_pay7 v43 s.w (cols s.dv (k - 1)))
  bef := k0_pay16 (k0_pay11 v9 v41 (word k) s.z s.dw car) s.bef (k0_pay12 v9 v41 (word k) s.z s.dw car)
  dz := k0_pay17 v16 (k0_pay9 s.z) (k0_pay11 v9 v41 (word k) s.z s.dw car) s.bef (k0_pay12 v9 v41 (word k) s.z s.dw car)
    (k0_pay13 v9 v41 (word k) s.z s.dw car)
  w := k0_pay18 (k0_pay10 v9 v41 (word k) s.z car)
  z := k0_pay55 (k0_pay19 v30 (rows K (k + 1)))
  dw := k0_pay56 (k0_pay20 v40 (rows V (k + 1)))

/-- The state after `k` trips. -/
def steps (K V : Vec F S8192x128 .bf16) (car : Vec F S1x1x1024x128 .f32) (v9 v16 : FVec F S256x256 .bf16) (v30 v40 : FVec F S1024x128 .bf16)
    (v41 : IVec S1024x128 32) (v42 v43 : FVec F S128x1024 .bf16) (s : St F) : ℕ → St F
  | 0 => s
  | k + 1 => step K V car v9 v16 v30 v40 v41 v42 v43 k (steps K V car v9 v16 v30 v40 v41 v42 v43 s k)

/-- The buffers the loop touches: the three it reads, the eight it writes. -/
def Own (c : Dev nD) (arg3 arg4 : Memref sig .tc .vmem S8192x128 .bf16) (arg5 : Memref sig .tc .vmem S1x1x1024x128 .f32)
    (arg8 arg9 : Memref sig .tc .vmem S128x8192 .f32) (arg10 : Memref sig .tc .vmem S1024x128 .f32) (arg11 : Memref sig .tc .vmem S1024x1 .f32)
    (arg12 arg13 : Memref sig .tc .vmem S1024x512 .f32) (arg14 arg15 : Memref sig .tc .vmem S1024x512 .bf16)
    (K V : Vec F S8192x128 .bf16) (car : Vec F S1x1x1024x128 .f32) (s : St F) : sProp 𝕄 :=
  iprop(owns (c : Thread nD τ) arg3 fullShare K ∗ owns (c : Thread nD τ) arg4 fullShare V ∗ owns (c : Thread nD τ) arg5 fullShare car
    ∗ owns (c : Thread nD τ) arg8 fullShare s.dk ∗ owns (c : Thread nD τ) arg9 fullShare s.dv ∗ owns (c : Thread nD τ) arg10 fullShare s.acc
    ∗ owns (c : Thread nD τ) arg11 fullShare s.bef ∗ owns (c : Thread nD τ) arg12 fullShare s.z ∗ owns (c : Thread nD τ) arg13 fullShare s.dw
    ∗ owns (c : Thread nD τ) arg14 fullShare s.dz ∗ owns (c : Thread nD τ) arg15 fullShare s.w)

set_option maxHeartbeats 400000 in
/-- One trip of the loop takes the state to its `step`. -/
theorem trip (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x1x1024x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S128x8192 .f32) (harg8 : arg8.IsWhole) (arg9 : Memref sig .tc .vmem S128x8192 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .bf16) (harg14 : arg14.IsWhole) (arg15 : Memref sig .tc .vmem S1024x512 .bf16) (harg15 : arg15.IsWhole) (arg1 : BitVec 32) (v9 : FVec F S256x256 .bf16) (v16 : FVec F S256x256 .bf16) (v30 : FVec F S1024x128 .bf16) (v40 : FVec F S1024x128 .bf16) (v41 : IVec S1024x128 32) (v42 : FVec F S128x1024 .bf16) (v43 : FVec F S128x1024 .bf16) (v67 : FVec F S1024x512 .f32)
    (K V : Vec F S8192x128 .bf16) (car : Vec F S1x1x1024x128 .f32) (s : St F) (k : Fin (k0_t1_loop i).trips) (E : Set ℕ) :
    (Own c arg3 arg4 arg5 arg8 arg9 arg10 arg11 arg12 arg13 arg14 arg15 K V car s : sProp 𝕄)
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v9 v16 v30 v40 v41 v42 v43 v67 k PUnit.unit)
        (fun _ => Own c arg3 arg4 arg5 arg8 arg9 arg10 arg11 arg12 arg13 arg14 arg15 K V car (step K V car v9 v16 v30 v40 v41 v42 v43 k.val s)) := by
  have hk : k.val < 15 := trips_le i k
  obtain ⟨sdk, sdv, sacc, sbef, sz, sdw, sdz, sw⟩ := s
  unfold Own owns k0_t1_body
  simp only [k0_part1_eq_skeleton, k0_part2_eq_skeleton, k0_part3_eq_skeleton]
  iintro ⟨⟨%f3, %h3, H3⟩, ⟨%f4, %h4, H4⟩, ⟨%f5, %h5, H5⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩⟩
  subst h3 h4 h5
  subst h8 h9 h10 h11 h12 h13 h14 h15
  sl_exec
  sl_step
  have e5 : View.readAt (Elt F) arg5.view (Rect.unit (s := S1x1x1024x128) ![0, 0, 0, 0] S1x1x1024x128.size inb_S1x1x1024x128_S1x1x1024x128_0_0_0_0).toLoadRect f5 = View.read (Elt F) arg5.view f5 := View.readAt_full _ _ _
  have e11 : View.readAt (Elt F) arg11.view (Rect.unit (s := S1024x1) ![0, 0] S1024x1.size inb_S1024x1_S1024x1_0_0).toLoadRect f11 = View.read (Elt F) arg11.view f11 := View.readAt_full _ _ _
  have e12 : View.readAt (Elt F) arg12.view (Rect.unit (s := S1024x512) ![0, 0] S1024x512.size inb_S1024x512_S1024x512_0_0).toLoadRect f12 = View.read (Elt F) arg12.view f12 := View.readAt_full _ _ _
  have e13 : View.readAt (Elt F) arg13.view (Rect.unit (s := S1024x512) ![0, 0] S1024x512.size inb_S1024x512_S1024x512_0_0).toLoadRect f13 = View.read (Elt F) arg13.view f13 := View.readAt_full _ _ _
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H8]
  · iexists _; isplitr; swap; · iexact H8
    ipureintro
    refine (View.read_writes_cons_put _ _ _ _ _ (off2_eq i k)).trans ?_
    rw [View.readAt_unit (s := S128x8192) (off := k0_off2 i k) (size := S128x512.size) _ _ _ (off2_eq i k) (offC_inb _), View.readAt_full]; rfl
  isplitl [H9]
  · iexists _; isplitr; swap; · iexact H9
    ipureintro
    refine (View.read_writes_cons_put _ _ _ _ _ (off2_eq i k)).trans ?_
    delta trip.sl.r_2
    rw [View.readAt_unit (s := S128x8192) (off := k0_off2 i k) (size := S128x512.size) _ _ _ (off2_eq i k) (offC_inb _), View.readAt_full]; rfl
  isplitl [H10]
  · iexists _; isplitr; swap; · iexact H10
    ipureintro
    refine (View.read_writes_full _ _ _ _ _).trans ?_
    rw [View.readAt_unit (s := S8192x128) (off := k0_off1 i k) (size := S512x128.size) _ _ _ (off1_eq i k) (offR_inb _), View.readAt_full, View.readAt_full]; rfl
  isplitl [H11]
  · iexists _; isplitr; swap; · iexact H11
    ipureintro
    refine (View.read_writes_full _ _ _ _ _).trans ?_
    delta trip.sl.r_5 trip.sl.r_6 trip.sl.r_7 trip.sl.r trip.sl.r_1
    rw [e5, e11, e12, e13]
    rfl
  isplitl [H12]
  · iexists _; isplitr; swap; · iexact H12
    ipureintro
    refine (View.read_writes_full _ _ _ _ _).trans ?_
    delta trip.sl.r_9
    rw [View.readAt_unit (s := S8192x128) (off := k0_off3 i k) (size := S512x128.size) _ _ _ (off3_eq i k) (offR_inb _)]; rfl
  isplitl [H13]
  · iexists _; isplitr; swap; · iexact H13
    ipureintro
    refine (View.read_writes_full _ _ _ _ _).trans ?_
    delta trip.sl.r_10
    rw [View.readAt_unit (s := S8192x128) (off := k0_off3 i k) (size := S512x128.size) _ _ _ (off3_eq i k) (offR_inb _)]; rfl
  isplitl [H14]
  · iexists _; isplitr; swap; · iexact H14
    ipureintro
    refine (View.read_writes_full _ _ _ _ _).trans ?_
    delta trip.sl.r_3 trip.sl.r_5 trip.sl.r_6 trip.sl.r_7 trip.sl.r_8 trip.sl.r trip.sl.r_1
    rw [e5, e11, e12, e13]
    rfl
  iexists _; isplitr; swap; · iexact H15
  ipureintro
  refine (View.read_writes_full _ _ _ _ _).trans ?_
  delta trip.sl.r_4 trip.sl.r
  rw [e5, e12]
  rfl

end Cert.KernelIdeal.Bwd

end
-- ==== Proof.Body.lean ====
/- The kernel's body at one grid point, as a function on the contents of its buffers. For any float values. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow
public import Mathlib.Tactic.IntervalCases
public import proofs.«01_k».proof.Proof.Trip

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the body computes -/

/-- Whether a key of a pair lies after, or before, another: the matrices the running sums are taken by. -/
abbrev later : FVec F S256x256 .bf16 := k0_pay39 (F := F)
abbrev earlier : FVec F S256x256 .bf16 := k0_pay40 (F := F)
/-- The block's cotangent, one head of the pair over the other. -/
abbrev dos (d : Vec F S512x128 .bf16) : FVec F S1024x128 .bf16 := k0_pay45 (k0_pay43 d) (k0_pay44 d)
abbrev dosT (d : Vec F S512x128 .bf16) : FVec F S128x1024 .bf16 := k0_pay47 (k0_pay43 d) (k0_pay44 d)
/-- The lane numbers of the carries. -/
abbrev lanes : IVec S1024x128 32 := iota .tc S1024x128 32 [1] iota_S1024x128_d1_w32

/-- Before the first block: nothing gathered, and the first block's products. -/
def start (K V : Vec F S8192x128 .bf16) (q d : Vec F S512x128 .bf16) (dk dv : Vec F S128x8192 .f32) : St F where
  dk := dk
  dv := dv
  acc := k0_pay48
  bef := k0_pay49
  z := k0_pay53 (k0_pay41 q) (rows K 0)
  dw := k0_pay54 (k0_pay52 (k0_pay43 d) (k0_pay44 d) (rows V 0))
  dz := k0_pay50
  w := k0_pay51

/-- After the `n` blocks before the diagonal one. -/
def mid (K V : Vec F S8192x128 .bf16) (car : Vec F S1x1x1024x128 .f32) (q d : Vec F S512x128 .bf16) (dk dv : Vec F S128x8192 .f32) (n : ℕ) : St F :=
  steps K V car later earlier (k0_pay41 q) (dos d) lanes (k0_pay46 (k0_pay41 q)) (dosT d) (start K V q d dk dv) n

/-- The diagonal block's cotangent of the scores, and its weights. -/
def dzd (s : St F) : FVec F S1024x512 .bf16 :=
  k0_pay78 later earlier s.dw k0_pay64 (k0_pay65 s.z) (k0_pay66 s.z) (k0_pay69 later s.z) (k0_pay70 s.z) (k0_pay71 s.z)
    (constant S1024x256 .f32 0x00000000#32) s.bef
def wd (s : St F) : FVec F S1024x512 .bf16 :=
  k0_pay79 later k0_pay64 (k0_pay65 s.z) (k0_pay69 later s.z) (k0_pay70 s.z) (k0_pay71 s.z) (constant S1024x256 .f32 0x00000000#32)

/-- The gathering of what the block before the diagonal one left, -/
def acc1 (K : Vec F S8192x128 .bf16) (n : ℕ) (s : St F) : Vec F S1024x128 .f32 := k0_pay59 s.dz s.acc (rows K (n - 1))
def dk1 (q : Vec F S512x128 .bf16) (n : ℕ) (s : St F) : Vec F S128x8192 .f32 :=
  setCols s.dk (n - 1) (k0_pay62 (k0_pay60 (cols s.dk (n - 1))) (k0_pay61 (k0_pay46 (k0_pay41 q)) s.dz))
def dv1 (d : Vec F S512x128 .bf16) (n : ℕ) (s : St F) : Vec F S128x8192 .f32 :=
  setCols s.dv (n - 1) (k0_pay63 (dosT d) s.w (cols s.dv (n - 1)))
/-- and of the diagonal block itself. -/
def acc2 (K : Vec F S8192x128 .bf16) (n : ℕ) (s : St F) : Vec F S1024x128 .f32 := k0_pay1 (dzd s) (acc1 K n s) (rows K n)
def dk2 (q : Vec F S512x128 .bf16) (n : ℕ) (s : St F) : Vec F S128x8192 .f32 :=
  setCols (dk1 q n s) n (k0_pay2 (k0_pay46 (k0_pay41 q)) (dzd s) (cols (dk1 q n s) n))
def dv2 (d : Vec F S512x128 .bf16) (n : ℕ) (s : St F) : Vec F S128x8192 .f32 :=
  setCols (dv1 d n s) n (k0_pay3 (dosT d) (wd s) (cols (dv1 d n s) n))
/-- The query block's gradient. -/
def dqOut (K : Vec F S8192x128 .bf16) (n : ℕ) (s : St F) : Vec F S512x128 .bf16 := k0_pay4 (acc2 K n s)

/-! ## The loops by their invariants -/

/-- Before trip `k` the buffers hold the state after `k` trips from what they held at the loop's entry. -/
@[instance_reducible] def loopInv (c : Dev nD) (E : Set ℕ) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x1x1024x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S128x8192 .f32) (harg8 : arg8.IsWhole) (arg9 : Memref sig .tc .vmem S128x8192 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .bf16) (harg14 : arg14.IsWhole) (arg15 : Memref sig .tc .vmem S1024x512 .bf16) (harg15 : arg15.IsWhole) (arg1 : BitVec 32) (v9 : FVec F S256x256 .bf16) (v16 : FVec F S256x256 .bf16) (v30 : FVec F S1024x128 .bf16) (v40 : FVec F S1024x128 .bf16) (v41 : IVec S1024x128 32) (v42 : FVec F S128x1024 .bf16) (v43 : FVec F S128x1024 .bf16) (v67 : FVec F S1024x512 .f32)
    (K V : Vec F S8192x128 .bf16) (car : Vec F S1x1x1024x128 .f32) (s : St F) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg1 v9 v16 v30 v40 v41 v42 v43 v67 where
  inv k _ := Own c arg3 arg4 arg5 arg8 arg9 arg10 arg11 arg12 arg13 arg14 arg15 K V car (steps K V car v9 v16 v30 v40 v41 v42 v43 s k)
  step k _ := trip (F := F) c i arg2 harg2 arg3 harg3 arg4 harg4 arg5 harg5 arg6 harg6 arg7 harg7 arg8 harg8 arg9 harg9 arg10 harg10 arg11 harg11 arg12 harg12 arg13 harg13 arg14 harg14 arg15 harg15 arg1 v9 v16 v30 v40 v41 v42 v43 v67 K V car (steps K V car v9 v16 v30 v40 v41 v42 v43 s k.val) k E

/-- The loop at the head of a program: its `n` trips take the state at its entry to the state after `n` steps. -/
theorem loop_run (c : Dev nD) (E : Set ℕ) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x1x1024x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S128x8192 .f32) (harg8 : arg8.IsWhole) (arg9 : Memref sig .tc .vmem S128x8192 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .bf16) (harg14 : arg14.IsWhole) (arg15 : Memref sig .tc .vmem S1024x512 .bf16) (harg15 : arg15.IsWhole) (arg1 : BitVec 32) (v9 : FVec F S256x256 .bf16) (v16 : FVec F S256x256 .bf16) (v30 : FVec F S1024x128 .bf16) (v40 : FVec F S1024x128 .bf16) (v41 : IVec S1024x128 32) (v42 : FVec F S128x1024 .bf16) (v43 : FVec F S128x1024 .bf16) (v67 : FVec F S1024x512 .f32)
    (K V : Vec F S8192x128 .bf16) (car : Vec F S1x1x1024x128 .f32) (s : St F) (hok : Scf.OK (k0_t1_loop i).lb (k0_t1_loop i).ub (k0_t1_loop i).st)
    {β : Type} {kk : PUnit → Prog (TpuEff nD τ sig (Elt F) Λ₀ .tc) β} {Q : β → sProp 𝕄} :
    (Own c arg3 arg4 arg5 arg8 arg9 arg10 arg11 arg12 arg13 arg14 arg15 K V car s : sProp 𝕄)
      ⊢ iprop((∀ acc, Own c arg3 arg4 arg5 arg8 arg9 arg10 arg11 arg12 arg13 arg14 arg15 K V car (steps K V car v9 v16 v30 v40 v41 v42 v43 s (i 1).val) -∗
          wp frame (wpE (defs₀ (F := F)) Variants.none (c : Thread nD τ) none) E (kk acc) Q)
        -∗ wp frame (wpE (defs₀ (F := F)) Variants.none (c : Thread nD τ) none) E
          ((k0_t1_loop i).for hok PUnit.unit (k0_t1_body i arg2 harg2 arg3 harg3 arg4 harg4 arg5 harg5 arg6 harg6 arg7 harg7 arg8 harg8 arg9 harg9 arg10 harg10 arg11 harg11 arg12 harg12 arg13 harg13 arg14 harg14 arg15 harg15 arg1 v9 v16 v30 v40 v41 v42 v43 v67) >>= kk) Q) := by
  rw [← trips_eq i]
  exact exec_loop frame (wpE (defs₀ (F := F)) Variants.none (c : Thread nD τ) none) E _ _ _ hok PUnit.unit _ (loopInv c E i arg2 harg2 arg3 harg3 arg4 harg4 arg5 harg5 arg6 harg6 arg7 harg7 arg8 harg8 arg9 harg9 arg10 harg10 arg11 harg11 arg12 harg12 arg13 harg13 arg14 harg14 arg15 harg15 arg1 v9 v16 v30 v40 v41 v42 v43 v67 K V car s)

set_option warn.classDefReducibility false in
/-- The second loop makes no trip. -/
@[sl_loop] def loopInv_k0_t2 (c : Dev nD) (E : Set ℕ) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x1x1024x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S128x8192 .f32) (harg8 : arg8.IsWhole) (arg9 : Memref sig .tc .vmem S128x8192 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .bf16) (harg14 : arg14.IsWhole) (arg15 : Memref sig .tc .vmem S1024x512 .bf16) (harg15 : arg15.IsWhole) (arg1 : BitVec 32) (v9 : FVec F S256x256 .bf16) (v16 : FVec F S256x256 .bf16) (v30 : FVec F S1024x128 .bf16) (v40 : FVec F S1024x128 .bf16) (v41 : IVec S1024x128 32) (v42 : FVec F S128x1024 .bf16) (v43 : FVec F S128x1024 .bf16) (v67 : FVec F S1024x512 .f32) (v82 : BitVec 32) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg1 v9 v16 v30 v40 v41 v42 v43 v67 v82 where
  inv _ _ := iprop(emp)
  step k _ := absurd k.isLt (Nat.not_lt.2 (Nat.le_trans (k0_t2_abs i).2.1 (Nat.zero_le _)))

set_option maxHeartbeats 800000 in
/-- The body elsewhere: the gathered gradients are what the point before left. -/
theorem runB (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x1x1024x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S128x8192 .f32) (harg8 : arg8.IsWhole) (arg9 : Memref sig .tc .vmem S128x8192 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .bf16) (harg14 : arg14.IsWhole) (arg15 : Memref sig .tc .vmem S1024x512 .bf16) (harg15 : arg15.IsWhole) (hc : ¬(Scalar.cmpi .ne (Scalar.extui (Scalar.cmpi .eq (BitVec.ofNat 32 (i 1).val) 0#32)) 0#32) = 1#1)
    (q d : Vec F S512x128 .bf16) (K V : Vec F S8192x128 .bf16) (car : Vec F S1x1x1024x128 .f32) (dk dv : Vec F S128x8192 .f32) :
    ∀ (E : Set ℕ) (K' : PUnit → sProp 𝕄),
      iprop(owns (c : Thread nD τ) arg2 fullShare q ∗ owns (c : Thread nD τ) arg3 fullShare K ∗ owns (c : Thread nD τ) arg4 fullShare V ∗ owns (c : Thread nD τ) arg5 fullShare car ∗ owns (c : Thread nD τ) arg6 fullShare d ∗ (∃ d, owns (c : Thread nD τ) arg7 fullShare d) ∗ owns (c : Thread nD τ) arg8 fullShare dk ∗ owns (c : Thread nD τ) arg9 fullShare dv ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare q ∗ owns (c : Thread nD τ) arg3 fullShare K ∗ owns (c : Thread nD τ) arg4 fullShare V ∗ owns (c : Thread nD τ) arg5 fullShare car ∗ owns (c : Thread nD τ) arg6 fullShare d ∗ owns (c : Thread nD τ) arg7 fullShare (dqOut K (i 1).val (mid K V car q d dk dv (i 1).val)) ∗ owns (c : Thread nD τ) arg8 fullShare (dk2 q (i 1).val (mid K V car q d dk dv (i 1).val)) ∗ owns (c : Thread nD τ) arg9 fullShare (dv2 d (i 1).val (mid K V car q d dk dv (i 1).val)) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K' ⟨⟩))
      ⊢ wp frame (wpE (defs₀ (F := F)) Variants.none (c : Thread nD τ) none) E (cc0_attn_b_bwd i arg2 harg2 arg3 harg3 arg4 harg4 arg5 harg5 arg6 harg6 arg7 harg7 arg8 harg8 arg9 harg9 arg10 harg10 arg11 harg11 arg12 harg12 arg13 harg13 arg14 harg14 arg15 harg15) K' := by
  intro E K'
  simp only [cc0_attn_b_bwd_eq_skeleton]; unfold cc0_attn_b_bwd_skel
  simp only [k0_part7_eq_skeleton, k0_part8_eq_skeleton, k0_part9_eq_skeleton, k0_part10_eq_skeleton, k0_part11_eq_skeleton]
  unfold owns
  iintro ⟨⟨%f2, %h2, H2⟩, ⟨%f3, %h3, H3⟩, ⟨%f4, %h4, H4⟩, ⟨%f5, %h5, H5⟩, ⟨%f6, %h6, H6⟩, ⟨%d7, %f7, -, H7⟩, ⟨%f8, %h8, H8⟩, ⟨%f9, %h9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst h2 h3 h4 h5 h6 h8 h9
  sl_exec (disch := first | sl_exact hc)
  have a2 : View.readAt (Elt F) arg2.view (Rect.unit (s := S512x128) ![0, 0] S512x128.size inb_S512x128_S512x128_0_0).toLoadRect f2 = View.read (Elt F) arg2.view f2 := View.readAt_full _ _ _
  have a6 : View.readAt (Elt F) arg6.view (Rect.unit (s := S512x128) ![0, 0] S512x128.size inb_S512x128_S512x128_0_0).toLoadRect f6 = View.read (Elt F) arg6.view f6 := View.readAt_full _ _ _
  have a3 : View.readAt (Elt F) arg3.view (Rect.unit (s := S8192x128) ![0, 0] S512x128.size inb_S8192x128_S512x128_0_0).toLoadRect f3 = rows (View.read (Elt F) arg3.view f3) 0 :=
    View.readAt_unit (s := S8192x128) (off := ![0, 0]) (off' := ![512 * min 0 15, 0]) (size := S512x128.size) _ _ _ rfl (offR_inb _)
  have a4 : View.readAt (Elt F) arg4.view (Rect.unit (s := S8192x128) ![0, 0] S512x128.size inb_S8192x128_S512x128_0_0).toLoadRect f4 = rows (View.read (Elt F) arg4.view f4) 0 :=
    View.readAt_unit (s := S8192x128) (off := ![0, 0]) (off' := ![512 * min 0 15, 0]) (size := S512x128.size) _ _ _ rfl (offR_inb _)
  have b0 : runB.sl.r c arg2 f2 = k0_pay41 (View.read (Elt F) arg2.view f2) := by delta runB.sl.r; rw [a2]
  have b3 : runB.sl.r_3 c arg6 f6 = dos (View.read (Elt F) arg6.view f6) := by delta runB.sl.r_3 runB.sl.r_1 runB.sl.r_2; rw [a6]
  have b4 : runB.sl.r_4 c arg2 f2 = k0_pay46 (k0_pay41 (View.read (Elt F) arg2.view f2)) := by delta runB.sl.r_4; rw [b0]
  have b5 : runB.sl.r_5 c arg6 f6 = dosT (View.read (Elt F) arg6.view f6) := by delta runB.sl.r_5 runB.sl.r_1 runB.sl.r_2; rw [a6]
  have b6 : runB.sl.r_6 c arg4 arg6 f4 f6 = k0_pay52 (k0_pay43 (View.read (Elt F) arg6.view f6)) (k0_pay44 (View.read (Elt F) arg6.view f6)) (rows (View.read (Elt F) arg4.view f4) 0) := by
    delta runB.sl.r_6 runB.sl.r_1 runB.sl.r_2; rw [a6, a4]
  have b41 : runB.sl.v41 = lanes := rfl
  rw [b0, b3, b4, b5, b6, b41]
  iapply (loop_run (F := F) c E i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ (arg3.view.read (Elt F) f3) (arg4.view.read (Elt F) f4) (arg5.view.read (Elt F) f5)
      (start (arg3.view.read (Elt F) f3) (arg4.view.read (Elt F) f4) (arg2.view.read (Elt F) f2) (arg6.view.read (Elt F) f6) (arg8.view.read (Elt F) f8) (arg9.view.read (Elt F) f9)) _) $$ [H3 H4 H5 H8 H9 H10 H11 H12 H13 H14 H15]
  · unfold Own owns
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; exact (View.read_writes_full _ _ _ _ _).trans (by rfl)
    isplitl [H11]
    · iexists _; isplitr; swap; · iexact H11
      ipureintro; exact (View.read_writes_full _ _ _ _ _).trans (by rfl)
    isplitl [H12]
    · iexists _; isplitr; swap; · iexact H12
      ipureintro; exact (View.read_writes_full _ _ _ _ _).trans (by rw [b0, a3]; rfl)
    isplitl [H13]
    · iexists _; isplitr; swap; · iexact H13
      ipureintro; exact (View.read_writes_full _ _ _ _ _).trans (by rw [b6]; rfl)
    isplitl [H14]
    · iexists _; isplitr; swap; · iexact H14
      ipureintro; exact (View.read_writes_full _ _ _ _ _).trans (by rfl)
    iexists _; isplitr; swap; · iexact H15
    ipureintro; exact (View.read_writes_full _ _ _ _ _).trans (by rfl)
  iintro %_ HO
  unfold Own owns
  icases HO with ⟨⟨%e3, %g3, H3⟩, ⟨%e4, %g4, H4⟩, ⟨%e5, %g5, H5⟩, ⟨%e8, %g8, H8⟩, ⟨%e9, %g9, H9⟩, ⟨%e10, %g10, H10⟩, ⟨%e11, %g11, H11⟩, ⟨%e12, %g12, H12⟩, ⟨%e13, %g13, H13⟩, ⟨%e14, %g14, H14⟩, ⟨%e15, %g15, H15⟩⟩
  obtain rfl : f3 = e3 := harg3.read_bijective.1 g3.symm
  obtain rfl : f4 = e4 := harg4.read_bijective.1 g4.symm
  obtain rfl : f5 = e5 := harg5.read_bijective.1 g5.symm
  sl_exec
  sl_step
  iapply Hk
  obtain ⟨M, hM⟩ : ∃ M, M = (mid (View.read (Elt F) arg3.view f3) (View.read (Elt F) arg4.view f4) (View.read (Elt F) arg5.view f5) (View.read (Elt F) arg2.view f2) (View.read (Elt F) arg6.view f6) (View.read (Elt F) arg8.view f8) (View.read (Elt F) arg9.view f9) (i 1).val) := ⟨_, rfl⟩
  rw [← hM]
  replace g8 : View.read (Elt F) arg8.view e8 = M.dk := by rw [hM]; exact g8
  replace g9 : View.read (Elt F) arg9.view e9 = M.dv := by rw [hM]; exact g9
  replace g10 : View.read (Elt F) arg10.view e10 = M.acc := by rw [hM]; exact g10
  replace g11 : View.read (Elt F) arg11.view e11 = M.bef := by rw [hM]; exact g11
  replace g12 : View.read (Elt F) arg12.view e12 = M.z := by rw [hM]; exact g12
  replace g13 : View.read (Elt F) arg13.view e13 = M.dw := by rw [hM]; exact g13
  replace g14 : View.read (Elt F) arg14.view e14 = M.dz := by rw [hM]; exact g14
  replace g15 : View.read (Elt F) arg15.view e15 = M.w := by rw [hM]; exact g15
  have c10 : View.readAt (Elt F) arg10.view (Rect.unit (s := S1024x128) ![0, 0] S1024x128.size inb_S1024x128_S1024x128_0_0).toLoadRect e10 = M.acc := (View.readAt_full _ _ _).trans g10
  have c11 : View.readAt (Elt F) arg11.view (Rect.unit (s := S1024x1) ![0, 0] S1024x1.size inb_S1024x1_S1024x1_0_0).toLoadRect e11 = M.bef := (View.readAt_full _ _ _).trans g11
  have c12 : View.readAt (Elt F) arg12.view (Rect.unit (s := S1024x512) ![0, 0] S1024x512.size inb_S1024x512_S1024x512_0_0).toLoadRect e12 = M.z := (View.readAt_full _ _ _).trans g12
  have c13 : View.readAt (Elt F) arg13.view (Rect.unit (s := S1024x512) ![0, 0] S1024x512.size inb_S1024x512_S1024x512_0_0).toLoadRect e13 = M.dw := (View.readAt_full _ _ _).trans g13
  have c14 : View.readAt (Elt F) arg14.view (Rect.unit (s := S1024x512) ![0, 0] S1024x512.size inb_S1024x512_S1024x512_0_0).toLoadRect e14 = M.dz := (View.readAt_full _ _ _).trans g14
  have c15 : View.readAt (Elt F) arg15.view (Rect.unit (s := S1024x512) ![0, 0] S1024x512.size inb_S1024x512_S1024x512_0_0).toLoadRect e15 = M.w := (View.readAt_full _ _ _).trans g15
  have c7 : View.readAt (Elt F) arg3.view (Rect.unit (s := S8192x128) (k0_off7 i) S512x128.size (k0_off7_inb i)).toLoadRect f3 = rows (View.read (Elt F) arg3.view f3) ((i 1).val - 1) :=
    View.readAt_unit (s := S8192x128) (size := S512x128.size) _ _ _ (off7_eq i) (offR_inb _)
  have d18 : runB.sl.r_18 c i arg3 f3 = rows (View.read (Elt F) arg3.view f3) (i 1).val :=
    View.readAt_unit (s := S8192x128) (size := S512x128.size) _ _ _ (off9_eq i) (offR_inb _)
  have d16 : runB.sl.r_16 c arg11 arg12 arg13 e11 e12 e13 = dzd M := by
    delta runB.sl.r_16 runB.sl.r_10 runB.sl.r_11 runB.sl.r_12 runB.sl.r_13 runB.sl.r_14 runB.sl.r_15
    rw [c11, c12, c13]; rfl
  have d17 : runB.sl.r_17 c arg12 e12 = wd M := by
    delta runB.sl.r_17 runB.sl.r_11 runB.sl.r_13 runB.sl.r_14 runB.sl.r_15
    rw [c12]; rfl
  have d183 : runB.sl.v183 c i arg3 arg10 arg14 f3 e10 e14 = acc1 (View.read (Elt F) arg3.view f3) (i 1).val M := by
    delta runB.sl.v183 runB.sl.H10_1_1
    rw [c14, c10, c7]
    exact View.readCov_full _ _ _ _ _
  have d207 : runB.sl.v207 c i arg3 arg10 arg11 arg12 arg13 arg14 f3 e10 e11 e12 e13 e14 = acc2 (View.read (Elt F) arg3.view f3) (i 1).val M := by
    delta runB.sl.v207 runB.sl.H10_2
    rw [d16, d183, d18]
    exact View.readCov_full (s := S1024x128) _ _ _ _ _
  have d8 : View.read (Elt F) arg8.view (arg8.view.writes (Elt F) e8 (runB.sl.H8_1 c i arg2 arg8 arg14 f2 e8 e14)) = dk1 (View.read (Elt F) arg2.view f2) (i 1).val M := by
    delta runB.sl.H8_1 runB.sl.r_8 runB.sl.r_9
    rw [c14, View.readAt_unit (s := S128x8192) (off := k0_off8 i) (size := S128x512.size) _ _ _ (off8_eq i) (offC_inb _), g8]
    refine (View.read_writes_cons_put _ _ _ _ _ (off8_eq i)).trans ?_
    rw [View.writes_nil, g8]; rfl
  have d9 : View.read (Elt F) arg9.view (arg9.view.writes (Elt F) e9 (runB.sl.H9_1 c i arg6 arg9 arg15 f6 e9 e15)) = dv1 (View.read (Elt F) arg6.view f6) (i 1).val M := by
    delta runB.sl.H9_1 runB.sl.r_7
    rw [c15, View.readAt_unit (s := S128x8192) (off := k0_off8 i) (size := S128x512.size) _ _ _ (off8_eq i) (offC_inb _), g9]
    refine (View.read_writes_cons_put _ _ _ _ _ (off8_eq i)).trans ?_
    rw [View.writes_nil, g9]; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro
    refine (View.read_writes_full (s := S512x128) _ _ _ _ _).trans ?_
    rw [d207]; rfl
  isplitl [H8]
  · iexists _; isplitr; swap; · iexact H8
    ipureintro
    refine (View.read_writes_cons_put _ _ _ _ _ (off10_eq i)).trans ?_
    rw [d16, View.readAt_unit (s := S128x8192) (off := k0_off10 i) (size := ![128, 512]) _ _ _ (off10_eq i) (offC_inb _), d8]; rfl
  isplitl [H9]
  · iexists _; isplitr; swap; · iexact H9
    ipureintro
    refine (View.read_writes_cons_put _ _ _ _ _ (off10_eq i)).trans ?_
    rw [d17, View.readAt_unit (s := S128x8192) (off := k0_off10 i) (size := ![128, 512]) _ _ _ (off10_eq i) (offC_inb _), d9]; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  iexists _; iexists _; isplitr; swap; · iexact H15
  ipureintro; rfl

set_option maxHeartbeats 800000 in
/-- The body at a pair's first query block: the gathered gradients start from zero. -/
theorem runA (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x1x1024x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S128x8192 .f32) (harg8 : arg8.IsWhole) (arg9 : Memref sig .tc .vmem S128x8192 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .bf16) (harg14 : arg14.IsWhole) (arg15 : Memref sig .tc .vmem S1024x512 .bf16) (harg15 : arg15.IsWhole) (hc : (Scalar.cmpi .ne (Scalar.extui (Scalar.cmpi .eq (BitVec.ofNat 32 (i 1).val) 0#32)) 0#32) = 1#1)
    (q d : Vec F S512x128 .bf16) (K V : Vec F S8192x128 .bf16) (car : Vec F S1x1x1024x128 .f32) :
    ∀ (E : Set ℕ) (K' : PUnit → sProp 𝕄),
      iprop(owns (c : Thread nD τ) arg2 fullShare q ∗ owns (c : Thread nD τ) arg3 fullShare K ∗ owns (c : Thread nD τ) arg4 fullShare V ∗ owns (c : Thread nD τ) arg5 fullShare car ∗ owns (c : Thread nD τ) arg6 fullShare d ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare q ∗ owns (c : Thread nD τ) arg3 fullShare K ∗ owns (c : Thread nD τ) arg4 fullShare V ∗ owns (c : Thread nD τ) arg5 fullShare car ∗ owns (c : Thread nD τ) arg6 fullShare d ∗ owns (c : Thread nD τ) arg7 fullShare (dqOut K (i 1).val (mid K V car q d k0_pay37 k0_pay38 (i 1).val)) ∗ owns (c : Thread nD τ) arg8 fullShare (dk2 q (i 1).val (mid K V car q d k0_pay37 k0_pay38 (i 1).val)) ∗ owns (c : Thread nD τ) arg9 fullShare (dv2 d (i 1).val (mid K V car q d k0_pay37 k0_pay38 (i 1).val)) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K' ⟨⟩))
      ⊢ wp frame (wpE (defs₀ (F := F)) Variants.none (c : Thread nD τ) none) E (cc0_attn_b_bwd i arg2 harg2 arg3 harg3 arg4 harg4 arg5 harg5 arg6 harg6 arg7 harg7 arg8 harg8 arg9 harg9 arg10 harg10 arg11 harg11 arg12 harg12 arg13 harg13 arg14 harg14 arg15 harg15) K' := by
  intro E K'
  simp only [cc0_attn_b_bwd_eq_skeleton]; unfold cc0_attn_b_bwd_skel
  simp only [k0_part7_eq_skeleton, k0_part8_eq_skeleton, k0_part9_eq_skeleton, k0_part10_eq_skeleton, k0_part11_eq_skeleton]
  unfold owns
  iintro ⟨⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst h2 h3 h4 h5 h6
  sl_exec (disch := first | sl_exact hc)
  have a2 : View.readAt (Elt F) arg2.view (Rect.unit (s := S512x128) ![0, 0] S512x128.size inb_S512x128_S512x128_0_0).toLoadRect f2 = View.read (Elt F) arg2.view f2 := View.readAt_full _ _ _
  have a6 : View.readAt (Elt F) arg6.view (Rect.unit (s := S512x128) ![0, 0] S512x128.size inb_S512x128_S512x128_0_0).toLoadRect f6 = View.read (Elt F) arg6.view f6 := View.readAt_full _ _ _
  have a3 : View.readAt (Elt F) arg3.view (Rect.unit (s := S8192x128) ![0, 0] S512x128.size inb_S8192x128_S512x128_0_0).toLoadRect f3 = rows (View.read (Elt F) arg3.view f3) 0 :=
    View.readAt_unit (s := S8192x128) (off := ![0, 0]) (off' := ![512 * min 0 15, 0]) (size := S512x128.size) _ _ _ rfl (offR_inb _)
  have a4 : View.readAt (Elt F) arg4.view (Rect.unit (s := S8192x128) ![0, 0] S512x128.size inb_S8192x128_S512x128_0_0).toLoadRect f4 = rows (View.read (Elt F) arg4.view f4) 0 :=
    View.readAt_unit (s := S8192x128) (off := ![0, 0]) (off' := ![512 * min 0 15, 0]) (size := S512x128.size) _ _ _ rfl (offR_inb _)
  have b0 : runA.sl.r c arg2 f2 = k0_pay41 (View.read (Elt F) arg2.view f2) := by delta runA.sl.r; rw [a2]
  have b3 : runA.sl.r_3 c arg6 f6 = dos (View.read (Elt F) arg6.view f6) := by delta runA.sl.r_3 runA.sl.r_1 runA.sl.r_2; rw [a6]
  have b4 : runA.sl.r_4 c arg2 f2 = k0_pay46 (k0_pay41 (View.read (Elt F) arg2.view f2)) := by delta runA.sl.r_4; rw [b0]
  have b5 : runA.sl.r_5 c arg6 f6 = dosT (View.read (Elt F) arg6.view f6) := by delta runA.sl.r_5 runA.sl.r_1 runA.sl.r_2; rw [a6]
  have b6 : runA.sl.r_6 c arg4 arg6 f4 f6 = k0_pay52 (k0_pay43 (View.read (Elt F) arg6.view f6)) (k0_pay44 (View.read (Elt F) arg6.view f6)) (rows (View.read (Elt F) arg4.view f4) 0) := by
    delta runA.sl.r_6 runA.sl.r_1 runA.sl.r_2; rw [a6, a4]
  have b41 : runA.sl.v41 = lanes := rfl
  rw [b0, b3, b4, b5, b6, b41]
  iapply (loop_run (F := F) c E i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ (arg3.view.read (Elt F) f3) (arg4.view.read (Elt F) f4) (arg5.view.read (Elt F) f5)
      (start (arg3.view.read (Elt F) f3) (arg4.view.read (Elt F) f4) (arg2.view.read (Elt F) f2) (arg6.view.read (Elt F) f6) k0_pay37 k0_pay38) _) $$ [H3 H4 H5 H8 H9 H10 H11 H12 H13 H14 H15]
  · unfold Own owns
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H8]
    · iexists _; isplitr; swap; · iexact H8
      ipureintro; exact (View.read_writes_full _ _ _ _ _).trans (by rfl)
    isplitl [H9]
    · iexists _; isplitr; swap; · iexact H9
      ipureintro; exact (View.read_writes_full _ _ _ _ _).trans (by rfl)
    isplitl [H10]
    · iexists _; isplitr; swap; · iexact H10
      ipureintro; exact (View.read_writes_full _ _ _ _ _).trans (by rfl)
    isplitl [H11]
    · iexists _; isplitr; swap; · iexact H11
      ipureintro; exact (View.read_writes_full _ _ _ _ _).trans (by rfl)
    isplitl [H12]
    · iexists _; isplitr; swap; · iexact H12
      ipureintro; exact (View.read_writes_full _ _ _ _ _).trans (by rw [b0, a3]; rfl)
    isplitl [H13]
    · iexists _; isplitr; swap; · iexact H13
      ipureintro; exact (View.read_writes_full _ _ _ _ _).trans (by rw [b6]; rfl)
    isplitl [H14]
    · iexists _; isplitr; swap; · iexact H14
      ipureintro; exact (View.read_writes_full _ _ _ _ _).trans (by rfl)
    iexists _; isplitr; swap; · iexact H15
    ipureintro; exact (View.read_writes_full _ _ _ _ _).trans (by rfl)
  iintro %_ HO
  unfold Own owns
  icases HO with ⟨⟨%e3, %g3, H3⟩, ⟨%e4, %g4, H4⟩, ⟨%e5, %g5, H5⟩, ⟨%e8, %g8, H8⟩, ⟨%e9, %g9, H9⟩, ⟨%e10, %g10, H10⟩, ⟨%e11, %g11, H11⟩, ⟨%e12, %g12, H12⟩, ⟨%e13, %g13, H13⟩, ⟨%e14, %g14, H14⟩, ⟨%e15, %g15, H15⟩⟩
  obtain rfl : f3 = e3 := harg3.read_bijective.1 g3.symm
  obtain rfl : f4 = e4 := harg4.read_bijective.1 g4.symm
  obtain rfl : f5 = e5 := harg5.read_bijective.1 g5.symm
  sl_exec
  sl_step
  iapply Hk
  obtain ⟨M, hM⟩ : ∃ M, M = (mid (View.read (Elt F) arg3.view f3) (View.read (Elt F) arg4.view f4) (View.read (Elt F) arg5.view f5) (View.read (Elt F) arg2.view f2) (View.read (Elt F) arg6.view f6) k0_pay37 k0_pay38 (i 1).val) := ⟨_, rfl⟩
  rw [← hM]
  replace g8 : View.read (Elt F) arg8.view e8 = M.dk := by rw [hM]; exact g8
  replace g9 : View.read (Elt F) arg9.view e9 = M.dv := by rw [hM]; exact g9
  replace g10 : View.read (Elt F) arg10.view e10 = M.acc := by rw [hM]; exact g10
  replace g11 : View.read (Elt F) arg11.view e11 = M.bef := by rw [hM]; exact g11
  replace g12 : View.read (Elt F) arg12.view e12 = M.z := by rw [hM]; exact g12
  replace g13 : View.read (Elt F) arg13.view e13 = M.dw := by rw [hM]; exact g13
  replace g14 : View.read (Elt F) arg14.view e14 = M.dz := by rw [hM]; exact g14
  replace g15 : View.read (Elt F) arg15.view e15 = M.w := by rw [hM]; exact g15
  have c10 : View.readAt (Elt F) arg10.view (Rect.unit (s := S1024x128) ![0, 0] S1024x128.size inb_S1024x128_S1024x128_0_0).toLoadRect e10 = M.acc := (View.readAt_full _ _ _).trans g10
  have c11 : View.readAt (Elt F) arg11.view (Rect.unit (s := S1024x1) ![0, 0] S1024x1.size inb_S1024x1_S1024x1_0_0).toLoadRect e11 = M.bef := (View.readAt_full _ _ _).trans g11
  have c12 : View.readAt (Elt F) arg12.view (Rect.unit (s := S1024x512) ![0, 0] S1024x512.size inb_S1024x512_S1024x512_0_0).toLoadRect e12 = M.z := (View.readAt_full _ _ _).trans g12
  have c13 : View.readAt (Elt F) arg13.view (Rect.unit (s := S1024x512) ![0, 0] S1024x512.size inb_S1024x512_S1024x512_0_0).toLoadRect e13 = M.dw := (View.readAt_full _ _ _).trans g13
  have c14 : View.readAt (Elt F) arg14.view (Rect.unit (s := S1024x512) ![0, 0] S1024x512.size inb_S1024x512_S1024x512_0_0).toLoadRect e14 = M.dz := (View.readAt_full _ _ _).trans g14
  have c15 : View.readAt (Elt F) arg15.view (Rect.unit (s := S1024x512) ![0, 0] S1024x512.size inb_S1024x512_S1024x512_0_0).toLoadRect e15 = M.w := (View.readAt_full _ _ _).trans g15
  have c7 : View.readAt (Elt F) arg3.view (Rect.unit (s := S8192x128) (k0_off7 i) S512x128.size (k0_off7_inb i)).toLoadRect f3 = rows (View.read (Elt F) arg3.view f3) ((i 1).val - 1) :=
    View.readAt_unit (s := S8192x128) (size := S512x128.size) _ _ _ (off7_eq i) (offR_inb _)
  have d18 : runA.sl.r_18 c i arg3 f3 = rows (View.read (Elt F) arg3.view f3) (i 1).val :=
    View.readAt_unit (s := S8192x128) (size := S512x128.size) _ _ _ (off9_eq i) (offR_inb _)
  have d16 : runA.sl.r_16 c arg11 arg12 arg13 e11 e12 e13 = dzd M := by
    delta runA.sl.r_16 runA.sl.r_10 runA.sl.r_11 runA.sl.r_12 runA.sl.r_13 runA.sl.r_14 runA.sl.r_15
    rw [c11, c12, c13]; rfl
  have d17 : runA.sl.r_17 c arg12 e12 = wd M := by
    delta runA.sl.r_17 runA.sl.r_11 runA.sl.r_13 runA.sl.r_14 runA.sl.r_15
    rw [c12]; rfl
  have d183 : runA.sl.v183 c i arg3 arg10 arg14 f3 e10 e14 = acc1 (View.read (Elt F) arg3.view f3) (i 1).val M := by
    delta runA.sl.v183 runA.sl.H10_1_1
    rw [c14, c10, c7]
    exact View.readCov_full _ _ _ _ _
  have d207 : runA.sl.v207 c i arg3 arg10 arg11 arg12 arg13 arg14 f3 e10 e11 e12 e13 e14 = acc2 (View.read (Elt F) arg3.view f3) (i 1).val M := by
    delta runA.sl.v207 runA.sl.H10_2
    rw [d16, d183, d18]
    exact View.readCov_full (s := S1024x128) _ _ _ _ _
  have d8 : View.read (Elt F) arg8.view (arg8.view.writes (Elt F) e8 (runA.sl.H8_1_1 c i arg2 arg8 arg14 f2 e8 e14)) = dk1 (View.read (Elt F) arg2.view f2) (i 1).val M := by
    delta runA.sl.H8_1_1 runA.sl.r_8 runA.sl.r_9
    rw [c14, View.readAt_unit (s := S128x8192) (off := k0_off8 i) (size := S128x512.size) _ _ _ (off8_eq i) (offC_inb _), g8]
    refine (View.read_writes_cons_put _ _ _ _ _ (off8_eq i)).trans ?_
    rw [View.writes_nil, g8]; rfl
  have d9 : View.read (Elt F) arg9.view (arg9.view.writes (Elt F) e9 (runA.sl.H9_1_1 c i arg6 arg9 arg15 f6 e9 e15)) = dv1 (View.read (Elt F) arg6.view f6) (i 1).val M := by
    delta runA.sl.H9_1_1 runA.sl.r_7
    rw [c15, View.readAt_unit (s := S128x8192) (off := k0_off8 i) (size := S128x512.size) _ _ _ (off8_eq i) (offC_inb _), g9]
    refine (View.read_writes_cons_put _ _ _ _ _ (off8_eq i)).trans ?_
    rw [View.writes_nil, g9]; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro
    refine (View.read_writes_full (s := S512x128) _ _ _ _ _).trans ?_
    rw [d207]; rfl
  isplitl [H8]
  · iexists _; isplitr; swap; · iexact H8
    ipureintro
    refine (View.read_writes_cons_put _ _ _ _ _ (off10_eq i)).trans ?_
    rw [d16, View.readAt_unit (s := S128x8192) (off := k0_off10 i) (size := ![128, 512]) _ _ _ (off10_eq i) (offC_inb _), d8]; rfl
  isplitl [H9]
  · iexists _; isplitr; swap; · iexact H9
    ipureintro
    refine (View.read_writes_cons_put _ _ _ _ _ (off10_eq i)).trans ?_
    rw [d17, View.readAt_unit (s := S128x8192) (off := k0_off10 i) (size := ![128, 512]) _ _ _ (off10_eq i) (offC_inb _), d9]; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  iexists _; iexists _; isplitr; swap; · iexact H15
  ipureintro; rfl

end Cert.KernelIdeal.Bwd

end
-- ==== Proof.Run.lean ====
/- The kernel's run: what each grid point leaves in the output buffers, the body obligation, the launch, and the frame.
   For any float values. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow
public import Mathlib.Tactic.IntervalCases
public import Idealize.ShloMosaic.Lib.Claim
public import proofs.«01_k».proof.Proof.Body

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The state before the diagonal block at point `t`, the gathered gradients entering as `dk`, `dv`. -/
def midAt (c : Dev nD) (t : Fin cfg0.N) (dk dv : Vec F S128x8192 .f32) : St F :=
  mid (iblk m c 1 t) (iblk m c 2 t) (iblk m c 3 t) (iblk m c 0 t) (iblk m c 4 t) dk dv (grid0.coords t 1).val

/-- What point `t` leaves of the key and value gradients. -/
def leaves (c : Dev nD) (t : Fin cfg0.N) (dk dv : Vec F S128x8192 .f32) : Vec F S128x8192 .f32 × Vec F S128x8192 .f32 :=
  (dk2 (iblk m c 0 t) (grid0.coords t 1).val (midAt m c t dk dv), dv2 (iblk m c 4 t) (grid0.coords t 1).val (midAt m c t dk dv))

/-- The key and value gradients after point `n`: each pair starts from zero, the other points from what the one before left. -/
def kv (c : Dev nD) : (n : ℕ) → n < cfg0.N → Vec F S128x8192 .f32 × Vec F S128x8192 .f32
  | 0, h => leaves m c ⟨0, h⟩ k0_pay37 k0_pay38
  | n + 1, h => if (n + 1) % 16 = 0 then leaves m c ⟨n + 1, h⟩ k0_pay37 k0_pay38
      else leaves m c ⟨n + 1, h⟩ (kv c n (Nat.lt_of_succ_lt h)).1 (kv c n (Nat.lt_of_succ_lt h)).2

/-- What point `t` starts from. -/
def entry (c : Dev nD) (t : Fin cfg0.N) : Vec F S128x8192 .f32 × Vec F S128x8192 .f32 :=
  if t.val % 16 = 0 then (k0_pay37, k0_pay38) else kv m c (t.val - 1) (Nat.lt_of_le_of_lt (Nat.sub_le _ _) t.isLt)

/-- The state before the diagonal block at point `t`. -/
def midOf (c : Dev nD) (t : Fin cfg0.N) : St F := midAt m c t (entry m c t).1 (entry m c t).2

theorem kv_eq (c : Dev nD) (t : Fin cfg0.N) : kv m c t.val t.isLt
    = (dk2 (iblk m c 0 t) (grid0.coords t 1).val (midOf m c t), dv2 (iblk m c 4 t) (grid0.coords t 1).val (midOf m c t)) := by
  obtain ⟨n, h⟩ := t
  rcases n with _ | n
  · rfl
  · unfold midOf entry
    dsimp only [kv]
    split_ifs <;> rfl

/-! ## The proof data -/

/-- Each input's buffer holds its block; the outputs' hold the query block's gradient and the two gathered ones. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqOut (iblk m c 1 t) (grid0.coords t 1).val (midOf m c t)
    | ⟨6, _⟩ => (kv m c t.val t.isLt).1
    | ⟨7, _⟩ => (kv m c t.val t.isLt).2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dqOut (iblk m c 1 t) (grid0.coords t 1).val (midOf m c t) := by dsimp only [dats]
theorem after0_6 (c : Dev nD) (t : Fin cfg0.N) : (dats m 0 c).after 6 t = (kv m c t.val t.isLt).1 := by dsimp only [dats]
theorem after0_7 (c : Dev nD) (t : Fin cfg0.N) : (dats m 0 c).after 7 t = (kv m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Inside a pair the gathered gradient's buffer holds what the point before left. -/
theorem before0_6 (c : Dev nD) (t : Fin cfg0.N) (h : t.val % 16 ≠ 0) (d) : (dats m 0 c).before 6 t d = (entry m c t).1 := by
  have ht : t.val ≠ 0 := fun e => h (by rw [e])
  rw [(dats m 0 c).before_out_kept 6 rfl t ht (Bool.eq_false_iff.2 fun hf => by
      have := (flush0_6 ⟨t.val - 1, Nat.lt_of_le_of_lt (Nat.sub_le _ _) t.isLt⟩).1 hf
      dsimp only at this
      omega) (fun _ => rfl) (fun _ _ => rfl) d, after0_6]
  unfold entry
  rw [if_neg h]

/-- Inside a pair the gathered gradient's buffer holds what the point before left. -/
theorem before0_7 (c : Dev nD) (t : Fin cfg0.N) (h : t.val % 16 ≠ 0) (d) : (dats m 0 c).before 7 t d = (entry m c t).2 := by
  have ht : t.val ≠ 0 := fun e => h (by rw [e])
  rw [(dats m 0 c).before_out_kept 7 rfl t ht (Bool.eq_false_iff.2 fun hf => by
      have := (flush0_7 ⟨t.val - 1, Nat.lt_of_le_of_lt (Nat.sub_le _ _) t.isLt⟩).1 hf
      dsimp only at this
      omega) (fun _ => rfl) (fun _ _ => rfl) d, after0_7]
  unfold entry
  rw [if_neg h]

/-! ## The body obligation -/

/-- The first branch is taken at a pair's first query block. -/
theorem first_iff : ∀ t : Fin cfg0.N, (Scalar.cmpi .ne (Scalar.extui (Scalar.cmpi .eq (BitVec.ofNat 32 (grid0.coords t 1).val) 0#32)) 0#32) = 1#1 ↔ t.val % 16 = 0 :=
  (fun t => by
    have ht : t.val < 64 := Nat.lt_of_lt_of_eq t.isLt N_0
    have e1 : (grid0.coords t 1).val = t.val / 1 % 16 := Pipeline.Grid.coords_val t 1 (by decide) rfl
    simp only [e1]
    word_cmp
   : ∀ t : Fin grid0.N, (Scalar.cmpi .ne (Scalar.extui (Scalar.cmpi .eq (BitVec.ofNat 32 (grid0.coords t 1).val) 0#32)) 0#32) = 1#1 ↔ t.val % 16 = 0)

abbrev ms0_0 (t : Fin cfg0.N) : Memref sig .tc .vmem S512x128 .bf16 := win0_0.stage (cfg0.slots t 0)
abbrev ms0_1 (t : Fin cfg0.N) : Memref sig .tc .vmem S8192x128 .bf16 := win0_1.stage (cfg0.slots t 1)
abbrev ms0_2 (t : Fin cfg0.N) : Memref sig .tc .vmem S8192x128 .bf16 := win0_2.stage (cfg0.slots t 2)
abbrev ms0_3 (t : Fin cfg0.N) : Memref sig .tc .vmem S1x1x1024x128 .f32 := win0_3.stage (cfg0.slots t 3)
abbrev ms0_4 (t : Fin cfg0.N) : Memref sig .tc .vmem S512x128 .bf16 := win0_4.stage (cfg0.slots t 4)
abbrev ms0_5 (t : Fin cfg0.N) : Memref sig .tc .vmem S512x128 .bf16 := win0_5.stage (cfg0.slots t 5)
abbrev ms0_6 (t : Fin cfg0.N) : Memref sig .tc .vmem S128x8192 .f32 := win0_6.stage (cfg0.slots t 6)
abbrev ms0_7 (t : Fin cfg0.N) : Memref sig .tc .vmem S128x8192 .f32 := win0_7.stage (cfg0.slots t 7)
abbrev scM0_0 : Memref sig .tc .vmem S1024x128 .f32 := Memref.whole cc0_scratch0
abbrev scM0_1 : Memref sig .tc .vmem S1024x1 .f32 := Memref.whole cc0_scratch1
abbrev scM0_2 : Memref sig .tc .vmem S1024x512 .f32 := Memref.whole cc0_scratch2
abbrev scM0_3 : Memref sig .tc .vmem S1024x512 .f32 := Memref.whole cc0_scratch3
abbrev scM0_4 : Memref sig .tc .vmem S1024x512 .bf16 := Memref.whole cc0_scratch4
abbrev scM0_5 : Memref sig .tc .vmem S1024x512 .bf16 := Memref.whole cc0_scratch5

/-- The invariant's scratch buffers as memrefs at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, kv_eq]
  rw [show (dats m 0 c).Φ t.castSucc = Pipeline.ΦA spec0 c from rfl, PhiA0_eq]
  by_cases h0 : t.val % 16 = 0
  · have he : midOf m c t = mid (iblk m c 1 t) (iblk m c 2 t) (iblk m c 3 t) (iblk m c 0 t) (iblk m c 4 t) k0_pay37 k0_pay38 (grid0.coords t 1).val := by
      unfold midOf entry; rw [if_pos h0]; rfl
    rw [he]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) _ _ _ _ _ _ _ _ _ _ _ _ _ _ _ _ _ _ _ _ _ _ _ _ _ _ _ _ ((first_iff t).mpr h0) (iblk m c 0 t) (iblk m c 4 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have he : midOf m c t = mid (iblk m c 1 t) (iblk m c 2 t) (iblk m c 3 t) (iblk m c 0 t) (iblk m c 4 t) (entry m c t).1 (entry m c t).2 (grid0.coords t 1).val := rfl
    rw [he]
    simp only [before0_6 m c t h0, before0_7 m c t h0]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords t) _ _ _ _ _ _ _ _ _ _ _ _ _ _ _ _ _ _ _ _ _ _ _ _ _ _ _ _ (fun h => h0 ((first_iff t).mp h)) (iblk m c 0 t) (iblk m c 4 t) (iblk m c 1 t) (iblk m c 2 t) (iblk m c 3 t) (entry m c t).1 (entry m c t).2) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every execution terminates with the arrays at what the proof data say and every semaphore counter at zero. -/
theorem run_quiescent : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.KernelIdeal.Bwd

end
-- ==== Proof.Same.lean ====
/- The kernel as printed and the kernel read at the extended reals are one text: at the bit patterns their body tables and
   mains are equal, so that one run proves both frames. -/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

set_option backward.isDefEq.respectTransparency false in
theorem bodies_eq : @Cert.Kernel.defs₀ Bits _ _ = @Cert.KernelIdeal.defs₀ Bits _ _ := by
  refine congrArg Defs.onTc (funext fun l => funext fun a => ?_)
  match l, a with
  | 0, (t, s) => rfl

theorem defs_eq : @Cert.Kernel.defs Bits _ _ = @Cert.KernelIdeal.defs Bits _ _ :=
  congrArg (Pipeline.defs (Cert.KernelIdeal.pcfgs (F := Bits))) bodies_eq

set_option backward.isDefEq.respectTransparency false in
set_option maxHeartbeats 4000000 in
theorem main_eq : @Cert.Kernel.main Bits _ _ = @Cert.KernelIdeal.main Bits _ _ := funext fun _ => rfl

end Cert.Proof

end
-- ==== Proof.Spec.lean ====
/- The gradients of stick-breaking attention as plain real mathematics, and the arithmetic that carries the extended reals
   of both programs to it. -/
module

public import Idealize.ShloMosaic.Lib.Pointwise
public import Idealize.ShloMosaic.Lib.IdealHost
public import Mathlib.Analysis.SpecialFunctions.Log.Basic
public import Mathlib.Tactic.FieldSimp
public import Mathlib.Tactic.Linarith
public import Mathlib.Algebra.BigOperators.Intervals

@[expose] public section

noncomputable section

namespace Cert.Spec

open Idealize.ShloMosaic Finset

/-! ## The gradients -/

/-- The logarithm of the logistic function. -/
def ls (x : ℝ) : ℝ := -Real.log (1 + Real.exp (-x))

section
variable (q k v o : ℕ → ℕ → ℝ)

/-- The score of a query and a key. -/
def z (t s : ℕ) : ℝ := ∑ d ∈ range 64, q t d / 8 * k s d
/-- The cotangent of a weight. -/
def dw (t s : ℕ) : ℝ := ∑ d ∈ range 64, o t d * v s d
/-- The logarithm of what a key before the query leaves of the stick. -/
def lk (t u : ℕ) : ℝ := if u < t then ls (z q k t u) - z q k t u else 0
/-- What the keys after this one leave. -/
def tail (t s : ℕ) : ℝ := ∑ u ∈ Ico (s + 1) 8192, lk q k t u
/-- The weight. -/
def w (t s : ℕ) : ℝ := if s < t then Real.exp (ls (z q k t s) + tail q k t s) else 0
/-- The cotangent of the weight's logarithm. -/
def g (t s : ℕ) : ℝ := w q k t s * dw v o t s
/-- Those of the keys before. -/
def bef (t s : ℕ) : ℝ := ∑ u ∈ range s, g q k v o t u
/-- The cotangent of the score. -/
def dz (t s : ℕ) : ℝ :=
  if s < t then g q k v o t s - Real.exp (ls (z q k t s)) * (g q k v o t s + bef q k v o t s) else 0
/-- The gradient of a query … -/
def dq (t d : ℕ) : ℝ := (∑ s ∈ range 8192, dz q k v o t s * k s d) / 8
/-- … of a key … -/
def dk (s d : ℕ) : ℝ := ∑ t ∈ range 8192, q t d / 8 * dz q k v o t s
/-- … and of a value. -/
def dv (s d : ℕ) : ℝ := ∑ t ∈ range 8192, o t d * w q k t s
end

/-! ## Arrays of reals -/

/-- An array whose element at row `r` and column `c` is the real `f r c`. -/
def Is {n m : ℕ} (x : (⟨2, ![n, m]⟩ : Shape).Idx → EReal) (f : ℕ → ℕ → ℝ) : Prop :=
  ∀ (r : Fin n) (c : Fin m), x (ix2 r c) = ((f r.val c.val : ℝ) : EReal)

theorem Is.congr {n m : ℕ} {x : (⟨2, ![n, m]⟩ : Shape).Idx → EReal} {f g : ℕ → ℕ → ℝ} (h : Is x f)
    (e : ∀ r c, r < n → c < m → f r c = g r c) : Is x g := fun r c => by rw [h r c, e _ _ r.isLt c.isLt]

theorem coe_sum {ι : Type*} (s : Finset ι) (f : ι → ℝ) : ((∑ i ∈ s, f i : ℝ) : EReal) = ∑ i ∈ s, ((f i : ℝ) : EReal) := by
  classical
  induction s using Finset.induction with
  | empty => simp
  | insert a s h ih => rw [sum_insert h, sum_insert h, EReal.coe_add, ih]

theorem fin_sum (n : ℕ) (f : ℕ → ℝ) : ∑ i : Fin n, ((f i.val : ℝ) : EReal) = ((∑ i ∈ range n, f i : ℝ) : EReal) := by
  rw [coe_sum, Finset.sum_range]

theorem coe_zero : (0 : EReal) = ((0 : ℝ) : EReal) := rfl
theorem coe_one : (1 : EReal) = ((1 : ℝ) : EReal) := rfl

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

theorem log_coe_pos {r : ℝ} (h : 0 < r) : Ideal.log (r : EReal) = ((Real.log r : ℝ) : EReal) := by
  rw [Ideal.log_coe, if_neg (not_le.2 h)]

theorem one_add_exp_pos (x : ℝ) : 0 < 1 + Real.exp x := by positivity

/-- The logarithm of the logistic as it is computed without overflow. -/
theorem ls_stable (x : ℝ) : min x 0 - Real.log (1 + Real.exp (0 - max x (-x))) = ls x := by
  unfold ls
  rcases le_total 0 x with h | h
  · rw [min_eq_right h, max_eq_left (by linarith)]; simp
  · rw [min_eq_left h, max_eq_right (by linarith)]
    have e : 1 + Real.exp (-x) = Real.exp (-x) * (1 + Real.exp x) := by
      rw [mul_add, ← Real.exp_add]; simp [add_comm]
    rw [e, Real.log_mul (Real.exp_pos _).ne' (one_add_exp_pos _).ne', Real.log_exp]
    simp only [zero_sub, neg_neg]; ring

theorem exp_ls (x : ℝ) : Real.exp (ls x) = (1 + Real.exp (-x))⁻¹ := by
  unfold ls
  rw [Real.exp_neg, Real.exp_log (one_add_exp_pos _)]

/-- `ls x - x` is the logarithm of the logistic of `-x`. -/
theorem ls_sub (x : ℝ) : ls x - x = ls (-x) := by
  unfold ls
  have e : 1 + Real.exp (-x) = Real.exp (-x) * (1 + Real.exp x) := by
    rw [mul_add, ← Real.exp_add]; simp [add_comm]
  rw [e, Real.log_mul (Real.exp_pos _).ne' (one_add_exp_pos _).ne', Real.log_exp, neg_neg]; ring

theorem exp_ls_neg (x : ℝ) : Real.exp (ls (-x)) = 1 - Real.exp (ls x) := by
  rw [exp_ls, exp_ls, neg_neg, Real.exp_neg]
  have := Real.exp_pos x
  field_simp
  ring

theorem eighth : Ideal.ofBits .f32 0x3E000000#32 = ((1 / 8 : ℝ) : EReal) := by
  simp [Ideal.ofBits, Ideal.ieee, -EReal.coe_mul]; norm_num

theorem top_f32 : Ideal.ofBits .f32 0x7F800000#32 = (⊤ : EReal) := by
  simp [Ideal.ofBits, Ideal.ieee]

/-! ## Sums over half the lanes -/

theorem sum_half (e : ℕ) (he : e < 2) (f : ℕ → ℝ) :
    ∑ l ∈ range 128, (if l / 64 = e then f l else 0) = ∑ d ∈ range 64, f (64 * e + d) := by
  rw [show (128 : ℕ) = 64 + 64 from rfl, sum_range_add, ← sum_add_distrib]
  refine sum_congr rfl fun x hx => ?_
  have a : x / 64 = 0 := by have := mem_range.1 hx; omega
  have b : (64 + x) / 64 = 1 := by have := mem_range.1 hx; omega
  rw [a, b]
  interval_cases e <;> simp

/-! ## Sums of products of reals, and the triangles -/

theorem sums {K : ℕ} {x : Fin K → EReal} (a : ℕ → ℝ) (hx : ∀ i, x i = ((a i.val : ℝ) : EReal)) :
    ∑ i, x i = ((∑ i ∈ range K, a i : ℝ) : EReal) := by
  rw [← fin_sum]; exact sum_congr rfl fun i _ => hx i

theorem dots {K : ℕ} {x y : Fin K → EReal} (a b : ℕ → ℝ) (hx : ∀ i, x i = ((a i.val : ℝ) : EReal))
    (hy : ∀ i, y i = ((b i.val : ℝ) : EReal)) : ∑ i, x i * y i = ((∑ i ∈ range K, a i * b i : ℝ) : EReal) :=
  sums (fun i => a i * b i) fun i => by rw [hx, hy, ← EReal.coe_mul]

theorem later_dot (f : ℕ → ℝ) (n c : ℕ) : ∑ u ∈ range n, f u * (if c < u then 1 else 0) = ∑ u ∈ Ico (c + 1) n, f u := by
  simp only [mul_ite, mul_one, mul_zero]
  rw [← sum_filter]
  exact sum_congr (by ext u; simp only [mem_filter, mem_range, mem_Ico]; omega) fun _ _ => rfl

theorem earlier_dot (f : ℕ → ℝ) (n c : ℕ) (h : c ≤ n) : ∑ u ∈ range n, f u * (if u < c then 1 else 0) = ∑ u ∈ range c, f u := by
  simp only [mul_ite, mul_one, mul_zero]
  rw [← sum_filter]
  exact sum_congr (by ext u; simp only [mem_filter, mem_range]; omega) fun _ _ => rfl

/-- What follows a column of the lower half of a block, and of the upper. -/
theorem later_lo (f : ℕ → ℝ) (c : ℕ) (h : c < 256) (e : ℝ) :
    ∑ u ∈ range 256, f u * (if c < u then 1 else 0) + (e + ∑ u ∈ range 256, f (256 + u)) = ∑ u ∈ Ico (c + 1) 512, f u + e := by
  rw [later_dot, ← sum_Ico_consecutive f (show c + 1 ≤ 256 by omega) (show 256 ≤ 512 by omega), sum_Ico_eq_sum_range f 256 512]
  ring

theorem later_hi (f : ℕ → ℝ) (c : ℕ) (h : ¬ c < 256) (e : ℝ) :
    ∑ u ∈ range 256, f (256 + u) * (if c - 256 < u then 1 else 0) + e = ∑ u ∈ Ico (c + 1) 512, f u + e := by
  rw [later_dot (fun u => f (256 + u))]
  have e1 := sum_Ico_add' f (c - 256 + 1) 256 256
  rw [show c - 256 + 1 + 256 = c + 1 by omega] at e1
  rw [← e1]
  simp only [add_comm]

/-- What precedes it. -/
theorem earlier_lo (f : ℕ → ℝ) (c : ℕ) (h : c < 256) (e : ℝ) :
    ∑ u ∈ range 256, f u * (if u < c then 1 else 0) + e = ∑ u ∈ range c, f u + e := by rw [earlier_dot f 256 c (by omega)]

theorem earlier_hi (f : ℕ → ℝ) (c : ℕ) (h : ¬ c < 256) (h' : c < 512) (e : ℝ) :
    ∑ u ∈ range 256, f (256 + u) * (if u < c - 256 then 1 else 0) + (e + ∑ u ∈ range 256, f u) = ∑ u ∈ range c, f u + e := by
  rw [earlier_dot (fun u => f (256 + u)) 256 (c - 256) (by omega)]
  have := sum_range_add f 256 (c - 256)
  rw [show 256 + (c - 256) = c by omega] at this
  rw [this]; ring

end Cert.Spec
end
-- ==== Proof.Pay.lean ====
/- What each stretch of vector operations of the kernel computes on arrays of reals. -/
module

public import proofs.«01_k».proof.Proof.Body
public import proofs.«01_k».proof.Proof.Spec

@[expose] public section

set_option maxRecDepth 16384

noncomputable section

namespace Cert.KernelIdeal.Bwd

open Idealize.ShloMosaic Cert.KernelIdeal.Gen Cert.Spec Finset

/-! ## Words -/

section
variable {α : Type} (a b : ℕ) (x y : α)

theorem sel_slt (ha : a < 2 ^ 31) (hb : b < 2 ^ 31) :
    Scalar.select (IntOp.cmpi .slt (BitVec.ofNat 32 a) (BitVec.ofNat 32 b)) x y = if a < b then x else y := by
  rw [WordCmp.cmpi_slt_ofNat ha hb, WordCmp.select_ofBool]; simp

theorem sel_sgt (ha : a < 2 ^ 31) (hb : b < 2 ^ 31) :
    Scalar.select (IntOp.cmpi .sgt (BitVec.ofNat 32 a) (BitVec.ofNat 32 b)) x y = if b < a then x else y := by
  rw [WordCmp.cmpi_sgt_ofNat ha hb, WordCmp.select_ofBool]; simp

theorem sel_sge (ha : a < 2 ^ 31) (hb : b < 2 ^ 31) :
    Scalar.select (IntOp.cmpi .sge (BitVec.ofNat 32 a) (BitVec.ofNat 32 b)) x y = if b ≤ a then x else y := by
  rw [WordCmp.cmpi_sge_ofNat ha hb, WordCmp.select_ofBool]; simp

theorem sel_eq (ha : a < 2 ^ 32) (hb : b < 2 ^ 32) :
    Scalar.select (IntOp.cmpi .eq (BitVec.ofNat 32 a) (BitVec.ofNat 32 b)) x y = if a = b then x else y := by
  rw [WordCmp.cmpi_eq_ofNat ha hb, WordCmp.select_ofBool]; simp
end

theorem word_ofNat : ∀ k : Fin 15, word k.val = BitVec.ofNat 32 k.val := by decide

/-! ## The logistic -/

theorem lsig {x : EReal} {a : ℝ} (h : x = (a : EReal)) :
    min x 0 - Ideal.log (1 + Ideal.exp (0 - max x (-x))) = ((ls a : ℝ) : EReal) := by
  rw [h, ← EReal.coe_neg, coe_max, coe_zero, coe_min, ← EReal.coe_sub, Ideal.exp_coe, coe_one, ← EReal.coe_add,
    log_coe_pos (one_add_exp_pos _), ← EReal.coe_sub, ls_stable]

variable {z dwv : Vec Ideal S1024x512 .f32} {f f' : ℕ → ℕ → ℝ}

theorem pay8_is (h : Is z f) : Is (k0_pay8 z) fun r c => ls (f r c) := by
  intro r c
  pointwise [k0_pay8]
  exact lsig (h r c)

theorem pay65_is (h : Is z f) : Is (k0_pay65 z) fun r c => ls (f r c) := by
  intro r c
  pointwise [k0_pay65]
  exact lsig (h r c)

theorem exp_is {x : EReal} {a : ℝ} (h : x = (a : EReal)) : Ideal.exp x = ((Real.exp a : ℝ) : EReal) := by rw [h]; rfl

theorem pay9_is (h : Is z f) : Is (k0_pay9 z) fun r c => Real.exp (ls (f r c)) := by
  intro r c
  pointwise [k0_pay9]
  exact exp_is (pay8_is h r c)

theorem pay66_is (h : Is z f) : Is (k0_pay66 z) fun r c => Real.exp (ls (f r c)) := by
  intro r c
  pointwise [k0_pay66]
  exact exp_is (pay65_is h r c)

/-! ## The triangles -/

theorem later_is : Is (later (F := Ideal)) fun r c => if c < r then 1 else 0 := by
  intro r c
  pointwise [later, k0_pay39]
  rw [sel_sgt _ _ _ _ (by omega) (by omega)]
  split_ifs <;> rfl

theorem earlier_is : Is (earlier (F := Ideal)) fun r c => if r < c then 1 else 0 := by
  intro r c
  pointwise [earlier, k0_pay40]
  rw [sel_slt _ _ _ _ (by omega) (by omega)]
  split_ifs <;> rfl

/-! ## A block of weights -/

/-- The sum over the later keys of a block, and the carry from the blocks after it. -/
def post (f : ℕ → ℝ) (c : ℕ) (e : ℝ) : ℝ := ∑ u ∈ Ico (c + 1) 512, f u + e
/-- The sum over the earlier keys, and the carry from the blocks before it. -/
def pre (f : ℕ → ℝ) (c : ℕ) (e : ℝ) : ℝ := ∑ u ∈ range c, f u + e

theorem carry {car : Vec Ideal S1x1x1024x128 .f32} {e : ℕ → ℕ → ℝ}
    (hc : ∀ (r : Fin 1024) (l : Fin 128), car (ix4 0 0 r l) = ((e r.val l.val : ℝ) : EReal)) {k : ℕ} (hk : k < 15) (r : Fin 1024) :
    (∑ x : Fin 128, Scalar.select (IntOp.cmpi CmpIPredicate.eq (BitVec.ofNat 32 x.val) (word k)) (car (ix4 0 0 r x)) 0) = ((e r.val k : ℝ) : EReal) := by
  rw [word_ofNat ⟨k, hk⟩, sum_eq_single (⟨k, by omega⟩ : Fin 128)]
  · rw [sel_eq _ _ _ _ (by omega) (by omega), if_pos rfl]; exact hc r ⟨k, by omega⟩
  · intro b _ hb
    rw [sel_eq _ _ _ _ (by omega) (by omega), if_neg fun he => hb (Fin.ext he)]
  · intro h; exact absurd (mem_univ _) h

theorem pay10_is (h : Is z f) {car : Vec Ideal S1x1x1024x128 .f32} {e : ℕ → ℕ → ℝ}
    (hc : ∀ (r : Fin 1024) (l : Fin 128), car (ix4 0 0 r l) = ((e r.val l.val : ℝ) : EReal)) {k : ℕ} (hk : k < 15) :
    Is (k0_pay10 later lanes (word k) z car) fun r c => Real.exp (ls (f r c) + post (fun u => ls (f r u) - f r u) c (e r k)) := by
  intro r c
  pointwise [k0_pay10]
  rw [carry hc hk]
  have hs : ∀ c : Fin 512, k0_pay8 z (ix2 r c) - z (ix2 r c) = ((ls (f r c) - f r c : ℝ) : EReal) := fun c => by
    rw [pay8_is h, h, ← EReal.coe_sub]
  refine exp_is ?_
  rw [pay8_is h, EReal.coe_add]
  refine congrArg₂ _ rfl ?_
  unfold post
  by_cases h2 : c.val < 256
  · rw [dif_pos h2]
    refine (congrArg₂ (· + ·) (dots (K := 256) (fun u => ls (f r u) - f r u) (fun u => if c.val < u then 1 else 0) (fun i => hs ⟨i.val, by omega⟩) (fun i => later_is _ _))
      (congrArg₂ (· + ·) rfl (sums (K := 256) (fun u => ls (f r (256 + u)) - f r (256 + u)) fun i => hs ⟨256 + i.val, by omega⟩))).trans ?_
    rw [← EReal.coe_add, ← EReal.coe_add, later_lo (fun u => ls (f r u) - f r u) c.val h2]
  · rw [dif_neg h2]
    refine (congrArg₂ (· + ·) (dots (K := 256) (fun u => ls (f r (256 + u)) - f r (256 + u)) (fun u => if c.val - 256 < u then 1 else 0)
      (fun i => hs ⟨256 + i.val, by omega⟩)
      (fun i => later_is _ _)) rfl).trans ?_
    rw [← EReal.coe_add, later_hi (fun u => ls (f r u) - f r u) c.val h2]

theorem pay11_is {k : ℕ} {car : Vec Ideal S1x1x1024x128 .f32} (h : Is (k0_pay10 later lanes (word k) z car) f) (h' : Is dwv f') :
    Is (k0_pay11 later lanes (word k) z dwv car) fun r c => f r c * f' r c := by
  intro r c
  pointwise [k0_pay11]
  rw [h, h', ← EReal.coe_mul]

theorem pay12_is {k : ℕ} {car : Vec Ideal S1x1x1024x128 .f32} (h : Is (k0_pay11 later lanes (word k) z dwv car) f) :
    Is (k0_pay12 later lanes (word k) z dwv car) f := by
  intro r c
  pointwise [k0_pay12]
  exact h _ _

theorem pay13_is {k : ℕ} {car : Vec Ideal S1x1x1024x128 .f32} (h : Is (k0_pay11 later lanes (word k) z dwv car) f) :
    Is (k0_pay13 later lanes (word k) z dwv car) f := by
  intro r c
  pointwise [k0_pay13]
  exact pay12_is h _ _

section
variable {gv : FVec Ideal S1024x512 .f32} {sg : FVec Ideal S1024x512 .f32} {bf : Vec Ideal S1024x1 .f32} {lo : FVec Ideal S1024x256 .f32} {lo' : FVec Ideal S1024x256 .bf16}
  {b : ℕ → ℕ → ℝ} {sgf : ℕ → ℕ → ℝ}

theorem pay14_is (hl : Is lo f) (hb : Is bf b) : Is (k0_pay14 bf lo) fun r c => b r 0 + ∑ u ∈ range 256, f r u := by
  intro r c
  pointwise [k0_pay14]
  rw [sums (fun u => f r u) fun i => hl _ _, hb, ← EReal.coe_add, Fin.eq_zero c]
  rfl

theorem pay16_is (hg : Is gv f) (hl : Is lo f) (hb : Is bf b) : Is (k0_pay16 gv bf lo) fun r c => b r 0 + ∑ u ∈ range 512, f r u := by
  intro r c
  pointwise [k0_pay16, k0_pay15]
  rw [pay14_is hl hb, sums (fun u => f r (256 + u)) fun i => hg _ _, ← EReal.coe_add, add_assoc, ← sum_range_add]

theorem pay17_is (hs : Is sg sgf) (hg : Is gv f) (hl : Is lo f) (hl' : Is lo' f) (hb : Is bf b) :
    Is (k0_pay17 earlier sg gv bf lo lo') fun r c => f r c - sgf r c * (f r c + pre (f r) c (b r 0)) := by
  intro r c
  pointwise [k0_pay17, k0_pay15]
  rw [hs, hg, EReal.coe_sub, EReal.coe_mul, EReal.coe_add]
  refine congrArg₂ _ rfl (congrArg₂ _ rfl (congrArg₂ _ rfl ?_))
  unfold pre
  by_cases h2 : c.val < 256
  · rw [dif_pos h2, dots (fun u => f r u) (fun u => if u < c.val then 1 else 0) (fun i => hl' _ _) (fun i => earlier_is _ _), hb,
      ← EReal.coe_add, ← earlier_lo (f r) c.val h2]
    rfl
  · rw [dif_neg h2, dots (fun u => f r (256 + u)) (fun u => if u < c.val - 256 then 1 else 0) (fun i => hg _ _) (fun i => earlier_is _ _), pay14_is hl hb,
      ← EReal.coe_add, ← earlier_hi (f r) c.val h2 c.isLt]
end

theorem pay18_is {z : FVec Ideal S1024x512 .f32} (h : Is z f) : Is (k0_pay18 (F := Ideal) z) f := by
  intro r c
  pointwise [k0_pay18]
  exact h _ _

/-! ## The products -/

section
variable {qs : FVec Ideal S1024x128 .bf16} {ks : Vec Ideal S512x128 .bf16} {qf kf : ℕ → ℕ → ℝ}

theorem pay19_is (hq : Is qs qf) (hk : Is ks kf) : Is (k0_pay19 qs ks) fun r c => ∑ l ∈ range 128, qf r l * kf c l := by
  intro r c
  pointwise [k0_pay19]
  rw [dots (fun l => qf r l) (fun l => kf c l) (fun i => hq _ _) (fun i => hk _ _)]

theorem pay20_is (hq : Is qs qf) (hk : Is ks kf) : Is (k0_pay20 qs ks) fun r c => ∑ l ∈ range 128, qf r l * kf c l := by
  intro r c
  pointwise [k0_pay20]
  rw [dots (fun l => qf r l) (fun l => kf c l) (fun i => hq _ _) (fun i => hk _ _)]

theorem pay5_is {dzv : Vec Ideal S1024x512 .bf16} {acc : Vec Ideal S1024x128 .f32} {df af : ℕ → ℕ → ℝ} (hd : Is dzv df) (ha : Is acc af) (hk : Is ks kf) :
    Is (k0_pay5 dzv acc ks) fun r l => af r l + ∑ u ∈ range 512, df r u * kf u l := by
  intro r l
  pointwise [k0_pay5]
  rw [ha, dots (fun u => df r u) (fun u => kf u l) (fun i => hd _ _) (fun i => hk _ _), ← EReal.coe_add]

theorem pay59_is {dzv : Vec Ideal S1024x512 .bf16} {acc : Vec Ideal S1024x128 .f32} {df af : ℕ → ℕ → ℝ} (hd : Is dzv df) (ha : Is acc af) (hk : Is ks kf) :
    Is (k0_pay59 dzv acc ks) fun r l => af r l + ∑ u ∈ range 512, df r u * kf u l := by
  intro r l
  pointwise [k0_pay59]
  rw [ha, dots (fun u => df r u) (fun u => kf u l) (fun i => hd _ _) (fun i => hk _ _), ← EReal.coe_add]

theorem pay1_is {dzv : FVec Ideal S1024x512 .bf16} {acc : Vec Ideal S1024x128 .f32} {df af : ℕ → ℕ → ℝ} (hd : Is dzv df) (ha : Is acc af) (hk : Is ks kf) :
    Is (k0_pay1 dzv acc ks) fun r l => af r l + ∑ u ∈ range 512, df r u * kf u l := by
  intro r l
  pointwise [k0_pay1]
  rw [ha, dots (fun u => df r u) (fun u => kf u l) (fun i => hd _ _) (fun i => hk _ _), ← EReal.coe_add]

variable {qt : FVec Ideal S128x1024 .bf16} {dzv : Vec Ideal S1024x512 .bf16} {df cf qtf : ℕ → ℕ → ℝ} {cv : Vec Ideal S128x512 .f32}

theorem pay6_is (hq : Is qt qtf) (hd : Is dzv df) (hc : Is cv cf) :
    Is (k0_pay6 qt dzv cv) fun l c => cf l c + ∑ r ∈ range 1024, qtf l r * df r c := by
  intro l c
  pointwise [k0_pay6]
  rw [hc, dots (fun r => qtf l r) (fun r => df r c) (fun i => hq _ _) (fun i => hd _ _), ← EReal.coe_add]

theorem pay7_is (hq : Is qt qtf) (hd : Is dzv df) (hc : Is cv cf) :
    Is (k0_pay7 qt dzv cv) fun l c => cf l c + ∑ r ∈ range 1024, qtf l r * df r c := by
  intro l c
  pointwise [k0_pay7]
  rw [hc, dots (fun r => qtf l r) (fun r => df r c) (fun i => hq _ _) (fun i => hd _ _), ← EReal.coe_add]

theorem pay62_is (hq : Is qt qtf) (hd : Is dzv df) (hc : Is cv cf) :
    Is (k0_pay62 (k0_pay60 cv) (k0_pay61 qt dzv)) fun l c => cf l c + ∑ r ∈ range 1024, qtf l r * df r c := by
  intro l c
  pointwise [k0_pay62, k0_pay60, k0_pay61]
  rw [hc, dots (fun r => qtf l r) (fun r => df r c) (fun i => hq _ _) (fun i => hd _ _), ← EReal.coe_add]

theorem pay63_is (hq : Is qt qtf) (hd : Is dzv df) (hc : Is cv cf) :
    Is (k0_pay63 qt dzv cv) fun l c => cf l c + ∑ r ∈ range 1024, qtf l r * df r c := by
  intro l c
  pointwise [k0_pay63]
  rw [hc, dots (fun r => qtf l r) (fun r => df r c) (fun i => hq _ _) (fun i => hd _ _), ← EReal.coe_add]

theorem pay2_is (hq : Is qt qtf) (hd : Is dzv df) (hc : Is cv cf) :
    Is (k0_pay2 qt dzv cv) fun l c => cf l c + ∑ r ∈ range 1024, qtf l r * df r c := by
  intro l c
  pointwise [k0_pay2]
  rw [hc, dots (fun r => qtf l r) (fun r => df r c) (fun i => hq _ _) (fun i => hd _ _), ← EReal.coe_add]

theorem pay3_is (hq : Is qt qtf) (hd : Is dzv df) (hc : Is cv cf) :
    Is (k0_pay3 qt dzv cv) fun l c => cf l c + ∑ r ∈ range 1024, qtf l r * df r c := by
  intro l c
  pointwise [k0_pay3]
  rw [hc, dots (fun r => qtf l r) (fun r => df r c) (fun i => hq _ _) (fun i => hd _ _), ← EReal.coe_add]

end

/-! ## The block on the diagonal -/

/-- Whether the key at column `c` comes before the query at row `r`, both in the same block. -/
abbrev before (r c : ℕ) : Prop := c < r % 512

theorem sub_words (r : ℕ) (h : 512 ≤ r) (h' : r < 1024) : IntOp.subi (BitVec.ofNat 32 r) 512#32 = BitVec.ofNat 32 (r - 512) := by
  show BitVec.ofNat 32 r - 512#32 = _
  apply BitVec.eq_of_toNat_eq
  rw [BitVec.toNat_sub, BitVec.toNat_ofNat, BitVec.toNat_ofNat]
  simp only [BitVec.toNat_ofNat]
  omega

theorem sel_mask {α : Type} (r : Fin 1024) (c : Fin 512) (x y : α) :
    Scalar.select (k0_pay64 (ix2 r c)) x y = if before r.val c.val then x else y := by
  pointwise [k0_pay64]
  have e : Scalar.select (IntOp.cmpi CmpIPredicate.sge (BitVec.ofNat 32 r.val) 512#32) (IntOp.subi (BitVec.ofNat 32 r.val) 512#32) (BitVec.ofNat 32 r.val)
      = BitVec.ofNat 32 (r.val % 512) := by
    refine (sel_sge r.val 512 _ _ (by omega) (by omega)).trans ?_
    by_cases h : 512 ≤ r.val
    · rw [if_pos h, show r.val % 512 = r.val - 512 by omega]
      exact sub_words r.val h r.isLt
    · rw [if_neg h, Nat.mod_eq_of_lt (by omega)]
  rw [e]
  exact sel_slt c.val (r.val % 512) _ _ (by omega) (by omega)

theorem pay67_is (h : Is z f) : Is (k0_pay67 z) fun r c => if before r c then ls (f r c) - f r c else 0 := by
  intro r c
  pointwise [k0_pay67]
  rw [sel_mask, pay65_is h, h, ← EReal.coe_sub, coe_zero]
  split_ifs <;> rfl

section
variable {mf : ℕ → ℕ → ℝ}

theorem pay69_is (h : Is (k0_pay67 z) mf) : Is (k0_pay69 later z) fun r c => ∑ u ∈ range 256, mf r (256 + u) * (if c < u then 1 else 0) := by
  intro r c
  pointwise [k0_pay69, k0_pay68]
  exact dots (fun u => mf r (256 + u)) (fun u => if c.val < u then 1 else 0) (fun i => h _ ⟨256 + i.val, by omega⟩) (fun i => later_is _ _)

theorem pay70_is (h : Is (k0_pay67 z) mf) : Is (k0_pay70 z) fun r c => ∑ u ∈ range 256, mf r (256 + u) := by
  intro r c
  pointwise [k0_pay70, k0_pay68]
  exact sums (fun u => mf r (256 + u)) (fun i => h _ ⟨256 + i.val, by omega⟩)

theorem pay71_is (h : Is (k0_pay67 z) mf) : Is (k0_pay71 z) mf := by
  intro r c
  pointwise [k0_pay71]
  exact h _ ⟨c.val, by omega⟩

/-- The weights of the block on the diagonal. -/
def wD (f : ℕ → ℕ → ℝ) (r c : ℕ) : ℝ :=
  if before r c then Real.exp (ls (f r c) + post (fun u => if before r u then ls (f r u) - f r u else 0) c 0) else 0

theorem pay72_is (h : Is z f) :
    Is (k0_pay72 later k0_pay64 (k0_pay65 z) (k0_pay69 later z) (k0_pay70 z) (k0_pay71 z) (constant S1024x256 .f32 0x00000000#32)) (wD f) := by
  intro r c
  pointwise [k0_pay72]
  rw [sel_mask]
  unfold wD
  by_cases hb : before r.val c.val
  · rw [if_pos hb, if_pos hb]
    refine exp_is ?_
    rw [pay65_is h, EReal.coe_add]
    refine congrArg₂ _ rfl ?_
    unfold post
    have hm := pay67_is h
    by_cases h2 : c.val < 256
    · rw [dif_pos h2]
      refine (congrArg₂ (· + ·) (dots (K := 256) (fun u => if before r u then ls (f r u) - f r u else 0) (fun u => if c.val < u then 1 else 0) (fun i => pay71_is hm _ _) (fun i => later_is _ _)) (pay70_is hm _ _)).trans ?_
      rw [← EReal.coe_add, ← later_lo _ c.val h2]
      exact congrArg _ (congrArg₂ _ rfl (zero_add _).symm)
    · rw [dif_neg h2]
      refine (pay69_is hm _ _).trans ?_
      rw [← later_hi _ c.val h2, add_zero]
  · rw [if_neg hb, if_neg hb]; rfl

theorem pay79_is (h : Is z f) :
    Is (k0_pay79 later k0_pay64 (k0_pay65 z) (k0_pay69 later z) (k0_pay70 z) (k0_pay71 z) (constant S1024x256 .f32 0x00000000#32)) (wD f) := by
  intro r c
  pointwise [k0_pay79]
  exact pay72_is h _ _

theorem pay78_is {bf : Vec Ideal S1024x1 .f32} {b : ℕ → ℕ → ℝ} (h : Is z f) (h' : Is dwv f') (hb : Is bf b) :
    Is (k0_pay78 later earlier dwv k0_pay64 (k0_pay65 z) (k0_pay66 z) (k0_pay69 later z) (k0_pay70 z) (k0_pay71 z) (constant S1024x256 .f32 0x00000000#32) bf)
      fun r c => if before r c then wD f r c * f' r c - Real.exp (ls (f r c)) * (wD f r c * f' r c + pre (fun u => wD f r u * f' r u) c (b r 0)) else 0 := by
  intro r c
  pointwise [k0_pay78, k0_pay75, k0_pay74, k0_pay76, k0_pay73]
  rw [sel_mask]
  by_cases hb' : before r.val c.val
  · rw [if_pos hb', if_pos hb']
    have hg : ∀ c : Fin 512, k0_pay72 later k0_pay64 (k0_pay65 z) (k0_pay69 later z) (k0_pay70 z) (k0_pay71 z) (constant S1024x256 .f32 0x00000000#32) (ix2 r c)
        * dwv (ix2 r c) = ((wD f r c * f' r c : ℝ) : EReal) := fun c => by rw [pay72_is h, h', ← EReal.coe_mul]
    refine Eq.trans (congrArg₂ (· - ·) (hg c) (congrArg₂ (· * ·) (pay66_is h _ _) (congrArg₂ (· + ·) (hg c)
      (y' := ((pre (fun u => wD f r u * f' r u) c.val (b r 0) : ℝ) : EReal)) ?_))) (by rw [← EReal.coe_add, ← EReal.coe_mul, ← EReal.coe_sub])
    unfold pre
    by_cases h2 : c.val < 256
    · rw [dif_pos h2]
      refine (congrArg₂ (· + ·) (dots (K := 256) (fun u => wD f r u * f' r u) (fun u => if u < c.val then 1 else 0) (fun i => hg ⟨i.val, by omega⟩)
        (fun i => earlier_is _ _)) (hb _ _)).trans ?_
      rw [← EReal.coe_add, ← earlier_lo (fun u => wD f r u * f' r u) c.val h2]
      rfl
    · rw [dif_neg h2]
      refine (congrArg₂ (· + ·) (dots (K := 256) (fun u => wD f r (256 + u) * f' r (256 + u)) (fun u => if u < c.val - 256 then 1 else 0)
        (fun i => hg ⟨256 + i.val, by omega⟩) (fun i => earlier_is _ _)) (congrArg₂ (· + ·) (hb _ _) (sums (K := 256) (fun u => wD f r u * f' r u)
          fun i => hg ⟨i.val, by omega⟩))).trans ?_
      rw [← EReal.coe_add, ← EReal.coe_add, ← earlier_hi (fun u => wD f r u * f' r u) c.val h2 c.isLt]
      rfl
  · rw [if_neg hb', if_neg hb']; rfl
end

/-! ## The two heads stacked -/

section
variable {q d : Vec Ideal S512x128 .bf16} {qf df : ℕ → ℕ → ℝ}

/-- Two heads' rows, one after the other, each on its own half of the lanes. -/
def stack (f : ℕ → ℕ → ℝ) (r l : ℕ) : ℝ := if l / 64 = r / 512 then f (r % 512) l else 0

theorem pay41_is (hq : Is q qf) : Is (k0_pay41 q) (stack fun r l => qf r l / 8) := by
  intro r l
  pointwise [k0_pay41]
  unfold stack
  by_cases h : r.val < 512
  · have e : r.val / 512 = 0 := by omega
    rw [dif_pos h, e]
    refine (sel_slt l.val 64 _ _ (by omega) (by omega)).trans ?_
    by_cases h2 : l.val < 64
    · rw [if_pos h2, if_pos (by omega)]
      refine (congrArg₂ (· * ·) (hq ⟨r.val, h⟩ l) eighth).trans ?_
      rw [← EReal.coe_mul, mul_one_div, Nat.mod_eq_of_lt h]
    · rw [if_neg h2, if_neg (by omega)]; rfl
  · have e : r.val / 512 = 1 := by omega
    rw [dif_neg h, e]
    refine (sel_sge l.val 64 _ _ (by omega) (by omega)).trans ?_
    by_cases h2 : 64 ≤ l.val
    · rw [if_pos h2, if_pos (show l.val / 64 = 1 by omega)]
      refine (congrArg₂ (· * ·) (hq ⟨r.val - 512, by omega⟩ l) eighth).trans ?_
      rw [← EReal.coe_mul, mul_one_div, show r.val % 512 = r.val - 512 by omega]
    · rw [if_neg h2, if_neg (by omega)]; rfl

theorem dos_is (hd : Is d df) : Is (dos d) (stack df) := by
  intro r l
  pointwise [dos, k0_pay45, k0_pay43, k0_pay44, k0_pay42]
  unfold stack
  by_cases h : r.val < 512
  · have e : r.val / 512 = 0 := by omega
    rw [dif_pos h, e]
    refine (sel_slt l.val 64 _ _ (by omega) (by omega)).trans ?_
    by_cases h2 : l.val < 64
    · rw [if_pos h2, if_pos (by omega)]
      rw [Nat.mod_eq_of_lt h]; exact hd ⟨r.val, h⟩ l
    · rw [if_neg h2, if_neg (by omega)]; rfl
  · have e : r.val / 512 = 1 := by omega
    rw [dif_neg h, e]
    refine (sel_sge l.val 64 _ _ (by omega) (by omega)).trans ?_
    by_cases h2 : 64 ≤ l.val
    · rw [if_pos h2, if_pos (show l.val / 64 = 1 by omega), show r.val % 512 = r.val - 512 by omega]; exact hd ⟨r.val - 512, by omega⟩ l
    · rw [if_neg h2, if_neg (by omega)]; rfl

theorem pay46_is {x : FVec Ideal S1024x128 .bf16} (h : Is x f) : Is (k0_pay46 x) fun l r => f r l := by
  intro l r
  pointwise [k0_pay46]
  exact h _ _

theorem dosT_is (hd : Is d df) : Is (dosT d) fun l r => stack df r l := by
  intro l r
  pointwise [dosT, k0_pay47]
  exact dos_is hd _ _

theorem pay4_is {a : Vec Ideal S1024x128 .f32} (h : Is a f) : Is (k0_pay4 a) fun r l => f (512 * (l / 64) + r) l / 8 := by
  intro r l
  pointwise [k0_pay4]
  refine (congrArg₂ (· * ·) (sel_slt l.val 64 _ _ (by omega) (by omega)) eighth).trans ?_
  by_cases h2 : l.val < 64
  · rw [if_pos h2]
    refine (congrArg (· * _) (h ⟨r.val, by omega⟩ l)).trans ?_
    rw [← EReal.coe_mul, mul_one_div, show l.val / 64 = 0 by omega, Nat.mul_zero, Nat.zero_add]
  · rw [if_neg h2]
    refine (congrArg (· * _) (h ⟨512 + r.val, by omega⟩ l)).trans ?_
    rw [← EReal.coe_mul, mul_one_div, show l.val / 64 = 1 by omega]

end
end Cert.KernelIdeal.Bwd
end
-- ==== Proof.Loop.lean ====
/- What one grid point computes on arrays of reals: the loop over the key blocks by its invariant, and the block on the
   diagonal. -/
module

public import proofs.«01_k».proof.Proof.Pay

@[expose] public section

set_option maxRecDepth 16384

noncomputable section

namespace Cert.KernelIdeal.Bwd

open Idealize.ShloMosaic Cert.KernelIdeal.Gen Cert.Spec Finset

/-! ## Blocks of rows and of columns -/

theorem rows_is {x : Vec Ideal S8192x128 .bf16} {f : ℕ → ℕ → ℝ} (h : Is x f) {j : ℕ} (hj : j ≤ 15) :
    Is (rows x j) fun r l => f (512 * j + r) l := by
  intro r l
  refine Eq.trans (congrArg x (?_ : _ = ix2 (⟨512 * j + r.val, by omega⟩ : Fin 8192) l)) (h _ _)
  funext a
  apply Fin.ext
  fin_cases a
  · show 512 * min j 15 + 1 * r.val = 512 * j + r.val; omega
  · show 0 + 1 * l.val = l.val; omega

theorem cols_is {x : Vec Ideal S128x8192 .f32} {f : ℕ → ℕ → ℝ} (h : Is x f) {j : ℕ} (hj : j ≤ 15) :
    Is (cols x j) fun l c => f l (512 * j + c) := by
  intro l c
  refine Eq.trans (congrArg x (?_ : _ = ix2 l (⟨512 * j + c.val, by omega⟩ : Fin 8192))) (h _ _)
  funext a
  apply Fin.ext
  fin_cases a
  · show 0 + 1 * l.val = l.val; omega
  · show 512 * min j 15 + 1 * c.val = 512 * j + c.val; omega

theorem setCols_is {x : Vec Ideal S128x8192 .f32} {w : Vec Ideal S128x512 .f32} {f g : ℕ → ℕ → ℝ} (h : Is x f) (hw : Is w g) {j : ℕ} (hj : j ≤ 15) :
    Is (setCols x j w) fun l s => if s / 512 = j then g l (s - 512 * j) else f l s := by
  intro l s
  show (if h : _ then w _ else x _) = (((if s.val / 512 = j then g l.val (s.val - 512 * j) else f l.val s.val : ℝ)) : EReal)
  by_cases hs : s.val / 512 = j
  · rw [if_pos hs, dif_pos (by
      intro a; fin_cases a
      · show 0 ≤ l.val ∧ l.val < 0 + 128; omega
      · show 512 * min j 15 ≤ s.val ∧ s.val < 512 * min j 15 + 512; omega)]
    refine Eq.trans (congrArg w (?_ : _ = ix2 l (⟨s.val - 512 * j, by omega⟩ : Fin 512))) (hw _ _)
    funext a
    apply Fin.ext
    fin_cases a
    · show l.val - 0 = l.val; omega
    · show s.val - 512 * min j 15 = s.val - 512 * j; omega
  · rw [if_neg hs, dif_neg (by
      intro ha
      have h1 : 512 * min j 15 ≤ s.val ∧ s.val < 512 * min j 15 + 512 := ha 1
      omega)]
    exact h _ _

/-! ## One grid point -/

/-- One head of a pair. -/
def half (x : ℕ → ℕ → ℝ) (e t d : ℕ) : ℝ := x t (64 * e + d)

section
variable (qq kk vv oo : ℕ → ℕ → ℝ) (i : ℕ)

/-- The scores, weights and cotangents of the stacked rows of a query block. -/
def Z (r s : ℕ) : ℝ := Spec.z (half qq (r / 512)) (half kk (r / 512)) (512 * i + r % 512) s
def DW (r s : ℕ) : ℝ := Spec.dw (half vv (r / 512)) (half oo (r / 512)) (512 * i + r % 512) s
def LK (r s : ℕ) : ℝ := Spec.lk (half qq (r / 512)) (half kk (r / 512)) (512 * i + r % 512) s
def W (r s : ℕ) : ℝ := Spec.w (half qq (r / 512)) (half kk (r / 512)) (512 * i + r % 512) s
def G (r s : ℕ) : ℝ := Spec.g (half qq (r / 512)) (half kk (r / 512)) (half vv (r / 512)) (half oo (r / 512)) (512 * i + r % 512) s
def DZ (r s : ℕ) : ℝ := Spec.dz (half qq (r / 512)) (half kk (r / 512)) (half vv (r / 512)) (half oo (r / 512)) (512 * i + r % 512) s

/-- The block's queries, scaled, and its cotangents, stacked. -/
def QS : ℕ → ℕ → ℝ := stack fun r l => qq (512 * i + r) l / 8
def OS : ℕ → ℕ → ℝ := stack fun r l => oo (512 * i + r) l

theorem stack_dot (f g : ℕ → ℕ → ℝ) (r s : ℕ) (hr : r < 1024) :
    ∑ l ∈ range 128, stack f r l * g s l = ∑ d ∈ range 64, f (r % 512) (64 * (r / 512) + d) * g s (64 * (r / 512) + d) := by
  rw [← sum_half (r / 512) (by omega) fun l => f (r % 512) l * g s l]
  refine sum_congr rfl fun l _ => ?_
  unfold stack
  split_ifs <;> simp

theorem z_dot (r s : ℕ) (hr : r < 1024) : ∑ l ∈ range 128, QS qq i r l * kk s l = Z qq kk i r s := stack_dot _ kk r s hr
theorem dw_dot (r s : ℕ) (hr : r < 1024) : ∑ l ∈ range 128, OS oo i r l * vv s l = DW vv oo i r s := stack_dot _ vv r s hr

/-- The keys after one of a block: those of the block, and the blocks after it. -/
theorem tail_block (r j c : ℕ) (hj : j < 16) (hc : c < 512) :
    Spec.tail (half qq (r / 512)) (half kk (r / 512)) (512 * i + r % 512) (512 * j + c)
      = ∑ u ∈ Ico (c + 1) 512, LK qq kk i r (512 * j + u) + ∑ u ∈ Ico (512 * (j + 1)) 8192, LK qq kk i r u := by
  have e := sum_Ico_add' (LK qq kk i r) (c + 1) 512 (512 * j)
  simp only [add_comm _ (512 * j)] at e
  rw [e, show 512 * (j + 1) = 512 * j + 512 by ring]
  exact (sum_Ico_consecutive (LK qq kk i r) (show 512 * j + (c + 1) ≤ 512 * j + 512 by omega) (show 512 * j + 512 ≤ 8192 by omega)).symm

theorem lk_lt (r u : ℕ) (h : u < 512 * i + r % 512) : LK qq kk i r u = ls (Z qq kk i r u) - Z qq kk i r u := if_pos h
theorem lk_ge (r u : ℕ) (h : ¬ u < 512 * i + r % 512) : LK qq kk i r u = 0 := if_neg h
theorem w_ge (r u : ℕ) (h : ¬ u < 512 * i + r % 512) : W qq kk i r u = 0 := if_neg h
theorem dz_ge (r u : ℕ) (h : ¬ u < 512 * i + r % 512) : DZ qq kk vv oo i r u = 0 := if_neg h

/-- The weights of a block before the diagonal one, -/
theorem w_off (r j c : ℕ) (hj : j < i) (hi : i < 16) (hc : c < 512) :
    Real.exp (ls (Z qq kk i r (512 * j + c)) + post (fun u => ls (Z qq kk i r (512 * j + u)) - Z qq kk i r (512 * j + u)) c
      (∑ u ∈ Ico (512 * (j + 1)) 8192, LK qq kk i r u)) = W qq kk i r (512 * j + c) := by
  unfold W Spec.w
  rw [if_pos (by omega), tail_block qq kk i r j c (by omega) hc]
  refine congrArg Real.exp (congrArg₂ _ rfl (congrArg₂ _ (sum_congr rfl fun u hu => ?_) rfl))
  have := (mem_Ico.1 hu).2
  exact (lk_lt qq kk i r _ (by omega)).symm

/-- and of the diagonal one. -/
theorem w_diag (r c : ℕ) (hi : i < 16) (hc : c < 512) : wD (fun r c => Z qq kk i r (512 * i + c)) r c = W qq kk i r (512 * i + c) := by
  unfold wD W Spec.w
  by_cases h : before r c
  · have h' : c < r % 512 := h
    rw [if_pos h, if_pos (by omega), tail_block qq kk i r i c hi hc]
    refine congrArg Real.exp (congrArg₂ _ rfl (congrArg₂ _ (sum_congr rfl fun u hu => ?_) (sum_eq_zero fun u hu => ?_).symm))
    · by_cases hb : before r u
      · have hb' : u < r % 512 := hb
        refine (if_pos hb).trans ?_
        rw [lk_lt qq kk i r _ (by omega)]
      · have hb' : ¬ u < r % 512 := hb
        refine (if_neg hb).trans ?_
        rw [lk_ge qq kk i r _ (by omega)]
    · have := (mem_Ico.1 hu).1
      exact lk_ge qq kk i r _ (by omega)
  · have h' : ¬ c < r % 512 := h
    rw [if_neg h, if_neg (by omega)]

theorem bef_block (r j c : ℕ) : Spec.bef (half qq (r / 512)) (half kk (r / 512)) (half vv (r / 512)) (half oo (r / 512)) (512 * i + r % 512) (512 * j + c)
    = pre (fun u => G qq kk vv oo i r (512 * j + u)) c (∑ u ∈ range (512 * j), G qq kk vv oo i r u) := by
  unfold Spec.bef pre
  rw [sum_range_add, add_comm]
  rfl

theorem dz_lt (r j c : ℕ) (h : 512 * j + c < 512 * i + r % 512) :
    DZ qq kk vv oo i r (512 * j + c) = G qq kk vv oo i r (512 * j + c) - Real.exp (ls (Z qq kk i r (512 * j + c))) * (G qq kk vv oo i r (512 * j + c)
      + pre (fun u => G qq kk vv oo i r (512 * j + u)) c (∑ u ∈ range (512 * j), G qq kk vv oo i r u)) := by
  unfold DZ Spec.dz
  rw [if_pos h, bef_block]
  rfl

/-- What holds of the buffers after `j` blocks. -/
structure Inv (dkf dvf : ℕ → ℕ → ℝ) (j : ℕ) (s : St Ideal) : Prop where
  z : Is s.z fun r c => Z qq kk i r (512 * j + c)
  dw : Is s.dw fun r c => DW vv oo i r (512 * j + c)
  bef : Is s.bef fun r _ => ∑ u ∈ range (512 * j), G qq kk vv oo i r u
  dz : Is s.dz fun r c => if j = 0 then 0 else DZ qq kk vv oo i r (512 * (j - 1) + c)
  w : Is s.w fun r c => if j = 0 then 0 else W qq kk i r (512 * (j - 1) + c)
  acc : Is s.acc fun r l => ∑ u ∈ range (512 * (j - 1)), DZ qq kk vv oo i r u * kk u l
  dk : Is s.dk fun l u => dkf l u + if u < 512 * (j - 1) then ∑ r ∈ range 1024, QS qq i r l * DZ qq kk vv oo i r u else 0
  dv : Is s.dv fun l u => dvf l u + if u < 512 * (j - 1) then ∑ r ∈ range 1024, OS oo i r l * W qq kk i r u else 0

/-- A block of columns gathered. -/
theorem gather (f : ℕ → ℕ → ℝ) (a : ℕ → ℕ → ℝ) (h : ℕ → ℕ → ℝ) (j l s : ℕ) :
    (if s / 512 = j - 1 then (fun l c => (fun l u => f l u + if u < 512 * (j - 1) then ∑ r ∈ range 1024, a r l * h r u else 0) l (512 * (j - 1) + c)
        + ∑ r ∈ range 1024, a r l * (if j = 0 then 0 else h r (512 * (j - 1) + c))) l (s - 512 * (j - 1))
      else f l s + if s < 512 * (j - 1) then ∑ r ∈ range 1024, a r l * h r s else 0)
    = f l s + if s < 512 * j then ∑ r ∈ range 1024, a r l * h r s else 0 := by
  by_cases hs : s / 512 = j - 1
  · have e : 512 * (j - 1) + (s - 512 * (j - 1)) = s := by omega
    simp only [if_pos hs, e, if_neg (show ¬ s < 512 * (j - 1) by omega), add_zero]
    by_cases hj : j = 0
    · subst hj; simp
    · simp only [if_neg hj, if_pos (show s < 512 * j by omega)]
  · rw [if_neg hs]
    by_cases h1 : s < 512 * (j - 1)
    · rw [if_pos h1, if_pos (show s < 512 * j by omega)]
    · rw [if_neg h1, if_neg (show ¬ s < 512 * j by omega)]

theorem gather_acc (h : ℕ → ℕ → ℝ) (k : ℕ → ℕ → ℝ) (j r l : ℕ) :
    ∑ u ∈ range (512 * (j - 1)), h r u * k u l + ∑ u ∈ range 512, (if j = 0 then 0 else h r (512 * (j - 1) + u)) * k (512 * (j - 1) + u) l
      = ∑ u ∈ range (512 * j), h r u * k u l := by
  by_cases hj : j = 0
  · subst hj; simp
  · simp only [if_neg hj]
    rw [← sum_range_add (fun u => h r u * k u l), show 512 * (j - 1) + 512 = 512 * j by omega]

end

section
variable {qq kk vv oo : ℕ → ℕ → ℝ} {i : ℕ} {K V : Vec Ideal S8192x128 .bf16} {q d : Vec Ideal S512x128 .bf16} {car : Vec Ideal S1x1x1024x128 .f32}
  {dk dv : Vec Ideal S128x8192 .f32} {dkf dvf : ℕ → ℕ → ℝ} {e : ℕ → ℕ → ℝ}

theorem zero_is (n m : ℕ) (x : (⟨2, ![n, m]⟩ : Shape).Idx → EReal) (h : ∀ r c, x (ix2 r c) = 0) {f : ℕ → ℕ → ℝ} (hf : ∀ r c, r < n → c < m → f r c = 0) : Is x f :=
  fun r c => by rw [h, hf _ _ r.isLt c.isLt]; rfl

theorem start_inv (hq : Is q fun r l => qq (512 * i + r) l) (hd : Is d fun r l => oo (512 * i + r) l) (hK : Is K kk) (hV : Is V vv)
    (hdk : Is dk dkf) (hdv : Is dv dvf) : Inv qq kk vv oo i dkf dvf 0 (start K V q d dk dv) where
  z := by
    intro r c
    show k0_pay53 (k0_pay41 q) (rows K 0) (ix2 r c) = _
    pointwise [k0_pay53]
    rw [dots (fun l => QS qq i r l) (fun l => kk (512 * 0 + c) l) (fun l => pay41_is hq _ _) (fun l => rows_is hK (by omega) _ _), z_dot _ _ _ _ _ r.isLt, mul_zero, zero_add]
  dw := by
    intro r c
    show k0_pay54 (k0_pay52 (k0_pay43 d) (k0_pay44 d) (rows V 0)) (ix2 r c) = _
    pointwise [k0_pay54, k0_pay52]
    rw [dots (fun l => OS oo i r l) (fun l => vv (512 * 0 + c) l) (fun l => dos_is hd _ _) (fun l => rows_is hV (by omega) _ _), dw_dot _ _ _ _ _ r.isLt, mul_zero, zero_add]
  bef := zero_is _ _ _ (fun r c => by show k0_pay49 (ix2 r c) = 0; pointwise [k0_pay49]) fun r c _ _ => by simp
  dz := zero_is _ _ _ (fun r c => by show k0_pay50 (ix2 r c) = 0; pointwise [k0_pay50]) fun r c _ _ => by simp
  w := zero_is _ _ _ (fun r c => by show k0_pay51 (ix2 r c) = 0; pointwise [k0_pay51]) fun r c _ _ => by simp
  acc := zero_is _ _ _ (fun r c => by show k0_pay48 (ix2 r c) = 0; pointwise [k0_pay48]) fun r c _ _ => by simp
  dk := hdk.congr fun r c _ _ => by simp
  dv := hdv.congr fun r c _ _ => by simp

theorem step_inv (hi : i < 16) (hq : Is q fun r l => qq (512 * i + r) l) (hd : Is d fun r l => oo (512 * i + r) l) (hK : Is K kk) (hV : Is V vv)
    (hc : ∀ (r : Fin 1024) (l : Fin 128), car (ix4 0 0 r l) = ((e r.val l.val : ℝ) : EReal))
    (he : ∀ r l, r < 1024 → l < 15 → e r l = ∑ u ∈ Ico (512 * (l + 1)) 8192, LK qq kk i r u) {j : ℕ} (hj : j < i) {s : St Ideal}
    (h : Inv qq kk vv oo i dkf dvf j s) :
    Inv qq kk vv oo i dkf dvf (j + 1)
      (step K V car later earlier (k0_pay41 q) (dos d) lanes (k0_pay46 (k0_pay41 q)) (dosT d) j s) := by
  have hw : Is (k0_pay10 later lanes (word j) s.z car) fun r c => W qq kk i r (512 * j + c) :=
    (pay10_is h.z hc (show j < 15 by omega)).congr fun r c hr hc' => by
      rw [he r j hr (by omega)]; exact w_off qq kk i r j c hj hi hc'
  have hg : Is (k0_pay11 later lanes (word j) s.z s.dw car) fun r c => G qq kk vv oo i r (512 * j + c) := pay11_is hw h.dw
  exact {
    z := by
      intro r c
      show k0_pay55 (k0_pay19 (k0_pay41 q) (rows K (j + 1))) (ix2 r c) = _
      pointwise [k0_pay55]
      rw [pay19_is (pay41_is hq) (rows_is hK (show j + 1 ≤ 15 by omega))]
      exact congrArg _ (z_dot qq kk i r _ r.isLt)
    dw := by
      intro r c
      show k0_pay56 (k0_pay20 (dos d) (rows V (j + 1))) (ix2 r c) = _
      pointwise [k0_pay56]
      rw [pay20_is (dos_is hd) (rows_is hV (show j + 1 ≤ 15 by omega))]
      exact congrArg _ (dw_dot vv oo i r _ r.isLt)
    bef := (pay16_is hg (pay12_is hg) h.bef).congr fun r c _ _ => by
      rw [show 512 * (j + 1) = 512 * j + 512 by ring, sum_range_add]
    dz := (pay17_is (pay9_is h.z) hg (pay12_is hg) (pay13_is hg) h.bef).congr fun r c _ hc' => by
      rw [if_neg (Nat.succ_ne_zero j), Nat.add_sub_cancel, dz_lt qq kk vv oo i r j c (by omega)]
    w := (pay18_is hw).congr fun r c _ _ => by rw [if_neg (Nat.succ_ne_zero j), Nat.add_sub_cancel]
    acc := (pay5_is h.dz h.acc (rows_is hK (show j - 1 ≤ 15 by omega))).congr fun r l _ _ => by
      rw [Nat.add_sub_cancel]; exact gather_acc (DZ qq kk vv oo i) kk j r l
    dk := (setCols_is h.dk (pay6_is (pay46_is (pay41_is hq)) h.dz (cols_is h.dk (show j - 1 ≤ 15 by omega))) (show j - 1 ≤ 15 by omega)).congr
      fun l u _ _ => by rw [Nat.add_sub_cancel]; exact gather dkf (QS qq i) (DZ qq kk vv oo i) j l u
    dv := (setCols_is h.dv (pay7_is (dosT_is hd) h.w (cols_is h.dv (show j - 1 ≤ 15 by omega))) (show j - 1 ≤ 15 by omega)).congr
      fun l u _ _ => by rw [Nat.add_sub_cancel]; exact gather dvf (OS oo i) (W qq kk i) j l u }

theorem mid_inv (hi : i < 16) (hq : Is q fun r l => qq (512 * i + r) l) (hd : Is d fun r l => oo (512 * i + r) l) (hK : Is K kk) (hV : Is V vv)
    (hc : ∀ (r : Fin 1024) (l : Fin 128), car (ix4 0 0 r l) = ((e r.val l.val : ℝ) : EReal))
    (he : ∀ r l, r < 1024 → l < 15 → e r l = ∑ u ∈ Ico (512 * (l + 1)) 8192, LK qq kk i r u) (hdk : Is dk dkf) (hdv : Is dv dvf) :
    ∀ j ≤ i, Inv qq kk vv oo i dkf dvf j (mid K V car q d dk dv j)
  | 0, _ => start_inv hq hd hK hV hdk hdv
  | j + 1, h => step_inv hi hq hd hK hV hc he (by omega) (mid_inv hi hq hd hK hV hc he hdk hdv j (by omega))

/-! ## The block on the diagonal -/

variable {s : St Ideal}

theorem wd_is (hi : i < 16) (h : Inv qq kk vv oo i dkf dvf i s) : Is (wd s) fun r c => W qq kk i r (512 * i + c) :=
  (pay79_is h.z).congr fun r c _ hc => w_diag qq kk i r c hi hc

theorem dzd_is (hi : i < 16) (h : Inv qq kk vv oo i dkf dvf i s) : Is (dzd s) fun r c => DZ qq kk vv oo i r (512 * i + c) :=
  (pay78_is h.z h.dw h.bef).congr fun r c _ hc => by
    have e : ∀ c, c < 512 → wD (fun r c => Z qq kk i r (512 * i + c)) r c * DW vv oo i r (512 * i + c) = G qq kk vv oo i r (512 * i + c) := fun c hc => by
      rw [w_diag qq kk i r c hi hc]; rfl
    by_cases hb : before r c
    · have hb' : c < r % 512 := hb
      rw [if_pos hb, dz_lt qq kk vv oo i r i c (by omega), e c hc]
      refine congrArg₂ _ rfl (congrArg₂ _ rfl (congrArg₂ _ rfl (congrArg₂ _ (sum_congr rfl fun u hu => e u ?_) rfl)))
      have := mem_range.1 hu; omega
    · have hb' : ¬ c < r % 512 := hb
      rw [if_neg hb, dz_ge qq kk vv oo i r _ (by omega)]

theorem acc2_is (hi : i < 16) (hK : Is K kk) (h : Inv qq kk vv oo i dkf dvf i s) :
    Is (acc2 K i s) fun r l => ∑ u ∈ range 8192, DZ qq kk vv oo i r u * kk u l :=
  (pay1_is (dzd_is hi h) (pay59_is h.dz h.acc (rows_is hK (show i - 1 ≤ 15 by omega))) (rows_is hK (show i ≤ 15 by omega))).congr fun r l _ _ => by
    refine (congrArg₂ (· + ·) (gather_acc (DZ qq kk vv oo i) kk i r l) rfl).trans ?_
    rw [← sum_range_add (fun u => DZ qq kk vv oo i r u * kk u l)]
    refine sum_subset (range_mono (by omega)) fun u _ hu => ?_
    have := mt mem_range.2 hu
    rw [dz_ge qq kk vv oo i r u (by omega), zero_mul]

/-- The gradient of the block's queries. -/
theorem dqOut_is (hi : i < 16) (hK : Is K kk) (h : Inv qq kk vv oo i dkf dvf i s) :
    Is (dqOut K i s) fun r l => Spec.dq (half qq (l / 64)) (half kk (l / 64)) (half vv (l / 64)) (half oo (l / 64)) (512 * i + r) (l % 64) :=
  (pay4_is (acc2_is hi hK h)).congr fun r l hr hl => by
    have e1 : (512 * (l / 64) + r) / 512 = l / 64 := by omega
    have e2 : (512 * (l / 64) + r) % 512 = r := by omega
    have e3 : 64 * (l / 64) + l % 64 = l := by omega
    unfold Spec.dq DZ half
    rw [e1, e2, e3]

/-- A last block of columns gathered, after which nothing is left. -/
theorem gather_last (f : ℕ → ℕ → ℝ) (a : ℕ → ℕ → ℝ) (h : ℕ → ℕ → ℝ) (l s : ℕ) (hz : ∀ r u, 512 * (i + 1) ≤ u → h r u = 0) :
    (if s / 512 = i then (fun l c => (fun l u => f l u + if u < 512 * i then ∑ r ∈ range 1024, a r l * h r u else 0) l (512 * i + c)
        + ∑ r ∈ range 1024, a r l * h r (512 * i + c)) l (s - 512 * i)
      else f l s + if s < 512 * i then ∑ r ∈ range 1024, a r l * h r s else 0)
    = f l s + ∑ r ∈ range 1024, a r l * h r s := by
  by_cases hs : s / 512 = i
  · have e : 512 * i + (s - 512 * i) = s := by omega
    simp only [if_pos hs, e, if_neg (show ¬ s < 512 * i by omega), add_zero]
  · rw [if_neg hs]
    by_cases h1 : s < 512 * i
    · rw [if_pos h1]
    · rw [if_neg h1, sum_eq_zero fun r _ => by rw [hz r s (by omega), mul_zero]]

/-- The gathered gradients of the keys and values after the point. -/
theorem dk2_is (hi : i < 16) (hq : Is q fun r l => qq (512 * i + r) l) (h : Inv qq kk vv oo i dkf dvf i s) :
    Is (dk2 q i s) fun l u => dkf l u + ∑ r ∈ range 1024, QS qq i r l * DZ qq kk vv oo i r u := by
  have h1 : Is (dk1 q i s) fun l u => dkf l u + if u < 512 * i then ∑ r ∈ range 1024, QS qq i r l * DZ qq kk vv oo i r u else 0 :=
    (setCols_is h.dk (pay62_is (pay46_is (pay41_is hq)) h.dz (cols_is h.dk (show i - 1 ≤ 15 by omega))) (show i - 1 ≤ 15 by omega)).congr
      fun l u _ _ => gather dkf (QS qq i) (DZ qq kk vv oo i) i l u
  exact (setCols_is h1 (pay2_is (pay46_is (pay41_is hq)) (dzd_is hi h) (cols_is h1 (show i ≤ 15 by omega))) (show i ≤ 15 by omega)).congr
    fun l u _ _ => gather_last dkf (QS qq i) (DZ qq kk vv oo i) l u fun r u hu => dz_ge qq kk vv oo i r u (by omega)

theorem dv2_is (hi : i < 16) (hd : Is d fun r l => oo (512 * i + r) l) (h : Inv qq kk vv oo i dkf dvf i s) :
    Is (dv2 d i s) fun l u => dvf l u + ∑ r ∈ range 1024, OS oo i r l * W qq kk i r u := by
  have h1 : Is (dv1 d i s) fun l u => dvf l u + if u < 512 * i then ∑ r ∈ range 1024, OS oo i r l * W qq kk i r u else 0 :=
    (setCols_is h.dv (pay63_is (dosT_is hd) h.w (cols_is h.dv (show i - 1 ≤ 15 by omega))) (show i - 1 ≤ 15 by omega)).congr
      fun l u _ _ => gather dvf (OS oo i) (W qq kk i) i l u
  exact (setCols_is h1 (pay3_is (dosT_is hd) (wd_is hi h) (cols_is h1 (show i ≤ 15 by omega))) (show i ≤ 15 by omega)).congr
    fun l u _ _ => gather_last dvf (OS oo i) (W qq kk i) l u fun r u hu => w_ge qq kk i r u (by omega)

end

/-! ## Over the query blocks -/

section
variable (qq kk vv oo : ℕ → ℕ → ℝ)

/-- What a block of queries adds to a lane: its head's half of the stack. -/
theorem stack_sum (f h : ℕ → ℕ → ℝ) (l : ℕ) (hl : l < 128) :
    ∑ r ∈ range 1024, stack f r l * h r l = ∑ r ∈ range 512, f r l * h (512 * (l / 64) + r) l := by
  rw [show (1024 : ℕ) = 512 + 512 from rfl, sum_range_add, ← sum_add_distrib]
  refine sum_congr rfl fun r hr => ?_
  have hr := mem_range.1 hr
  have a : r / 512 = 0 := by omega
  have b : (512 + r) / 512 = 1 := by omega
  have a' : r % 512 = r := by omega
  have b' : (512 + r) % 512 = r := by omega
  have c : l / 64 < 2 := by omega
  unfold stack
  rw [a, b, a', b']
  generalize l / 64 = m at c
  interval_cases m <;> simp

theorem sum_blocks (n : ℕ) (f : ℕ → ℝ) : ∑ i ∈ range n, ∑ r ∈ range 512, f (512 * i + r) = ∑ t ∈ range (512 * n), f t := by
  induction n with
  | zero => simp
  | succ n ih => rw [sum_range_succ, ih, show 512 * (n + 1) = 512 * n + 512 by ring, sum_range_add]

/-- The keys' gradient of a pair of heads: the sum over the sixteen query blocks. -/
theorem dk_blocks (l u : ℕ) (hl : l < 128) : ∑ i ∈ range 16, ∑ r ∈ range 1024, QS qq i r l * DZ qq kk vv oo i r u
    = Spec.dk (half qq (l / 64)) (half kk (l / 64)) (half vv (l / 64)) (half oo (l / 64)) u (l % 64) := by
  unfold Spec.dk
  rw [show (8192 : ℕ) = 512 * 16 from rfl, ← sum_blocks 16]
  refine sum_congr rfl fun i _ => ?_
  refine (stack_sum (fun r l => qq (512 * i + r) l / 8) (fun r _ => DZ qq kk vv oo i r u) l hl).trans (sum_congr rfl fun r hr => ?_)
  have hr := mem_range.1 hr
  have e1 : (512 * (l / 64) + r) / 512 = l / 64 := by omega
  have e2 : (512 * (l / 64) + r) % 512 = r := by omega
  have e3 : 64 * (l / 64) + l % 64 = l := by omega
  unfold DZ
  rw [e1, e2]
  refine congrArg₂ _ ?_ rfl
  unfold half
  rw [e3]

theorem dv_blocks (l u : ℕ) (hl : l < 128) : ∑ i ∈ range 16, ∑ r ∈ range 1024, OS oo i r l * W qq kk i r u
    = Spec.dv (half qq (l / 64)) (half kk (l / 64)) (half oo (l / 64)) u (l % 64) := by
  unfold Spec.dv
  rw [show (8192 : ℕ) = 512 * 16 from rfl, ← sum_blocks 16]
  refine sum_congr rfl fun i _ => ?_
  refine (stack_sum (fun r l => oo (512 * i + r) l) (fun r _ => W qq kk i r u) l hl).trans (sum_congr rfl fun r hr => ?_)
  have hr := mem_range.1 hr
  have e1 : (512 * (l / 64) + r) / 512 = l / 64 := by omega
  have e2 : (512 * (l / 64) + r) % 512 = r := by omega
  have e3 : 64 * (l / 64) + l % 64 = l := by omega
  unfold W
  rw [e1, e2]
  refine congrArg₂ _ ?_ rfl
  unfold half
  rw [e3]
end
end Cert.KernelIdeal.Bwd
end
-- ==== Proof.Host.lean ====
/- Arrays of reals on the host: rank 3, running sums along the last axis, and the logistic as the host computes it. -/
module

public import proofs.«01_k».proof.Proof.Spec
public import Idealize.ShloMosaic.Lib.Routing.Ops
public import Idealize.ShloMosaic.Lib.WordCmp
public import Idealize.ShloMosaic.Lib.ShapeFacts

@[expose] public section

noncomputable section

namespace Cert.Spec

open Idealize.ShloMosaic Finset

/-- An array of rank 3 whose element at `(a, b, c)` is the real `f a b c`. -/
def Is3 {l n m : ℕ} (x : (⟨3, ![l, n, m]⟩ : Shape).Idx → EReal) (f : ℕ → ℕ → ℕ → ℝ) : Prop :=
  ∀ (a : Fin l) (b : Fin n) (c : Fin m), x (ix3 a b c) = ((f a.val b.val c.val : ℝ) : EReal)

theorem Is3.congr {l n m : ℕ} {x : (⟨3, ![l, n, m]⟩ : Shape).Idx → EReal} {f g : ℕ → ℕ → ℕ → ℝ} (h : Is3 x f)
    (e : ∀ a b c, a < l → b < n → c < m → f a b c = g a b c) : Is3 x g := fun a b c => by rw [h a b c, e _ _ _ a.isLt b.isLt c.isLt]

/-- The columns of one head, from column `b`. -/
def head (x : ℕ → ℕ → ℝ) (b h t d : ℕ) : ℝ := x t (b + 64 * h + d)

theorem word_zero : Ideal.ofBits .f32 0x00000000#32 = ((0 : ℝ) : EReal) := by simp

/-! ## Running sums along the last axis -/

theorem foldl_coe {ι : Type} (l : List ι) (g : ι → EReal) (f : ι → ℝ) (hg : ∀ a, g a = ((f a : ℝ) : EReal)) :
    ∀ z : ℝ, l.foldl (fun r n => r + g n) ((z : ℝ) : EReal) = ((z + (l.map f).sum : ℝ) : EReal) := by
  induction l with
  | nil => intro z; simp
  | cons a l ih =>
    intro z
    rw [List.foldl_cons, hg, ← EReal.coe_add, ih, List.map_cons, List.sum_cons, add_assoc]

theorem numel3 (N : ℕ) : (⟨3, ![1, 1, N]⟩ : Shape).numel = N := by
  rw [Shape.numel_rank3]; show 1 * 1 * N = N; omega

theorem symm3 {N : ℕ} (n : Fin (⟨3, ![1, 1, N]⟩ : Shape).numel) :
    (⟨3, ![1, 1, N]⟩ : Shape).rowMajor.symm n = ix3 (0 : Fin 1) (0 : Fin 1) (n.cast (numel3 N)) :=
  ((⟨3, ![1, 1, N]⟩ : Shape).rowMajor.symm_apply_eq).2 (Fin.ext (by
    rw [Shape.rowMajor_val_three]
    show n.val = (0 * 1 + 0) * N + n.val
    omega))

theorem list_sum (N : ℕ) (f : ℕ → ℝ) : ((List.finRange (⟨3, ![1, 1, N]⟩ : Shape).numel).map fun n => f n.val).sum = ∑ n ∈ range N, f n := by
  rw [Routing.map_finRange_val _ f, numel3]
  induction N with
  | zero => simp
  | succ N ih => rw [List.range_succ, List.map_append, List.sum_append, ih, sum_range_succ]; simp

section
variable {A B N Nm1 : ℕ} (hN : Nm1 + 1 = N) {x : FVec Ideal ⟨3, ![A, B, N]⟩ .f32} {f : ℕ → ℕ → ℕ → ℝ} (hx : Is3 x f)
  {u : Shape} {init : FVec Ideal u .f32} (hi : ∀ i, init i = 0) (hu : 0 < u.numel)
include hN hx hi

/-- The sum from an element to the end of its row. -/
theorem sum_from (h : (⟨3, ![A, B, N]⟩ : Shape).ReduceWindows (![1, 1, N] : Fin 3 → ℕ) ![1, 1, 1] ![0, 0, 0] ![0, 0, Nm1] ⟨3, ![A, B, N]⟩) :
    Is3 (Host.reduceWindowAdd (F := Ideal) ![1, 1, N] ![1, 1, 1] ![0, 0, 0] ![0, 0, Nm1] x init h hu) fun a b j => ∑ v ∈ Ico j N, f a b v := by
  subst hN
  intro a b j
  have hj := j.isLt
  show Host.reduceWindow (· + ·) ![1, 1, Nm1 + 1] ![1, 1, 1] ![0, 0, 0] ![0, 0, Nm1] x (fun _ => init (Shape.Idx.first hu)) h hu (ix3 a b j) = _
  unfold Host.reduceWindow
  rw [hi]
  refine (foldl_coe _ _ (fun n => if j.val + n.val < Nm1 + 1 then f a b (j.val + n.val) else 0) (fun n => ?_) 0).trans ?_
  · have w0 : ((⟨3, ![1, 1, Nm1 + 1]⟩ : Shape).rowMajor.symm n 0).val = 0 := by rw [symm3]; rfl
    have w1 : ((⟨3, ![1, 1, Nm1 + 1]⟩ : Shape).rowMajor.symm n 1).val = 0 := by rw [symm3]; rfl
    have w2 : ((⟨3, ![1, 1, Nm1 + 1]⟩ : Shape).rowMajor.symm n 2).val = n.val := by rw [symm3]; rfl
    dsimp only
    split
    · next hin =>
      have h2 := hin 2
      change 0 ≤ j.val * 1 + ((⟨3, ![1, 1, Nm1 + 1]⟩ : Shape).rowMajor.symm n 2).val
        ∧ j.val * 1 + ((⟨3, ![1, 1, Nm1 + 1]⟩ : Shape).rowMajor.symm n 2).val - 0 < Nm1 + 1 at h2
      rw [w2] at h2
      rw [if_pos (by omega)]
      refine (congrArg x (funext fun c => Fin.ext ?_)).trans (hx a b ⟨j.val + n.val, by omega⟩)
      match c with
      | ⟨0, _⟩ =>
        show a.val * 1 + ((⟨3, ![1, 1, Nm1 + 1]⟩ : Shape).rowMajor.symm n 0).val - 0 = a.val
        rw [w0]; omega
      | ⟨1, _⟩ =>
        show b.val * 1 + ((⟨3, ![1, 1, Nm1 + 1]⟩ : Shape).rowMajor.symm n 1).val - 0 = b.val
        rw [w1]; omega
      | ⟨2, _⟩ =>
        show j.val * 1 + ((⟨3, ![1, 1, Nm1 + 1]⟩ : Shape).rowMajor.symm n 2).val - 0 = j.val + n.val
        rw [w2]; omega
    · next hin =>
      rw [if_neg fun hle => hin fun c => by
        match c with
        | ⟨0, _⟩ =>
          show 0 ≤ a.val * 1 + ((⟨3, ![1, 1, Nm1 + 1]⟩ : Shape).rowMajor.symm n 0).val ∧ a.val * 1 + ((⟨3, ![1, 1, Nm1 + 1]⟩ : Shape).rowMajor.symm n 0).val - 0 < A
          rw [w0]; omega
        | ⟨1, _⟩ =>
          show 0 ≤ b.val * 1 + ((⟨3, ![1, 1, Nm1 + 1]⟩ : Shape).rowMajor.symm n 1).val ∧ b.val * 1 + ((⟨3, ![1, 1, Nm1 + 1]⟩ : Shape).rowMajor.symm n 1).val - 0 < B
          rw [w1]; omega
        | ⟨2, _⟩ =>
          show 0 ≤ j.val * 1 + ((⟨3, ![1, 1, Nm1 + 1]⟩ : Shape).rowMajor.symm n 2).val ∧ j.val * 1 + ((⟨3, ![1, 1, Nm1 + 1]⟩ : Shape).rowMajor.symm n 2).val - 0 < Nm1 + 1
          rw [w2]; omega]
      rfl
  · show _ = ((∑ v ∈ Ico j.val (Nm1 + 1), f a.val b.val v : ℝ) : EReal)
    rw [list_sum _ fun n => if j.val + n < Nm1 + 1 then f a b (j.val + n) else 0, zero_add, ← sum_filter, sum_Ico_eq_sum_range]
    exact congrArg _ (sum_congr (by ext v; simp only [mem_filter, mem_range]; omega) fun _ _ => rfl)

/-- The sum from the start of the row to the element. -/
theorem sum_to (h : (⟨3, ![A, B, N]⟩ : Shape).ReduceWindows (![1, 1, N] : Fin 3 → ℕ) ![1, 1, 1] ![0, 0, Nm1] ![0, 0, 0] ⟨3, ![A, B, N]⟩) :
    Is3 (Host.reduceWindowAdd (F := Ideal) ![1, 1, N] ![1, 1, 1] ![0, 0, Nm1] ![0, 0, 0] x init h hu) fun a b j => ∑ v ∈ range (j + 1), f a b v := by
  subst hN
  intro a b j
  have hj := j.isLt
  show Host.reduceWindow (· + ·) ![1, 1, Nm1 + 1] ![1, 1, 1] ![0, 0, Nm1] ![0, 0, 0] x (fun _ => init (Shape.Idx.first hu)) h hu (ix3 a b j) = _
  unfold Host.reduceWindow
  rw [hi]
  refine (foldl_coe _ _ (fun n => if Nm1 ≤ j.val + n.val then f a b (j.val + n.val - Nm1) else 0) (fun n => ?_) 0).trans ?_
  · have w0 : ((⟨3, ![1, 1, Nm1 + 1]⟩ : Shape).rowMajor.symm n 0).val = 0 := by rw [symm3]; rfl
    have w1 : ((⟨3, ![1, 1, Nm1 + 1]⟩ : Shape).rowMajor.symm n 1).val = 0 := by rw [symm3]; rfl
    have w2 : ((⟨3, ![1, 1, Nm1 + 1]⟩ : Shape).rowMajor.symm n 2).val = n.val := by rw [symm3]; rfl
    have hn : n.val < Nm1 + 1 := (n.cast (numel3 _)).isLt
    dsimp only
    split
    · next hin =>
      have h2 := hin 2
      change Nm1 ≤ j.val * 1 + ((⟨3, ![1, 1, Nm1 + 1]⟩ : Shape).rowMajor.symm n 2).val
        ∧ j.val * 1 + ((⟨3, ![1, 1, Nm1 + 1]⟩ : Shape).rowMajor.symm n 2).val - Nm1 < Nm1 + 1 at h2
      rw [w2] at h2
      rw [if_pos (by omega)]
      refine (congrArg x (funext fun c => Fin.ext ?_)).trans (hx a b ⟨j.val + n.val - Nm1, by omega⟩)
      match c with
      | ⟨0, _⟩ =>
        show a.val * 1 + ((⟨3, ![1, 1, Nm1 + 1]⟩ : Shape).rowMajor.symm n 0).val - 0 = a.val
        rw [w0]; omega
      | ⟨1, _⟩ =>
        show b.val * 1 + ((⟨3, ![1, 1, Nm1 + 1]⟩ : Shape).rowMajor.symm n 1).val - 0 = b.val
        rw [w1]; omega
      | ⟨2, _⟩ =>
        show j.val * 1 + ((⟨3, ![1, 1, Nm1 + 1]⟩ : Shape).rowMajor.symm n 2).val - Nm1 = j.val + n.val - Nm1
        rw [w2]; omega
    · next hin =>
      rw [if_neg fun hle => hin fun c => by
        match c with
        | ⟨0, _⟩ =>
          show 0 ≤ a.val * 1 + ((⟨3, ![1, 1, Nm1 + 1]⟩ : Shape).rowMajor.symm n 0).val ∧ a.val * 1 + ((⟨3, ![1, 1, Nm1 + 1]⟩ : Shape).rowMajor.symm n 0).val - 0 < A
          rw [w0]; omega
        | ⟨1, _⟩ =>
          show 0 ≤ b.val * 1 + ((⟨3, ![1, 1, Nm1 + 1]⟩ : Shape).rowMajor.symm n 1).val ∧ b.val * 1 + ((⟨3, ![1, 1, Nm1 + 1]⟩ : Shape).rowMajor.symm n 1).val - 0 < B
          rw [w1]; omega
        | ⟨2, _⟩ =>
          show Nm1 ≤ j.val * 1 + ((⟨3, ![1, 1, Nm1 + 1]⟩ : Shape).rowMajor.symm n 2).val ∧ j.val * 1 + ((⟨3, ![1, 1, Nm1 + 1]⟩ : Shape).rowMajor.symm n 2).val - Nm1 < Nm1 + 1
          rw [w2]; omega]
      rfl
  · show _ = ((∑ v ∈ range (j.val + 1), f a.val b.val v : ℝ) : EReal)
    rw [list_sum _ fun n => if Nm1 ≤ j.val + n then f a b (j.val + n - Nm1) else 0, zero_add, ← sum_filter,
      show (range (Nm1 + 1)).filter (fun n => Nm1 ≤ j.val + n) = Ico (Nm1 - j.val) (Nm1 + 1) by
        ext v; simp only [mem_filter, mem_range, mem_Ico]; omega, sum_Ico_eq_sum_range, show Nm1 + 1 - (Nm1 - j.val) = j.val + 1 by omega]
    exact congrArg _ (sum_congr rfl fun v _ => by rw [show j.val + (Nm1 - j.val + v) - Nm1 = v by omega])
end

/-! ## The logistic -/

/-- The host's `log (1 + exp x)` is the negated logarithm of the logistic of `-x`. -/
theorem softplus (x : ℝ) : max x 0 + Real.log (1 + Real.exp (-max x (-x))) = -ls (-x) := by
  have h := ls_stable (-x)
  rw [neg_neg, zero_sub, max_comm (-x) x] at h
  rw [← h, ← neg_zero, min_neg_neg]
  simp only [neg_zero]
  ring

theorem softplus_is {x : EReal} {a : ℝ} (h : x = (a : EReal)) :
    max x 0 + Ideal.log (1 + Ideal.exp (-max x (-x))) = ((-ls (-a) : ℝ) : EReal) := by
  rw [h, coe_zero, ← EReal.coe_neg, coe_max, coe_max, ← EReal.coe_neg, Ideal.exp_coe, coe_one, ← EReal.coe_add,
    log_coe_pos (one_add_exp_pos _), ← EReal.coe_add, softplus]

theorem sel_lt {α : Type} (a b : ℕ) (x y : α) (ha : a < 2 ^ 31) (hb : b < 2 ^ 31) :
    Scalar.select (IntOp.cmpi .slt (BitVec.ofNat 32 a) (BitVec.ofNat 32 b)) x y = if a < b then x else y := by
  rw [WordCmp.cmpi_slt_ofNat ha hb, WordCmp.select_ofBool]; simp

end Cert.Spec
end
-- ==== Proof.Carry.lean ====
/- What the host computes before the launch on arrays of reals: of each query, what the keys after a block leave of the
   stick. -/
module

public import proofs.«01_k».proof.Proof.Gen.KernelIdeal.Frame
public import proofs.«01_k».proof.Proof.Host

@[expose] public section

set_option maxRecDepth 16384

noncomputable section

namespace Cert.KernelIdeal.Carry

open Cert.KernelIdeal Cert.KernelIdeal.Gen Idealize.ShloMosaic Idealize.ShloMosaic.TcCoe Idealize.SL.Sem Idealize.ShloMosaic.StableHlo Cert.Spec Finset

/-! ## The composed term -/

section
variable (x : Vec Ideal S8192x3072 .bf16)

/-- The queries' columns from `b`, and the keys'. -/
def cols0 : Vec Ideal S8192x8x64 .f32 := shapeCast S8192x8x64 (extf (F := Ideal) .f32 (extractStridedSlice S8192x512 ![0, 1536] x slices_S8192x3072_S8192x512_0_1536) bitsLt_bf16_f32) shapeCasts_S8192x512_S8192x8x64
def cols1 : Vec Ideal S8192x8x64 .f32 := shapeCast S8192x8x64 (extf (F := Ideal) .f32 (extractStridedSlice S8192x512 ![0, 2048] x slices_S8192x3072_S8192x512_0_2048) bitsLt_bf16_f32) shapeCasts_S8192x512_S8192x8x64

/-- The scores. -/
def scores : FVec Ideal S8x8192x8192 .f32 :=
  mulf (extf .f32 (truncf .bf16 (Host.dotGeneral (F := Ideal) (φ₁ := .f32) (φ₂ := .f32) dot_S8192x8x64_S8192x8x64_S8x8192x8192_2_2_0_0_1_1 none (cols0 x) (cols1 x)) bitsLt_bf16_f32) bitsLt_bf16_f32)
    (broadcastInDim S8x8192x8192 ![] bcast_S_S8x8192x8192 (constant S_ .f32 0x3E000000#32))

/-- The keys before the query. -/
def before : IVec S8192x8192 1 :=
  cmpi .slt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

def score : FVec Ideal S8x8192x8192 .f32 := Host.negf (Host.negf (scores x))
def zeros : FVec Ideal S8x8192x8192 .f32 := broadcastInDim S8x8192x8192 ![] bcast_S_S8x8192x8192 (constant S_ .f32 0x00000000#32)
def shifted : FVec Ideal S8x8192x8192 .f32 := subf (score x) zeros

/-- `log (1 + exp score)`. -/
def soft : FVec Ideal S8x8192x8192 .f32 :=
  select (cmpf .une (shifted x) (shifted x)) (addf (score x) zeros) (addf (maximumf (score x) zeros) (Host.log1p (Host.exp (Host.negf (Host.absf (shifted x))))))

/-- What each key before the query leaves. -/
def leaves : FVec Ideal S8x8192x8192 .f32 :=
  select (broadcastInDim S8x8192x8192 ![1, 2] bcast_S8192x8192_S8x8192x8192_1_2 before) (Host.negf (soft x)) (broadcastInDim S8x8192x8192 ![] bcast_S_S8x8192x8192 (constant S_ .f32 0x00000000#32))

/-- What a key and those after it leave. -/
def after' : FVec Ideal S8x8192x8192 .f32 :=
  Host.reduceWindowAdd (F := Ideal) ![1, 1, 8192] ![1, 1, 1] ![0, 0, 0] ![0, 0, 8191] (leaves x) (broadcastInDim S_ ![] bcast_S_S_ (constant S_ .f32 0x00000000#32)) reduceWindows_S8x8192x8192_S8x8192x8192_w1s1p0_0_w1s1p0_0_w8192s1p0_8191 h_S_

/-- At the blocks' boundaries, in lanes. -/
def bounds : FVec Ideal S8x8192x128 .f32 :=
  pad (α := EReal) S8x8192x128 ![0, 0, 0] ![0, 0, 113] ![0, 0, 0] (Host.slice S8x8192x15 ![0, 0, 512] ![1, 1, 512] (after' x) slicesBy_S8x8192x8192_S8x8192x15_0s1_0s1_512s512) (sitofp (F := Ideal) .f32 (constantI S_ 32 0#32)) pads_S8x8192x15_S8x8192x128_000_000_01130 h_S_

/-- Two heads' blocks stacked. -/
def carries : FVec Ideal S4x16x1024x128 .f32 :=
  shapeCast (α := EReal) S4x16x1024x128 (transpose (α := EReal) S4x16x2x512x128 [0, 2, 1, 3, 4] (shapeCast (α := EReal) S4x2x16x512x128 (bounds x) shapeCasts_S8x8192x128_S4x2x16x512x128) transposes_S4x2x16x512x128_S4x16x2x512x128_0_2_1_3_4) shapeCasts_S4x16x2x512x128_S4x16x1024x128
end

set_option maxHeartbeats 4000000 in
theorem V_carries (m : (ℓ : Loc nD τ sig) → Buf (Elt Ideal) ℓ) (c : Dev nD) :
    V m c main_v25 = carries (m ((c : Thread nD τ).loc main_arg0)) := by
  unfold Gen.V
  simp only [hostOps0, hostOps0_1, hostOps0_2, hostOps0_3, hostOps0_4, hostOps0_5, hostOps0_6, hostOps0_7, List.flatten_cons, List.flatten_nil, List.append_nil, List.cons_append,
    List.nil_append, TRef.binary, TRef.nullary, TRef.unary, TRef.ternary, TRef.toBuf, TRef.ofBuf, cast_eq]
  after_results_simp
  rfl

/-! ## On reals -/

variable {x : Vec Ideal S8192x3072 .bf16} {A : ℕ → ℕ → ℝ}

theorem cols0_is (h : Is x A) : Is3 (cols0 x) fun t e d => head A 1536 e t d := by
  intro t e d
  pointwise [cols0]
  refine (h _ _).trans (congrArg (fun r : ℝ => (r : EReal)) ?_)
  unfold head
  congr 1 <;> (dsimp; omega)

theorem cols1_is (h : Is x A) : Is3 (cols1 x) fun t e d => head A 2048 e t d := by
  intro t e d
  pointwise [cols1]
  refine (h _ _).trans (congrArg (fun r : ℝ => (r : EReal)) ?_)
  unfold head
  congr 1 <;> (dsimp; omega)

theorem scores_is (h : Is x A) : Is3 (scores x) fun e t s => z (head A 1536 e) (head A 2048 e) t s := by
  intro e t s
  pointwise [scores]
  rw [dots _ _ (fun d => cols0_is h t e d) (fun d => cols1_is h s e d), eighth, ← EReal.coe_mul]
  refine congrArg (fun r : ℝ => (r : EReal)) ?_
  unfold z
  rw [sum_mul]
  exact sum_congr rfl fun _ _ => by ring

theorem score_is (h : Is x A) : Is3 (score x) fun e t s => z (head A 1536 e) (head A 2048 e) t s := by
  intro e t s
  pointwise [score]
  rw [neg_neg]
  exact scores_is h e t s

theorem soft_is (h : Is x A) : Is3 (soft x) fun e t s => -ls (-z (head A 1536 e) (head A 2048 e) t s) := by
  intro e t s
  pointwise [soft, shifted, zeros]
  exact (if_neg (not_not.2 rfl)).trans (softplus_is (score_is h e t s))

theorem mask {α : Type} (t s : Fin 8192) (x y : α) : Scalar.select (before (ix2 t s)) x y = if s.val < t.val then x else y := by
  pointwise [before]
  exact sel_lt _ _ _ _ (by omega) (by omega)

theorem leaves_is (h : Is x A) : Is3 (leaves x) fun e t s => lk (head A 1536 e) (head A 2048 e) t s := by
  intro e t s
  pointwise [leaves]
  refine (mask t s _ _).trans ?_
  rw [soft_is h e t s, ← EReal.coe_neg, neg_neg]
  unfold lk
  rw [ls_sub]
  split_ifs <;> rfl

theorem after_is (h : Is x A) : Is3 (after' x) fun e t s => ∑ u ∈ Ico s 8192, lk (head A 1536 e) (head A 2048 e) t u :=
  sum_from (Nm1 := 8191) rfl (leaves_is h) (fun i => by show Ideal.ofBits .f32 0x00000000#32 = 0; simp) h_S_ _

theorem bounds_is (h : Is x A) : Is3 (bounds x) fun e t l => if l < 15 then ∑ u ∈ Ico (512 * (l + 1)) 8192, lk (head A 1536 e) (head A 2048 e) t u else 0 := by
  intro e t l
  pointwise [bounds]
  by_cases hl : l.val < 15
  · rw [dif_pos hl, if_pos hl]
    refine (after_is h e t ⟨512 + 512 * l.val, by omega⟩).trans ?_
    rw [show 512 * (l.val + 1) = 512 + 512 * l.val by ring]
  · rw [dif_neg hl, if_neg hl]
    show (((0#32 : BitVec 32).toInt : ℝ) : EReal) = _
    simp

theorem carries_is (h : Is x A) (p : Fin 4) (i : Fin 16) (r : Fin 1024) (l : Fin 128) :
    carries x (ix4 p i r l) = ((if l.val < 15 then ∑ u ∈ Ico (512 * (l.val + 1)) 8192, lk (head A 1536 (2 * p + r / 512)) (head A 2048 (2 * p + r / 512)) (512 * i + r % 512) u else 0 : ℝ) : EReal) := by
  pointwise [carries]
  refine (bounds_is h (⟨p.val * 2 + r.val / 512, by omega⟩ : Fin 8) (⟨i.val * 512 + r.val % 512, by omega⟩ : Fin 8192) l).trans ?_
  dsimp only
  rw [mul_comm p.val, mul_comm i.val]

end Cert.KernelIdeal.Carry
end
-- ==== Proof.Grid.lean ====
/- The kernel's run on arrays of reals: the blocks each grid point reads, the gradients gathered over a pair's points, and
   the three result arrays. -/
module

public import proofs.«01_k».proof.Proof.Run
public import proofs.«01_k».proof.Proof.Loop
public import proofs.«01_k».proof.Proof.Carry
public import Idealize.ShloMosaic.Lib.Pipeline.ValueKit

@[expose] public section

set_option maxRecDepth 16384

noncomputable section

namespace Cert.KernelIdeal.Bwd

open Idealize.ShloMosaic Idealize.ShloMosaic.TcCoe Idealize.SL.Sem
open Idealize.ShloMosaic.Pipeline (Dat)
open Cert.KernelIdeal Cert.KernelIdeal.Gen Cert.Spec Finset

section
variable (m : (ℓ : Loc nD τ sig) → Buf (Elt Ideal) ℓ) (c : Dev nD) {A D : ℕ → ℕ → ℝ}

/-! ## The blocks -/

theorem row (t : Fin cfg0.N) : (grid0.coords t 1).val = t.val % 16 := by
  have h : (grid0.coords t 1).val = t.val / 1 % 16 := Pipeline.Grid.coords_val t 1 (by decide) rfl
  omega

theorem pair_lt (t : Fin cfg0.N) : t.val / 16 < 4 := by
  have h : cfg0.N = 64 := N_0
  have := t.isLt
  omega

theorem idx0 : ∀ t : Fin cfg0.N, win0_0.index t 0 = t.val % 16 ∧ win0_0.index t 1 = 12 + t.val / 16 :=
  (by decide +kernel : ∀ t : Fin grid0.N, win0_0.index t 0 = t.val % 16 ∧ win0_0.index t 1 = 12 + t.val / 16)
theorem idx1 : ∀ t : Fin cfg0.N, win0_1.index t 0 = 0 ∧ win0_1.index t 1 = 16 + t.val / 16 :=
  (by decide +kernel : ∀ t : Fin grid0.N, win0_1.index t 0 = 0 ∧ win0_1.index t 1 = 16 + t.val / 16)
theorem idx2 : ∀ t : Fin cfg0.N, win0_2.index t 0 = 0 ∧ win0_2.index t 1 = 20 + t.val / 16 :=
  (by decide +kernel : ∀ t : Fin grid0.N, win0_2.index t 0 = 0 ∧ win0_2.index t 1 = 20 + t.val / 16)
theorem idx3 : ∀ t : Fin cfg0.N, win0_3.index t 0 = t.val / 16 ∧ win0_3.index t 1 = t.val % 16 ∧ win0_3.index t 2 = 0 ∧ win0_3.index t 3 = 0 :=
  (by decide +kernel : ∀ t : Fin grid0.N, win0_3.index t 0 = t.val / 16 ∧ win0_3.index t 1 = t.val % 16 ∧ win0_3.index t 2 = 0 ∧ win0_3.index t 3 = 0)
theorem idx4 : ∀ t : Fin cfg0.N, win0_4.index t 0 = t.val % 16 ∧ win0_4.index t 1 = t.val / 16 :=
  (by decide +kernel : ∀ t : Fin grid0.N, win0_4.index t 0 = t.val % 16 ∧ win0_4.index t 1 = t.val / 16)
theorem idx5 : ∀ t : Fin cfg0.N, win0_5.index t 0 = t.val % 16 ∧ win0_5.index t 1 = t.val / 16 :=
  (by decide +kernel : ∀ t : Fin grid0.N, win0_5.index t 0 = t.val % 16 ∧ win0_5.index t 1 = t.val / 16)
theorem idx6 : ∀ t : Fin cfg0.N, win0_6.index t 0 = t.val / 16 ∧ win0_6.index t 1 = 0 :=
  (by decide +kernel : ∀ t : Fin grid0.N, win0_6.index t 0 = t.val / 16 ∧ win0_6.index t 1 = 0)
theorem idx7 : ∀ t : Fin cfg0.N, win0_7.index t 0 = t.val / 16 ∧ win0_7.index t 1 = 0 :=
  (by decide +kernel : ∀ t : Fin grid0.N, win0_7.index t 0 = t.val / 16 ∧ win0_7.index t 1 = 0)

/-- A pair's columns, from column `b` of an array. -/
def cut (x : ℕ → ℕ → ℝ) (b p t l : ℕ) : ℝ := x t (b + 128 * p + l)

theorem half_cut (x : ℕ → ℕ → ℝ) (b p e : ℕ) : half (cut x b p) e = head x b (2 * p + e) := by
  funext t d
  unfold half cut head
  congr 1
  ring

/-! Each block read out of its array, whatever the array holds. -/

theorem read0 (X : Vec Ideal S8192x3072 .bf16) (t : Fin cfg0.N) (r : Fin 512) (l : Fin 128) (r' : Fin 8192) (l' : Fin 3072)
    (hr : r'.val = 512 * (t.val % 16) + r.val) (hl : l'.val = 1536 + 128 * (t.val / 16) + l.val) :
    (((cfg0.win 0).blk t).view.read (Elt Ideal) X : Vec Ideal S512x128 .bf16) (ix2 r l) = X (ix2 r' l') := by
  rw [View.read_apply]
  refine congrArg X (funext fun a => Fin.ext ?_)
  match a with
  | ⟨0, _⟩ => show win0_0.index t 0 * 512 + 1 * r.val = r'.val; rw [(idx0 t).1]; omega
  | ⟨1, _⟩ => show win0_0.index t 1 * 128 + 1 * l.val = l'.val; rw [(idx0 t).2]; omega

theorem read1 (X : Vec Ideal S8192x3072 .bf16) (t : Fin cfg0.N) (r : Fin 8192) (l : Fin 128) (l' : Fin 3072)
    (hl : l'.val = 2048 + 128 * (t.val / 16) + l.val) :
    (((cfg0.win 1).blk t).view.read (Elt Ideal) X : Vec Ideal S8192x128 .bf16) (ix2 r l) = X (ix2 r l') := by
  rw [View.read_apply]
  refine congrArg X (funext fun a => Fin.ext ?_)
  match a with
  | ⟨0, _⟩ => show win0_1.index t 0 * 8192 + 1 * r.val = r.val; rw [(idx1 t).1]; omega
  | ⟨1, _⟩ => show win0_1.index t 1 * 128 + 1 * l.val = l'.val; rw [(idx1 t).2]; omega

theorem read2 (X : Vec Ideal S8192x3072 .bf16) (t : Fin cfg0.N) (r : Fin 8192) (l : Fin 128) (l' : Fin 3072)
    (hl : l'.val = 2560 + 128 * (t.val / 16) + l.val) :
    (((cfg0.win 2).blk t).view.read (Elt Ideal) X : Vec Ideal S8192x128 .bf16) (ix2 r l) = X (ix2 r l') := by
  rw [View.read_apply]
  refine congrArg X (funext fun a => Fin.ext ?_)
  match a with
  | ⟨0, _⟩ => show win0_2.index t 0 * 8192 + 1 * r.val = r.val; rw [(idx2 t).1]; omega
  | ⟨1, _⟩ => show win0_2.index t 1 * 128 + 1 * l.val = l'.val; rw [(idx2 t).2]; omega

theorem read3 (X : Vec Ideal S4x16x1024x128 .f32) (t : Fin cfg0.N) (r : Fin 1024) (l : Fin 128) (p : Fin 4) (i : Fin 16)
    (hp : p.val = t.val / 16) (hi : i.val = t.val % 16) :
    (((cfg0.win 3).blk t).view.read (Elt Ideal) X : Vec Ideal S1x1x1024x128 .f32) (ix4 0 0 r l) = X (ix4 p i r l) := by
  rw [View.read_apply]
  refine congrArg X (funext fun a => Fin.ext ?_)
  match a with
  | ⟨0, _⟩ => show win0_3.index t 0 * 1 + 1 * 0 = p.val; rw [(idx3 t).1]; omega
  | ⟨1, _⟩ => show win0_3.index t 1 * 1 + 1 * 0 = i.val; rw [(idx3 t).2.1]; omega
  | ⟨2, _⟩ => show win0_3.index t 2 * 1024 + 1 * r.val = r.val; rw [(idx3 t).2.2.1]; omega
  | ⟨3, _⟩ => show win0_3.index t 3 * 128 + 1 * l.val = l.val; rw [(idx3 t).2.2.2]; omega

theorem read4 (X : Vec Ideal S8192x512 .bf16) (t : Fin cfg0.N) (r : Fin 512) (l : Fin 128) (r' : Fin 8192) (l' : Fin 512)
    (hr : r'.val = 512 * (t.val % 16) + r.val) (hl : l'.val = 0 + 128 * (t.val / 16) + l.val) :
    (((cfg0.win 4).blk t).view.read (Elt Ideal) X : Vec Ideal S512x128 .bf16) (ix2 r l) = X (ix2 r' l') := by
  rw [View.read_apply]
  refine congrArg X (funext fun a => Fin.ext ?_)
  match a with
  | ⟨0, _⟩ => show win0_4.index t 0 * 512 + 1 * r.val = r'.val; rw [(idx4 t).1]; omega
  | ⟨1, _⟩ => show win0_4.index t 1 * 128 + 1 * l.val = l'.val; rw [(idx4 t).2]; omega

theorem q_is (h : Is (n := 8192) (m := 3072) (m ((c : Thread nD τ).loc main_arg0)) A) (t : Fin cfg0.N) :
    Is (n := 512) (m := 128) (iblk m c 0 t) fun r l => cut A 1536 (t.val / 16) (512 * (t.val % 16) + r) l := by
  intro r l
  have hp := pair_lt t
  refine ((congrArg (fun X : Vec Ideal S8192x3072 .bf16 => (((cfg0.win 0).blk t).view.read (Elt Ideal) X : Vec Ideal S512x128 .bf16) (ix2 r l)) (V_main_arg0 m c)).trans
    (read0 _ t r l ⟨512 * (t.val % 16) + r.val, by omega⟩ ⟨1536 + 128 * (t.val / 16) + l.val, by omega⟩ rfl rfl)).trans (h _ _)

theorem k_is (h : Is (n := 8192) (m := 3072) (m ((c : Thread nD τ).loc main_arg0)) A) (t : Fin cfg0.N) :
    Is (n := 8192) (m := 128) (iblk m c 1 t) (cut A 2048 (t.val / 16)) := by
  intro r l
  have hp := pair_lt t
  refine ((congrArg (fun X : Vec Ideal S8192x3072 .bf16 => (((cfg0.win 1).blk t).view.read (Elt Ideal) X : Vec Ideal S8192x128 .bf16) (ix2 r l)) (V_main_arg0 m c)).trans
    (read1 _ t r l ⟨2048 + 128 * (t.val / 16) + l.val, by omega⟩ rfl)).trans (h _ _)

theorem v_is (h : Is (n := 8192) (m := 3072) (m ((c : Thread nD τ).loc main_arg0)) A) (t : Fin cfg0.N) :
    Is (n := 8192) (m := 128) (iblk m c 2 t) (cut A 2560 (t.val / 16)) := by
  intro r l
  have hp := pair_lt t
  refine ((congrArg (fun X : Vec Ideal S8192x3072 .bf16 => (((cfg0.win 2).blk t).view.read (Elt Ideal) X : Vec Ideal S8192x128 .bf16) (ix2 r l)) (V_main_arg0 m c)).trans
    (read2 _ t r l ⟨2560 + 128 * (t.val / 16) + l.val, by omega⟩ rfl)).trans (h _ _)

theorem o_is (h : Is (n := 8192) (m := 512) (m ((c : Thread nD τ).loc main_arg1)) D) (t : Fin cfg0.N) :
    Is (n := 512) (m := 128) (iblk m c 4 t) fun r l => cut D 0 (t.val / 16) (512 * (t.val % 16) + r) l := by
  intro r l
  have hp := pair_lt t
  refine ((congrArg (fun X : Vec Ideal S8192x512 .bf16 => (((cfg0.win 4).blk t).view.read (Elt Ideal) X : Vec Ideal S512x128 .bf16) (ix2 r l)) (V_main_arg1 m c)).trans
    (read4 _ t r l ⟨512 * (t.val % 16) + r.val, by omega⟩ ⟨0 + 128 * (t.val / 16) + l.val, by omega⟩ rfl rfl)).trans (h _ _)

/-- What the keys after a block leave of each stacked row. -/
theorem car_is (h : Is (n := 8192) (m := 3072) (m ((c : Thread nD τ).loc main_arg0)) A) (t : Fin cfg0.N) (r : Fin 1024) (l : Fin 128) :
    (iblk m c 3 t : Vec Ideal S1x1x1024x128 .f32) (ix4 0 0 r l) = ((if l.val < 15 then ∑ u ∈ Ico (512 * (l.val + 1)) 8192,
      LK (cut A 1536 (t.val / 16)) (cut A 2048 (t.val / 16)) (t.val % 16) r u else 0 : ℝ) : EReal) := by
  have hp := pair_lt t
  refine ((congrArg (fun X : Vec Ideal S4x16x1024x128 .f32 => (((cfg0.win 3).blk t).view.read (Elt Ideal) X : Vec Ideal S1x1x1024x128 .f32) (ix4 0 0 r l)) (Carry.V_carries m c)).trans
    (read3 _ t r l ⟨t.val / 16, hp⟩ ⟨t.val % 16, by omega⟩ rfl rfl)).trans ((Carry.carries_is h _ _ r l).trans ?_)
  unfold LK
  rw [half_cut, half_cut]

/-! ## The gathered gradients -/

/-- What query block `i` of pair `p` adds to the gradient of the keys, and to that of the values. -/
def addK (A D : ℕ → ℕ → ℝ) (p i l u : ℕ) : ℝ :=
  ∑ r ∈ range 1024, QS (cut A 1536 p) i r l * DZ (cut A 1536 p) (cut A 2048 p) (cut A 2560 p) (cut D 0 p) i r u
def addV (A D : ℕ → ℕ → ℝ) (p i l u : ℕ) : ℝ :=
  ∑ r ∈ range 1024, OS (cut D 0 p) i r l * W (cut A 1536 p) (cut A 2048 p) i r u

variable (ha : Is (n := 8192) (m := 3072) (m ((c : Thread nD τ).loc main_arg0)) A)
variable (hd : Is (n := 8192) (m := 512) (m ((c : Thread nD τ).loc main_arg1)) D)

include ha hd in
theorem midAt_inv (t : Fin cfg0.N) {dk dv : Vec Ideal S128x8192 .f32} {dkf dvf : ℕ → ℕ → ℝ} (hk : Is dk dkf) (hv : Is dv dvf) :
    Inv (cut A 1536 (t.val / 16)) (cut A 2048 (t.val / 16)) (cut A 2560 (t.val / 16)) (cut D 0 (t.val / 16)) (t.val % 16) dkf dvf
      (t.val % 16) (midAt m c t dk dv) := by
  unfold midAt
  rw [row]
  exact mid_inv (e := fun r l => if l < 15 then ∑ u ∈ Ico (512 * (l + 1)) 8192, LK (cut A 1536 (t.val / 16)) (cut A 2048 (t.val / 16)) (t.val % 16) r u else 0)
    (by omega) (q_is m c ha t) (o_is m c hd t) (k_is m c ha t) (v_is m c ha t) (car_is m c ha t) (fun r l _ hl => if_pos hl) hk hv _ le_rfl

theorem start_is (x : Vec Ideal S128x8192 .f32) (hx : x = k0_pay37 (F := Ideal) ∨ x = k0_pay38 (F := Ideal)) : Is x fun _ _ => 0 := by
  refine zero_is _ _ _ (fun r c => ?_) fun _ _ _ _ => rfl
  rcases hx with rfl | rfl
  · pointwise [k0_pay37]
  · pointwise [k0_pay38]

/-- What point `t` starts from, if the point before left what the blocks up to it add. -/
theorem entry_is (t : Fin cfg0.N)
    (hb : ∀ h : t.val - 1 < cfg0.N, t.val % 16 ≠ 0 → Is (kv m c (t.val - 1) h).1 (fun l u => ∑ i ∈ range ((t.val - 1) % 16 + 1), addK A D ((t.val - 1) / 16) i l u)
      ∧ Is (kv m c (t.val - 1) h).2 fun l u => ∑ i ∈ range ((t.val - 1) % 16 + 1), addV A D ((t.val - 1) / 16) i l u) :
    Is (entry m c t).1 (fun l u => ∑ i ∈ range (t.val % 16), addK A D (t.val / 16) i l u)
      ∧ Is (entry m c t).2 fun l u => ∑ i ∈ range (t.val % 16), addV A D (t.val / 16) i l u := by
  unfold entry
  by_cases h : t.val % 16 = 0
  · rw [if_pos h, h]
    exact ⟨start_is _ (Or.inl rfl), start_is _ (Or.inr rfl)⟩
  · rw [if_neg h]
    have e1 : (t.val - 1) % 16 + 1 = t.val % 16 := by omega
    have e2 : (t.val - 1) / 16 = t.val / 16 := by omega
    have := hb (Nat.lt_of_le_of_lt (Nat.sub_le _ _) t.isLt) h
    rw [e1, e2] at this
    exact this

include ha hd in
/-- What each point leaves: the blocks up to it of its pair. -/
theorem kv_is : ∀ (n : ℕ) (h : n < cfg0.N), Is (kv m c n h).1 (fun l u => ∑ i ∈ range (n % 16 + 1), addK A D (n / 16) i l u)
    ∧ Is (kv m c n h).2 fun l u => ∑ i ∈ range (n % 16 + 1), addV A D (n / 16) i l u := by
  intro n
  induction n using Nat.strong_induction_on with
  | _ n ih =>
    intro h
    obtain ⟨ek, ev⟩ := entry_is m c (A := A) (D := D) ⟨n, h⟩ fun h' hn => ih (n - 1) (by dsimp only at hn; omega) h'
    have hi := midAt_inv m c ha hd ⟨n, h⟩ ek ev
    rw [kv_eq m c ⟨n, h⟩, row]
    constructor
    · refine (dk2_is (by omega) (q_is m c ha ⟨n, h⟩) hi).congr fun l u _ _ => ?_
      exact (sum_range_succ (fun i => addK A D (n / 16) i l u) (n % 16)).symm
    · refine (dv2_is (by omega) (o_is m c hd ⟨n, h⟩) hi).congr fun l u _ _ => ?_
      exact (sum_range_succ (fun i => addV A D (n / 16) i l u) (n % 16)).symm

include ha hd in
/-- The state before the diagonal block at point `t`. -/
theorem midOf_inv (t : Fin cfg0.N) :
    Inv (cut A 1536 (t.val / 16)) (cut A 2048 (t.val / 16)) (cut A 2560 (t.val / 16)) (cut D 0 (t.val / 16)) (t.val % 16)
      (fun l u => ∑ i ∈ range (t.val % 16), addK A D (t.val / 16) i l u) (fun l u => ∑ i ∈ range (t.val % 16), addV A D (t.val / 16) i l u)
      (t.val % 16) (midOf m c t) := by
  obtain ⟨ek, ev⟩ := entry_is m c t fun h _ => kv_is m c ha hd (t.val - 1) h
  exact midAt_inv m c ha hd t ek ev

/-! ## The result arrays -/

section
variable (A D)
/-- The gradients of the queries, … -/
def gradQ (t l : ℕ) : ℝ := dq (head A 1536 (l / 64)) (head A 2048 (l / 64)) (head A 2560 (l / 64)) (head D 0 (l / 64)) t (l % 64)
/-- … of the keys, transposed, … -/
def gradK (l s : ℕ) : ℝ := dk (head A 1536 (l / 64)) (head A 2048 (l / 64)) (head A 2560 (l / 64)) (head D 0 (l / 64)) s (l % 64)
/-- … and of the values, transposed. -/
def gradV (l s : ℕ) : ℝ := dv (head A 1536 (l / 64)) (head A 2048 (l / 64)) (head D 0 (l / 64)) s (l % 64)
end

/-- The array of the reals `f`. -/
def arr (n m : ℕ) (f : ℕ → ℕ → ℝ) : (⟨2, ![n, m]⟩ : Shape).Idx → EReal := fun j => ((f (j 0).val (j 1).val : ℝ) : EReal)

theorem arr_is {n m : ℕ} {x : (⟨2, ![n, m]⟩ : Shape).Idx → EReal} {f : ℕ → ℕ → ℝ} (h : Is x f) : x = arr n m f := by
  funext j
  have := h (j 0) (j 1)
  exact (congrArg x (eq_ix2 j)).trans this

include ha hd in
theorem dq_is (t : Fin cfg0.N) : Is (n := 512) (m := 128) (dqOut (iblk m c 1 t) (grid0.coords t 1).val (midOf m c t))
    fun r l => gradQ A D (512 * (t.val % 16) + r) (128 * (t.val / 16) + l) := by
  rw [row]
  refine (dqOut_is (by omega) (k_is m c ha t) (midOf_inv m c ha hd t)).congr fun r l _ hl => ?_
  unfold gradQ
  rw [half_cut, half_cut, half_cut, half_cut, show (128 * (t.val / 16) + l) / 64 = 2 * (t.val / 16) + l / 64 by omega,
    show (128 * (t.val / 16) + l) % 64 = l % 64 by omega]

include ha hd in
theorem dk_is (t : Fin cfg0.N) (h : t.val % 16 = 15) : Is (n := 128) (m := 8192) (kv m c t.val t.isLt).1
    fun l s => gradK A D (128 * (t.val / 16) + l) s := by
  refine (kv_is m c ha hd t.val t.isLt).1.congr fun l s hl _ => ?_
  rw [h]
  refine (dk_blocks _ _ _ _ l s hl).trans ?_
  unfold gradK
  rw [half_cut, half_cut, half_cut, half_cut, show (128 * (t.val / 16) + l) / 64 = 2 * (t.val / 16) + l / 64 by omega,
    show (128 * (t.val / 16) + l) % 64 = l % 64 by omega]

include ha hd in
theorem dv_is (t : Fin cfg0.N) (h : t.val % 16 = 15) : Is (n := 128) (m := 8192) (kv m c t.val t.isLt).2
    fun l s => gradV A D (128 * (t.val / 16) + l) s := by
  refine (kv_is m c ha hd t.val t.isLt).2.congr fun l s hl _ => ?_
  rw [h]
  refine (dv_blocks _ _ _ l s hl).trans ?_
  unfold gradV
  rw [half_cut, half_cut, half_cut, show (128 * (t.val / 16) + l) / 64 = 2 * (t.val / 16) + l / 64 by omega,
    show (128 * (t.val / 16) + l) % 64 = l % 64 by omega]

/-! A block of an array, at its place. -/

theorem place5 (t : Fin cfg0.N) {f : ℕ → ℕ → ℝ} {x : Vec Ideal S512x128 .bf16} (hx : Is (n := 512) (m := 128) x fun r l => f (512 * (t.val % 16) + r) (128 * (t.val / 16) + l))
    (y : S512x128.Idx) : x y = arr 8192 512 f (((cfg0.win 5).blk t).view.emb y) := by
  refine (congrArg x (eq_ix2 (n0 := 512) (n1 := 128) y)).trans ((hx (y 0) (y 1)).trans (congrArg (fun r : ℝ => (r : EReal)) ?_))
  show _ = f (win0_5.index t 0 * 512 + 1 * (y 0).val) (win0_5.index t 1 * 128 + 1 * (y 1).val)
  rw [(idx5 t).1, (idx5 t).2]
  exact congrArg₂ f (by omega) (by omega)

theorem cover5 : (cfg0.win 5).Covers := (by decide +kernel : win0_5.Covers)

theorem place6 (t : Fin cfg0.N) {f : ℕ → ℕ → ℝ} {x : Vec Ideal S128x8192 .f32} (hx : Is (n := 128) (m := 8192) x fun r l => f (128 * (t.val / 16) + r) (l))
    (y : S128x8192.Idx) : x y = arr 512 8192 f (((cfg0.win 6).blk t).view.emb y) := by
  refine (congrArg x (eq_ix2 (n0 := 128) (n1 := 8192) y)).trans ((hx (y 0) (y 1)).trans (congrArg (fun r : ℝ => (r : EReal)) ?_))
  show _ = f (win0_6.index t 0 * 128 + 1 * (y 0).val) (win0_6.index t 1 * 8192 + 1 * (y 1).val)
  rw [(idx6 t).1, (idx6 t).2]
  exact congrArg₂ f (by omega) (by omega)

theorem cover6 : (cfg0.win 6).Covers := (by decide +kernel : win0_6.Covers)

theorem place7 (t : Fin cfg0.N) {f : ℕ → ℕ → ℝ} {x : Vec Ideal S128x8192 .f32} (hx : Is (n := 128) (m := 8192) x fun r l => f (128 * (t.val / 16) + r) (l))
    (y : S128x8192.Idx) : x y = arr 512 8192 f (((cfg0.win 7).blk t).view.emb y) := by
  refine (congrArg x (eq_ix2 (n0 := 128) (n1 := 8192) y)).trans ((hx (y 0) (y 1)).trans (congrArg (fun r : ℝ => (r : EReal)) ?_))
  show _ = f (win0_7.index t 0 * 128 + 1 * (y 0).val) (win0_7.index t 1 * 8192 + 1 * (y 1).val)
  rw [(idx7 t).1, (idx7 t).2]
  exact congrArg₂ f (by omega) (by omega)

theorem cover7 : (cfg0.win 7).Covers := (by decide +kernel : win0_7.Covers)

include ha hd in
theorem final5 : (dats m 0 c).arrAt 5 cfg0.N = arr 8192 512 (gradQ A D) := by
  refine (dats m 0 c).arrAt_eq_of_covers 5 (arr 8192 512 (gradQ A D)) cover5 fun t hf y => ?_
  show (dats m 0 c).after 5 t y = _
  exact (congrFun (after0_5 m c t) y).trans (place5 t (dq_is m c ha hd t) y)

include ha hd in
theorem final6 : (dats m 0 c).arrAt 6 cfg0.N = arr 512 8192 (gradK A D) := by
  refine (dats m 0 c).arrAt_eq_of_covers 6 (arr 512 8192 (gradK A D)) cover6 fun t hf y => ?_
  show (dats m 0 c).after 6 t y = _
  exact (congrFun (after0_6 m c t) y).trans (place6 t (dk_is m c ha hd t ((flush0_6 t).1 hf)) y)

include ha hd in
theorem final7 : (dats m 0 c).arrAt 7 cfg0.N = arr 512 8192 (gradV A D) := by
  refine (dats m 0 c).arrAt_eq_of_covers 7 (arr 512 8192 (gradV A D)) cover7 fun t hf y => ?_
  show (dats m 0 c).after 7 t y = _
  exact (congrFun (after0_7 m c t) y).trans (place7 t (dv_is m c ha hd t ((flush0_7 t).1 hf)) y)

end

variable (m : (ℓ : Loc nD τ sig) → Buf (Elt Ideal) ℓ) (ρ : Dev nD → PrngReg)

/-- From arguments that are arrays of reals the results are the gradients of stick-breaking attention. -/
theorem run_value {A D : Dev nD → ℕ → ℕ → ℝ} (ha : ∀ c : Dev nD, Is (n := 8192) (m := 3072) (m ((c : Thread nD τ).loc main_arg0)) (A c))
    (hd : ∀ c : Dev nD, Is (n := 8192) (m := 512) (m ((c : Thread nD τ).loc main_arg1)) (D c)) :
    θ_run defs (onTc (τ := τ) (main (F := Ideal))) ⟨m, fun _ => 0, ρ⟩ fun r => ∀ c : Dev nD,
      (r.2.mem ((c.tc : Thread nD τ).loc main_v26_0) = arr 8192 512 (gradQ (A c) (D c))
      ∧ r.2.mem ((c.tc : Thread nD τ).loc main_v26_1) = arr 512 8192 (gradK (A c) (D c))
      ∧ r.2.mem ((c.tc : Thread nD τ).loc main_v26_2) = arr 512 8192 (gradV (A c) (D c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨⟨((h.1 c).1 5).trans (final5 m c (ha c) (hd c)), ((h.1 c).1 6).trans (final6 m c (ha c) (hd c)),
    ((h.1 c).1 7).trans (final7 m c (ha c) (hd c))⟩, h.2.1 c⟩) (θ_run_and (run_main m ρ) (frame m ρ))

end Cert.KernelIdeal.Bwd
end
-- ==== Proof.Ref.lean ====
/- What the reference computes on arrays of reals. -/
module

public import proofs.«01_k».proof.Proof.Gen.ReferenceIdeal.Run
public import proofs.«01_k».proof.Proof.Host

@[expose] public section

set_option maxRecDepth 16384

noncomputable section

namespace Cert.ReferenceIdeal.Value

open Idealize.ShloMosaic Cert.Spec Finset Cert.ReferenceIdeal.Gen

variable {V0 : Valuation τ sig (Elt Ideal)} {A D : ℕ → ℕ → ℝ}

/-- The arguments hold reals. -/
structure Args (V0 : Valuation τ sig (Elt Ideal)) (A D : ℕ → ℕ → ℝ) : Prop where
  a : Is (n := 8192) (m := 3072) (V0 (Proc.devRef .tc main_arg0)) A
  d : Is (n := 8192) (m := 512) (V0 (Proc.devRef .tc main_arg1)) D

section
variable (A D)
abbrev q := head A 1536
abbrev k := head A 2048
abbrev v := head A 2560
abbrev o := head D 0
end

theorem v2_is (h : Args V0 A D) : Is3 (l := 8192) (n := 8) (m := 64) (res_main_v2 V0) fun t e d => q A e t d := by
  intro t e d
  pointwise [res_main_v2]
  refine (h.a _ _).trans (congrArg (fun r : ℝ => (r : EReal)) ?_)
  unfold q head
  congr 1 <;> (dsimp; omega)

theorem v5_is (h : Args V0 A D) : Is3 (l := 8192) (n := 8) (m := 64) (res_main_v5 V0) fun t e d => k A e t d := by
  intro t e d
  pointwise [res_main_v5]
  refine (h.a _ _).trans (congrArg (fun r : ℝ => (r : EReal)) ?_)
  unfold k head
  congr 1 <;> (dsimp; omega)

theorem v8_is (h : Args V0 A D) : Is3 (l := 8192) (n := 8) (m := 64) (res_main_v8 V0) fun t e d => v A e t d := by
  intro t e d
  pointwise [res_main_v8]
  refine (h.a _ _).trans (congrArg (fun r : ℝ => (r : EReal)) ?_)
  unfold v head
  congr 1 <;> (dsimp; omega)

theorem v35_is (h : Args V0 A D) : Is3 (l := 8) (n := 64) (m := 8192) (res_main_v35 V0) fun e d t => o D e t d := by
  intro e d t
  pointwise [res_main_v35]
  refine (h.d _ _).trans (congrArg (fun r : ℝ => (r : EReal)) ?_)
  unfold o head
  congr 1 <;> (dsimp; omega)

theorem v15_is (h : Args V0 A D) : Is3 (l := 8) (n := 8192) (m := 8192) (res_main_v15 V0) fun e t s => z (q A e) (k A e) t s := by
  intro e t s
  pointwise [res_main_v15]
  rw [dots _ _ (fun d => v2_is h t e d) (fun d => v5_is h s e d), eighth, ← EReal.coe_mul]
  refine congrArg (fun r : ℝ => (r : EReal)) ?_
  unfold z
  rw [sum_mul]
  exact sum_congr rfl fun _ _ => by ring

/-- The mask chooses the keys before the query. -/
theorem mask {α : Type} (t s : Fin 8192) (x y : α) : Scalar.select (res_main_v21 (F := Ideal) V0 (ix2 t s)) x y = if s.val < t.val then x else y := by
  pointwise [res_main_v21, res_main_v16]
  exact sel_lt _ _ _ _ (by omega) (by omega)

theorem mask24 {α : Type} (e : Fin 8) (t s : Fin 8192) (x y : α) : Scalar.select (res_main_v24_1 (F := Ideal) V0 (ix3 e t s)) x y = if s.val < t.val then x else y := by
  pointwise [res_main_v24_1]
  exact mask t s x y

theorem mask30 {α : Type} (e : Fin 8) (t s : Fin 8192) (x y : α) : Scalar.select (res_main_v30_1 (F := Ideal) V0 (ix3 e t s)) x y = if s.val < t.val then x else y := by
  pointwise [res_main_v30_1]
  exact mask t s x y

theorem call0_is (h : Args V0 A D) : Is3 (l := 8) (n := 8192) (m := 8192) (res_main_call0_v0 V0) fun e t s => z (q A e) (k A e) t s := by
  intro e t s
  pointwise [res_main_call0_v0]
  rw [neg_neg]
  exact v15_is h e t s

theorem call3_is (h : Args V0 A D) : Is3 (l := 8) (n := 8192) (m := 8192) (res_main_call3_v0 V0) fun e t s => -z (q A e) (k A e) t s := by
  intro e t s
  pointwise [res_main_call3_v0]
  rw [v15_is h e t s, ← EReal.coe_neg]

theorem sp0_is (h : Args V0 A D) : Is3 (l := 8) (n := 8192) (m := 8192) (res_main_call0_v1_0 V0) fun e t s => -ls (-z (q A e) (k A e) t s) := by
  intro e t s
  pointwise [res_main_call0_v1_0, res_main_call0_call0_v3, res_main_call0_call0_cst]
  exact (if_neg (not_not.2 rfl)).trans (softplus_is (call0_is h e t s))

theorem sp3_is (h : Args V0 A D) : Is3 (l := 8) (n := 8192) (m := 8192) (res_main_call3_v1_0 V0) fun e t s => -ls (z (q A e) (k A e) t s) := by
  intro e t s
  pointwise [res_main_call3_v1_0, res_main_call3_call0_v3, res_main_call3_call0_cst]
  refine (if_neg (not_not.2 rfl)).trans ((softplus_is (call3_is h e t s)).trans ?_)
  rw [neg_neg]

theorem v24_is (h : Args V0 A D) : Is3 (l := 8) (n := 8192) (m := 8192) (res_main_v24_0 V0) fun e t s => lk (q A e) (k A e) t s := by
  intro e t s
  pointwise [res_main_v24_0]
  refine (mask24 e t s _ _).trans ?_
  rw [sp0_is h e t s, ← EReal.coe_neg, neg_neg]
  unfold lk
  rw [ls_sub]
  split_ifs
  · rfl
  · exact word_zero

theorem v29_is (h : Args V0 A D) : Is3 (l := 8) (n := 8192) (m := 8192) (res_main_v29 V0) fun e t s => Real.exp (ls (z (q A e) (k A e) t s) + tail (q A e) (k A e) t s) := by
  intro e t s
  have c := sum_from (Nm1 := 8191) rfl (v24_is h) (init := broadcastInDim S_ ![] bcast_S_S_ (constant S_ .f32 0x00000000#32))
    (fun i => by show Ideal.ofBits .f32 0x00000000#32 = 0; simp) h_S_ reduceWindows_S8x8192x8192_S8x8192x8192_w1s1p0_0_w1s1p0_0_w8192s1p0_8191 e t s
  unfold res_main_v29
  refine Eq.trans (congrArg Ideal.exp (congrArg₂ (fun a b : EReal => a + b) (congrArg (fun a : EReal => -a) (sp3_is h e t s))
    (congrArg₂ (fun a b : EReal => a - b) c (v24_is h e t s)))) ?_
  dsimp only
  rw [← EReal.coe_neg, ← EReal.coe_sub, ← EReal.coe_add, Ideal.exp_coe]
  refine congrArg (fun r : ℝ => ((Real.exp r : ℝ) : EReal)) ?_
  unfold tail
  rw [neg_neg, sum_eq_sum_Ico_succ_bot s.isLt]
  ring

theorem v32_is (h : Args V0 A D) : Is3 (l := 8) (n := 8192) (m := 8192) (res_main_v32 V0) fun e t s => w (q A e) (k A e) t s := by
  intro e t s
  pointwise [res_main_v32]
  refine (mask30 e t s _ _).trans ?_
  rw [v29_is h e t s]
  unfold w
  split_ifs
  · rfl
  · exact word_zero

theorem v42_is (h : Args V0 A D) : Is3 (l := 8) (n := 8192) (m := 8192) (res_main_v42 V0) fun e t s => g (q A e) (k A e) (v A e) (o D e) t s := by
  intro e t s
  pointwise [res_main_v42]
  refine (mask30 e t s _ _).trans ?_
  rw [v29_is h e t s, dots _ _ (fun d => v35_is h e d t) (fun d => v8_is h s e d)]
  unfold g w dw
  split_ifs
  · rw [← EReal.coe_mul, mul_comm]
  · rw [zero_mul]; rfl

theorem v54_is (h : Args V0 A D) : Is3 (l := 8) (n := 8192) (m := 8192) (res_main_v54 V0) fun e t s => dz (q A e) (k A e) (v A e) (o D e) t s / 8 := by
  intro e t s
  have c := sum_to (Nm1 := 8191) rfl (v42_is h) (init := broadcastInDim S_ ![] bcast_S_S_ (constant S_ .f32 0x00000000#32))
    (fun i => by show Ideal.ofBits .f32 0x00000000#32 = 0; simp) h_S_ reduceWindows_S8x8192x8192_S8x8192x8192_w1s1p0_0_w1s1p0_0_w8192s1p8191_0 e t s
  unfold res_main_v54
  generalize Host.reduceWindowAdd (F := Ideal) ![1, 1, 8192] ![1, 1, 1] ![0, 0, 8191] ![0, 0, 0] (res_main_v42 V0)
    (broadcastInDim S_ ![] bcast_S_S_ (constant S_ .f32 0x00000000#32)) reduceWindows_S8x8192x8192_S8x8192x8192_w1s1p0_0_w1s1p0_0_w8192s1p8191_0 h_S_ = y at c ⊢
  pointwise
  rw [call3_is h e t s, sp3_is h e t s, call0_is h e t s, sp0_is h e t s]
  simp only [EReal.coe_ne_top, if_false, reduceIte]
  rw [mask24 e t s, c, v42_is h e t s, eighth]
  by_cases hst : s.val < t.val
  · simp only [if_pos hst, ← EReal.coe_neg, ← EReal.coe_sub, ← EReal.coe_add, ← EReal.coe_mul, Ideal.exp_coe]
    refine congrArg (fun r : ℝ => (r : EReal)) ?_
    unfold dz
    beta_reduce
    rw [if_pos hst, sum_range_succ, ← bef]
    have e1 : -z (q A e) (k A e) t s + - -ls (z (q A e) (k A e) t s) = ls (-z (q A e) (k A e) t s) := by rw [← ls_sub]; ring
    have e2 : z (q A e) (k A e) t s + - -ls (-z (q A e) (k A e) t s) = ls (z (q A e) (k A e) t s) := by rw [← ls_sub]; ring
    rw [e1, e2, exp_ls_neg]
    ring
  · simp only [if_neg hst, ← EReal.coe_neg, ← EReal.coe_sub, ← EReal.coe_add, ← EReal.coe_mul, Ideal.exp_coe, Cert.Spec.coe_zero]
    refine congrArg (fun r : ℝ => (r : EReal)) ?_
    unfold dz g w
    rw [if_neg hst, if_neg hst]
    ring

/-! ## The results -/

theorem v60_is (h : Args V0 A D) : Is (n := 8192) (m := 512) (truncf (F := Ideal) .bf16 (shapeCast S8192x512 (transpose S8192x8x64 [1, 0, 2] (Host.dotGeneral (F := Ideal) (φ₁ := .f32) (φ₂ := .f32) dot_S8x8192x8192_S8192x8x64_S8x8192x64_2_0_1_2_0_1 none (res_main_v54 V0) (res_main_v5 V0)) transposes_S8x8192x64_S8192x8x64_1_0_2) shapeCasts_S8192x8x64_S8192x512) bitsLt_bf16_f32)
    fun t l => dq (q A (l / 64)) (k A (l / 64)) (v A (l / 64)) (o D (l / 64)) t (l % 64) := by
  intro t l
  pointwise
  refine (dots (fun s => dz (q A (l / 64)) (k A (l / 64)) (v A (l / 64)) (o D (l / 64)) t s / 8) (fun s => k A (l / 64) s (l % 64))
    (fun s => v54_is h (⟨l.val / 64, by omega⟩ : Fin 8) t s) (fun s => v5_is h s (⟨l.val / 64, by omega⟩ : Fin 8) (⟨l.val % 64, by omega⟩ : Fin 64))).trans (congrArg (fun r : ℝ => (r : EReal)) ?_)
  unfold dq
  rw [sum_div]
  exact sum_congr rfl fun _ _ => by ring

theorem v62_is (h : Args V0 A D) : Is (n := 512) (m := 8192) (transpose (α := EReal) S512x8192 [1, 0] (shapeCast S8192x512 (transpose S8192x8x64 [1, 0, 2] (Host.dotGeneral (F := Ideal) (φ₁ := .f32) (φ₂ := .f32) dot_S8x8192x8192_S8192x8x64_S8x8192x64_1_0_2_2_0_1 none (res_main_v54 V0) (res_main_v2 V0)) transposes_S8x8192x64_S8192x8x64_1_0_2) shapeCasts_S8192x8x64_S8192x512) transposes_S8192x512_S512x8192_1_0)
    fun l s => dk (q A (l / 64)) (k A (l / 64)) (v A (l / 64)) (o D (l / 64)) s (l % 64) := by
  intro l s
  pointwise
  refine (dots (fun t => dz (q A (l / 64)) (k A (l / 64)) (v A (l / 64)) (o D (l / 64)) t s / 8) (fun t => q A (l / 64) t (l % 64))
    (fun t => v54_is h (⟨l.val / 64, by omega⟩ : Fin 8) t s) (fun t => v2_is h t (⟨l.val / 64, by omega⟩ : Fin 8) (⟨l.val % 64, by omega⟩ : Fin 64))).trans (congrArg (fun r : ℝ => (r : EReal)) ?_)
  unfold dk
  exact sum_congr rfl fun _ _ => by ring

theorem v64_is (h : Args V0 A D) : Is (n := 512) (m := 8192) (transpose (α := EReal) S512x8192 [1, 0] (shapeCast S8192x512 (transpose S8192x8x64 [2, 0, 1] (Host.dotGeneral (F := Ideal) (φ₁ := .f32) (φ₂ := .f32) dot_S8x64x8192_S8x8192x8192_S8x64x8192_2_1_1_2_0_0 none (res_main_v35 V0) (res_main_v32 V0)) transposes_S8x64x8192_S8192x8x64_2_0_1) shapeCasts_S8192x8x64_S8192x512) transposes_S8192x512_S512x8192_1_0)
    fun l s => dv (q A (l / 64)) (k A (l / 64)) (o D (l / 64)) s (l % 64) := by
  intro l s
  pointwise
  exact dots (fun t => o D (l / 64) t (l % 64)) (fun t => w (q A (l / 64)) (k A (l / 64)) t s)
    (fun t => v35_is h (⟨l.val / 64, by omega⟩ : Fin 8) (⟨l.val % 64, by omega⟩ : Fin 64) t) (fun t => v32_is h (⟨l.val / 64, by omega⟩ : Fin 8) t s)

end Cert.ReferenceIdeal.Value
end
-- ==== Proof.Finite.lean ====
/- What the precondition says of an argument: every entry is a real. -/
module

public import proofs.«01_k».proof.Pre_finite
public import proofs.«01_k».proof.Proof.Spec
public import Idealize.ShloMosaic.Lib.Tactic

@[expose] public section

noncomputable section

namespace Cert.Pre_finite

open Idealize.ShloMosaic Cert.Spec

theorem facts : Facts where
  bitsLt_bf16_f32 := by decide
  bcast_S_S8192x3072 := by decide
  bcast_S_S8192x512 := by decide

/-- Only of a real is the difference with itself zero. -/
theorem real_of_sub_self {x : EReal} (h : x - x = 0) : x = ((x.toReal : ℝ) : EReal) := by
  refine (EReal.coe_toReal ?_ ?_).symm
  · rintro rfl
    simp at h
  · rintro rfl
    simp at h

/-- The entries of an array as reals. -/
def reals {n m : ℕ} (x : (⟨2, ![n, m]⟩ : Shape).Idx → EReal) (r c : ℕ) : ℝ :=
  if h : r < n ∧ c < m then (x (ix2 (⟨r, h.1⟩ : Fin n) (⟨c, h.2⟩ : Fin m))).toReal else 0

theorem reals_is {n m : ℕ} {x : (⟨2, ![n, m]⟩ : Shape).Idx → EReal} (h : ∀ j, x j - x j = 0) : Is x (reals x) := fun r c => by
  unfold reals
  rw [dif_pos ⟨r.isLt, c.isLt⟩]
  exact real_of_sub_self (h _)

theorem sub_self_of_cmp {x : EReal} (h : Ideal.cmp .oeq (x - x) (Ideal.ofBits .f32 0x00000000#32) = 1#1) : x - x = 0 := by
  rw [show Ideal.ofBits .f32 0x00000000#32 = 0 by simp] at h
  by_contra hne
  rw [Ideal.cmp] at h
  simp [hne] at h

variable [hF : Facts] (x : FVec Ideal S8192x3072 .bf16) (y : FVec Ideal S8192x512 .bf16)

theorem fst_real (h : (fn (F := Ideal) x y).1 = fun _ => 1#1) : Is (n := 8192) (m := 3072) x (reals (n := 8192) (m := 3072) x) :=
  reals_is fun j => sub_self_of_cmp (congrFun h j)

theorem snd_real (h : (fn (F := Ideal) x y).2 = fun _ => 1#1) : Is (n := 8192) (m := 512) y (reals (n := 8192) (m := 512) y) :=
  reals_is fun j => sub_self_of_cmp (congrFun h j)

end Cert.Pre_finite
end
-- ==== Proof.Prod.lean ====
/- A matrix product in blocks of its contracted axis: an accumulator that starts at the first block's product and adds the
   next ones holds, at the last, the whole product. -/
module

public import Idealize.ShloMosaic.Lib.Pipeline.ValueKit

@[expose] public section

namespace Cert.Prod

open Idealize.ShloMosaic Finset

/-- Runs of `J` points share a result block; `acc` is the accumulator after each point, `x` the `tk` terms that the point adds,
    which are consecutive ones of the `K` terms `L` of the whole sum. -/
theorem summed {N J tk K : ℕ} [NeZero J] {ι κ : Type*} (acc : (n : ℕ) → n < N → ι → EReal)
    (x : Fin N → Fin tk → ι → EReal) (L : Fin K → κ → EReal) (place : ι → κ) (t : Fin N) (ht : t.val % J = J - 1)
    (h0 : ∀ t : Fin N, t.val % J = 0 → ∀ i, acc t.val t.isLt i = ∑ k, x t k i)
    (hs : ∀ t : Fin N, ¬t.val % J = 0 → ∀ i,
      acc t.val t.isLt i = acc (t.val - 1) (Nat.lt_of_le_of_lt (Nat.sub_le _ _) t.isLt) i + ∑ k, x t k i)
    (hx : ∀ (p : Fin N) (k : Fin tk) (l : Fin K) (i), p.val / J = t.val / J → l.val = p.val % J * tk + k.val →
      x p k i = L l (place i))
    (i : ι) (hK : K = J * tk := by decide) :
    acc t.val t.isLt i = ∑ l, L l (place i) := by
  rw [Pipeline.eq_sum_fin_of_reset_step_apply_of_flush acc J (fun _ => 0) (fun t i => ∑ k, x t k i)
    (fun t h i => (h0 t h i).trans (zero_add _).symm) hs t ht i, zero_add]
  refine Fin.sum_mul_add_congr (fun s k hl => ?_) hK
  have hJ : 0 < J := NeZero.pos J
  have hd : (J * (t.val / J) + s.val) / J = t.val / J := by
    rw [Nat.mul_add_div hJ, Nat.div_eq_of_lt s.isLt, Nat.add_zero]
  have hm : (J * (t.val / J) + s.val) % J = s.val := by rw [Nat.mul_add_mod, Nat.mod_eq_of_lt s.isLt]
  have e : s.val * tk + k.val = (J * (t.val / J) + s.val) % J * tk + k.val := by rw [hm]
  rw [hx ⟨J * (t.val / J) + s.val, _⟩ k ⟨s.val * tk + k.val, hl⟩ i hd e]

/-- The same where the terms are products; `x` and `y` are the factors of the point's own product. -/
theorem accumulated {N J tk K : ℕ} [NeZero J] {ι κ : Type*} (acc : (n : ℕ) → n < N → ι → EReal)
    (x y : Fin N → Fin tk → ι → EReal) (L R : Fin K → κ → EReal) (place : ι → κ) (t : Fin N) (ht : t.val % J = J - 1)
    (h0 : ∀ t : Fin N, t.val % J = 0 → ∀ i, acc t.val t.isLt i = ∑ k, x t k i * y t k i)
    (hs : ∀ t : Fin N, ¬t.val % J = 0 → ∀ i,
      acc t.val t.isLt i = acc (t.val - 1) (Nat.lt_of_le_of_lt (Nat.sub_le _ _) t.isLt) i + ∑ k, x t k i * y t k i)
    (hx : ∀ (p : Fin N) (k : Fin tk) (l : Fin K) (i), p.val / J = t.val / J → l.val = p.val % J * tk + k.val →
      x p k i = L l (place i))
    (hy : ∀ (p : Fin N) (k : Fin tk) (l : Fin K) (i), p.val / J = t.val / J → l.val = p.val % J * tk + k.val →
      y p k i = R l (place i))
    (i : ι) (hK : K = J * tk := by decide) :
    acc t.val t.isLt i = ∑ l, L l (place i) * R l (place i) :=
  summed acc (fun t k i => x t k i * y t k i) (fun l i => L l i * R l i) place t ht h0 hs
    (fun p k l i hp hl => by rw [hx p k l i hp hl, hy p k l i hp hl]) i hK

/-- A product whose axis is not cut: equal factors, equal sums. -/
theorem whole {K : ℕ} {f g f' g' : Fin K → EReal} (hf : ∀ k, f k = f' k) (hg : ∀ k, g k = g' k) :
    ∑ k, f k * g k = ∑ k, f' k * g' k :=
  sum_congr rfl fun k _ => congrArg₂ (· * ·) (hf k) (hg k)

/-- The kernel adds the array to the product; the reference adds the product to the array. -/
theorem added {p r p' r' : EReal} (hr : r = r') (hp : p = p') : p + r = r' + p' := by
  rw [hr, hp, add_comm]

end Cert.Prod
-- ==== Proof.FfUpDw.lean ====
/- `ff_up_dw`: the gradient of the up projection's weights, a product over the tokens in 8 blocks of 1024. -/
module

public import proofs.«01_k».proof.Defs
public import proofs.«01_k».proof.Proof.Prod
public import proofs.«01_k».proof.Proof.Gen.Kernel2
public import proofs.«01_k».proof.Proof.Gen.Kernel2Ideal.Value
public import proofs.«01_k».proof.Proof.Gen.Reference2Ideal.Run
public import Idealize.ShloMosaic.Lib.Pipeline.ReadBack

@[expose] public section

set_option maxRecDepth 16384

noncomputable section

namespace Cert.Kernel2Ideal.Product

open Idealize.ShloMosaic Idealize.ShloMosaic.TcCoe Idealize.SL.Sem
open Cert.Kernel2Ideal Cert.Kernel2Ideal.Gen

theorem pay1_apply (a : Vec Ideal S1024x1024 .bf16) (b : Vec Ideal S1024x1408 .bf16) (y : S1024x1408.Idx) :
    k0_pay1 a b y = ∑ k : Fin 1024, a (ix2 k (y 0)) * b (ix2 k (y 1)) := by
  unfold k0_pay1
  pointwise

theorem idx : ∀ t : Fin cfg0.N, win0_0.index t = ![t.val % 8, 0] ∧ win0_1.index t = ![t.val % 8, t.val / 8]
    ∧ win0_2.index t = ![0, t.val / 8] := by
  decide +kernel

/-- The product over the rows of both. -/
def prod (A : Vec Ideal S8192x1024 .bf16) (B : Vec Ideal S8192x5632 .bf16) : Vec Ideal S1024x5632 .bf16 :=
  fun i => ∑ k : Fin 8192, A (ix2 k (i 0)) * B (ix2 k (i 1))

variable (m : (ℓ : Loc nD τ sig) → Buf (Elt Ideal) ℓ) (c : Dev nD)

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, outsAt0_C m c t (by omega) (by omega) h7]; frame_out
  unfold k0_pay4
  pointwise
  refine Eq.trans ?_ (Cert.Prod.accumulated (J := 8) (tk := 1024) (K := 8192) (fun n h => (outsAt0 m c n h).2) (fun t k y => iblk m c 0 t (ix2 k (y 0)))
    (fun t k y => iblk m c 1 t (ix2 k (y 1))) (fun k i => (m ((c : Thread nD τ).loc main_arg0) : Vec Ideal S8192x1024 .bf16) (ix2 k (i 0)))
    (fun k i => (m ((c : Thread nD τ).loc main_arg1) : Vec Ideal S8192x5632 .bf16) (ix2 k (i 1)))
    (fun y => ((cfg0.win 2).blk t).view.emb y) t h7 (fun t h y => ?_) (fun t h y => ?_) (fun p k l y hp hl => ?_) (fun p k l y hp hl => ?_) y)
  · rw [outsAt0_C m c t (by omega) (by omega) h7]; frame_out
  · rw [outsAt0_A m c t h (by omega) (by omega)]; frame_out
    exact (congrFun (shapeCast_self _ _) y).trans (pay1_apply _ _ y)
  · by_cases h2 : t.val % 8 = 7
    · rw [outsAt0_C m c t h (by omega) h2]; frame_out; simp only [read_unread_whole]
      unfold k0_pay3
      pointwise
      rw [pay1_apply]
    · rw [outsAt0_B m c t h (by omega) h2]; frame_out; simp only [read_unread_whole]
      unfold k0_pay3
      pointwise
      rw [pay1_apply]
  · blk_ext [iblk, V, idx]
  · blk_ext [iblk, V, idx]

theorem frame_ideal : Cert.quiescent_Kernel2Ideal (hKernel2Ideal := facts) := fun m ρ _ => Gen.frame m ρ

set_option backward.isDefEq.respectTransparency false in
/-- The kernel as printed and the kernel at the extended reals are one text. -/
theorem same : @Cert.Kernel2.defs Bits _ Cert.Kernel2.Gen.facts = @defs Bits _ facts
    ∧ @Cert.Kernel2.main Bits _ = @main Bits _ :=
  ⟨congrArg (Pipeline.defs (pcfgs (F := Bits))) (congrArg Defs.onTc (funext₂ fun l a => match l, a with | 0, (_, _) => rfl)), rfl⟩

theorem frame_kernel : Cert.quiescent_Kernel2 (hKernel2 := Cert.Kernel2.Gen.facts) := by
  intro m ρ _
  rw [same.1, same.2]
  exact Gen.frame (F := Bits) m ρ

theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem value : Cert.algebraic_Kernel2Ideal_Reference2Ideal (hKernel2Ideal := facts)
    (hReference2Ideal := Cert.Reference2Ideal.Gen.facts) := by
  intro m g m' g' _ hm
  refine ⟨fun c => prod (m ((c : Thread nD τ).loc main_arg0)) (m ((c : Thread nD τ).loc main_arg1)),
    (θ_run defs _ _).mono (fun r h c => ⟨(h c).1.trans (arr m c), (h c).2⟩) (Value.run_blocks m g),
    (θ_run Cert.Reference2Ideal.defs _ _).mono (fun r h c => ⟨(h c).1.trans (funext fun i => ?_), (h c).2⟩)
      (Cert.Reference2Ideal.Value.run (F := Ideal) m' g')⟩
  rw [(hm c).1, (hm c).2]
  unfold prod
  pointwise
  exact Finset.sum_congr rfl fun k _ => mul_comm _ _

end Cert.Kernel2Ideal.Product

end
-- ==== Proof.FfUpDx.lean ====
/- `ff_up_dx`: the gradient of the up projection's input, a product over its 5632 columns in 4 blocks. -/
module

public import proofs.«01_k».proof.Defs
public import proofs.«01_k».proof.Proof.Prod
public import proofs.«01_k».proof.Proof.Gen.Kernel3
public import proofs.«01_k».proof.Proof.Gen.Kernel3Ideal.Value
public import proofs.«01_k».proof.Proof.Gen.Reference3Ideal.Run
public import Idealize.ShloMosaic.Lib.Pipeline.ReadBack

@[expose] public section

set_option maxRecDepth 16384

noncomputable section

namespace Cert.Kernel3Ideal.Product

open Idealize.ShloMosaic Idealize.ShloMosaic.TcCoe Idealize.SL.Sem
open Cert.Kernel3Ideal Cert.Kernel3Ideal.Gen

theorem pay1_apply (a : Vec Ideal S1024x1408 .bf16) (b : Vec Ideal S1024x1408 .bf16) (y : S1024x1024.Idx) :
    k0_pay1 a b y = ∑ k : Fin 1408, a (ix2 (y 0) k) * b (ix2 (y 1) k) := by
  unfold k0_pay1
  pointwise

theorem idx : ∀ t : Fin cfg0.N, win0_0.index t = ![t.val / 4, t.val % 4] ∧ win0_1.index t = ![0, t.val % 4]
    ∧ win0_2.index t = ![t.val / 4, 0] := by
  decide +kernel

/-- The product over the columns of both. -/
def prod (A : Vec Ideal S8192x5632 .bf16) (B : Vec Ideal S1024x5632 .bf16) : Vec Ideal S8192x1024 .f32 :=
  fun i => ∑ k : Fin 5632, A (ix2 (i 0) k) * B (ix2 (i 1) k)

variable (m : (ℓ : Loc nD τ sig) → Buf (Elt Ideal) ℓ) (c : Dev nD)

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  rw [after0_2, outsAt0_C m c t (by omega) (by omega) hl]; frame_out
  refine Eq.trans ?_ (Cert.Prod.accumulated (J := 4) (tk := 1408) (K := 5632) (fun n h => (outsAt0 m c n h).2) (fun t k y => iblk m c 0 t (ix2 (y 0) k))
    (fun t k y => iblk m c 1 t (ix2 (y 1) k)) (fun k i => (m ((c : Thread nD τ).loc main_arg0) : Vec Ideal S8192x5632 .bf16) (ix2 (i 0) k))
    (fun k i => (m ((c : Thread nD τ).loc main_arg1) : Vec Ideal S1024x5632 .bf16) (ix2 (i 1) k))
    (fun y => ((cfg0.win 2).blk t).view.emb y) t hl (fun t h y => ?_) (fun t h y => ?_) (fun p k l y hp hl => ?_) (fun p k l y hp hl => ?_) y)
  · rw [outsAt0_C m c t (by omega) (by omega) hl]; frame_out
  · rw [outsAt0_A m c t h (by omega) (by omega)]; frame_out
    exact (congrFun (shapeCast_self _ _) y).trans (pay1_apply _ _ y)
  · by_cases h2 : t.val % 4 = 3
    · rw [outsAt0_C m c t h (by omega) h2]; frame_out; simp only [read_unread_whole]
      unfold k0_pay3
      pointwise
      rw [pay1_apply]
    · rw [outsAt0_B m c t h (by omega) h2]; frame_out; simp only [read_unread_whole]
      unfold k0_pay3
      pointwise
      rw [pay1_apply]
  · blk_ext [iblk, V, idx]
  · blk_ext [iblk, V, idx]

theorem frame_ideal : Cert.quiescent_Kernel3Ideal (hKernel3Ideal := facts) := fun m ρ _ => Gen.frame m ρ

set_option backward.isDefEq.respectTransparency false in
/-- The kernel as printed and the kernel at the extended reals are one text. -/
theorem same : @Cert.Kernel3.defs Bits _ Cert.Kernel3.Gen.facts = @defs Bits _ facts
    ∧ @Cert.Kernel3.main Bits _ = @main Bits _ :=
  ⟨congrArg (Pipeline.defs (pcfgs (F := Bits))) (congrArg Defs.onTc (funext₂ fun l a => match l, a with | 0, (_, _) => rfl)), rfl⟩

theorem frame_kernel : Cert.quiescent_Kernel3 (hKernel3 := Cert.Kernel3.Gen.facts) := by
  intro m ρ _
  rw [same.1, same.2]
  exact Gen.frame (F := Bits) m ρ

theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem value : Cert.algebraic_Kernel3Ideal_Reference3Ideal (hKernel3Ideal := facts)
    (hReference3Ideal := Cert.Reference3Ideal.Gen.facts) := by
  intro m g m' g' _ hm
  refine ⟨fun c => prod (m ((c : Thread nD τ).loc main_arg0)) (m ((c : Thread nD τ).loc main_arg1)),
    (θ_run defs _ _).mono (fun r h c => ⟨(h c).1.trans (arr m c), (h c).2⟩) (Value.run_blocks m g),
    (θ_run Cert.Reference3Ideal.defs _ _).mono (fun r h c => ⟨(h c).1.trans (funext fun i => ?_), (h c).2⟩)
      (Cert.Reference3Ideal.Value.run (F := Ideal) m' g')⟩
  rw [(hm c).1, (hm c).2]
  unfold prod
  pointwise

end Cert.Kernel3Ideal.Product

end
-- ==== Proof.FfDownDw.lean ====
/- `ff_down_dw`: the gradient of the down projection's weights, a product over the tokens in 8 blocks of 1024. -/
module

public import proofs.«01_k».proof.Defs
public import proofs.«01_k».proof.Proof.Prod
public import proofs.«01_k».proof.Proof.Gen.Kernel4
public import proofs.«01_k».proof.Proof.Gen.Kernel4Ideal.Value
public import proofs.«01_k».proof.Proof.Gen.Reference4Ideal.Run
public import Idealize.ShloMosaic.Lib.Pipeline.ReadBack

@[expose] public section

set_option maxRecDepth 16384

noncomputable section

namespace Cert.Kernel4Ideal.Product

open Idealize.ShloMosaic Idealize.ShloMosaic.TcCoe Idealize.SL.Sem
open Cert.Kernel4Ideal Cert.Kernel4Ideal.Gen

theorem pay1_apply (a : Vec Ideal S1024x1408 .bf16) (b : Vec Ideal S1024x1024 .bf16) (y : S1408x1024.Idx) :
    k0_pay1 a b y = ∑ k : Fin 1024, a (ix2 k (y 0)) * b (ix2 k (y 1)) := by
  unfold k0_pay1
  pointwise

theorem idx : ∀ t : Fin cfg0.N, win0_0.index t = ![t.val % 8, t.val / 8] ∧ win0_1.index t = ![t.val % 8, 0]
    ∧ win0_2.index t = ![t.val / 8, 0] := by
  decide +kernel

/-- The product over the rows of both. -/
def prod (A : Vec Ideal S8192x2816 .bf16) (B : Vec Ideal S8192x1024 .bf16) : Vec Ideal S2816x1024 .bf16 :=
  fun i => ∑ k : Fin 8192, A (ix2 k (i 0)) * B (ix2 k (i 1))

variable (m : (ℓ : Loc nD τ sig) → Buf (Elt Ideal) ℓ) (c : Dev nD)

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, outsAt0_C m c t (by omega) (by omega) h7]; frame_out
  unfold k0_pay4
  pointwise
  refine Eq.trans ?_ (Cert.Prod.accumulated (J := 8) (tk := 1024) (K := 8192) (fun n h => (outsAt0 m c n h).2) (fun t k y => iblk m c 0 t (ix2 k (y 0)))
    (fun t k y => iblk m c 1 t (ix2 k (y 1))) (fun k i => (m ((c : Thread nD τ).loc main_arg0) : Vec Ideal S8192x2816 .bf16) (ix2 k (i 0)))
    (fun k i => (m ((c : Thread nD τ).loc main_arg1) : Vec Ideal S8192x1024 .bf16) (ix2 k (i 1)))
    (fun y => ((cfg0.win 2).blk t).view.emb y) t h7 (fun t h y => ?_) (fun t h y => ?_) (fun p k l y hp hl => ?_) (fun p k l y hp hl => ?_) y)
  · rw [outsAt0_C m c t (by omega) (by omega) h7]; frame_out
  · rw [outsAt0_A m c t h (by omega) (by omega)]; frame_out
    exact (congrFun (shapeCast_self _ _) y).trans (pay1_apply _ _ y)
  · by_cases h2 : t.val % 8 = 7
    · rw [outsAt0_C m c t h (by omega) h2]; frame_out; simp only [read_unread_whole]
      unfold k0_pay3
      pointwise
      rw [pay1_apply]
    · rw [outsAt0_B m c t h (by omega) h2]; frame_out; simp only [read_unread_whole]
      unfold k0_pay3
      pointwise
      rw [pay1_apply]
  · blk_ext [iblk, V, idx]
  · blk_ext [iblk, V, idx]

theorem frame_ideal : Cert.quiescent_Kernel4Ideal (hKernel4Ideal := facts) := fun m ρ _ => Gen.frame m ρ

set_option backward.isDefEq.respectTransparency false in
/-- The kernel as printed and the kernel at the extended reals are one text. -/
theorem same : @Cert.Kernel4.defs Bits _ Cert.Kernel4.Gen.facts = @defs Bits _ facts
    ∧ @Cert.Kernel4.main Bits _ = @main Bits _ :=
  ⟨congrArg (Pipeline.defs (pcfgs (F := Bits))) (congrArg Defs.onTc (funext₂ fun l a => match l, a with | 0, (_, _) => rfl)), rfl⟩

theorem frame_kernel : Cert.quiescent_Kernel4 (hKernel4 := Cert.Kernel4.Gen.facts) := by
  intro m ρ _
  rw [same.1, same.2]
  exact Gen.frame (F := Bits) m ρ

theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem value : Cert.algebraic_Kernel4Ideal_Reference4Ideal (hKernel4Ideal := facts)
    (hReference4Ideal := Cert.Reference4Ideal.Gen.facts) := by
  intro m g m' g' _ hm
  refine ⟨fun c => prod (m ((c : Thread nD τ).loc main_arg0)) (m ((c : Thread nD τ).loc main_arg1)),
    (θ_run defs _ _).mono (fun r h c => ⟨(h c).1.trans (arr m c), (h c).2⟩) (Value.run_blocks m g),
    (θ_run Cert.Reference4Ideal.defs _ _).mono (fun r h c => ⟨(h c).1.trans (funext fun i => ?_), (h c).2⟩)
      (Cert.Reference4Ideal.Value.run (F := Ideal) m' g')⟩
  rw [(hm c).1, (hm c).2]
  unfold prod
  pointwise
  exact Finset.sum_congr rfl fun k _ => mul_comm _ _

end Cert.Kernel4Ideal.Product

end
-- ==== Proof.FfDownDx.lean ====
/- `ff_down_dx`: the gradient of the down projection's input; each block is one whole product. -/
module

public import proofs.«01_k».proof.Defs
public import proofs.«01_k».proof.Proof.Prod
public import proofs.«01_k».proof.Proof.Gen.Kernel5
public import proofs.«01_k».proof.Proof.Gen.Kernel5Ideal.Value
public import proofs.«01_k».proof.Proof.Gen.Reference5Ideal.Run
public import Idealize.ShloMosaic.Lib.Pipeline.ReadBack

@[expose] public section

set_option maxRecDepth 16384

noncomputable section

namespace Cert.Kernel5Ideal.Product

open Idealize.ShloMosaic Idealize.ShloMosaic.TcCoe Idealize.SL.Sem
open Cert.Kernel5Ideal Cert.Kernel5Ideal.Gen

theorem idx : ∀ t : Fin cfg0.N, win0_0.index t = ![t.val / 2, 0] ∧ win0_1.index t = ![t.val % 2, 0]
    ∧ win0_2.index t = ![t.val / 2, t.val % 2] := by
  decide +kernel

/-- The result as one function of the arguments. -/
def prod (A : Vec Ideal S8192x1024 .bf16) (B : Vec Ideal S2816x1024 .bf16) : Vec Ideal S8192x2816 .bf16 :=
  fun i => ∑ k : Fin 1024, A (ix2 (i 0) k) * B (ix2 (i 1) k)

variable (m : (ℓ : Loc nD τ sig) → Buf (Elt Ideal) ℓ) (c : Dev nD)

theorem arr : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  unfold k0_pay1 prod
  pointwise
  refine Cert.Prod.whole (fun k => ?_) (fun k => ?_)
  · blk_ext [iblk, V, idx]
  · blk_ext [iblk, V, idx]

theorem frame_ideal : Cert.quiescent_Kernel5Ideal (hKernel5Ideal := facts) := fun m ρ _ => Gen.frame m ρ

set_option backward.isDefEq.respectTransparency false in
/-- The kernel as printed and the kernel at the extended reals are one text. -/
theorem same : @Cert.Kernel5.defs Bits _ Cert.Kernel5.Gen.facts = @defs Bits _ facts
    ∧ @Cert.Kernel5.main Bits _ = @main Bits _ :=
  ⟨congrArg (Pipeline.defs (pcfgs (F := Bits))) (congrArg Defs.onTc (funext₂ fun l a => match l, a with | 0, (_, _) => rfl)), rfl⟩

theorem frame_kernel : Cert.quiescent_Kernel5 (hKernel5 := Cert.Kernel5.Gen.facts) := by
  intro m ρ _
  rw [same.1, same.2]
  exact Gen.frame (F := Bits) m ρ

theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem value : Cert.algebraic_Kernel5Ideal_Reference5Ideal (hKernel5Ideal := facts)
    (hReference5Ideal := Cert.Reference5Ideal.Gen.facts) := by
  intro m g m' g' _ hm
  refine ⟨fun c => prod (m ((c : Thread nD τ).loc main_arg0)) (m ((c : Thread nD τ).loc main_arg1)),
    (θ_run defs _ _).mono (fun r h c => ⟨(h c).1.trans (arr m c), (h c).2⟩) (Value.run_blocks m g),
    (θ_run Cert.Reference5Ideal.defs _ _).mono (fun r h c => ⟨(h c).1.trans (funext fun i => ?_), (h c).2⟩)
      (Cert.Reference5Ideal.Value.run (F := Ideal) m' g')⟩
  rw [(hm c).1, (hm c).2]
  unfold prod
  pointwise

end Cert.Kernel5Ideal.Product

end
-- ==== Proof.ProjQkvDw.lean ====
/- `proj_qkv_dw`: the gradient of the projection's weights, a product over the tokens in 8 blocks of 1024. -/
module

public import proofs.«01_k».proof.Defs
public import proofs.«01_k».proof.Proof.Prod
public import proofs.«01_k».proof.Proof.Gen.Kernel6
public import proofs.«01_k».proof.Proof.Gen.Kernel6Ideal.Value
public import proofs.«01_k».proof.Proof.Gen.Reference6Ideal.Run
public import Idealize.ShloMosaic.Lib.Pipeline.ReadBack

@[expose] public section

set_option maxRecDepth 16384

noncomputable section

namespace Cert.Kernel6Ideal.Product

open Idealize.ShloMosaic Idealize.ShloMosaic.TcCoe Idealize.SL.Sem
open Cert.Kernel6Ideal Cert.Kernel6Ideal.Gen

theorem pay1_apply (a : Vec Ideal S1024x1024 .bf16) (b : Vec Ideal S1024x1024 .bf16) (y : S1024x1024.Idx) :
    k0_pay1 a b y = ∑ k : Fin 1024, a (ix2 k (y 0)) * b (ix2 k (y 1)) := by
  unfold k0_pay1
  pointwise

theorem idx : ∀ t : Fin cfg0.N, win0_0.index t = ![t.val % 8, 0] ∧ win0_1.index t = ![t.val % 8, t.val / 8]
    ∧ win0_2.index t = ![0, t.val / 8] := by
  decide +kernel

/-- The product over the rows of both. -/
def prod (A : Vec Ideal S8192x1024 .bf16) (B : Vec Ideal S8192x3072 .bf16) : Vec Ideal S1024x3072 .bf16 :=
  fun i => ∑ k : Fin 8192, A (ix2 k (i 0)) * B (ix2 k (i 1))

variable (m : (ℓ : Loc nD τ sig) → Buf (Elt Ideal) ℓ) (c : Dev nD)

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, outsAt0_C m c t (by omega) (by omega) h7]; frame_out
  unfold k0_pay4
  pointwise
  refine Eq.trans ?_ (Cert.Prod.accumulated (J := 8) (tk := 1024) (K := 8192) (fun n h => (outsAt0 m c n h).2) (fun t k y => iblk m c 0 t (ix2 k (y 0)))
    (fun t k y => iblk m c 1 t (ix2 k (y 1))) (fun k i => (m ((c : Thread nD τ).loc main_arg0) : Vec Ideal S8192x1024 .bf16) (ix2 k (i 0)))
    (fun k i => (m ((c : Thread nD τ).loc main_arg1) : Vec Ideal S8192x3072 .bf16) (ix2 k (i 1)))
    (fun y => ((cfg0.win 2).blk t).view.emb y) t h7 (fun t h y => ?_) (fun t h y => ?_) (fun p k l y hp hl => ?_) (fun p k l y hp hl => ?_) y)
  · rw [outsAt0_C m c t (by omega) (by omega) h7]; frame_out
  · rw [outsAt0_A m c t h (by omega) (by omega)]; frame_out
    exact (congrFun (shapeCast_self _ _) y).trans (pay1_apply _ _ y)
  · by_cases h2 : t.val % 8 = 7
    · rw [outsAt0_C m c t h (by omega) h2]; frame_out; simp only [read_unread_whole]
      unfold k0_pay3
      pointwise
      rw [pay1_apply]
    · rw [outsAt0_B m c t h (by omega) h2]; frame_out; simp only [read_unread_whole]
      unfold k0_pay3
      pointwise
      rw [pay1_apply]
  · blk_ext [iblk, V, idx]
  · blk_ext [iblk, V, idx]

theorem frame_ideal : Cert.quiescent_Kernel6Ideal (hKernel6Ideal := facts) := fun m ρ _ => Gen.frame m ρ

set_option backward.isDefEq.respectTransparency false in
/-- The kernel as printed and the kernel at the extended reals are one text. -/
theorem same : @Cert.Kernel6.defs Bits _ Cert.Kernel6.Gen.facts = @defs Bits _ facts
    ∧ @Cert.Kernel6.main Bits _ = @main Bits _ :=
  ⟨congrArg (Pipeline.defs (pcfgs (F := Bits))) (congrArg Defs.onTc (funext₂ fun l a => match l, a with | 0, (_, _) => rfl)), rfl⟩

theorem frame_kernel : Cert.quiescent_Kernel6 (hKernel6 := Cert.Kernel6.Gen.facts) := by
  intro m ρ _
  rw [same.1, same.2]
  exact Gen.frame (F := Bits) m ρ

theorem frame_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem value : Cert.algebraic_Kernel6Ideal_Reference6Ideal (hKernel6Ideal := facts)
    (hReference6Ideal := Cert.Reference6Ideal.Gen.facts) := by
  intro m g m' g' _ hm
  refine ⟨fun c => prod (m ((c : Thread nD τ).loc main_arg0)) (m ((c : Thread nD τ).loc main_arg1)),
    (θ_run defs _ _).mono (fun r h c => ⟨(h c).1.trans (arr m c), (h c).2⟩) (Value.run_blocks m g),
    (θ_run Cert.Reference6Ideal.defs _ _).mono (fun r h c => ⟨(h c).1.trans (funext fun i => ?_), (h c).2⟩)
      (Cert.Reference6Ideal.Value.run (F := Ideal) m' g')⟩
  rw [(hm c).1, (hm c).2]
  unfold prod
  pointwise
  exact Finset.sum_congr rfl fun k _ => mul_comm _ _

end Cert.Kernel6Ideal.Product

end
-- ==== Proof.ProjQkvDx.lean ====
/- `proj_qkv_dx`: the gradient of the projection's input, a product over its 3072 columns in 3 blocks. -/
module

public import proofs.«01_k».proof.Defs
public import proofs.«01_k».proof.Proof.Prod
public import proofs.«01_k».proof.Proof.Gen.Kernel7
public import proofs.«01_k».proof.Proof.Gen.Kernel7Ideal.Value
public import proofs.«01_k».proof.Proof.Gen.Reference7Ideal.Run
public import Idealize.ShloMosaic.Lib.Pipeline.ReadBack

@[expose] public section

set_option maxRecDepth 16384

noncomputable section

namespace Cert.Kernel7Ideal.Product

open Idealize.ShloMosaic Idealize.ShloMosaic.TcCoe Idealize.SL.Sem
open Cert.Kernel7Ideal Cert.Kernel7Ideal.Gen

theorem pay1_apply (a : Vec Ideal S1024x1024 .bf16) (b : Vec Ideal S1024x1024 .bf16) (y : S1024x1024.Idx) :
    k0_pay1 a b y = ∑ k : Fin 1024, a (ix2 (y 0) k) * b (ix2 (y 1) k) := by
  unfold k0_pay1
  pointwise

theorem idx : ∀ t : Fin cfg0.N, win0_0.index t = ![t.val / 3, t.val % 3] ∧ win0_1.index t = ![0, t.val % 3]
    ∧ win0_2.index t = ![t.val / 3, 0] := by
  decide +kernel

/-- The product over the columns of both. -/
def prod (A : Vec Ideal S8192x3072 .bf16) (B : Vec Ideal S1024x3072 .bf16) : Vec Ideal S8192x1024 .f32 :=
  fun i => ∑ k : Fin 3072, A (ix2 (i 0) k) * B (ix2 (i 1) k)

variable (m : (ℓ : Loc nD τ sig) → Buf (Elt Ideal) ℓ) (c : Dev nD)

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  rw [after0_2, outsAt0_C m c t (by omega) (by omega) hl]; frame_out
  refine Eq.trans ?_ (Cert.Prod.accumulated (J := 3) (tk := 1024) (K := 3072) (fun n h => (outsAt0 m c n h).2) (fun t k y => iblk m c 0 t (ix2 (y 0) k))
    (fun t k y => iblk m c 1 t (ix2 (y 1) k)) (fun k i => (m ((c : Thread nD τ).loc main_arg0) : Vec Ideal S8192x3072 .bf16) (ix2 (i 0) k))
    (fun k i => (m ((c : Thread nD τ).loc main_arg1) : Vec Ideal S1024x3072 .bf16) (ix2 (i 1) k))
    (fun y => ((cfg0.win 2).blk t).view.emb y) t hl (fun t h y => ?_) (fun t h y => ?_) (fun p k l y hp hl => ?_) (fun p k l y hp hl => ?_) y)
  · rw [outsAt0_C m c t (by omega) (by omega) hl]; frame_out
  · rw [outsAt0_A m c t h (by omega) (by omega)]; frame_out
    exact (congrFun (shapeCast_self _ _) y).trans (pay1_apply _ _ y)
  · by_cases h2 : t.val % 3 = 2
    · rw [outsAt0_C m c t h (by omega) h2]; frame_out; simp only [read_unread_whole]
      unfold k0_pay3
      pointwise
      rw [pay1_apply]
    · rw [outsAt0_B m c t h (by omega) h2]; frame_out; simp only [read_unread_whole]
      unfold k0_pay3
      pointwise
      rw [pay1_apply]
  · blk_ext [iblk, V, idx]
  · blk_ext [iblk, V, idx]

theorem frame_ideal : Cert.quiescent_Kernel7Ideal (hKernel7Ideal := facts) := fun m ρ _ => Gen.frame m ρ

set_option backward.isDefEq.respectTransparency false in
/-- The kernel as printed and the kernel at the extended reals are one text. -/
theorem same : @Cert.Kernel7.defs Bits _ Cert.Kernel7.Gen.facts = @defs Bits _ facts
    ∧ @Cert.Kernel7.main Bits _ = @main Bits _ :=
  ⟨congrArg (Pipeline.defs (pcfgs (F := Bits))) (congrArg Defs.onTc (funext₂ fun l a => match l, a with | 0, (_, _) => rfl)), rfl⟩

theorem frame_kernel : Cert.quiescent_Kernel7 (hKernel7 := Cert.Kernel7.Gen.facts) := by
  intro m ρ _
  rw [same.1, same.2]
  exact Gen.frame (F := Bits) m ρ

theorem frame_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem value : Cert.algebraic_Kernel7Ideal_Reference7Ideal (hKernel7Ideal := facts)
    (hReference7Ideal := Cert.Reference7Ideal.Gen.facts) := by
  intro m g m' g' _ hm
  refine ⟨fun c => prod (m ((c : Thread nD τ).loc main_arg0)) (m ((c : Thread nD τ).loc main_arg1)),
    (θ_run defs _ _).mono (fun r h c => ⟨(h c).1.trans (arr m c), (h c).2⟩) (Value.run_blocks m g),
    (θ_run Cert.Reference7Ideal.defs _ _).mono (fun r h c => ⟨(h c).1.trans (funext fun i => ?_), (h c).2⟩)
      (Cert.Reference7Ideal.Value.run (F := Ideal) m' g')⟩
  rw [(hm c).1, (hm c).2]
  unfold prod
  pointwise

end Cert.Kernel7Ideal.Product

end
-- ==== Proof.ProjGateDx.lean ====
/- `proj_gate_dx`: the gradient of the gate projection's input, a product over its 3072 columns in 3 blocks, added to `dh`. -/
module

public import proofs.«01_k».proof.Defs
public import proofs.«01_k».proof.Proof.Prod
public import proofs.«01_k».proof.Proof.Gen.Kernel8
public import proofs.«01_k».proof.Proof.Gen.Kernel8Ideal.Value
public import proofs.«01_k».proof.Proof.Gen.Reference8Ideal.Run
public import Idealize.ShloMosaic.Lib.Pipeline.ReadBack

@[expose] public section

set_option maxRecDepth 16384

noncomputable section

namespace Cert.Kernel8Ideal.Product

open Idealize.ShloMosaic Idealize.ShloMosaic.TcCoe Idealize.SL.Sem
open Cert.Kernel8Ideal Cert.Kernel8Ideal.Gen

theorem pay1_apply (a b : Vec Ideal S1024x1024 .bf16) (y : S1024x1024.Idx) :
    k0_pay1 a b y = ∑ k : Fin 1024, a (ix2 (y 0) k) * b (ix2 (y 1) k) := by
  unfold k0_pay1
  pointwise

theorem idx : ∀ t : Fin cfg0.N, win0_0.index t = ![t.val / 3, t.val % 3] ∧ win0_1.index t = ![0, t.val % 3]
    ∧ win0_2.index t = ![t.val / 3, 0] ∧ win0_3.index t = ![t.val / 3, 0] := by
  decide +kernel

/-- The third argument and the product over the columns of the others. -/
def prod (A : Vec Ideal S8192x3072 .bf16) (B : Vec Ideal S1024x3072 .bf16) (C : Vec Ideal S8192x1024 .f32) :
    Vec Ideal S8192x1024 .f32 :=
  fun i => C i + ∑ k : Fin 3072, A (ix2 (i 0) k) * B (ix2 (i 1) k)

variable (m : (ℓ : Loc nD τ sig) → Buf (Elt Ideal) ℓ) (c : Dev nD)

theorem arr : (dats m 0 c).arrAt 3 cfg0.N = prod (m ((c : Thread nD τ).loc main_arg0)) (m ((c : Thread nD τ).loc main_arg1))
    (m ((c : Thread nD τ).loc main_arg2)) := by
  refine (dats m 0 c).arrAt_eq_of_covers 3 _ (by decide +kernel) fun t hf y => ?_
  have hl := (flush0_3 t).mp hf
  blk_simp
  rw [after0_3, outsAt0_C m c t (by omega) (by omega) hl]; frame_out
  unfold k0_pay4
  pointwise
  refine Cert.Prod.added ?_ (Eq.trans ?_ (Cert.Prod.accumulated (J := 3) (tk := 1024) (K := 3072) (fun n h => (outsAt0 m c n h).2) (fun t k y => iblk m c 0 t (ix2 (y 0) k))
    (fun t k y => iblk m c 1 t (ix2 (y 1) k)) (fun k i => (m ((c : Thread nD τ).loc main_arg0) : Vec Ideal S8192x3072 .bf16) (ix2 (i 0) k))
    (fun k i => (m ((c : Thread nD τ).loc main_arg1) : Vec Ideal S1024x3072 .bf16) (ix2 (i 1) k))
    (fun y => ((cfg0.win 3).blk t).view.emb y) t hl (fun t h y => ?_) (fun t h y => ?_) (fun p k l y hp hl => ?_) (fun p k l y hp hl => ?_) y))
  · blk_ext [iblk, V, idx]
  · rw [outsAt0_C m c t (by omega) (by omega) hl]; frame_out
  · rw [outsAt0_A m c t h (by omega) (by omega)]; frame_out
    exact (congrFun (shapeCast_self _ _) y).trans (pay1_apply _ _ y)
  · by_cases h2 : t.val % 3 = 2
    · rw [outsAt0_C m c t h (by omega) h2]; frame_out; simp only [read_unread_whole]
      unfold k0_pay3
      pointwise
      rw [pay1_apply]
    · rw [outsAt0_B m c t h (by omega) h2]; frame_out; simp only [read_unread_whole]
      unfold k0_pay3
      pointwise
      rw [pay1_apply]
  · blk_ext [iblk, V, idx]
  · blk_ext [iblk, V, idx]

theorem frame_ideal : Cert.quiescent_Kernel8Ideal (hKernel8Ideal := facts) := fun m ρ _ => Gen.frame m ρ

set_option backward.isDefEq.respectTransparency false in
/-- The kernel as printed and the kernel at the extended reals are one text. -/
theorem same : @Cert.Kernel8.defs Bits _ Cert.Kernel8.Gen.facts = @defs Bits _ facts
    ∧ @Cert.Kernel8.main Bits _ = @main Bits _ :=
  ⟨congrArg (Pipeline.defs (pcfgs (F := Bits))) (congrArg Defs.onTc (funext₂ fun l a => match l, a with | 0, (_, _) => rfl)), rfl⟩

theorem frame_kernel : Cert.quiescent_Kernel8 (hKernel8 := Cert.Kernel8.Gen.facts) := by
  intro m ρ _
  rw [same.1, same.2]
  exact Gen.frame (F := Bits) m ρ

theorem frame_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem value : Cert.algebraic_Kernel8Ideal_Reference8Ideal (hKernel8Ideal := facts)
    (hReference8Ideal := Cert.Reference8Ideal.Gen.facts) := by
  intro m g m' g' _ hm
  refine ⟨fun c => prod (m ((c : Thread nD τ).loc main_arg0)) (m ((c : Thread nD τ).loc main_arg1)) (m ((c : Thread nD τ).loc main_arg2)),
    (θ_run defs _ _).mono (fun r h c => ⟨(h c).1.trans (arr m c), (h c).2⟩) (Value.run_blocks m g),
    (θ_run Cert.Reference8Ideal.defs _ _).mono (fun r h c => ⟨(h c).1.trans (funext fun i => ?_), (h c).2⟩)
      (Cert.Reference8Ideal.Value.run (F := Ideal) m' g')⟩
  rw [(hm c).1, (hm c).2.1, (hm c).2.2]
  unfold prod
  pointwise

end Cert.Kernel8Ideal.Product

end
-- ==== Proof.FfUp.lean ====
/- `ff_up`: the up projection; each block of the result is one whole product. -/
module

public import proofs.«01_k».proof.Defs
public import proofs.«01_k».proof.Proof.Prod
public import proofs.«01_k».proof.Proof.Gen.Kernel9
public import proofs.«01_k».proof.Proof.Gen.Kernel9Ideal.Value
public import proofs.«01_k».proof.Proof.Gen.Reference9Ideal.Run
public import Idealize.ShloMosaic.Lib.Pipeline.ReadBack

@[expose] public section

set_option maxRecDepth 16384

noncomputable section

namespace Cert.Kernel9Ideal.Product

open Idealize.ShloMosaic Idealize.ShloMosaic.TcCoe Idealize.SL.Sem
open Cert.Kernel9Ideal Cert.Kernel9Ideal.Gen

theorem idx : ∀ t : Fin cfg0.N, win0_0.index t = ![t.val / 4, 0] ∧ win0_1.index t = ![0, t.val % 4]
    ∧ win0_2.index t = ![t.val / 4, t.val % 4] := by
  decide +kernel

/-- The result as one function of the arguments. -/
def prod (A : Vec Ideal S8192x1024 .bf16) (B : Vec Ideal S1024x5632 .bf16) : Vec Ideal S8192x5632 .bf16 :=
  fun i => ∑ k : Fin 1024, A (ix2 (i 0) k) * B (ix2 k (i 1))

variable (m : (ℓ : Loc nD τ sig) → Buf (Elt Ideal) ℓ) (c : Dev nD)

theorem arr : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  unfold k0_pay1 prod
  pointwise
  refine Cert.Prod.whole (fun k => ?_) (fun k => ?_)
  · blk_ext [iblk, V, idx]
  · blk_ext [iblk, V, idx]

theorem frame_ideal : Cert.quiescent_Kernel9Ideal (hKernel9Ideal := facts) := fun m ρ _ => Gen.frame m ρ

set_option backward.isDefEq.respectTransparency false in
/-- The kernel as printed and the kernel at the extended reals are one text. -/
theorem same : @Cert.Kernel9.defs Bits _ Cert.Kernel9.Gen.facts = @defs Bits _ facts
    ∧ @Cert.Kernel9.main Bits _ = @main Bits _ :=
  ⟨congrArg (Pipeline.defs (pcfgs (F := Bits))) (congrArg Defs.onTc (funext₂ fun l a => match l, a with | 0, (_, _) => rfl)), rfl⟩

theorem frame_kernel : Cert.quiescent_Kernel9 (hKernel9 := Cert.Kernel9.Gen.facts) := by
  intro m ρ _
  rw [same.1, same.2]
  exact Gen.frame (F := Bits) m ρ

theorem frame_reference : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

theorem value : Cert.algebraic_Kernel9Ideal_Reference9Ideal (hKernel9Ideal := facts)
    (hReference9Ideal := Cert.Reference9Ideal.Gen.facts) := by
  intro m g m' g' _ hm
  refine ⟨fun c => prod (m ((c : Thread nD τ).loc main_arg0)) (m ((c : Thread nD τ).loc main_arg1)),
    (θ_run defs _ _).mono (fun r h c => ⟨(h c).1.trans (arr m c), (h c).2⟩) (Value.run_blocks m g),
    (θ_run Cert.Reference9Ideal.defs _ _).mono (fun r h c => ⟨(h c).1.trans (funext fun i => ?_), (h c).2⟩)
      (Cert.Reference9Ideal.Value.run (F := Ideal) m' g')⟩
  rw [(hm c).1, (hm c).2]
  unfold prod
  pointwise

end Cert.Kernel9Ideal.Product

end
-- ==== Proof.ProjQkv.lean ====
/- `proj_qkv`: the projection; each block of the result is one whole product. -/
module

public import proofs.«01_k».proof.Defs
public import proofs.«01_k».proof.Proof.Prod
public import proofs.«01_k».proof.Proof.Gen.Kernel10
public import proofs.«01_k».proof.Proof.Gen.Kernel10Ideal.Value
public import proofs.«01_k».proof.Proof.Gen.Reference10Ideal.Run
public import Idealize.ShloMosaic.Lib.Pipeline.ReadBack

@[expose] public section

set_option maxRecDepth 16384

noncomputable section

namespace Cert.Kernel10Ideal.Product

open Idealize.ShloMosaic Idealize.ShloMosaic.TcCoe Idealize.SL.Sem
open Cert.Kernel10Ideal Cert.Kernel10Ideal.Gen

theorem idx : ∀ t : Fin cfg0.N, win0_0.index t = ![t.val / 3, 0] ∧ win0_1.index t = ![0, t.val % 3]
    ∧ win0_2.index t = ![t.val / 3, t.val % 3] := by
  decide +kernel

/-- The result as one function of the arguments. -/
def prod (A : Vec Ideal S8192x1024 .bf16) (B : Vec Ideal S1024x3072 .bf16) : Vec Ideal S8192x3072 .bf16 :=
  fun i => ∑ k : Fin 1024, A (ix2 (i 0) k) * B (ix2 k (i 1))

variable (m : (ℓ : Loc nD τ sig) → Buf (Elt Ideal) ℓ) (c : Dev nD)

theorem arr : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  unfold k0_pay1 prod
  pointwise
  refine Cert.Prod.whole (fun k => ?_) (fun k => ?_)
  · blk_ext [iblk, V, idx]
  · blk_ext [iblk, V, idx]

theorem frame_ideal : Cert.quiescent_Kernel10Ideal (hKernel10Ideal := facts) := fun m ρ _ => Gen.frame m ρ

set_option backward.isDefEq.respectTransparency false in
/-- The kernel as printed and the kernel at the extended reals are one text. -/
theorem same : @Cert.Kernel10.defs Bits _ Cert.Kernel10.Gen.facts = @defs Bits _ facts
    ∧ @Cert.Kernel10.main Bits _ = @main Bits _ :=
  ⟨congrArg (Pipeline.defs (pcfgs (F := Bits))) (congrArg Defs.onTc (funext₂ fun l a => match l, a with | 0, (_, _) => rfl)), rfl⟩

theorem frame_kernel : Cert.quiescent_Kernel10 (hKernel10 := Cert.Kernel10.Gen.facts) := by
  intro m ρ _
  rw [same.1, same.2]
  exact Gen.frame (F := Bits) m ρ

theorem frame_reference : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

theorem value : Cert.algebraic_Kernel10Ideal_Reference10Ideal (hKernel10Ideal := facts)
    (hReference10Ideal := Cert.Reference10Ideal.Gen.facts) := by
  intro m g m' g' _ hm
  refine ⟨fun c => prod (m ((c : Thread nD τ).loc main_arg0)) (m ((c : Thread nD τ).loc main_arg1)),
    (θ_run defs _ _).mono (fun r h c => ⟨(h c).1.trans (arr m c), (h c).2⟩) (Value.run_blocks m g),
    (θ_run Cert.Reference10Ideal.defs _ _).mono (fun r h c => ⟨(h c).1.trans (funext fun i => ?_), (h c).2⟩)
      (Cert.Reference10Ideal.Value.run (F := Ideal) m' g')⟩
  rw [(hm c).1, (hm c).2]
  unfold prod
  pointwise

end Cert.Kernel10Ideal.Product

end
-- ==== Proof.ProjGate.lean ====
/- `proj_gate`: the gate projection, kept at f32; each block of the result is one whole product. -/
module

public import proofs.«01_k».proof.Defs
public import proofs.«01_k».proof.Proof.Prod
public import proofs.«01_k».proof.Proof.Gen.Kernel11
public import proofs.«01_k».proof.Proof.Gen.Kernel11Ideal.Value
public import proofs.«01_k».proof.Proof.Gen.Reference11Ideal.Run
public import Idealize.ShloMosaic.Lib.Pipeline.ReadBack

@[expose] public section

set_option maxRecDepth 16384

noncomputable section

namespace Cert.Kernel11Ideal.Product

open Idealize.ShloMosaic Idealize.ShloMosaic.TcCoe Idealize.SL.Sem
open Cert.Kernel11Ideal Cert.Kernel11Ideal.Gen

theorem idx : ∀ t : Fin cfg0.N, win0_0.index t = ![t.val / 3, 0] ∧ win0_1.index t = ![0, t.val % 3]
    ∧ win0_2.index t = ![t.val / 3, t.val % 3] := by
  decide +kernel

/-- The result as one function of the arguments. -/
def prod (A : Vec Ideal S8192x1024 .bf16) (B : Vec Ideal S1024x3072 .bf16) : Vec Ideal S8192x3072 .f32 :=
  fun i => ∑ k : Fin 1024, A (ix2 (i 0) k) * B (ix2 k (i 1))

variable (m : (ℓ : Loc nD τ sig) → Buf (Elt Ideal) ℓ) (c : Dev nD)

theorem arr : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  unfold k0_pay1 prod
  pointwise
  refine Cert.Prod.whole (fun k => ?_) (fun k => ?_)
  · blk_ext [iblk, V, idx]
  · blk_ext [iblk, V, idx]

theorem frame_ideal : Cert.quiescent_Kernel11Ideal (hKernel11Ideal := facts) := fun m ρ _ => Gen.frame m ρ

set_option backward.isDefEq.respectTransparency false in
/-- The kernel as printed and the kernel at the extended reals are one text. -/
theorem same : @Cert.Kernel11.defs Bits _ Cert.Kernel11.Gen.facts = @defs Bits _ facts
    ∧ @Cert.Kernel11.main Bits _ = @main Bits _ :=
  ⟨congrArg (Pipeline.defs (pcfgs (F := Bits))) (congrArg Defs.onTc (funext₂ fun l a => match l, a with | 0, (_, _) => rfl)), rfl⟩

theorem frame_kernel : Cert.quiescent_Kernel11 (hKernel11 := Cert.Kernel11.Gen.facts) := by
  intro m ρ _
  rw [same.1, same.2]
  exact Gen.frame (F := Bits) m ρ

theorem frame_reference : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

theorem value : Cert.algebraic_Kernel11Ideal_Reference11Ideal (hKernel11Ideal := facts)
    (hReference11Ideal := Cert.Reference11Ideal.Gen.facts) := by
  intro m g m' g' _ hm
  refine ⟨fun c => prod (m ((c : Thread nD τ).loc main_arg0)) (m ((c : Thread nD τ).loc main_arg1)),
    (θ_run defs _ _).mono (fun r h c => ⟨(h c).1.trans (arr m c), (h c).2⟩) (Value.run_blocks m g),
    (θ_run Cert.Reference11Ideal.defs _ _).mono (fun r h c => ⟨(h c).1.trans (funext fun i => ?_), (h c).2⟩)
      (Cert.Reference11Ideal.Value.run (F := Ideal) m' g')⟩
  rw [(hm c).1, (hm c).2]
  unfold prod
  pointwise

end Cert.Kernel11Ideal.Product

end
-- ==== Proof.FfDown.lean ====
/- `ff_down`: the down projection, a product over the 2816 columns in 2 blocks, added to `x1`. -/
module

public import proofs.«01_k».proof.Defs
public import proofs.«01_k».proof.Proof.Prod
public import proofs.«01_k».proof.Proof.Gen.Kernel12
public import proofs.«01_k».proof.Proof.Gen.Kernel12Ideal.Value
public import proofs.«01_k».proof.Proof.Gen.Reference12Ideal.Run
public import Idealize.ShloMosaic.Lib.Pipeline.ReadBack

@[expose] public section

set_option maxRecDepth 16384

noncomputable section

namespace Cert.Kernel12Ideal.Product

open Idealize.ShloMosaic Idealize.ShloMosaic.TcCoe Idealize.SL.Sem
open Cert.Kernel12Ideal Cert.Kernel12Ideal.Gen

theorem pay1_apply (a : Vec Ideal S1024x1408 .bf16) (b : Vec Ideal S1408x1024 .bf16) (y : S1024x1024.Idx) :
    k0_pay1 a b y = ∑ k : Fin 1408, a (ix2 (y 0) k) * b (ix2 k (y 1)) := by
  unfold k0_pay1
  pointwise

theorem idx : ∀ t : Fin cfg0.N, win0_0.index t = ![t.val / 2, t.val % 2] ∧ win0_1.index t = ![t.val % 2, 0]
    ∧ win0_2.index t = ![t.val / 2, 0] ∧ win0_3.index t = ![t.val / 2, 0] := by
  decide +kernel

/-- The third argument and the product of the others. -/
def prod (A : Vec Ideal S8192x2816 .bf16) (B : Vec Ideal S2816x1024 .bf16) (C : Vec Ideal S8192x1024 .f32) :
    Vec Ideal S8192x1024 .f32 :=
  fun i => C i + ∑ k : Fin 2816, A (ix2 (i 0) k) * B (ix2 k (i 1))

variable (m : (ℓ : Loc nD τ sig) → Buf (Elt Ideal) ℓ) (c : Dev nD)

theorem arr : (dats m 0 c).arrAt 3 cfg0.N = prod (m ((c : Thread nD τ).loc main_arg0)) (m ((c : Thread nD τ).loc main_arg1))
    (m ((c : Thread nD τ).loc main_arg2)) := by
  refine (dats m 0 c).arrAt_eq_of_covers 3 _ (by decide +kernel) fun t hf y => ?_
  have hl := (flush0_3 t).mp hf
  blk_simp
  rw [after0_3, outsAt0_B m c t (by omega) (by omega) hl]; frame_out
  unfold k0_pay4
  pointwise
  refine Cert.Prod.added ?_ (Eq.trans ?_ (Cert.Prod.accumulated (J := 2) (tk := 1408) (K := 2816) (fun n h => (outsAt0 m c n h).2) (fun t k y => iblk m c 0 t (ix2 (y 0) k))
    (fun t k y => iblk m c 1 t (ix2 k (y 1))) (fun k i => (m ((c : Thread nD τ).loc main_arg0) : Vec Ideal S8192x2816 .bf16) (ix2 (i 0) k))
    (fun k i => (m ((c : Thread nD τ).loc main_arg1) : Vec Ideal S2816x1024 .bf16) (ix2 k (i 1)))
    (fun y => ((cfg0.win 3).blk t).view.emb y) t hl (fun t h y => ?_) (fun t h y => ?_) (fun p k l y hp hl => ?_) (fun p k l y hp hl => ?_) y))
  · blk_ext [iblk, V, idx]
  · rw [outsAt0_B m c t (by omega) (by omega) hl]; frame_out
  · rw [outsAt0_A m c t h (by omega) (by omega)]; frame_out
    exact (congrFun (shapeCast_self _ _) y).trans (pay1_apply _ _ y)
  · rw [outsAt0_B m c t h (by omega) (by omega)]; frame_out; simp only [read_unread_whole]
    unfold k0_pay3
    pointwise
    rw [pay1_apply]
  · blk_ext [iblk, V, idx]
  · blk_ext [iblk, V, idx]

theorem frame_ideal : Cert.quiescent_Kernel12Ideal (hKernel12Ideal := facts) := fun m ρ _ => Gen.frame m ρ

set_option backward.isDefEq.respectTransparency false in
/-- The kernel as printed and the kernel at the extended reals are one text. -/
theorem same : @Cert.Kernel12.defs Bits _ Cert.Kernel12.Gen.facts = @defs Bits _ facts
    ∧ @Cert.Kernel12.main Bits _ = @main Bits _ :=
  ⟨congrArg (Pipeline.defs (pcfgs (F := Bits))) (congrArg Defs.onTc (funext₂ fun l a => match l, a with | 0, (_, _) => rfl)), rfl⟩

theorem frame_kernel : Cert.quiescent_Kernel12 (hKernel12 := Cert.Kernel12.Gen.facts) := by
  intro m ρ _
  rw [same.1, same.2]
  exact Gen.frame (F := Bits) m ρ

theorem frame_reference : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

theorem value : Cert.algebraic_Kernel12Ideal_Reference12Ideal (hKernel12Ideal := facts)
    (hReference12Ideal := Cert.Reference12Ideal.Gen.facts) := by
  intro m g m' g' _ hm
  refine ⟨fun c => prod (m ((c : Thread nD τ).loc main_arg0)) (m ((c : Thread nD τ).loc main_arg1)) (m ((c : Thread nD τ).loc main_arg2)),
    (θ_run defs _ _).mono (fun r h c => ⟨(h c).1.trans (arr m c), (h c).2⟩) (Value.run_blocks m g),
    (θ_run Cert.Reference12Ideal.defs _ _).mono (fun r h c => ⟨(h c).1.trans (funext fun i => ?_), (h c).2⟩)
      (Cert.Reference12Ideal.Value.run (F := Ideal) m' g')⟩
  rw [(hm c).1, (hm c).2.1, (hm c).2.2]
  unfold prod
  pointwise

end Cert.Kernel12Ideal.Product

end
-- ==== Proof.OutProjDw.lean ====
/- `out_proj_dw`: the gradient of the output projection's weights, a product over the tokens in 8 blocks of 1024. -/
module

public import proofs.«01_k».proof.Defs
public import proofs.«01_k».proof.Proof.Prod
public import proofs.«01_k».proof.Proof.Gen.Kernel13
public import proofs.«01_k».proof.Proof.Gen.Kernel13Ideal.Value
public import proofs.«01_k».proof.Proof.Gen.Reference13Ideal.Run
public import Idealize.ShloMosaic.Lib.Pipeline.ReadBack

@[expose] public section

set_option maxRecDepth 16384

noncomputable section

namespace Cert.Kernel13Ideal.Product

open Idealize.ShloMosaic Idealize.ShloMosaic.TcCoe Idealize.SL.Sem
open Cert.Kernel13Ideal Cert.Kernel13Ideal.Gen

theorem pay1_apply (a : Vec Ideal S1024x1024 .bf16) (b : Vec Ideal S1024x1024 .bf16) (y : S1024x1024.Idx) :
    k0_pay1 a b y = ∑ k : Fin 1024, a (ix2 k (y 0)) * b (ix2 k (y 1)) := by
  unfold k0_pay1
  pointwise

theorem idx : ∀ t : Fin cfg0.N, win0_0.index t = ![t.val % 8, 0] ∧ win0_1.index t = ![t.val % 8, 0]
    ∧ win0_2.index t = ![0, 0] := by
  decide +kernel

/-- The product over the rows of both. -/
def prod (A : Vec Ideal S8192x1024 .bf16) (B : Vec Ideal S8192x1024 .bf16) : Vec Ideal S1024x1024 .bf16 :=
  fun i => ∑ k : Fin 8192, A (ix2 k (i 0)) * B (ix2 k (i 1))

variable (m : (ℓ : Loc nD τ sig) → Buf (Elt Ideal) ℓ) (c : Dev nD)

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, outsAt0_C m c t (by omega) (by omega) h7]; frame_out
  unfold k0_pay4
  pointwise
  refine Eq.trans ?_ (Cert.Prod.accumulated (J := 8) (tk := 1024) (K := 8192) (fun n h => (outsAt0 m c n h).2) (fun t k y => iblk m c 0 t (ix2 k (y 0)))
    (fun t k y => iblk m c 1 t (ix2 k (y 1))) (fun k i => (m ((c : Thread nD τ).loc main_arg0) : Vec Ideal S8192x1024 .bf16) (ix2 k (i 0)))
    (fun k i => (m ((c : Thread nD τ).loc main_arg1) : Vec Ideal S8192x1024 .bf16) (ix2 k (i 1)))
    (fun y => ((cfg0.win 2).blk t).view.emb y) t h7 (fun t h y => ?_) (fun t h y => ?_) (fun p k l y hp hl => ?_) (fun p k l y hp hl => ?_) y)
  · rw [outsAt0_C m c t (by omega) (by omega) h7]; frame_out
  · have hN : t.val < 8 := t.isLt.trans_eq N_0
    rw [outsAt0_A m c t h (by omega) (by omega)]; frame_out
    exact (congrFun (shapeCast_self _ _) y).trans (pay1_apply _ _ y)
  · by_cases h2 : t.val % 8 = 7
    · rw [outsAt0_C m c t h (by omega) h2]; frame_out; simp only [read_unread_whole]
      unfold k0_pay3
      pointwise
      rw [pay1_apply]
    · rw [outsAt0_B m c t h (by omega) h2]; frame_out; simp only [read_unread_whole]
      unfold k0_pay3
      pointwise
      rw [pay1_apply]
  · blk_ext [iblk, V, idx]
  · blk_ext [iblk, V, idx]

theorem frame_ideal : Cert.quiescent_Kernel13Ideal (hKernel13Ideal := facts) := fun m ρ _ => Gen.frame m ρ

set_option backward.isDefEq.respectTransparency false in
/-- The kernel as printed and the kernel at the extended reals are one text. -/
theorem same : @Cert.Kernel13.defs Bits _ Cert.Kernel13.Gen.facts = @defs Bits _ facts
    ∧ @Cert.Kernel13.main Bits _ = @main Bits _ :=
  ⟨congrArg (Pipeline.defs (pcfgs (F := Bits))) (congrArg Defs.onTc (funext₂ fun l a => match l, a with | 0, (_, _) => rfl)), rfl⟩

theorem frame_kernel : Cert.quiescent_Kernel13 (hKernel13 := Cert.Kernel13.Gen.facts) := by
  intro m ρ _
  rw [same.1, same.2]
  exact Gen.frame (F := Bits) m ρ

theorem frame_reference : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

theorem value : Cert.algebraic_Kernel13Ideal_Reference13Ideal (hKernel13Ideal := facts)
    (hReference13Ideal := Cert.Reference13Ideal.Gen.facts) := by
  intro m g m' g' _ hm
  refine ⟨fun c => prod (m ((c : Thread nD τ).loc main_arg0)) (m ((c : Thread nD τ).loc main_arg1)),
    (θ_run defs _ _).mono (fun r h c => ⟨(h c).1.trans (arr m c), (h c).2⟩) (Value.run_blocks m g),
    (θ_run Cert.Reference13Ideal.defs _ _).mono (fun r h c => ⟨(h c).1.trans (funext fun i => ?_), (h c).2⟩)
      (Cert.Reference13Ideal.Value.run (F := Ideal) m' g')⟩
  rw [(hm c).1, (hm c).2]
  unfold prod
  pointwise
  exact Finset.sum_congr rfl fun k _ => mul_comm _ _

end Cert.Kernel13Ideal.Product

end
-- ==== Proof.OutProjDx.lean ====
/- `out_proj_dx`: the gradient of the output projection's input, kept at f32; each block is one whole product. -/
module

public import proofs.«01_k».proof.Defs
public import proofs.«01_k».proof.Proof.Prod
public import proofs.«01_k».proof.Proof.Gen.Kernel14
public import proofs.«01_k».proof.Proof.Gen.Kernel14Ideal.Value
public import proofs.«01_k».proof.Proof.Gen.Reference14Ideal.Run
public import Idealize.ShloMosaic.Lib.Pipeline.ReadBack

@[expose] public section

set_option maxRecDepth 16384

noncomputable section

namespace Cert.Kernel14Ideal.Product

open Idealize.ShloMosaic Idealize.ShloMosaic.TcCoe Idealize.SL.Sem
open Cert.Kernel14Ideal Cert.Kernel14Ideal.Gen

theorem idx : ∀ t : Fin cfg0.N, win0_0.index t = ![t.val, 0] ∧ win0_1.index t = ![0, 0]
    ∧ win0_2.index t = ![t.val, 0] := by
  decide +kernel

/-- The result as one function of the arguments. -/
def prod (A : Vec Ideal S8192x1024 .bf16) (B : Vec Ideal S1024x1024 .bf16) : Vec Ideal S8192x1024 .f32 :=
  fun i => ∑ k : Fin 1024, A (ix2 (i 0) k) * B (ix2 (i 1) k)

variable (m : (ℓ : Loc nD τ sig) → Buf (Elt Ideal) ℓ) (c : Dev nD)

theorem arr : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  unfold k0_pay1 prod
  pointwise
  refine Cert.Prod.whole (fun k => ?_) (fun k => ?_)
  · blk_ext [iblk, V, idx]
  · blk_ext [iblk, V, idx]

theorem frame_ideal : Cert.quiescent_Kernel14Ideal (hKernel14Ideal := facts) := fun m ρ _ => Gen.frame m ρ

set_option backward.isDefEq.respectTransparency false in
/-- The kernel as printed and the kernel at the extended reals are one text. -/
theorem same : @Cert.Kernel14.defs Bits _ Cert.Kernel14.Gen.facts = @defs Bits _ facts
    ∧ @Cert.Kernel14.main Bits _ = @main Bits _ :=
  ⟨congrArg (Pipeline.defs (pcfgs (F := Bits))) (congrArg Defs.onTc (funext₂ fun l a => match l, a with | 0, (_, _) => rfl)), rfl⟩

theorem frame_kernel : Cert.quiescent_Kernel14 (hKernel14 := Cert.Kernel14.Gen.facts) := by
  intro m ρ _
  rw [same.1, same.2]
  exact Gen.frame (F := Bits) m ρ

theorem frame_reference : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

theorem value : Cert.algebraic_Kernel14Ideal_Reference14Ideal (hKernel14Ideal := facts)
    (hReference14Ideal := Cert.Reference14Ideal.Gen.facts) := by
  intro m g m' g' _ hm
  refine ⟨fun c => prod (m ((c : Thread nD τ).loc main_arg0)) (m ((c : Thread nD τ).loc main_arg1)),
    (θ_run defs _ _).mono (fun r h c => ⟨(h c).1.trans (arr m c), (h c).2⟩) (Value.run_blocks m g),
    (θ_run Cert.Reference14Ideal.defs _ _).mono (fun r h c => ⟨(h c).1.trans (funext fun i => ?_), (h c).2⟩)
      (Cert.Reference14Ideal.Value.run (F := Ideal) m' g')⟩
  rw [(hm c).1, (hm c).2]
  unfold prod
  pointwise

end Cert.Kernel14Ideal.Product

end
-- ==== Proof.OutProj.lean ====
/- `out_proj`: the output projection added to `cur`; each block of the product is one whole product. -/
module

public import proofs.«01_k».proof.Defs
public import proofs.«01_k».proof.Proof.Prod
public import proofs.«01_k».proof.Proof.Gen.Kernel15
public import proofs.«01_k».proof.Proof.Gen.Kernel15Ideal.Value
public import proofs.«01_k».proof.Proof.Gen.Reference15Ideal.Run
public import Idealize.ShloMosaic.Lib.Pipeline.ReadBack

@[expose] public section

set_option maxRecDepth 16384

noncomputable section

namespace Cert.Kernel15Ideal.Product

open Idealize.ShloMosaic Idealize.ShloMosaic.TcCoe Idealize.SL.Sem
open Cert.Kernel15Ideal Cert.Kernel15Ideal.Gen

theorem idx : ∀ t : Fin cfg0.N, win0_0.index t = ![t.val, 0] ∧ win0_1.index t = ![0, 0]
    ∧ win0_2.index t = ![t.val, 0] ∧ win0_3.index t = ![t.val, 0] := by
  decide +kernel

/-- The result as one function of the arguments. -/
def prod (A : Vec Ideal S8192x1024 .bf16) (B : Vec Ideal S1024x1024 .bf16) (C : Vec Ideal S8192x1024 .f32) :
    Vec Ideal S8192x1024 .f32 :=
  fun i => C i + ∑ k : Fin 1024, A (ix2 (i 0) k) * B (ix2 k (i 1))

variable (m : (ℓ : Loc nD τ sig) → Buf (Elt Ideal) ℓ) (c : Dev nD)

theorem arr : (dats m 0 c).arrAt 3 cfg0.N = prod (m ((c : Thread nD τ).loc main_arg0)) (m ((c : Thread nD τ).loc main_arg1))
    (m ((c : Thread nD τ).loc main_arg2)) := by
  refine (dats m 0 c).arrAt_eq_of_covers 3 _ (by decide +kernel) fun t _ y => ?_
  blk_simp
  rw [after0_3]; frame_out
  unfold k0_pay1 prod
  pointwise
  refine Cert.Prod.added ?_ (Cert.Prod.whole (fun k => ?_) (fun k => ?_))
  · blk_ext [iblk, V, idx]
  · blk_ext [iblk, V, idx]
  · blk_ext [iblk, V, idx]

theorem frame_ideal : Cert.quiescent_Kernel15Ideal (hKernel15Ideal := facts) := fun m ρ _ => Gen.frame m ρ

set_option backward.isDefEq.respectTransparency false in
/-- The kernel as printed and the kernel at the extended reals are one text. -/
theorem same : @Cert.Kernel15.defs Bits _ Cert.Kernel15.Gen.facts = @defs Bits _ facts
    ∧ @Cert.Kernel15.main Bits _ = @main Bits _ :=
  ⟨congrArg (Pipeline.defs (pcfgs (F := Bits))) (congrArg Defs.onTc (funext₂ fun l a => match l, a with | 0, (_, _) => rfl)), rfl⟩

theorem frame_kernel : Cert.quiescent_Kernel15 (hKernel15 := Cert.Kernel15.Gen.facts) := by
  intro m ρ _
  rw [same.1, same.2]
  exact Gen.frame (F := Bits) m ρ

theorem frame_reference : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

theorem value : Cert.algebraic_Kernel15Ideal_Reference15Ideal (hKernel15Ideal := facts)
    (hReference15Ideal := Cert.Reference15Ideal.Gen.facts) := by
  intro m g m' g' _ hm
  refine ⟨fun c => prod (m ((c : Thread nD τ).loc main_arg0)) (m ((c : Thread nD τ).loc main_arg1)) (m ((c : Thread nD τ).loc main_arg2)),
    (θ_run defs _ _).mono (fun r h c => ⟨(h c).1.trans (arr m c), (h c).2⟩) (Value.run_blocks m g),
    (θ_run Cert.Reference15Ideal.defs _ _).mono (fun r h c => ⟨(h c).1.trans (funext fun i => ?_), (h c).2⟩)
      (Cert.Reference15Ideal.Value.run (F := Ideal) m' g')⟩
  rw [(hm c).1, (hm c).2.1, (hm c).2.2]
  unfold prod
  pointwise

end Cert.Kernel15Ideal.Product

end
-- ==== Proof.BranchDw.lean ====
/- `branch_dw_b`: the gradient of a branch's weights, a product over the tokens in 8 blocks of 1024. -/
module

public import proofs.«01_k».proof.Defs
public import proofs.«01_k».proof.Proof.Prod
public import proofs.«01_k».proof.Proof.Gen.Kernel16
public import proofs.«01_k».proof.Proof.Gen.Kernel16Ideal.Value
public import proofs.«01_k».proof.Proof.Gen.Reference16Ideal.Run
public import Idealize.ShloMosaic.Lib.Pipeline.ReadBack

@[expose] public section

set_option maxRecDepth 16384

noncomputable section

namespace Cert.Kernel16Ideal.Product

open Idealize.ShloMosaic Idealize.ShloMosaic.TcCoe Idealize.SL.Sem
open Cert.Kernel16Ideal Cert.Kernel16Ideal.Gen

theorem pay1_apply (a : Vec Ideal S1024x512 .bf16) (b : Vec Ideal S1024x1024 .bf16) (y : S512x1024.Idx) :
    k0_pay1 a b y = ∑ k : Fin 1024, a (ix2 k (y 0)) * b (ix2 k (y 1)) := by
  unfold k0_pay1
  pointwise

theorem idx : ∀ t : Fin cfg0.N, win0_0.index t = ![t.val % 8, 0] ∧ win0_1.index t = ![t.val % 8, 0]
    ∧ win0_2.index t = ![0, 0] := by
  decide +kernel

/-- The product over the rows of both. -/
def prod (A : Vec Ideal S8192x512 .bf16) (B : Vec Ideal S8192x1024 .bf16) : Vec Ideal S512x1024 .bf16 :=
  fun i => ∑ k : Fin 8192, A (ix2 k (i 0)) * B (ix2 k (i 1))

variable (m : (ℓ : Loc nD τ sig) → Buf (Elt Ideal) ℓ) (c : Dev nD)

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, outsAt0_C m c t (by omega) (by omega) h7]; frame_out
  unfold k0_pay4
  pointwise
  refine Eq.trans ?_ (Cert.Prod.accumulated (J := 8) (tk := 1024) (K := 8192) (fun n h => (outsAt0 m c n h).2) (fun t k y => iblk m c 0 t (ix2 k (y 0)))
    (fun t k y => iblk m c 1 t (ix2 k (y 1))) (fun k i => (m ((c : Thread nD τ).loc main_arg0) : Vec Ideal S8192x512 .bf16) (ix2 k (i 0)))
    (fun k i => (m ((c : Thread nD τ).loc main_arg1) : Vec Ideal S8192x1024 .bf16) (ix2 k (i 1)))
    (fun y => ((cfg0.win 2).blk t).view.emb y) t h7 (fun t h y => ?_) (fun t h y => ?_) (fun p k l y hp hl => ?_) (fun p k l y hp hl => ?_) y)
  · rw [outsAt0_C m c t (by omega) (by omega) h7]; frame_out
  · have hN : t.val < 8 := t.isLt.trans_eq N_0
    rw [outsAt0_A m c t h (by omega) (by omega)]; frame_out
    exact (congrFun (shapeCast_self _ _) y).trans (pay1_apply _ _ y)
  · by_cases h2 : t.val % 8 = 7
    · rw [outsAt0_C m c t h (by omega) h2]; frame_out; simp only [read_unread_whole]
      unfold k0_pay3
      pointwise
      rw [pay1_apply]
    · rw [outsAt0_B m c t h (by omega) h2]; frame_out; simp only [read_unread_whole]
      unfold k0_pay3
      pointwise
      rw [pay1_apply]
  · blk_ext [iblk, V, idx]
  · blk_ext [iblk, V, idx]

theorem frame_ideal : Cert.quiescent_Kernel16Ideal (hKernel16Ideal := facts) := fun m ρ _ => Gen.frame m ρ

set_option backward.isDefEq.respectTransparency false in
/-- The kernel as printed and the kernel at the extended reals are one text. -/
theorem same : @Cert.Kernel16.defs Bits _ Cert.Kernel16.Gen.facts = @defs Bits _ facts
    ∧ @Cert.Kernel16.main Bits _ = @main Bits _ :=
  ⟨congrArg (Pipeline.defs (pcfgs (F := Bits))) (congrArg Defs.onTc (funext₂ fun l a => match l, a with | 0, (_, _) => rfl)), rfl⟩

theorem frame_kernel : Cert.quiescent_Kernel16 (hKernel16 := Cert.Kernel16.Gen.facts) := by
  intro m ρ _
  rw [same.1, same.2]
  exact Gen.frame (F := Bits) m ρ

theorem frame_reference : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)

theorem value : Cert.algebraic_Kernel16Ideal_Reference16Ideal (hKernel16Ideal := facts)
    (hReference16Ideal := Cert.Reference16Ideal.Gen.facts) := by
  intro m g m' g' _ hm
  refine ⟨fun c => prod (m ((c : Thread nD τ).loc main_arg0)) (m ((c : Thread nD τ).loc main_arg1)),
    (θ_run defs _ _).mono (fun r h c => ⟨(h c).1.trans (arr m c), (h c).2⟩) (Value.run_blocks m g),
    (θ_run Cert.Reference16Ideal.defs _ _).mono (fun r h c => ⟨(h c).1.trans (funext fun i => ?_), (h c).2⟩)
      (Cert.Reference16Ideal.Value.run (F := Ideal) m' g')⟩
  rw [(hm c).1, (hm c).2]
  unfold prod
  pointwise
  exact Finset.sum_congr rfl fun k _ => mul_comm _ _

end Cert.Kernel16Ideal.Product

end
-- ==== Proof.BranchDx.lean ====
/- `branch_dx_b`: the gradient of a branch's input; each block is one whole product. -/
module

public import proofs.«01_k».proof.Defs
public import proofs.«01_k».proof.Proof.Prod
public import proofs.«01_k».proof.Proof.Gen.Kernel17
public import proofs.«01_k».proof.Proof.Gen.Kernel17Ideal.Value
public import proofs.«01_k».proof.Proof.Gen.Reference17Ideal.Run
public import Idealize.ShloMosaic.Lib.Pipeline.ReadBack

@[expose] public section

set_option maxRecDepth 16384

noncomputable section

namespace Cert.Kernel17Ideal.Product

open Idealize.ShloMosaic Idealize.ShloMosaic.TcCoe Idealize.SL.Sem
open Cert.Kernel17Ideal Cert.Kernel17Ideal.Gen

theorem idx : ∀ t : Fin cfg0.N, win0_0.index t = ![t.val, 0] ∧ win0_1.index t = ![0, 0]
    ∧ win0_2.index t = ![t.val, 0] := by
  decide +kernel

/-- The result as one function of the arguments. -/
def prod (A : Vec Ideal S8192x1024 .bf16) (B : Vec Ideal S512x1024 .bf16) : Vec Ideal S8192x512 .bf16 :=
  fun i => ∑ k : Fin 1024, A (ix2 (i 0) k) * B (ix2 (i 1) k)

variable (m : (ℓ : Loc nD τ sig) → Buf (Elt Ideal) ℓ) (c : Dev nD)

theorem arr : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  unfold k0_pay1 prod
  pointwise
  refine Cert.Prod.whole (fun k => ?_) (fun k => ?_)
  · blk_ext [iblk, V, idx]
  · blk_ext [iblk, V, idx]

theorem frame_ideal : Cert.quiescent_Kernel17Ideal (hKernel17Ideal := facts) := fun m ρ _ => Gen.frame m ρ

set_option backward.isDefEq.respectTransparency false in
/-- The kernel as printed and the kernel at the extended reals are one text. -/
theorem same : @Cert.Kernel17.defs Bits _ Cert.Kernel17.Gen.facts = @defs Bits _ facts
    ∧ @Cert.Kernel17.main Bits _ = @main Bits _ :=
  ⟨congrArg (Pipeline.defs (pcfgs (F := Bits))) (congrArg Defs.onTc (funext₂ fun l a => match l, a with | 0, (_, _) => rfl)), rfl⟩

theorem frame_kernel : Cert.quiescent_Kernel17 (hKernel17 := Cert.Kernel17.Gen.facts) := by
  intro m ρ _
  rw [same.1, same.2]
  exact Gen.frame (F := Bits) m ρ

theorem frame_reference : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run (F := Ideal) m ρ)

theorem value : Cert.algebraic_Kernel17Ideal_Reference17Ideal (hKernel17Ideal := facts)
    (hReference17Ideal := Cert.Reference17Ideal.Gen.facts) := by
  intro m g m' g' _ hm
  refine ⟨fun c => prod (m ((c : Thread nD τ).loc main_arg0)) (m ((c : Thread nD τ).loc main_arg1)),
    (θ_run defs _ _).mono (fun r h c => ⟨(h c).1.trans (arr m c), (h c).2⟩) (Value.run_blocks m g),
    (θ_run Cert.Reference17Ideal.defs _ _).mono (fun r h c => ⟨(h c).1.trans (funext fun i => ?_), (h c).2⟩)
      (Cert.Reference17Ideal.Value.run (F := Ideal) m' g')⟩
  rw [(hm c).1, (hm c).2]
  unfold prod
  pointwise

end Cert.Kernel17Ideal.Product

end
-- ==== Proof.ProjPool.lean ====
/- `proj_pool`: the projection to the pooled channels, kept at f32; each block of the result is one whole product. -/
module

public import proofs.«01_k».proof.Defs
public import proofs.«01_k».proof.Proof.Prod
public import proofs.«01_k».proof.Proof.Gen.Kernel18
public import proofs.«01_k».proof.Proof.Gen.Kernel18Ideal.Value
public import proofs.«01_k».proof.Proof.Gen.Reference18Ideal.Run
public import Idealize.ShloMosaic.Lib.Pipeline.ReadBack

@[expose] public section

set_option maxRecDepth 16384

noncomputable section

namespace Cert.Kernel18Ideal.Product

open Idealize.ShloMosaic Idealize.ShloMosaic.TcCoe Idealize.SL.Sem
open Cert.Kernel18Ideal Cert.Kernel18Ideal.Gen

theorem idx : ∀ t : Fin cfg0.N, win0_0.index t = ![t.val, 0] ∧ win0_1.index t = ![0, 0]
    ∧ win0_2.index t = ![t.val, 0] := by
  decide +kernel

/-- The result as one function of the arguments. -/
def prod (A : Vec Ideal S8192x1024 .bf16) (B : Vec Ideal S1024x512 .bf16) : Vec Ideal S8192x512 .f32 :=
  fun i => ∑ k : Fin 1024, A (ix2 (i 0) k) * B (ix2 k (i 1))

variable (m : (ℓ : Loc nD τ sig) → Buf (Elt Ideal) ℓ) (c : Dev nD)

theorem arr : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  unfold k0_pay1 prod
  pointwise
  refine Cert.Prod.whole (fun k => ?_) (fun k => ?_)
  · blk_ext [iblk, V, idx]
  · blk_ext [iblk, V, idx]

theorem frame_ideal : Cert.quiescent_Kernel18Ideal (hKernel18Ideal := facts) := fun m ρ _ => Gen.frame m ρ

set_option backward.isDefEq.respectTransparency false in
/-- The kernel as printed and the kernel at the extended reals are one text. -/
theorem same : @Cert.Kernel18.defs Bits _ Cert.Kernel18.Gen.facts = @defs Bits _ facts
    ∧ @Cert.Kernel18.main Bits _ = @main Bits _ :=
  ⟨congrArg (Pipeline.defs (pcfgs (F := Bits))) (congrArg Defs.onTc (funext₂ fun l a => match l, a with | 0, (_, _) => rfl)), rfl⟩

theorem frame_kernel : Cert.quiescent_Kernel18 (hKernel18 := Cert.Kernel18.Gen.facts) := by
  intro m ρ _
  rw [same.1, same.2]
  exact Gen.frame (F := Bits) m ρ

theorem frame_reference : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run (F := Ideal) m ρ)

theorem value : Cert.algebraic_Kernel18Ideal_Reference18Ideal (hKernel18Ideal := facts)
    (hReference18Ideal := Cert.Reference18Ideal.Gen.facts) := by
  intro m g m' g' _ hm
  refine ⟨fun c => prod (m ((c : Thread nD τ).loc main_arg0)) (m ((c : Thread nD τ).loc main_arg1)),
    (θ_run defs _ _).mono (fun r h c => ⟨(h c).1.trans (arr m c), (h c).2⟩) (Value.run_blocks m g),
    (θ_run Cert.Reference18Ideal.defs _ _).mono (fun r h c => ⟨(h c).1.trans (funext fun i => ?_), (h c).2⟩)
      (Cert.Reference18Ideal.Value.run (F := Ideal) m' g')⟩
  rw [(hm c).1, (hm c).2]
  unfold prod
  pointwise

end Cert.Kernel18Ideal.Product

end
-- ==== Proof.ProjPoolDx.lean ====
/- `proj_pool_dx`: the gradient of the pooling projection's input added to `dh`; each block of the product is one whole product. -/
module

public import proofs.«01_k».proof.Defs
public import proofs.«01_k».proof.Proof.Prod
public import proofs.«01_k».proof.Proof.Gen.Kernel19
public import proofs.«01_k».proof.Proof.Gen.Kernel19Ideal.Value
public import proofs.«01_k».proof.Proof.Gen.Reference19Ideal.Run
public import Idealize.ShloMosaic.Lib.Pipeline.ReadBack

@[expose] public section

set_option maxRecDepth 16384

noncomputable section

namespace Cert.Kernel19Ideal.Product

open Idealize.ShloMosaic Idealize.ShloMosaic.TcCoe Idealize.SL.Sem
open Cert.Kernel19Ideal Cert.Kernel19Ideal.Gen

theorem idx : ∀ t : Fin cfg0.N, win0_0.index t = ![t.val, 0] ∧ win0_1.index t = ![0, 0]
    ∧ win0_2.index t = ![t.val, 0] ∧ win0_3.index t = ![t.val, 0] := by
  decide +kernel

/-- The result as one function of the arguments. -/
def prod (A : Vec Ideal S8192x512 .bf16) (B : Vec Ideal S1024x512 .bf16) (C : Vec Ideal S8192x1024 .f32) :
    Vec Ideal S8192x1024 .f32 :=
  fun i => C i + ∑ k : Fin 512, A (ix2 (i 0) k) * B (ix2 (i 1) k)

variable (m : (ℓ : Loc nD τ sig) → Buf (Elt Ideal) ℓ) (c : Dev nD)

theorem arr : (dats m 0 c).arrAt 3 cfg0.N = prod (m ((c : Thread nD τ).loc main_arg0)) (m ((c : Thread nD τ).loc main_arg1))
    (m ((c : Thread nD τ).loc main_arg2)) := by
  refine (dats m 0 c).arrAt_eq_of_covers 3 _ (by decide +kernel) fun t _ y => ?_
  blk_simp
  rw [after0_3]; frame_out
  unfold k0_pay1 prod
  pointwise
  refine Cert.Prod.added ?_ (Cert.Prod.whole (fun k => ?_) (fun k => ?_))
  · blk_ext [iblk, V, idx]
  · blk_ext [iblk, V, idx]
  · blk_ext [iblk, V, idx]

theorem frame_ideal : Cert.quiescent_Kernel19Ideal (hKernel19Ideal := facts) := fun m ρ _ => Gen.frame m ρ

set_option backward.isDefEq.respectTransparency false in
/-- The kernel as printed and the kernel at the extended reals are one text. -/
theorem same : @Cert.Kernel19.defs Bits _ Cert.Kernel19.Gen.facts = @defs Bits _ facts
    ∧ @Cert.Kernel19.main Bits _ = @main Bits _ :=
  ⟨congrArg (Pipeline.defs (pcfgs (F := Bits))) (congrArg Defs.onTc (funext₂ fun l a => match l, a with | 0, (_, _) => rfl)), rfl⟩

theorem frame_kernel : Cert.quiescent_Kernel19 (hKernel19 := Cert.Kernel19.Gen.facts) := by
  intro m ρ _
  rw [same.1, same.2]
  exact Gen.frame (F := Bits) m ρ

theorem frame_reference : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run (F := Ideal) m ρ)

theorem value : Cert.algebraic_Kernel19Ideal_Reference19Ideal (hKernel19Ideal := facts)
    (hReference19Ideal := Cert.Reference19Ideal.Gen.facts) := by
  intro m g m' g' _ hm
  refine ⟨fun c => prod (m ((c : Thread nD τ).loc main_arg0)) (m ((c : Thread nD τ).loc main_arg1)) (m ((c : Thread nD τ).loc main_arg2)),
    (θ_run defs _ _).mono (fun r h c => ⟨(h c).1.trans (arr m c), (h c).2⟩) (Value.run_blocks m g),
    (θ_run Cert.Reference19Ideal.defs _ _).mono (fun r h c => ⟨(h c).1.trans (funext fun i => ?_), (h c).2⟩)
      (Cert.Reference19Ideal.Value.run (F := Ideal) m' g')⟩
  rw [(hm c).1, (hm c).2.1, (hm c).2.2]
  unfold prod
  pointwise

end Cert.Kernel19Ideal.Product

end
-- ==== Proof.ProjPoolDw.lean ====
/- `proj_pool_dw`: the gradient of the pooling projection's weights, a product over the tokens in 8 blocks of 1024. -/
module

public import proofs.«01_k».proof.Defs
public import proofs.«01_k».proof.Proof.Prod
public import proofs.«01_k».proof.Proof.Gen.Kernel20
public import proofs.«01_k».proof.Proof.Gen.Kernel20Ideal.Value
public import proofs.«01_k».proof.Proof.Gen.Reference20Ideal.Run
public import Idealize.ShloMosaic.Lib.Pipeline.ReadBack

@[expose] public section

set_option maxRecDepth 16384

noncomputable section

namespace Cert.Kernel20Ideal.Product

open Idealize.ShloMosaic Idealize.ShloMosaic.TcCoe Idealize.SL.Sem
open Cert.Kernel20Ideal Cert.Kernel20Ideal.Gen

theorem pay1_apply (a : Vec Ideal S1024x1024 .bf16) (b : Vec Ideal S1024x512 .bf16) (y : S1024x512.Idx) :
    k0_pay1 a b y = ∑ k : Fin 1024, a (ix2 k (y 0)) * b (ix2 k (y 1)) := by
  unfold k0_pay1
  pointwise

theorem idx : ∀ t : Fin cfg0.N, win0_0.index t = ![t.val % 8, 0] ∧ win0_1.index t = ![t.val % 8, 0]
    ∧ win0_2.index t = ![0, 0] := by
  decide +kernel

/-- The product over the rows of both. -/
def prod (A : Vec Ideal S8192x1024 .bf16) (B : Vec Ideal S8192x512 .bf16) : Vec Ideal S1024x512 .bf16 :=
  fun i => ∑ k : Fin 8192, A (ix2 k (i 0)) * B (ix2 k (i 1))

variable (m : (ℓ : Loc nD τ sig) → Buf (Elt Ideal) ℓ) (c : Dev nD)

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, outsAt0_C m c t (by omega) (by omega) h7]; frame_out
  unfold k0_pay4
  pointwise
  refine Eq.trans ?_ (Cert.Prod.accumulated (J := 8) (tk := 1024) (K := 8192) (fun n h => (outsAt0 m c n h).2) (fun t k y => iblk m c 0 t (ix2 k (y 0)))
    (fun t k y => iblk m c 1 t (ix2 k (y 1))) (fun k i => (m ((c : Thread nD τ).loc main_arg0) : Vec Ideal S8192x1024 .bf16) (ix2 k (i 0)))
    (fun k i => (m ((c : Thread nD τ).loc main_arg1) : Vec Ideal S8192x512 .bf16) (ix2 k (i 1)))
    (fun y => ((cfg0.win 2).blk t).view.emb y) t h7 (fun t h y => ?_) (fun t h y => ?_) (fun p k l y hp hl => ?_) (fun p k l y hp hl => ?_) y)
  · rw [outsAt0_C m c t (by omega) (by omega) h7]; frame_out
  · have hN : t.val < 8 := t.isLt.trans_eq N_0
    rw [outsAt0_A m c t h (by omega) (by omega)]; frame_out
    exact (congrFun (shapeCast_self _ _) y).trans (pay1_apply _ _ y)
  · by_cases h2 : t.val % 8 = 7
    · rw [outsAt0_C m c t h (by omega) h2]; frame_out; simp only [read_unread_whole]
      unfold k0_pay3
      pointwise
      rw [pay1_apply]
    · rw [outsAt0_B m c t h (by omega) h2]; frame_out; simp only [read_unread_whole]
      unfold k0_pay3
      pointwise
      rw [pay1_apply]
  · blk_ext [iblk, V, idx]
  · blk_ext [iblk, V, idx]

theorem frame_ideal : Cert.quiescent_Kernel20Ideal (hKernel20Ideal := facts) := fun m ρ _ => Gen.frame m ρ

set_option backward.isDefEq.respectTransparency false in
/-- The kernel as printed and the kernel at the extended reals are one text. -/
theorem same : @Cert.Kernel20.defs Bits _ Cert.Kernel20.Gen.facts = @defs Bits _ facts
    ∧ @Cert.Kernel20.main Bits _ = @main Bits _ :=
  ⟨congrArg (Pipeline.defs (pcfgs (F := Bits))) (congrArg Defs.onTc (funext₂ fun l a => match l, a with | 0, (_, _) => rfl)), rfl⟩

theorem frame_kernel : Cert.quiescent_Kernel20 (hKernel20 := Cert.Kernel20.Gen.facts) := by
  intro m ρ _
  rw [same.1, same.2]
  exact Gen.frame (F := Bits) m ρ

theorem frame_reference : Cert.quiescent_Reference20Ideal (hReference20Ideal := Cert.Reference20Ideal.Gen.facts) := fun m ρ _ =>
  (θ_run Cert.Reference20Ideal.defs _ _).mono (fun r h => ⟨fun c => (h c).2, sem_eq_zero_of_no_sems (by decide) r.2⟩)
    (Cert.Reference20Ideal.Value.run (F := Ideal) m ρ)

theorem value : Cert.algebraic_Kernel20Ideal_Reference20Ideal (hKernel20Ideal := facts)
    (hReference20Ideal := Cert.Reference20Ideal.Gen.facts) := by
  intro m g m' g' _ hm
  refine ⟨fun c => prod (m ((c : Thread nD τ).loc main_arg0)) (m ((c : Thread nD τ).loc main_arg1)),
    (θ_run defs _ _).mono (fun r h c => ⟨(h c).1.trans (arr m c), (h c).2⟩) (Value.run_blocks m g),
    (θ_run Cert.Reference20Ideal.defs _ _).mono (fun r h c => ⟨(h c).1.trans (funext fun i => ?_), (h c).2⟩)
      (Cert.Reference20Ideal.Value.run (F := Ideal) m' g')⟩
  rw [(hm c).1, (hm c).2]
  unfold prod
  pointwise
  exact Finset.sum_congr rfl fun k _ => mul_comm _ _

end Cert.Kernel20Ideal.Product

end
-- ==== Proof.FwdTrip.lean ====
/- What the forward attention's body computes at one grid point, as a function on the contents of its buffers: one trip of its
   loop, the state after `k` trips, and the two blocks it stores. For any float values. -/
module

public import proofs.«01_k».proof.Proof.Gen.Kernel21Ideal.Launch
public import proofs.«01_k».proof.Proof.Gen.Kernel21Ideal.Skeleton
public import proofs.«01_k».proof.Proof.Gen.Kernel21Ideal.Points
public import proofs.«01_k».proof.Proof.Gen.Kernel21Ideal.Loops
public import proofs.«01_k».proof.Proof.Gen.Kernel21Ideal.Frame
public import proofs.«01_k».proof.Proof.Trip

@[expose] public section

set_option maxRecDepth 16384

noncomputable section

namespace Cert.Kernel21Ideal.Fwd

open Idealize.ShloMosaic Idealize.ShloMosaic.TcCoe Idealize.ShloMosaic.Tactic
open Cert.Kernel21Ideal.Gen
open Cert.KernelIdeal.Bwd (rows offR_inb)

variable {F : FTy → Type} [FloatOps F]

/-! ## Where a block sits -/

theorem off1_eq : ∀ i : grid0.Coords, k0_off1 i = ![512 * min (i 1).val 15, 0] := by decide +kernel
theorem off2_eq : ∀ i : grid0.Coords, k0_off2 i = ![512 * min ((i 1).val - 1) 15, 0] := by decide +kernel
theorem off3_eq : ∀ (i : grid0.Coords) (k : Fin (k0_t1_loop i).trips), k0_off3 i k = ![512 * min ((i 1).val - 1 - k.val - 1) 15, 0] := by decide +kernel
theorem off4_eq : ∀ (i : grid0.Coords) (k : Fin (k0_t1_loop i).trips), k0_off4 i k = ![512 * min ((i 1).val - k.val) 15, 0] := by decide +kernel
theorem trips_eq : ∀ i : grid0.Coords, (k0_t1_loop i).trips = (i 1).val := by decide +kernel
theorem trips2_eq : ∀ i : grid0.Coords, (k0_t2_loop i).trips = 0 := by decide +kernel

/-- The block's number as the trip computes it. -/
theorem word_eq : ∀ (i : grid0.Coords) (k : Fin (k0_t1_loop i).trips),
    Scalar.subi (Scalar.subi (BitVec.ofNat 32 (i 1).val) 1#32) (Scalar.addi 0#32 (Scalar.muli (Scf.iv 0#32 1#32 k) 1#32))
      = BitVec.ofNat 32 ((i 1).val - 1 - k.val) := by decide +kernel

/-! ## The state a trip changes -/

/-- The sums over the later keys that the point stores, the weighted values added so far, the sum over the keys of the blocks
    taken, the scores of the next block, and the weights of the last one taken. -/
structure St (F : FTy → Type) [FloatOps F] where
  c : Vec F S1x1x1024x128 .f32
  acc : Vec F S1024x128 .f32
  car : Vec F S1024x1 .f32
  z : Vec F S1024x512 .f32
  w : Vec F S1024x512 .bf16

/-- The lanes numbered, and the lane of block `j`. -/
abbrev lanes : IVec S1024x128 32 := iota .tc S1024x128 32 [1] iota_S1024x128_d1_w32
abbrev lane (j : ℕ) : IVec S1024x128 1 := cmpi .eq lanes (broadcast S1024x128 (BitVec.ofNat 32 j))

/-- The trip that makes the weights of block `j`: the block after it is added, and the block before it scored. -/
def step (qs : FVec F S1024x128 .bf16) (K V : Vec F S8192x128 .bf16) (j : ℕ) (s : St F) : St F where
  c := k0_pay5 s.car (lane j) s.c
  acc := k0_pay3 s.acc s.w (rows V (j + 1))
  car := k0_pay41 (k0_pay11 s.z s.car)
  z := k0_pay2 qs (rows K (j - 1))
  w := k0_pay12 k0_pay24 s.z s.car

/-- The state when the loop starts at query block `i`: the block on the diagonal weighed, the block before it scored. -/
def start (q : Vec F S512x128 .bf16) (K : Vec F S8192x128 .bf16) (i : ℕ) : St F where
  c := k0_pay40
  acc := k0_pay39
  car := k0_pay37 (k0_pay26 q (rows K i)) k0_pay27 (k0_pay28 q (rows K i)) (k0_pay29 q (rows K i)) k0_pay30
  z := k0_pay38 (k0_pay25 q) (rows K (i - 1))
  w := k0_pay36 k0_pay24 (k0_pay26 q (rows K i)) k0_pay27 (k0_pay28 q (rows K i)) (k0_pay29 q (rows K i)) k0_pay30

/-- The state after `k` trips. -/
def mid (q : Vec F S512x128 .bf16) (K V : Vec F S8192x128 .bf16) (i : ℕ) : ℕ → St F
  | 0 => start q K i
  | k + 1 => step (k0_pay25 q) K V (i - 1 - k) (mid q K V i k)

/-- The attention output of the block. -/
def oOut (V : Vec F S8192x128 .bf16) (s : St F) : Vec F S512x128 .bf16 :=
  k0_pay1 k0_pay44 (k0_pay45 s.acc s.w (rows V 0)) (k0_pay46 s.acc s.w (rows V 0))

section
variable (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x1x1024x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x512 .f32) (harg9 : arg9.IsWhole) (arg10 : Memref sig .tc .vmem S1024x512 .bf16) (harg10 : arg10.IsWhole)

/-- The buffers hold the state. -/
structure Holds (arg6 : Memref sig .tc .vmem S1x1x1024x128 .f32) (arg7 : Memref sig .tc .vmem S1024x128 .f32) (arg8 : Memref sig .tc .vmem S1024x1 .f32)
    (arg9 : Memref sig .tc .vmem S1024x512 .f32) (arg10 : Memref sig .tc .vmem S1024x512 .bf16)
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) (s : St F) : Prop where
  c : View.read (Elt F) arg6.view f6 = s.c
  acc : View.read (Elt F) arg7.view f7 = s.acc
  car : View.read (Elt F) arg8.view f8 = s.car
  z : View.read (Elt F) arg9.view f9 = s.z
  w : View.read (Elt F) arg10.view f10 = s.w

variable (v82 : FVec F S1024x512 .f32) (qs : FVec F S1024x128 .bf16) (K V : Vec F S8192x128 .bf16)
  (X3 : BufTy.Contents (Elt F) arg3.view.ty) (X4 : BufTy.Contents (Elt F) arg4.view.ty)

/-- The stores of one trip take the state to its `step`. -/
theorem trip (h3 : View.read (Elt F) arg3.view X3 = K) (h4 : View.read (Elt F) arg4.view X4 = V) (k : Fin (k0_t1_loop i).trips)
    {f6 : BufTy.Contents (Elt F) arg6.view.ty} {f7 : BufTy.Contents (Elt F) arg7.view.ty} {f8 : BufTy.Contents (Elt F) arg8.view.ty}
    {f9 : BufTy.Contents (Elt F) arg9.view.ty} {f10 : BufTy.Contents (Elt F) arg10.view.ty} {s : St F}
    (h : Holds arg6 arg7 arg8 arg9 arg10 f6 f7 f8 f9 f10 s)
    (L : _) (hL : L = tripL_k0_t1 (F := F) Variants.none c none i arg2 harg2 arg3 harg3 arg4 harg4 arg5 harg5 arg6 harg6 arg7 harg7 arg8 harg8 arg9 harg9 arg10 harg10
      (BitVec.ofNat 32 (i 1).val) k0_pay24 qs lanes v82 X3 X4 k f6 f7 f8 f9 f10) :
    Holds arg6 arg7 arg8 arg9 arg10 (arg6.view.writes (Elt F) f6 L.1) (arg7.view.writes (Elt F) f7 L.2.1) (arg8.view.writes (Elt F) f8 L.2.2.1)
      (arg9.view.writes (Elt F) f9 L.2.2.2.1) (arg10.view.writes (Elt F) f10 L.2.2.2.2) (step qs K V ((i 1).val - 1 - k.val) s) := by
  obtain ⟨e6, e7, e8, e9, e10⟩ := h
  have hk : k.val < (i 1).val := k.isLt.trans_eq (trips_eq i)
  subst h3 h4 hL
  unfold tripL_k0_t1 trip_k0_t1
  dsimp only
  have r8 : View.readAt (Elt F) arg8.view (Rect.unit (s := S1024x1) ![0, 0] S1024x1.size inb_S1024x1_S1024x1_0_0).toLoadRect f8 = s.car := (View.readAt_full _ _ _).trans e8
  have r9 : View.readAt (Elt F) arg9.view (Rect.unit (s := S1024x512) ![0, 0] S1024x512.size inb_S1024x512_S1024x512_0_0).toLoadRect f9 = s.z := (View.readAt_full _ _ _).trans e9
  constructor
  · refine (View.read_writes_full _ _ _ _ _).trans ?_
    delta trip_k0_t1.sl.r_1 trip_k0_t1.sl.r_2 trip_k0_t1.sl.r_3
    rw [r8, View.readAt_full, e6]
    unfold k0_pay4
    dsimp only
    rw [word_eq]
    rfl
  · refine (View.read_writes_full _ _ _ _ _).trans ?_
    rw [View.readAt_unit (s := S8192x128) (off := k0_off4 i k) (size := S512x128.size) _ _ _ (off4_eq i k) (offR_inb _), View.readAt_full, View.readAt_full, e7, e10]
    rw [show (i 1).val - k.val = (i 1).val - 1 - k.val + 1 by omega]
    rfl
  · refine (View.read_writes_full _ _ _ _ _).trans ?_
    delta trip_k0_t1.sl.r_4 trip_k0_t1.sl.r_1 trip_k0_t1.sl.r
    rw [r8, r9]
    rfl
  · refine (View.read_writes_full _ _ _ _ _).trans ?_
    rw [View.readAt_unit (s := S8192x128) (off := k0_off3 i k) (size := S512x128.size) _ _ _ (off3_eq i k) (offR_inb _)]
    rfl
  · refine (View.read_writes_full _ _ _ _ _).trans ?_
    delta trip_k0_t1.sl.r_1 trip_k0_t1.sl.r
    rw [r8, r9]
    rfl

variable (G6 : BufTy.Contents (Elt F) arg6.view.ty) (G7 : BufTy.Contents (Elt F) arg7.view.ty) (G8 : BufTy.Contents (Elt F) arg8.view.ty)
  (G9 : BufTy.Contents (Elt F) arg9.view.ty) (G10 : BufTy.Contents (Elt F) arg10.view.ty)

/-- The loop's stores before trip `k`, and over what. -/
abbrev stores (k : ℕ) := pb_k0_t1 (F := F) Variants.none c none i arg2 harg2 arg3 harg3 arg4 harg4 arg5 harg5 arg6 harg6 arg7 harg7 arg8 harg8 arg9 harg9 arg10 harg10
  (BitVec.ofNat 32 (i 1).val) k0_pay24 qs lanes v82 X3 X4 G6 G7 G8 G9 G10 k

theorem loop (h3 : View.read (Elt F) arg3.view X3 = K) (h4 : View.read (Elt F) arg4.view X4 = V) (q : Vec F S512x128 .bf16)
    (h : Holds arg6 arg7 arg8 arg9 arg10 G6 G7 G8 G9 G10 (start q K (i 1).val)) :
    ∀ k ≤ (k0_t1_loop i).trips, ∀ L, L = stores c i arg2 harg2 arg3 harg3 arg4 harg4 arg5 harg5 arg6 harg6 arg7 harg7 arg8 harg8 arg9 harg9 arg10 harg10 v82 (k0_pay25 q) X3 X4 G6 G7 G8 G9 G10 k →
      Holds arg6 arg7 arg8 arg9 arg10 (arg6.view.writes (Elt F) G6 L.1) (arg7.view.writes (Elt F) G7 L.2.1) (arg8.view.writes (Elt F) G8 L.2.2.1)
        (arg9.view.writes (Elt F) G9 L.2.2.2.1) (arg10.view.writes (Elt F) G10 L.2.2.2.2) (mid q K V (i 1).val k) := by
  intro k
  induction k with
  | zero =>
    intro _ L hL
    subst hL
    exact h
  | succ k ih =>
    intro hk L hL
    have ih := ih (by omega) _ rfl
    have t := trip c i arg2 harg2 arg3 harg3 arg4 harg4 arg5 harg5 arg6 harg6 arg7 harg7 arg8 harg8 arg9 harg9 arg10 harg10 v82 (k0_pay25 q) K V X3 X4 h3 h4 ⟨k, hk⟩ ih _ rfl
    subst hL
    unfold stores
    rw [pb_k0_t1_succ (k := ⟨k, hk⟩)]
    dsimp only
    rw [View.writes_append, View.writes_append, View.writes_append, View.writes_append, View.writes_append]
    exact t

/-- The second loop makes no trip. -/
theorem none2 (v99 : BitVec 32) (n : ℕ) (hn : n = 0) (v6 : FVec F S256x256 .bf16) (v21 : IVec S1024x128 32) (arg1 : BitVec 32) :
    pb_k0_t2 (F := F) Variants.none c none i arg2 harg2 arg3 harg3 arg4 harg4 arg5 harg5 arg6 harg6 arg7 harg7 arg8 harg8 arg9 harg9 arg10 harg10 arg1 v6 qs v21 v82 v99 X3 X4 G6 G7 G8 G9 G10 n = ([], [], [], [], []) := by
  subst hn; rfl

variable (x0 : Vec F S512x128 .bf16) (x1 x2 : Vec F S8192x128 .bf16)

/-- The stores before the loop leave the state it starts from. -/
theorem starts : Holds arg6 arg7 arg8 arg9 arg10 (arg6.view.writes (Elt F) arg6.view.junk kernelRun0_A.sl.H4_1)
    (arg7.view.writes (Elt F) arg7.view.junk kernelRun0_A.sl.HS0_1) (arg8.view.writes (Elt F) arg8.view.junk (kernelRun0_A.sl.HS1_1 c i arg2 harg2 arg3 harg3 x0 x1))
    (arg9.view.writes (Elt F) arg9.view.junk (kernelRun0_A.sl.HS2_1 c i arg2 harg2 arg3 harg3 x0 x1))
    (arg10.view.writes (Elt F) arg10.view.junk (kernelRun0_A.sl.HS3_1 c i arg2 harg2 arg3 harg3 x0 x1)) (start x0 x1 (i 1).val) := by
  have e2 : View.readAt (Elt F) arg2.view (Rect.unit (s := S512x128) ![0, 0] S512x128.size inb_S512x128_S512x128_0_0).toLoadRect (harg2.unread x0) = x0 :=
    (View.readAt_full _ _ _).trans (harg2.read_unread _)
  have e3 : View.readAt (Elt F) arg3.view (Rect.unit (s := S8192x128) (k0_off1 i) S512x128.size (k0_off1_inb i)).toLoadRect (harg3.unread x1) = rows x1 (i 1).val := by
    rw [View.readAt_unit (s := S8192x128) (off := k0_off1 i) (size := S512x128.size) _ _ _ (off1_eq i) (offR_inb _), harg3.read_unread]; rfl
  have e3' : View.readAt (Elt F) arg3.view (Rect.unit (s := S8192x128) (k0_off2 i) S512x128.size (k0_off2_inb i)).toLoadRect (harg3.unread x1) = rows x1 ((i 1).val - 1) := by
    rw [View.readAt_unit (s := S8192x128) (off := k0_off2 i) (size := S512x128.size) _ _ _ (off2_eq i) (offR_inb _), harg3.read_unread]; rfl
  constructor
  · exact View.read_writes_full _ _ _ _ _
  · exact View.read_writes_full _ _ _ _ _
  · refine (View.read_writes_full _ _ _ _ _).trans ?_
    delta kernelRun0_A.sl.r_1 kernelRun0_A.sl.r_2 kernelRun0_A.sl.r_3
    rw [e2, e3]
    rfl
  · refine (View.read_writes_full _ _ _ _ _).trans ?_
    delta kernelRun0_A.sl.r_4 kernelRun0_A.sl.r
    rw [e2, e3']
    rfl
  · refine (View.read_writes_full _ _ _ _ _).trans ?_
    delta kernelRun0_A.sl.r_1 kernelRun0_A.sl.r_2 kernelRun0_A.sl.r_3
    rw [e2, e3]
    rfl

/-- The state at the end of the loop. -/
theorem ends (L : _) (hL : L = stores c i arg2 harg2 arg3 harg3 arg4 harg4 arg5 harg5 arg6 harg6 arg7 harg7 arg8 harg8 arg9 harg9 arg10 harg10 v82 (k0_pay25 x0) (harg3.unread x1) (harg4.unread x2)
      (arg6.view.writes (Elt F) arg6.view.junk kernelRun0_A.sl.H4_1) (arg7.view.writes (Elt F) arg7.view.junk kernelRun0_A.sl.HS0_1)
      (arg8.view.writes (Elt F) arg8.view.junk (kernelRun0_A.sl.HS1_1 c i arg2 harg2 arg3 harg3 x0 x1))
      (arg9.view.writes (Elt F) arg9.view.junk (kernelRun0_A.sl.HS2_1 c i arg2 harg2 arg3 harg3 x0 x1))
      (arg10.view.writes (Elt F) arg10.view.junk (kernelRun0_A.sl.HS3_1 c i arg2 harg2 arg3 harg3 x0 x1)) (k0_t1_loop i).trips) :
    Holds arg6 arg7 arg8 arg9 arg10 (arg6.view.writes (Elt F) (arg6.view.writes (Elt F) arg6.view.junk kernelRun0_A.sl.H4_1) L.1)
      (arg7.view.writes (Elt F) (arg7.view.writes (Elt F) arg7.view.junk kernelRun0_A.sl.HS0_1) L.2.1)
      (arg8.view.writes (Elt F) (arg8.view.writes (Elt F) arg8.view.junk (kernelRun0_A.sl.HS1_1 c i arg2 harg2 arg3 harg3 x0 x1)) L.2.2.1)
      (arg9.view.writes (Elt F) (arg9.view.writes (Elt F) arg9.view.junk (kernelRun0_A.sl.HS2_1 c i arg2 harg2 arg3 harg3 x0 x1)) L.2.2.2.1)
      (arg10.view.writes (Elt F) (arg10.view.writes (Elt F) arg10.view.junk (kernelRun0_A.sl.HS3_1 c i arg2 harg2 arg3 harg3 x0 x1)) L.2.2.2.2)
      (mid x0 x1 x2 (i 1).val (i 1).val) := by
  have := loop c i arg2 harg2 arg3 harg3 arg4 harg4 arg5 harg5 arg6 harg6 arg7 harg7 arg8 harg8 arg9 harg9 arg10 harg10 v82 x1 x2 _ _ _ _ _ _ _ (harg3.read_unread x1) (harg4.read_unread x2) x0
    (starts c i arg2 harg2 arg3 harg3 arg6 arg7 arg8 arg9 arg10 x0 x1) (k0_t1_loop i).trips le_rfl L hL
  rw [trips_eq i] at this
  exact this

theorem qs_eq : kernelRun0_A.sl.r c arg2 harg2 x0 = k0_pay25 x0 := by
  delta kernelRun0_A.sl.r
  rw [View.readAt_full, harg2.read_unread]

/-- The block of sums over the later keys, -/
theorem out4 : out0_A_4 c i arg2 harg2 arg3 harg3 arg4 harg4 arg5 harg5 arg6 harg6 arg7 harg7 arg8 harg8 arg9 harg9 arg10 harg10 x0 x1 x2 = (mid x0 x1 x2 (i 1).val (i 1).val).c := by
  refine (View.read_writes_of_cover _ arg6.view.junk _ _ _ (cover0_A_4 c i arg2 harg2 arg3 harg3 arg4 harg4 arg5 harg5 arg6 harg6 arg7 harg7 arg8 harg8 arg9 harg9 arg10 harg10 x0 x1 x2)).symm.trans ?_
  unfold kernelRun0_A
  dsimp only
  rw [none2, qs_eq]
  swap; · exact trips2_eq i
  rw [List.nil_append, View.writes_append]
  exact (ends c i arg2 harg2 arg3 harg3 arg4 harg4 arg5 harg5 arg6 harg6 arg7 harg7 arg8 harg8 arg9 harg9 arg10 harg10 (kernelRun0_A.sl.r_4 c i arg2 harg2 arg3 harg3 x0 x1) x0 x1 x2 _ rfl).c

theorem v100_eq : kernelRun0_A.sl.v100 c i arg2 harg2 arg3 harg3 arg4 harg4 arg5 harg5 arg6 harg6 arg7 harg7 arg8 harg8 arg9 harg9 arg10 harg10 x0 x1 x2 = (mid x0 x1 x2 (i 1).val (i 1).val).acc := by
  delta kernelRun0_A.sl.v100
  rw [none2, qs_eq]
  swap; · exact trips2_eq i
  rw [View.readCov, List.nil_append, View.writes_append, View.readAt_full]
  exact (ends c i arg2 harg2 arg3 harg3 arg4 harg4 arg5 harg5 arg6 harg6 arg7 harg7 arg8 harg8 arg9 harg9 arg10 harg10 (kernelRun0_A.sl.r_4 c i arg2 harg2 arg3 harg3 x0 x1) x0 x1 x2 _ rfl).acc

theorem v101_eq : kernelRun0_A.sl.v101 c i arg2 harg2 arg3 harg3 arg4 harg4 arg5 harg5 arg6 harg6 arg7 harg7 arg8 harg8 arg9 harg9 arg10 harg10 x0 x1 x2 = (mid x0 x1 x2 (i 1).val (i 1).val).w := by
  delta kernelRun0_A.sl.v101
  rw [none2, qs_eq]
  swap; · exact trips2_eq i
  rw [View.readCov, List.nil_append, View.writes_append, View.readAt_full]
  exact (ends c i arg2 harg2 arg3 harg3 arg4 harg4 arg5 harg5 arg6 harg6 arg7 harg7 arg8 harg8 arg9 harg9 arg10 harg10 (kernelRun0_A.sl.r_4 c i arg2 harg2 arg3 harg3 x0 x1) x0 x1 x2 _ rfl).w

/-- and the block of attention outputs. -/
theorem out3 : out0_A_3 c i arg2 harg2 arg3 harg3 arg4 harg4 arg5 harg5 arg6 harg6 arg7 harg7 arg8 harg8 arg9 harg9 arg10 harg10 x0 x1 x2 = oOut x2 (mid x0 x1 x2 (i 1).val (i 1).val) := by
  refine (View.read_writes_of_cover _ arg5.view.junk _ _ _ (cover0_A_3 c i arg2 harg2 arg3 harg3 arg4 harg4 arg5 harg5 arg6 harg6 arg7 harg7 arg8 harg8 arg9 harg9 arg10 harg10 x0 x1 x2)).symm.trans ?_
  unfold kernelRun0_A
  dsimp only
  refine (View.read_writes_full _ _ _ _ _).trans ?_
  delta kernelRun0_A.sl.r_5 kernelRun0_A.sl.r_6
  rw [v100_eq, v101_eq, View.readAt_unit (s := S8192x128) (off := ![0, 0]) (off' := ![512 * min 0 15, 0]) (size := S512x128.size) _ _ _ rfl (offR_inb _), harg4.read_unread]
  rfl

end

end Cert.Kernel21Ideal.Fwd

end
-- ==== Proof.FwdLoop.lean ====
/- What one grid point of the forward attention computes on arrays of reals: each stretch of its vector operations, and its
   loop over the key blocks, from the diagonal back, by its invariant. -/
module

public import proofs.«01_k».proof.Proof.FwdTrip
public import proofs.«01_k».proof.Proof.Loop

@[expose] public section

set_option maxRecDepth 16384

noncomputable section

namespace Cert.Kernel21Ideal.Fwd

open Idealize.ShloMosaic Cert.Kernel21Ideal.Gen Cert.Spec Finset
open Cert.KernelIdeal.Bwd (rows rows_is half Z LK W QS stack z_dot lk_lt lk_ge w_ge w_off w_diag zero_is post before sel_slt sel_eq exp_is)

/-! ## What the two passes share -/

theorem later_is : Is (k0_pay24 (F := Ideal)) fun r c => if c < r then 1 else 0 := Cert.KernelIdeal.Bwd.later_is

section
variable {z : Vec Ideal S1024x512 .f32} {f : ℕ → ℕ → ℝ} {q : Vec Ideal S512x128 .bf16} {qf : ℕ → ℕ → ℝ}

theorem pay6_is (h : Is z f) : Is (k0_pay6 z) fun r c => ls (f r c) := Cert.KernelIdeal.Bwd.pay8_is h

theorem pay25_is (hq : Is q qf) : Is (k0_pay25 q) (stack fun r l => qf r l / 8) := Cert.KernelIdeal.Bwd.pay41_is hq

/-! ## A block of weights before the diagonal -/

theorem pay7_is (h : Is z f) : Is (k0_pay7 z) fun r c => ls (f r c) - f r c := by
  intro r c
  pointwise [k0_pay7]
  rw [pay6_is h, h, ← EReal.coe_sub]

theorem pay8_is (h : Is z f) : Is (k0_pay8 z) fun r c => ls (f r (256 + c)) - f r (256 + c) := by
  intro r c
  pointwise [k0_pay8]
  exact pay7_is h r ⟨256 + c.val, by omega⟩

theorem pay10_is (h : Is z f) : Is (k0_pay10 z) fun r c => ls (f r c) - f r c := by
  intro r c
  pointwise [k0_pay10]
  exact pay7_is h r ⟨c.val, by omega⟩

variable {car : Vec Ideal S1024x1 .f32} {e : ℕ → ℝ}

theorem pay9_is (h : Is z f) (hc : Is car fun r _ => e r) : Is (k0_pay9 z car) fun r _ => e r + ∑ u ∈ range 256, (ls (f r (256 + u)) - f r (256 + u)) := by
  intro r c
  pointwise [k0_pay9]
  rw [hc, sums (fun u => ls (f r (256 + u)) - f r (256 + u)) fun i => pay8_is h r i, ← EReal.coe_add]

theorem pay11_is (h : Is z f) (hc : Is car fun r _ => e r) : Is (k0_pay11 z car) fun r _ => e r + ∑ u ∈ range 512, (ls (f r u) - f r u) := by
  intro r c
  pointwise [k0_pay11]
  rw [pay9_is h hc, sums (fun u => ls (f r u) - f r u) fun i => pay10_is h r i, ← EReal.coe_add]
  refine congrArg (fun r : ℝ => (r : EReal)) ?_
  rw [show (512 : ℕ) = 256 + 256 from rfl, sum_range_add]
  ring

theorem pay12_is (h : Is z f) (hc : Is car fun r _ => e r) :
    Is (k0_pay12 k0_pay24 z car) fun r c => Real.exp (ls (f r c) + post (fun u => ls (f r u) - f r u) c (e r)) := by
  intro r c
  pointwise [k0_pay12]
  refine exp_is ?_
  rw [pay6_is h, EReal.coe_add]
  refine congrArg₂ _ rfl ?_
  unfold Cert.KernelIdeal.Bwd.post
  by_cases h2 : c.val < 256
  · rw [dif_pos h2]
    refine (congrArg₂ (· + ·) (dots (K := 256) (fun u => ls (f r u) - f r u) (fun u => if c.val < u then 1 else 0) (fun i => pay10_is h r i) (fun i => later_is _ _))
      (pay9_is h hc r 0)).trans ?_
    rw [← EReal.coe_add, later_lo (fun u => ls (f r u) - f r u) c.val h2]
  · rw [dif_neg h2]
    refine (congrArg₂ (· + ·) (dots (K := 256) (fun u => ls (f r (256 + u)) - f r (256 + u)) (fun u => if c.val - 256 < u then 1 else 0)
      (fun i => pay8_is h r i) (fun i => later_is _ _)) (hc r 0)).trans ?_
    rw [← EReal.coe_add, later_hi (fun u => ls (f r u) - f r u) c.val h2]
end

/-! ## The products, and the lanes -/

section
variable {qs : FVec Ideal S1024x128 .bf16} {ks : Vec Ideal S512x128 .bf16} {qf kf : ℕ → ℕ → ℝ}

theorem pay2_is (hq : Is qs qf) (hk : Is ks kf) : Is (k0_pay2 qs ks) fun r c => ∑ l ∈ range 128, qf r l * kf c l := by
  intro r c
  pointwise [k0_pay2]
  rw [dots (fun l => qf r l) (fun l => kf c l) (fun i => hq _ _) (fun i => hk _ _)]

variable {w : Vec Ideal S1024x512 .bf16} {acc : Vec Ideal S1024x128 .f32} {wf af : ℕ → ℕ → ℝ}

theorem pay43_is (hw : Is w wf) (ha : Is acc af) (hk : Is ks kf) : Is (k0_pay43 acc w ks) fun r l => af r l + ∑ u ∈ range 512, wf r u * kf u l := by
  intro r l
  pointwise [k0_pay43]
  rw [ha, dots (fun u => wf r u) (fun u => kf u l) (fun i => hw _ _) (fun i => hk _ _), ← EReal.coe_add]

theorem pay3_is (hw : Is w wf) (ha : Is acc af) (hk : Is ks kf) : Is (k0_pay3 acc w ks) fun r l => af r l + ∑ u ∈ range 512, wf r u * kf u l := by
  intro r l
  pointwise [k0_pay3]
  rw [ha, dots (fun u => wf r u) (fun u => kf u l) (fun i => hw _ _) (fun i => hk _ _), ← EReal.coe_add]

/-- The two heads' rows back on their lanes. -/
theorem pay1_is (hw : Is w wf) (ha : Is acc af) (hk : Is ks kf) :
    Is (k0_pay1 k0_pay44 (k0_pay45 acc w ks) (k0_pay46 acc w ks)) fun r l => af (512 * (l / 64) + r) l + ∑ u ∈ range 512, wf (512 * (l / 64) + r) u * kf u l := by
  intro r l
  have h := pay43_is hw ha hk
  pointwise [k0_pay1, k0_pay44, k0_pay45, k0_pay46]
  refine (sel_slt l.val 64 _ _ (by omega) (by omega)).trans ?_
  by_cases h2 : l.val < 64
  · rw [if_pos h2, show l.val / 64 = 0 by omega, Nat.mul_zero, Nat.zero_add]
    exact h ⟨r.val, by omega⟩ l
  · rw [if_neg h2, show l.val / 64 = 1 by omega]
    exact h ⟨512 + r.val, by omega⟩ l

variable {car : Vec Ideal S1024x1 .f32} {e : ℕ → ℝ} {c : Vec Ideal S1x1x1024x128 .f32} {cf : ℕ → ℕ → ℝ}

/-- One lane replaced. -/
theorem pay5_is (hc : Is car fun r _ => e r) (h : ∀ (r : Fin 1024) (l : Fin 128), c (ix4 0 0 r l) = ((cf r.val l.val : ℝ) : EReal)) {j : ℕ} (hj : j < 16)
    (r : Fin 1024) (l : Fin 128) : k0_pay5 car (lane j) c (ix4 0 0 r l) = ((if l.val = j then e r else cf r l : ℝ) : EReal) := by
  pointwise [k0_pay5, lane, lanes]
  refine (sel_eq l.val j _ _ (by omega) (by omega)).trans ?_
  split_ifs
  · exact hc r 0
  · exact h r l
end

/-! ## The block on the diagonal -/

section
variable {q ks : Vec Ideal S512x128 .bf16} {f : ℕ → ℕ → ℝ}

theorem pay32_is (h : Is (k0_pay26 q ks) f) :
    Is (k0_pay32 (k0_pay26 q ks) k0_pay27 (k0_pay28 q ks) (k0_pay29 q ks) k0_pay30) fun r c => if before r c then ls (f r c) - f r c else 0 :=
  Cert.KernelIdeal.Bwd.pay67_is h

variable {v26 : FVec Ideal S1024x512 .f32} {v34 : IVec S1024x512 1} {v36 v40 v41 : FVec Ideal S1024x512 .f32} {mf : ℕ → ℕ → ℝ}

theorem pay33_is (h : Is (k0_pay32 v26 v34 v36 v40 v41) mf) : Is (k0_pay33 v26 v34 v36 v40 v41) fun r c => mf r (256 + c) := by
  intro r c
  pointwise [k0_pay33]
  exact h r ⟨256 + c.val, by omega⟩

theorem pay35_is (h : Is (k0_pay32 v26 v34 v36 v40 v41) mf) : Is (k0_pay35 v26 v34 v36 v40 v41) mf := by
  intro r c
  pointwise [k0_pay35]
  exact h r ⟨c.val, by omega⟩

theorem pay34_is (h : Is (k0_pay32 v26 v34 v36 v40 v41) mf) : Is (k0_pay34 v26 v34 v36 v40 v41) fun r _ => ∑ u ∈ range 256, mf r (256 + u) := by
  intro r c
  pointwise [k0_pay34]
  exact sums (fun u => mf r (256 + u)) fun i => pay33_is h r i

theorem pay36_is (h : Is (k0_pay26 q ks) f) :
    Is (k0_pay36 k0_pay24 (k0_pay26 q ks) k0_pay27 (k0_pay28 q ks) (k0_pay29 q ks) k0_pay30) (Cert.KernelIdeal.Bwd.wD f) := by
  have hl : Is (k0_pay31 (k0_pay28 q ks) (k0_pay29 q ks) k0_pay30) fun r c => ls (f r c) := Cert.KernelIdeal.Bwd.pay65_is h
  have hm := pay32_is h
  intro r c
  pointwise [k0_pay36]
  refine (Cert.KernelIdeal.Bwd.sel_mask r c _ _).trans ?_
  unfold Cert.KernelIdeal.Bwd.wD
  by_cases hb : before r.val c.val
  · rw [if_pos hb, if_pos hb]
    refine exp_is ?_
    rw [hl, EReal.coe_add]
    refine congrArg₂ _ rfl ?_
    unfold Cert.KernelIdeal.Bwd.post
    by_cases h2 : c.val < 256
    · rw [dif_pos h2]
      refine (congrArg₂ (· + ·) (dots (K := 256) (fun u => if before r u then ls (f r u) - f r u else 0) (fun u => if c.val < u then 1 else 0)
        (fun i => pay35_is hm r i) (fun i => later_is _ _)) (pay34_is hm r 0)).trans ?_
      rw [← EReal.coe_add, ← later_lo _ c.val h2]
      exact congrArg _ (congrArg₂ _ rfl (zero_add _).symm)
    · rw [dif_neg h2]
      refine (dots (K := 256) (fun u => if before r (256 + u) then ls (f r (256 + u)) - f r (256 + u) else 0) (fun u => if c.val - 256 < u then 1 else 0)
        (fun i => pay33_is hm r i) (fun i => later_is _ _)).trans ?_
      rw [← later_hi (fun u => if before r u then ls (f r u) - f r u else 0) c.val h2, add_zero]
  · rw [if_neg hb, if_neg hb]; rfl

theorem pay37_is (h : Is (k0_pay32 v26 v34 v36 v40 v41) mf) : Is (k0_pay37 v26 v34 v36 v40 v41) fun r _ => ∑ u ∈ range 512, mf r u := by
  intro r c
  pointwise [k0_pay37]
  rw [pay34_is h, sums (fun u => mf r u) fun i => pay35_is h r i, ← EReal.coe_add, add_comm]
  exact congrArg _ (sum_range_add (mf r) 256 256).symm
end

/-! ## The loop -/

/-- A block before what is summed. -/
theorem sum_block (f : ℕ → ℝ) (j : ℕ) (hj : j < 16) : ∑ u ∈ Ico (512 * (j + 1)) 8192, f u + ∑ u ∈ range 512, f (512 * j + u) = ∑ u ∈ Ico (512 * j) 8192, f u := by
  rw [← sum_Ico_consecutive f (show 512 * j ≤ 512 * (j + 1) by omega) (show 512 * (j + 1) ≤ 8192 by omega), sum_Ico_eq_sum_range f (512 * j),
    show 512 * (j + 1) - 512 * j = 512 by omega]
  ring

section
variable (qq kk vv : ℕ → ℕ → ℝ) (i : ℕ)

/-- What holds of the buffers after `k` trips. -/
structure Inv (k : ℕ) (s : St Ideal) : Prop where
  c : ∀ (r : Fin 1024) (l : Fin 128), s.c (ix4 0 0 r l)
    = ((if i - k ≤ l.val ∧ l.val < i then ∑ u ∈ Ico (512 * (l.val + 1)) 8192, LK qq kk i r u else 0 : ℝ) : EReal)
  acc : Is s.acc fun r l => ∑ u ∈ Ico (512 * (i - k + 1)) 8192, W qq kk i r u * vv u l
  car : Is s.car fun r _ => ∑ u ∈ Ico (512 * (i - k)) 8192, LK qq kk i r u
  z : Is s.z fun r c => Z qq kk i r (512 * (i - 1 - k) + c)
  w : Is s.w fun r c => W qq kk i r (512 * (i - k) + c)

/-- A query's attention. -/
def att (q k v : ℕ → ℕ → ℝ) (t d : ℕ) : ℝ := ∑ s ∈ range 8192, Spec.w q k t s * v s d

variable {qq kk vv i} {K V : Vec Ideal S8192x128 .bf16} {q : Vec Ideal S512x128 .bf16}

theorem start_inv (hi : i < 16) (hq : Is q fun r l => qq (512 * i + r) l) (hK : Is K kk) : Inv qq kk vv i 0 (start q K i) := by
  have hz : Is (k0_pay26 q (rows K i)) fun r c => Z qq kk i r (512 * i + c) := by
    refine Is.congr (f := fun r c => ∑ l ∈ range 128, QS qq i r l * kk (512 * i + c) l) (fun r c => ?_) fun r c hr _ => z_dot qq kk i r _ hr
    pointwise [k0_pay26]
    exact dots (fun l => QS qq i r l) (fun l => kk (512 * i + c) l) (fun l => pay25_is hq _ _) (fun l => rows_is hK (by omega) _ _)
  exact {
    c := fun r l => by
      rw [if_neg (by omega)]
      show k0_pay40 (ix4 0 0 r l) = _
      pointwise [k0_pay40]
      rfl
    acc := zero_is _ _ _ (fun r c => by show k0_pay39 (ix2 r c) = 0; pointwise [k0_pay39]) fun r c hr _ => sum_eq_zero fun u hu => by
      have := (mem_Ico.1 hu).1
      rw [w_ge qq kk i r u (by omega), zero_mul]
    car := (pay37_is (pay32_is hz)).congr fun r _ _ _ => by
      rw [Nat.sub_zero, ← sum_block _ i hi, sum_eq_zero fun u hu => lk_ge qq kk i r u (by have := (mem_Ico.1 hu).1; omega), zero_add]
      refine sum_congr rfl fun u _ => ?_
      by_cases hb : before r u
      · have hb' : u < r % 512 := hb
        rw [if_pos hb, lk_lt qq kk i r _ (by omega)]
      · have hb' : ¬ u < r % 512 := hb
        rw [if_neg hb, lk_ge qq kk i r _ (by omega)]
    z := by
      intro r c
      show k0_pay38 (k0_pay25 q) (rows K (i - 1)) (ix2 r c) = _
      pointwise [k0_pay38]
      rw [dots (fun l => QS qq i r l) (fun l => kk (512 * (i - 1) + c) l) (fun l => pay25_is hq _ _) (fun l => rows_is hK (by omega) _ _), z_dot _ _ _ _ _ r.isLt]
    w := (pay36_is hz).congr fun r c _ hc => w_diag qq kk i r c hi hc }

theorem step_inv (hi : i < 16) (hq : Is q fun r l => qq (512 * i + r) l) (hK : Is K kk) (hV : Is V vv) {k : ℕ} (hk : k < i) {s : St Ideal}
    (h : Inv qq kk vv i k s) : Inv qq kk vv i (k + 1) (step (k0_pay25 q) K V (i - 1 - k) s) := by
  have e1 : i - (k + 1) = i - 1 - k := by omega
  have e2 : i - 1 - k + 1 = i - k := by omega
  exact {
    c := fun r l => by
      refine (pay5_is (cf := fun r l => if i - k ≤ l ∧ l < i then ∑ u ∈ Ico (512 * (l + 1)) 8192, LK qq kk i r u else 0) h.car h.c (show i - 1 - k < 16 by omega) r l).trans (congrArg (fun r : ℝ => (r : EReal)) ?_)
      by_cases hl : l.val = i - 1 - k
      · rw [if_pos hl, if_pos (by omega), hl, e2]
      · rw [if_neg hl]
        exact if_congr (by omega) rfl rfl
    acc := (pay3_is h.w h.acc (rows_is hV (show i - 1 - k + 1 ≤ 15 by omega))).congr fun r l _ _ => by
      rw [e1, e2]
      exact sum_block (fun u => W qq kk i r u * vv u l) (i - k) (by omega)
    car := by
      intro r c
      show k0_pay41 (k0_pay11 s.z s.car) (ix2 r c) = _
      pointwise [k0_pay41]
      refine (pay11_is h.z h.car r c).trans (congrArg (fun r : ℝ => (r : EReal)) ?_)
      rw [e1, ← sum_block _ (i - 1 - k) (by omega), e2]
      refine congrArg₂ _ rfl (sum_congr rfl fun u hu => ?_)
      have := mem_range.1 hu
      exact (lk_lt qq kk i r _ (by omega)).symm
    z := (pay2_is (pay25_is hq) (rows_is hK (show i - 1 - k - 1 ≤ 15 by omega))).congr fun r c hr _ => z_dot qq kk i r _ hr
    w := (pay12_is h.z h.car).congr fun r c _ hc => by
      rw [e1, ← e2]
      exact w_off qq kk i r (i - 1 - k) c (by omega) hi hc }

theorem mid_inv (hi : i < 16) (hq : Is q fun r l => qq (512 * i + r) l) (hK : Is K kk) (hV : Is V vv) : ∀ k ≤ i, Inv qq kk vv i k (mid q K V i k)
  | 0, _ => start_inv hi hq hK
  | k + 1, h => step_inv hi hq hK hV (by omega) (mid_inv hi hq hK hV k (by omega))

/-- What the point stores of the sums over the later keys, -/
theorem cOut_is (hi : i < 16) (hq : Is q fun r l => qq (512 * i + r) l) (hK : Is K kk) (hV : Is V vv) (r : Fin 1024) (l : Fin 128) :
    (mid q K V i i).c (ix4 0 0 r l) = ((if l.val < 15 then ∑ u ∈ Ico (512 * (l.val + 1)) 8192, LK qq kk i r u else 0 : ℝ) : EReal) := by
  refine ((mid_inv hi hq hK hV i le_rfl).c r l).trans (congrArg (fun r : ℝ => (r : EReal)) ?_)
  by_cases hl : l.val < i
  · rw [if_pos ⟨by omega, hl⟩, if_pos (by omega)]
  · rw [if_neg fun h => hl h.2, sum_eq_zero fun u hu => lk_ge qq kk i r u (by have := (mem_Ico.1 hu).1; omega)]
    split_ifs <;> rfl

/-- and of the attention. -/
theorem oOut_is (hi : i < 16) (hq : Is q fun r l => qq (512 * i + r) l) (hK : Is K kk) (hV : Is V vv) :
    Is (oOut V (mid q K V i i)) fun r l => att (half qq (l / 64)) (half kk (l / 64)) (half vv (l / 64)) (512 * i + r) (l % 64) := by
  have h := mid_inv hi hq hK hV i le_rfl
  refine (pay1_is h.w h.acc (rows_is hV (show 0 ≤ 15 by omega))).congr fun r l hr hl => ?_
  rw [Nat.sub_self]
  refine (sum_block (fun u => W qq kk i (512 * (l / 64) + r) u * vv u l) 0 (by omega)).trans ?_
  have e1 : (512 * (l / 64) + r) / 512 = l / 64 := by omega
  have e2 : (512 * (l / 64) + r) % 512 = r := by omega
  have e3 : 64 * (l / 64) + l % 64 = l := by omega
  unfold att W half
  rw [e1, e2, e3, Nat.mul_zero, ← range_eq_Ico]
end

end Cert.Kernel21Ideal.Fwd
end
-- ==== Proof.FwdGrid.lean ====
/- The forward attention's run on arrays of reals: the blocks each grid point reads, and the two result arrays. -/
module

public import proofs.«01_k».proof.Proof.FwdLoop
public import proofs.«01_k».proof.Proof.Grid

@[expose] public section

set_option maxRecDepth 16384

noncomputable section

namespace Cert.Kernel21Ideal.Fwd

open Idealize.ShloMosaic Idealize.ShloMosaic.TcCoe Idealize.SL.Sem
open Cert.Kernel21Ideal Cert.Kernel21Ideal.Gen Cert.Spec Finset
open Cert.KernelIdeal.Bwd (cut half_cut arr LK)

section
variable (m : (ℓ : Loc nD τ sig) → Buf (Elt Ideal) ℓ) (c : Dev nD) {A : ℕ → ℕ → ℝ}

/-! ## The blocks -/

theorem row (t : Fin cfg0.N) : (grid0.coords t 1).val = t.val % 16 := by
  have h : (grid0.coords t 1).val = t.val / 1 % 16 := Pipeline.Grid.coords_val t 1 (by decide) rfl
  omega

theorem pair_lt (t : Fin cfg0.N) : t.val / 16 < 4 := by
  have h : cfg0.N = 64 := N_0
  have := t.isLt
  omega

theorem idx0 : ∀ t : Fin cfg0.N, win0_0.index t 0 = t.val % 16 ∧ win0_0.index t 1 = 12 + t.val / 16 :=
  (by decide +kernel : ∀ t : Fin grid0.N, win0_0.index t 0 = t.val % 16 ∧ win0_0.index t 1 = 12 + t.val / 16)
theorem idx1 : ∀ t : Fin cfg0.N, win0_1.index t 0 = 0 ∧ win0_1.index t 1 = 16 + t.val / 16 :=
  (by decide +kernel : ∀ t : Fin grid0.N, win0_1.index t 0 = 0 ∧ win0_1.index t 1 = 16 + t.val / 16)
theorem idx2 : ∀ t : Fin cfg0.N, win0_2.index t 0 = 0 ∧ win0_2.index t 1 = 20 + t.val / 16 :=
  (by decide +kernel : ∀ t : Fin grid0.N, win0_2.index t 0 = 0 ∧ win0_2.index t 1 = 20 + t.val / 16)
theorem idx3 : ∀ t : Fin cfg0.N, win0_3.index t 0 = t.val % 16 ∧ win0_3.index t 1 = t.val / 16 :=
  (by decide +kernel : ∀ t : Fin grid0.N, win0_3.index t 0 = t.val % 16 ∧ win0_3.index t 1 = t.val / 16)
theorem idx4 : ∀ t : Fin cfg0.N, win0_4.index t 0 = t.val / 16 ∧ win0_4.index t 1 = t.val % 16 ∧ win0_4.index t 2 = 0 ∧ win0_4.index t 3 = 0 :=
  (by decide +kernel : ∀ t : Fin grid0.N, win0_4.index t 0 = t.val / 16 ∧ win0_4.index t 1 = t.val % 16 ∧ win0_4.index t 2 = 0 ∧ win0_4.index t 3 = 0)

variable (ha : Is (n := 8192) (m := 3072) (m ((c : Thread nD τ).loc main_arg0)) A)

include ha in
theorem q_is (t : Fin cfg0.N) : Is (n := 512) (m := 128) (iblk m c 0 t) fun r l => cut A 1536 (t.val / 16) (512 * (t.val % 16) + r) l := by
  intro r l
  have hp := pair_lt t
  refine Eq.trans (congrArg (m ((c : Thread nD τ).loc main_arg0)) (funext fun a => Fin.ext ?_))
    (ha ⟨512 * (t.val % 16) + r.val, by omega⟩ ⟨1536 + 128 * (t.val / 16) + l.val, by omega⟩)
  match a with
  | ⟨0, _⟩ => show win0_0.index t 0 * 512 + 1 * r.val = 512 * (t.val % 16) + r.val; rw [(idx0 t).1]; omega
  | ⟨1, _⟩ => show win0_0.index t 1 * 128 + 1 * l.val = 1536 + 128 * (t.val / 16) + l.val; rw [(idx0 t).2]; omega

include ha in
theorem k_is (t : Fin cfg0.N) : Is (n := 8192) (m := 128) (iblk m c 1 t) (cut A 2048 (t.val / 16)) := by
  intro r l
  have hp := pair_lt t
  refine Eq.trans (congrArg (m ((c : Thread nD τ).loc main_arg0)) (funext fun a => Fin.ext ?_)) (ha r ⟨2048 + 128 * (t.val / 16) + l.val, by omega⟩)
  match a with
  | ⟨0, _⟩ => show win0_1.index t 0 * 8192 + 1 * r.val = r.val; rw [(idx1 t).1]; omega
  | ⟨1, _⟩ => show win0_1.index t 1 * 128 + 1 * l.val = 2048 + 128 * (t.val / 16) + l.val; rw [(idx1 t).2]; omega

include ha in
theorem v_is (t : Fin cfg0.N) : Is (n := 8192) (m := 128) (iblk m c 2 t) (cut A 2560 (t.val / 16)) := by
  intro r l
  have hp := pair_lt t
  refine Eq.trans (congrArg (m ((c : Thread nD τ).loc main_arg0)) (funext fun a => Fin.ext ?_)) (ha r ⟨2560 + 128 * (t.val / 16) + l.val, by omega⟩)
  match a with
  | ⟨0, _⟩ => show win0_2.index t 0 * 8192 + 1 * r.val = r.val; rw [(idx2 t).1]; omega
  | ⟨1, _⟩ => show win0_2.index t 1 * 128 + 1 * l.val = 2560 + 128 * (t.val / 16) + l.val; rw [(idx2 t).2]; omega

/-! ## The result arrays -/

/-- The attention of every query and head. -/
def attn (A : ℕ → ℕ → ℝ) (t l : ℕ) : ℝ := att (head A 1536 (l / 64)) (head A 2048 (l / 64)) (head A 2560 (l / 64)) t (l % 64)

/-- What the keys after a block leave of each query, two heads' blocks stacked. -/
def leave (A : ℕ → ℕ → ℝ) (p i r l : ℕ) : ℝ :=
  if l < 15 then ∑ u ∈ Ico (512 * (l + 1)) 8192, lk (head A 1536 (2 * p + r / 512)) (head A 2048 (2 * p + r / 512)) (512 * i + r % 512) u else 0

/-- The array of them. -/
def leaves (A : ℕ → ℕ → ℝ) : S4x16x1024x128.Idx → EReal := fun j => ((leave A (j 0).val (j 1).val (j 2).val (j 3).val : ℝ) : EReal)

include ha in
theorem o_is (t : Fin cfg0.N) : Is (n := 512) (m := 128) (outsAt0 m c t).1 fun r l => attn A (512 * (t.val % 16) + r) (128 * (t.val / 16) + l) := by
  unfold outsAt0
  dsimp only
  rw [out3, row]
  refine (oOut_is (by omega) (q_is m c ha t) (k_is m c ha t) (v_is m c ha t)).congr fun r l _ hl => ?_
  unfold attn
  rw [half_cut, half_cut, half_cut, show (128 * (t.val / 16) + l) / 64 = 2 * (t.val / 16) + l / 64 by omega,
    show (128 * (t.val / 16) + l) % 64 = l % 64 by omega]

include ha in
theorem c_is (t : Fin cfg0.N) (r : Fin 1024) (l : Fin 128) : (outsAt0 m c t).2 (ix4 0 0 r l) = ((leave A (t.val / 16) (t.val % 16) r l : ℝ) : EReal) := by
  unfold outsAt0
  dsimp only
  rw [out4, row]
  refine (cOut_is (by omega) (q_is m c ha t) (k_is m c ha t) (v_is m c ha t) r l).trans ?_
  unfold leave LK
  rw [half_cut, half_cut]

theorem cover3 : (cfg0.win 3).Covers := (by decide +kernel : win0_3.Covers)
theorem cover4 : (cfg0.win 4).Covers := (by decide +kernel : win0_4.Covers)

include ha in
theorem final3 : (dats m 0 c).arrAt 3 cfg0.N = arr 8192 512 (attn A) := by
  refine (dats m 0 c).arrAt_eq_of_covers 3 (arr 8192 512 (attn A)) cover3 fun t hf y => ?_
  show (dats m 0 c).after 3 t y = _
  refine (congrFun (after0_3 m c t) y).trans ?_
  refine (congrArg (outsAt0 m c t).1 (eq_ix2 (n0 := 512) (n1 := 128) y)).trans ((o_is m c ha t (y 0) (y 1)).trans (congrArg (fun r : ℝ => (r : EReal)) ?_))
  show _ = attn A (win0_3.index t 0 * 512 + 1 * (y 0).val) (win0_3.index t 1 * 128 + 1 * (y 1).val)
  rw [(idx3 t).1, (idx3 t).2]
  exact congrArg₂ (attn A) (by omega) (by omega)

include ha in
theorem final4 : (dats m 0 c).arrAt 4 cfg0.N = leaves A := by
  refine (dats m 0 c).arrAt_eq_of_covers 4 (leaves A) cover4 fun t hf y => ?_
  show (dats m 0 c).after 4 t y = _
  refine (congrFun (after0_4 m c t) y).trans ?_
  have h0 : (y 0).val = 0 := Nat.lt_one_iff.1 (y 0).isLt
  have h1 : (y 1).val = 0 := Nat.lt_one_iff.1 (y 1).isLt
  have e : y = ix4 (0 : Fin 1) (0 : Fin 1) (y 2 : Fin 1024) (y 3 : Fin 128) := funext fun a => Fin.ext (by
    match a with
    | ⟨0, _⟩ => exact h0
    | ⟨1, _⟩ => exact h1
    | ⟨2, _⟩ => rfl
    | ⟨3, _⟩ => rfl)
  refine (congrArg (outsAt0 m c t).2 e).trans ((c_is m c ha t (y 2) (y 3)).trans (congrArg (fun r : ℝ => (r : EReal)) ?_))
  show _ = leave A (win0_4.index t 0 * 1 + 1 * (y 0).val) (win0_4.index t 1 * 1 + 1 * (y 1).val) (win0_4.index t 2 * 1024 + 1 * (y 2).val) (win0_4.index t 3 * 128 + 1 * (y 3).val)
  rw [(idx4 t).1, (idx4 t).2.1, (idx4 t).2.2.1, (idx4 t).2.2.2, h0, h1]
  simp only [Nat.mul_one, Nat.one_mul, Nat.zero_mul, Nat.zero_add, Nat.mul_zero, Nat.add_zero]

end

variable (m : (ℓ : Loc nD τ sig) → Buf (Elt Ideal) ℓ) (ρ : Dev nD → PrngReg)

/-- From an argument that is an array of reals the results are the attention and what the keys after each block leave. -/
theorem run_value {A : Dev nD → ℕ → ℕ → ℝ} (ha : ∀ c : Dev nD, Is (n := 8192) (m := 3072) (m ((c : Thread nD τ).loc main_arg0)) (A c)) :
    θ_run defs (onTc (τ := τ) (main (F := Ideal))) ⟨m, fun _ => 0, ρ⟩ fun r => ∀ c : Dev nD,
      r.2.mem ((c.tc : Thread nD τ).loc main_v0_0) = arr 8192 512 (attn (A c))
      ∧ r.2.mem ((c.tc : Thread nD τ).loc main_v0_1) = leaves (A c)
      ∧ r.2.mem ((c.tc : Thread nD τ).loc main_arg0) = m ((c.tc : Thread nD τ).loc main_arg0) :=
  (θ_run defs _ _).mono (fun r h c => ⟨((h.1 c).1 3).trans (final3 m c (ha c)), ((h.1 c).1 4).trans (final4 m c (ha c)), h.2.1 c⟩)
    (θ_run_and (run_main m ρ) (Gen.frame m ρ))

end Cert.Kernel21Ideal.Fwd
end
-- ==== Proof.FwdRef.lean ====
/- What the reference of the forward attention computes on an array of reals. -/
module

public import proofs.«01_k».proof.Proof.Gen.Reference21Ideal.Run
public import proofs.«01_k».proof.Proof.FwdGrid

@[expose] public section

set_option maxRecDepth 16384

noncomputable section

namespace Cert.Reference21Ideal.Value

open Idealize.ShloMosaic Idealize.ShloMosaic.TcCoe Cert.Spec Finset Cert.Reference21Ideal.Gen
open Cert.KernelIdeal.Carry (cols0 cols1 scores scores_is zeros before mask leaves leaves_is after' after_is carries carries_is)
open Cert.Kernel21Ideal.Fwd (att attn leave)

/-! ## The composed terms -/

section
variable (x : Vec Ideal S8192x3072 .bf16)

/-- The values. -/
def cols2 : Vec Ideal S8192x8x64 .f32 := shapeCast S8192x8x64 (extf (F := Ideal) .f32 (extractStridedSlice S8192x512 ![0, 2560] x slices_S8192x3072_S8192x512_0_2560) bitsLt_bf16_f32) shapeCasts_S8192x512_S8192x8x64

def less : FVec Ideal S8x8192x8192 .f32 := Host.negf (scores x)
def shifted : FVec Ideal S8x8192x8192 .f32 := subf (less x) zeros

/-- `log (1 + exp (-score))`. -/
def soft : FVec Ideal S8x8192x8192 .f32 :=
  select (cmpf .une (shifted x) (shifted x)) (addf (less x) zeros) (addf (maximumf (less x) zeros) (Host.log1p (Host.exp (Host.negf (Host.absf (shifted x))))))

/-- The weights. -/
def weights : FVec Ideal S8x8192x8192 .f32 :=
  select (broadcastInDim S8x8192x8192 ![1, 2] bcast_S8192x8192_S8x8192x8192_1_2 before) (Host.exp (addf (Host.negf (soft x)) (subf (after' x) (leaves x))))
    (broadcastInDim S8x8192x8192 ![] bcast_S_S8x8192x8192 (constant S_ .f32 0x00000000#32))

/-- The attention. -/
def out : FVec Ideal S8192x512 .bf16 :=
  truncf .bf16 (shapeCast S8192x512 (transpose S8192x8x64 [2, 0, 1] (Host.dotGeneral (F := Ideal) (φ₁ := .f32) (φ₂ := .f32) dot_S8192x8x64_S8x8192x8192_S8x64x8192_0_2_2_1_1_0 none (cols2 x)
    (extf .f32 (truncf .bf16 (weights x) bitsLt_bf16_f32) bitsLt_bf16_f32)) transposes_S8x64x8192_S8192x8x64_2_0_1) shapeCasts_S8192x8x64_S8192x512) bitsLt_bf16_f32
end

theorem v34_eq (m : (ℓ : Loc nD τ sig) → Buf (Elt Ideal) ℓ) (c : Dev nD) : res_main_v34 m c = out (m ((c.tc : Thread nD τ).loc main_arg0)) := rfl

theorem v54_eq (m : (ℓ : Loc nD τ sig) → Buf (Elt Ideal) ℓ) (c : Dev nD) : res_main_v54 m c = carries (m ((c.tc : Thread nD τ).loc main_arg0)) := rfl

/-! ## On reals -/

variable {x : Vec Ideal S8192x3072 .bf16} {A : ℕ → ℕ → ℝ}

theorem cols2_is (h : Is x A) : Is3 (cols2 x) fun t e d => head A 2560 e t d := by
  intro t e d
  pointwise [cols2]
  refine (h _ _).trans (congrArg (fun r : ℝ => (r : EReal)) ?_)
  unfold head
  congr 1 <;> (dsimp; omega)

theorem less_is (h : Is x A) : Is3 (less x) fun e t s => -z (head A 1536 e) (head A 2048 e) t s := by
  intro e t s
  pointwise [less]
  rw [scores_is h e t s, ← EReal.coe_neg]

theorem soft_is (h : Is x A) : Is3 (soft x) fun e t s => -ls (z (head A 1536 e) (head A 2048 e) t s) := by
  intro e t s
  pointwise [soft, shifted, zeros]
  refine (if_neg (not_not.2 rfl)).trans ((softplus_is (less_is h e t s)).trans ?_)
  rw [neg_neg]

theorem weights_is (h : Is x A) : Is3 (weights x) fun e t s => w (head A 1536 e) (head A 2048 e) t s := by
  intro e t s
  pointwise [weights]
  refine (mask t s _ _).trans ?_
  rw [soft_is h e t s, after_is h e t s, leaves_is h e t s, ← EReal.coe_neg, ← EReal.coe_sub, ← EReal.coe_add, Ideal.exp_coe]
  unfold w
  split_ifs
  · refine congrArg (fun r : ℝ => ((Real.exp r : ℝ) : EReal)) ?_
    unfold tail
    dsimp only
    rw [neg_neg, sum_eq_sum_Ico_succ_bot s.isLt]
    ring
  · rfl

theorem out_is (h : Is x A) : Is (n := 8192) (m := 512) (out x) (attn A) := by
  intro t l
  pointwise [out]
  refine (dots (fun s => head A 2560 (l / 64) s (l % 64)) (fun s => w (head A 1536 (l / 64)) (head A 2048 (l / 64)) t s)
    (fun s => cols2_is h s (⟨l.val / 64, by omega⟩ : Fin 8) (⟨l.val % 64, by omega⟩ : Fin 64)) (fun s => weights_is h (⟨l.val / 64, by omega⟩ : Fin 8) t s)).trans (congrArg (fun r : ℝ => (r : EReal)) ?_)
  unfold attn att
  exact sum_congr rfl fun _ _ => mul_comm _ _

theorem carries_eq (h : Is x A) : carries x = Cert.Kernel21Ideal.Fwd.leaves A := by
  funext j
  exact (congrArg (carries x) (eq_ix4 j)).trans (carries_is h (j 0) (j 1) (j 2) (j 3))

end Cert.Reference21Ideal.Value
end
-- ==== Proof.Fwd.lean ====
/- The forward attention's claims: the frames of its three programs, and the equality of its results with its reference's. -/
module

public import proofs.«01_k».proof.Defs
public import proofs.«01_k».proof.Proof.Gen.Kernel21
public import proofs.«01_k».proof.Proof.Gen.Reference21Ideal
public import proofs.«01_k».proof.Proof.Finite
public import proofs.«01_k».proof.Proof.FwdRef

@[expose] public section

set_option maxRecDepth 16384

noncomputable section

namespace Cert.Pre_finite_fwd

open Idealize.ShloMosaic Cert.Spec

theorem facts : Facts where
  bitsLt_bf16_f32 := by decide
  bcast_S_S8192x3072 := by decide

variable [hF : Facts] (x : FVec Ideal S8192x3072 .bf16)

theorem real (h : fn (F := Ideal) x = fun _ => 1#1) : Is (n := 8192) (m := 3072) x (Cert.Pre_finite.reals (n := 8192) (m := 3072) x) :=
  Cert.Pre_finite.reals_is fun j => Cert.Pre_finite.sub_self_of_cmp (congrFun h j)

end Cert.Pre_finite_fwd

namespace Cert.Kernel21Ideal.Fwd

open Idealize.ShloMosaic Idealize.ShloMosaic.TcCoe Idealize.SL.Sem Cert.Kernel21Ideal.Gen Cert.Spec

set_option backward.isDefEq.respectTransparency false in
set_option maxHeartbeats 4000000 in
/-- The kernel as printed and as read at the extended reals are one text. -/
theorem same : @Cert.Kernel21.defs Bits _ Cert.Kernel21.Gen.facts = @defs Bits _ facts ∧ @Cert.Kernel21.main Bits _ = @main Bits _ :=
  ⟨congrArg (Pipeline.defs (pcfgs (F := Bits))) (congrArg Defs.onTc (funext₂ fun l a => match l, a with | 0, (_, _) => rfl)), rfl⟩

theorem frame_kernel : Cert.quiescent_Kernel21 (hKernel21 := Cert.Kernel21.Gen.facts) := by
  intro m ρ _
  rw [same.1, same.2]
  exact Gen.frame (F := Bits) m ρ

theorem frame_ideal : Cert.quiescent_Kernel21Ideal (hKernel21Ideal := facts) := fun m ρ _ => Gen.frame (F := Ideal) m ρ

theorem frame_reference : Cert.quiescent_Reference21Ideal (hReference21Ideal := Cert.Reference21Ideal.Gen.facts) := fun m ρ _ =>
  (θ_run Cert.Reference21Ideal.defs _ _).mono (fun r h => ⟨fun c => (h c).2.2, sem_eq_zero_of_no_sems (by decide) r.2⟩)
    (Cert.Reference21Ideal.Value.run (F := Ideal) m ρ)

theorem value : Cert.algebraic_Kernel21Ideal_Reference21Ideal_pre_finite_fwd (hKernel21Ideal := facts) (hReference21Ideal := Cert.Reference21Ideal.Gen.facts)
    (hPre_finite_fwd := Cert.Pre_finite_fwd.facts) := by
  intro m g m' g' hp hm
  have ha := fun c => Cert.Pre_finite_fwd.real (hF := Cert.Pre_finite_fwd.facts) _ (hp c)
  refine ⟨_, _, run_value m g ha, (θ_run Cert.Reference21Ideal.defs _ _).mono (fun r h c => ?_) (Cert.Reference21Ideal.Value.run (F := Ideal) m' g')⟩
  have hA := (congrArg (fun x : Vec Ideal Cert.Reference21Ideal.S8192x3072 .bf16 => Is (n := 8192) (m := 3072) x
    (Cert.Pre_finite.reals (n := 8192) (m := 3072) (m ((c : Thread nD τ).loc main_arg0)))) (hm c)).mpr (ha c)
  exact ⟨(h c).1.trans ((Cert.Reference21Ideal.Value.v34_eq m' c).trans (Cert.KernelIdeal.Bwd.arr_is (Cert.Reference21Ideal.Value.out_is hA))),
    (h c).2.1.trans ((Cert.Reference21Ideal.Value.v54_eq m' c).trans (Cert.Reference21Ideal.Value.carries_eq hA)), (h c).2.2⟩

end Cert.Kernel21Ideal.Fwd
end
-- ==== Proof.MergeFwd.lean ====
/- `merge_fwd`: the three branches' products, each times its gate, and their sum. -/
module

public import proofs.«01_k».proof.Defs
public import proofs.«01_k».proof.Proof.Prod
public import proofs.«01_k».proof.Proof.Gen.Kernel22
public import proofs.«01_k».proof.Proof.Gen.Kernel22Ideal.Value
public import proofs.«01_k».proof.Proof.Gen.Reference22Ideal.Run
public import Idealize.ShloMosaic.Lib.Pipeline.ReadBack

@[expose] public section

set_option maxRecDepth 16384

noncomputable section

namespace Cert.Kernel22Ideal.Merge

open Idealize.ShloMosaic Idealize.ShloMosaic.TcCoe Idealize.SL.Sem
open Cert.Kernel22Ideal Cert.Kernel22Ideal.Gen

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] := by
  decide +kernel

/-- A branch's product. -/
def branch (O : Vec Ideal S8192x512 .bf16) (W : Vec Ideal S512x1024 .bf16) : Vec Ideal S8192x1024 .bf16 :=
  fun i => ∑ k : Fin 512, O (ix2 (i 0) k) * W (ix2 k (i 1))

variable (m : (ℓ : Loc nD τ sig) → Buf (Elt Ideal) ℓ) (c : Dev nD)

theorem arr9 : (dats m 0 c).arrAt 9 cfg0.N = branch (m ((c : Thread nD τ).loc main_arg0)) (m ((c : Thread nD τ).loc main_arg5)) := by
  refine (dats m 0 c).arrAt_eq_of_covers 9 _ (by decide +kernel) fun t _ y => ?_
  blk_simp
  rw [after0_9]; frame_out
  unfold k0_pay5 k0_pay4 branch
  pointwise
  refine Cert.Prod.whole (fun k => ?_) (fun k => ?_)
  · blk_ext [iblk, V, idx]
  · blk_ext [iblk, V, idx]

theorem arr10 : (dats m 0 c).arrAt 10 cfg0.N = branch (m ((c : Thread nD τ).loc main_arg1)) (m ((c : Thread nD τ).loc main_arg6)) := by
  refine (dats m 0 c).arrAt_eq_of_covers 10 _ (by decide +kernel) fun t _ y => ?_
  blk_simp
  rw [after0_10]; frame_out
  unfold k0_pay8 k0_pay6 branch
  pointwise
  refine Cert.Prod.whole (fun k => ?_) (fun k => ?_)
  · blk_ext [iblk, V, idx]
  · blk_ext [iblk, V, idx]

theorem arr11 : (dats m 0 c).arrAt 11 cfg0.N = branch (m ((c : Thread nD τ).loc main_arg2)) (m ((c : Thread nD τ).loc main_arg7)) := by
  refine (dats m 0 c).arrAt_eq_of_covers 11 _ (by decide +kernel) fun t _ y => ?_
  blk_simp
  rw [after0_11]; frame_out
  unfold k0_pay2 k0_pay1 k0_pay9 branch
  pointwise
  refine Cert.Prod.whole (fun k => ?_) (fun k => ?_)
  · blk_ext [iblk, V, idx]
  · blk_ext [iblk, V, idx]

/-- The call takes the gates' bias as a row. -/
theorem row : V m c main_v0 = shapeCast S1x3072 (m ((c : Thread nD τ).loc main_arg4)) shapeCasts_S3072_S1x3072 := by
  dsimp only [V]
  rw [StableHlo.after_cons, StableHlo.after_nil]
  rfl

theorem bias (t : Fin cfg0.N) (j : Fin 3072) : iblk m c 4 t (ix2 0 j) = m ((c : Thread nD τ).loc main_arg4) (ix1 j) := by
  unfold iblk
  show V m c main_v0 _ = _
  rw [row]
  pointwise
  blk_ext [idx]

theorem term {a b a' b' : EReal} {f g f' g' : Fin 512 → EReal} (ha : a = a') (hb : b = b') (hf : ∀ k, f k = f' k) (hg : ∀ k, g k = g' k) :
    Ideal.logistic (a + b) * ∑ k, f k * g k = Ideal.logistic (a' + b') * ∑ k, f' k * g' k := by
  rw [ha, hb, Cert.Prod.whole hf hg]

/-- A branch's gate: the columns of the logits from `n` on are the branch's own. -/
def gate (G : Vec Ideal S8192x3072 .f32) (b : Vec Ideal S3072 .f32) (n : ℕ) (hn : n ≤ 2048) (i : S8192x1024.Idx) : EReal :=
  Ideal.logistic (G (ix2 (i 0) ⟨n + (i 1).val, by have := (i 1).isLt; simp at this; omega⟩) + b (ix1 ⟨n + (i 1).val, by have := (i 1).isLt; simp at this; omega⟩))

def merged (Oa Ob Oc : Vec Ideal S8192x512 .bf16) (G : Vec Ideal S8192x3072 .f32) (b : Vec Ideal S3072 .f32)
    (Wa Wb Wc : Vec Ideal S512x1024 .bf16) : Vec Ideal S8192x1024 .bf16 := fun i =>
  gate G b 0 (by decide) i * branch Oa Wa i + gate G b 1024 (by decide) i * branch Ob Wb i + gate G b 2048 (by decide) i * branch Oc Wc i

set_option maxHeartbeats 800000 in
theorem arr8 : (dats m 0 c).arrAt 8 cfg0.N = merged (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]; frame_out
  unfold k0_pay9 k0_pay3 k0_pay7 k0_pay1 k0_pay4 k0_pay6
  pointwise
  unfold merged gate branch
  refine congrArg₂ (· + ·) (congrArg₂ (· + ·) (term ?_ ((bias m c t _).trans ?_) (fun k => ?_) (fun k => ?_))
    (term ?_ ((bias m c t _).trans ?_) (fun k => ?_) (fun k => ?_))) (term ?_ ((bias m c t _).trans ?_) (fun k => ?_) (fun k => ?_))
  all_goals blk_ext [iblk, V, idx]

set_option backward.isDefEq.respectTransparency false in
/-- The kernel as printed and the kernel at the extended reals are one text. -/
theorem same : @Cert.Kernel22.defs Bits _ Cert.Kernel22.Gen.facts = @defs Bits _ facts
    ∧ @Cert.Kernel22.main Bits _ = @main Bits _ :=
  ⟨congrArg (Pipeline.defs (pcfgs (F := Bits))) (congrArg Defs.onTc (funext₂ fun l a => match l, a with | 0, (_, _) => rfl)), rfl⟩

theorem frame_kernel : Cert.quiescent_Kernel22 (hKernel22 := Cert.Kernel22.Gen.facts) := by
  intro m ρ _
  rw [same.1, same.2]
  exact Gen.frame (F := Bits) m ρ

theorem frame_ideal : Cert.quiescent_Kernel22Ideal (hKernel22Ideal := facts) := fun m ρ _ => Gen.frame m ρ

theorem frame_reference : Cert.quiescent_Reference22Ideal (hReference22Ideal := Cert.Reference22Ideal.Gen.facts) := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

theorem value : Cert.algebraic_Kernel22Ideal_Reference22Ideal (hKernel22Ideal := facts)
    (hReference22Ideal := Cert.Reference22Ideal.Gen.facts) := by
  intro m g m' g' _ hm
  refine ⟨_, _, _, _, (θ_run defs _ _).mono (fun r h c => ⟨(h c).1.trans (arr8 m c), (h c).2.1.trans (arr9 m c),
      (h c).2.2.1.trans (arr10 m c), (h c).2.2.2.1.trans (arr11 m c), (h c).2.2.2.2⟩) (Value.run_blocks m g),
    (θ_run Cert.Reference22Ideal.defs _ _).mono (fun r h c => ⟨(h c).1.trans (funext fun i => ?_), (h c).2.1.trans (funext fun i => ?_),
      (h c).2.2.1.trans (funext fun i => ?_), (h c).2.2.2.1.trans (funext fun i => ?_), (h c).2.2.2.2⟩)
      (Cert.Reference22Ideal.Value.run (F := Ideal) m' g')⟩
  all_goals
    obtain ⟨h0, h1, h2, h3, h4, h5, h6, h7⟩ := hm c
    simp only [h0, h1, h2, h3, h4, h5, h6, h7]
  · unfold merged gate branch
    pointwise
    simp only [Ideal.logistic, Nat.zero_add]
  all_goals
    unfold branch
    pointwise

end Cert.Kernel22Ideal.Merge
-- ==== Proof.MergeBwd.lean ====
/- `merge_bwd`: the gradient of the gates and of what they multiply. -/
module

public import proofs.«01_k».proof.Defs
public import proofs.«01_k».proof.Proof.Prod
public import proofs.«01_k».proof.Proof.Gen.Kernel23
public import proofs.«01_k».proof.Proof.Gen.Kernel23Ideal.Value
public import proofs.«01_k».proof.Proof.Gen.Reference23Ideal.Run
public import Idealize.ShloMosaic.Lib.Pipeline.ReadBack

@[expose] public section

set_option maxRecDepth 16384

noncomputable section

namespace Cert.Kernel23Ideal.Merge

open Idealize.ShloMosaic Idealize.ShloMosaic.TcCoe Idealize.SL.Sem
open Cert.Kernel23Ideal Cert.Kernel23Ideal.Gen

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0] := by
  decide +kernel

variable (m : (ℓ : Loc nD τ sig) → Buf (Elt Ideal) ℓ) (c : Dev nD)

/-- The gate of column `j` of the logits. -/
def gate (G : Vec Ideal S8192x3072 .f32) (b : Vec Ideal S3072 .f32) (r : Fin 8192) (j : Fin 3072) : EReal :=
  Ideal.logistic (G (ix2 r j) + b (ix1 j))

/-- The gradient of a branch: `n` is where its columns of the logits begin. -/
def dbranch (D : Vec Ideal S8192x1024 .f32) (G : Vec Ideal S8192x3072 .f32) (b : Vec Ideal S3072 .f32) (n : ℕ) (hn : n ≤ 2048) :
    Vec Ideal S8192x1024 .bf16 := fun i =>
  D i * gate G b (i 0) ⟨n + (i 1).val, by have := (i 1).isLt; simp at this; omega⟩

/-- The row of the arrays that a block's row is. -/
def row (t : Fin cfg0.N) (k : Fin 256) : Fin 8192 := ⟨t.val * 256 + k.val, by
  have : t.val < 32 := t.isLt
  omega⟩

/-- The gradient of a branch's logits. -/
def slope (D : Vec Ideal S8192x1024 .f32) (G : Vec Ideal S8192x3072 .f32) (b : Vec Ideal S3072 .f32) (Y : Vec Ideal S8192x1024 .bf16)
    (r : Fin 8192) (x : Fin 1024) (j : Fin 3072) : EReal :=
  D (ix2 r x) * Y (ix2 r x) * gate G b r j * (1 - gate G b r j)

/-- The gradient of the logits: the columns are those of the three branches, one after another. -/
def slopes (D : Vec Ideal S8192x1024 .f32) (G : Vec Ideal S8192x3072 .f32) (b : Vec Ideal S3072 .f32)
    (Ya Yb Yc : Vec Ideal S8192x1024 .bf16) (r : Fin 8192) (j : Fin 3072) : EReal :=
  slope D G b (if j.val / 1024 = 0 then Ya else if j.val / 1024 = 1 then Yb else Yc) r ⟨j.val % 1024, Nat.mod_lt _ (by decide)⟩ j

/-- The call takes the gates' bias as a row. -/
theorem flat : V m c main_v0 = shapeCast S1x3072 (m ((c : Thread nD τ).loc main_arg2)) shapeCasts_S3072_S1x3072 := by
  dsimp only [V]
  rw [StableHlo.after_cons, StableHlo.after_nil]
  rfl

theorem bias (t : Fin cfg0.N) (j : Fin 3072) : iblk m c 2 t (ix2 0 j) = m ((c : Thread nD τ).loc main_arg2) (ix1 j) := by
  unfold iblk
  show V m c main_v0 _ = _
  rw [flat]
  pointwise
  blk_ext [idx]

theorem value_of {d g b y d' g' b' y' : EReal} (hd : d = d') (hg : g = g') (hb : b = b') (hy : y = y') :
    d * y * Ideal.logistic (g + b) * (1 - Ideal.logistic (g + b)) = d' * y' * Ideal.logistic (g' + b') * (1 - Ideal.logistic (g' + b')) := by
  rw [hd, hg, hb, hy]

/-- The branch of a column of the logits. -/
theorem slopes_at (D : Vec Ideal S8192x1024 .f32) (G : Vec Ideal S8192x3072 .f32) (b : Vec Ideal S3072 .f32)
    (Ya Yb Yc : Vec Ideal S8192x1024 .bf16) (r : Fin 8192) (x : Fin 1024) (j : Fin 3072) (n : ℕ) (hj : j.val = 1024 * n + x.val) :
    slopes D G b Ya Yb Yc r j = slope D G b (if n = 0 then Ya else if n = 1 then Yb else Yc) r x j := by
  have hd : j.val / 1024 = n := by omega
  have hm : (⟨j.val % 1024, Nat.mod_lt _ (by decide)⟩ : Fin 1024) = x := Fin.ext (by show j.val % 1024 = _; omega)
  unfold slopes
  rw [hd, hm]

def all (r : Fin 8192) (j : Fin 3072) : EReal :=
  slopes (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r j

/-! What a point computes of a branch's logits. -/

theorem slope1 (t : Fin cfg0.N) (x : S256x1024.Idx) (k : Fin 256) (j : Fin 3072) (hk : k.val = (x 0).val)
    (hj : j.val = (x 1).val) :
    k0_pay7 (iblk m c 0 t) (View.ld (iblk m c 1 t) (Rect.unit ![0, 0] ![256, 1024] inb_S256x3072_S256x1024_0_0))
      (View.ld (iblk m c 2 t) (Rect.unit ![0, 0] ![1, 1024] inb_S1x3072_S1x1024_0_0)) (iblk m c 3 t) x
    = all m c (row t k) j := by
  rw [all, slopes_at _ _ _ _ _ _ _ (x 1) j 0 (by omega), (Fin.ext hk : k = x 0)]
  unfold k0_pay7 k0_pay5 slope gate row
  pointwise
  refine value_of ?_ ?_ ((bias m c t _).trans ?_) ?_
  all_goals blk_ext [iblk, V, idx]

theorem slope2 (t : Fin cfg0.N) (x : S256x1024.Idx) (k : Fin 256) (j : Fin 3072) (hk : k.val = (x 0).val)
    (hj : j.val = 1024 + (x 1).val) :
    k0_pay13 (iblk m c 0 t) (View.ld (iblk m c 1 t) (Rect.unit ![0, 1024] ![256, 1024] inb_S256x3072_S256x1024_0_1024))
      (k0_pay10 (View.ld (iblk m c 2 t) (Rect.unit ![0, 1024] ![1, 1024] inb_S1x3072_S1x1024_0_1024))) (iblk m c 4 t) x
    = all m c (row t k) j := by
  rw [all, slopes_at _ _ _ _ _ _ _ (x 1) j 1 (by omega), (Fin.ext hk : k = x 0)]
  unfold k0_pay13 k0_pay11 k0_pay10 slope gate row
  pointwise
  refine value_of ?_ ?_ ((bias m c t _).trans ?_) ?_
  all_goals blk_ext [iblk, V, idx]

theorem slope3 (t : Fin cfg0.N) (x : S256x1024.Idx) (k : Fin 256) (j : Fin 3072) (hk : k.val = (x 0).val)
    (hj : j.val = 2048 + (x 1).val) :
    k0_pay1 (k0_pay16 (View.ld (iblk m c 1 t) (Rect.unit ![0, 2048] ![256, 1024] inb_S256x3072_S256x1024_0_2048))
        (View.ld (iblk m c 2 t) (Rect.unit ![0, 2048] ![1, 1024] inb_S1x3072_S1x1024_0_2048)))
      (k0_pay18 (iblk m c 0 t) (View.ld (iblk m c 1 t) (Rect.unit ![0, 2048] ![256, 1024] inb_S256x3072_S256x1024_0_2048))
        (View.ld (iblk m c 2 t) (Rect.unit ![0, 2048] ![1, 1024] inb_S1x3072_S1x1024_0_2048)) (iblk m c 5 t)) k0_pay19 x
    = all m c (row t k) j := by
  rw [all, slopes_at _ _ _ _ _ _ _ (x 1) j 2 (by omega), (Fin.ext hk : k = x 0)]
  unfold k0_pay1 k0_pay16 k0_pay18 k0_pay16 k0_pay19 slope gate row
  pointwise
  refine value_of ?_ ?_ ((bias m c t _).trans ?_) ?_
  all_goals blk_ext [iblk, V, idx]

theorem out9 (t : Fin cfg0.N) (y : S256x3072.Idx) : (outsAt0 m c t.val t.isLt).2.2.2.1 y = all m c (row t (y 0)) (y 1) := by
  by_cases h : t.val % 32 = 0
  on_goal 1 => rw [outsAt0_A m c t h]
  on_goal 2 => rw [outsAt0_B m c t h]
  all_goals
    frame_out
    canon_tiles x h
    · exact slope3 m c t x _ _ h0 h1
    · exact slope2 m c t x _ _ h0 h1
    · exact slope1 m c t x _ _ h0 h1

/-! A row of columns: a piece of it holds those from `o` to `o + w`. -/
section Columns
variable {o w : ℕ}

theorem off_piece (inb : ∀ a, (![0, o] : Fin 2 → ℕ) a + (![1, w] : Fin 2 → ℕ) a ≤ S1x3072.size a) (P : (⟨2, ![1, w]⟩ : Shape).Idx → Elt Ideal .f32)
    (L : List (View.Piece (Elt Ideal) S1x3072 .f32)) (y : S1x3072.Idx) (h : (y 1).val < o ∨ o + w ≤ (y 1).val) :
    View.canon (⟨Rect.unit ![0, o] ![1, w] inb, P⟩ :: L) y = View.canon L y :=
  View.canon_cons_of_not_mem _ _ (by
    rw [Rect.mem_set_unit]
    intro h'
    have := h' 1
    simp at this
    omega)

theorem at_column (y : S1x3072.Idx) (j : Fin 3072) (h : (y 1).val = j.val) : ix2 0 j = y :=
  funext fun a => match a with
    | 0 => Fin.ext (by have : (y 0).val < 1 := (y 0).isLt; show 0 = (y 0).val; omega)
    | 1 => Fin.ext h.symm

/-- What is read of columns that only the start has written. -/
theorem zeros (v : View sig .tc .vmem S1x3072 .f32) (L : List (View.Piece (Elt Ideal) S1x3072 .f32)) (R : Rect S1x3072) (x : R.shape.Idx)
    (h : View.canon L (R.idx x) = k0_pay4 (F := Ideal) (R.idx x)) : v.readCov L R.toLoadRect x = (0 : EReal) :=
  ((View.read_writes_junk_apply_eq_canon v _ L).trans h).trans (by unfold k0_pay4; pointwise)

/-- Pieces that hold `y` decide, whatever was there before. -/
theorem over (L M : List (View.Piece (Elt Ideal) S1x3072 .f32)) (y : S1x3072.Idx) (h : ∃ p ∈ L, y ∈ p.1.set) :
    View.canon (L ++ M) y = View.canon L y := by
  induction L with
  | nil => simp at h
  | cons p L ih =>
    by_cases hp : y ∈ p.1.set
    · obtain ⟨x, rfl⟩ := p.1.exists_idx_of_mem hp
      rw [List.cons_append]
      exact (View.canon_cons_emb p.1 p.2 _ x).trans (View.canon_cons_emb p.1 p.2 _ x).symm
    · rw [List.cons_append, View.canon_cons_of_not_mem _ _ hp, View.canon_cons_of_not_mem _ _ hp]
      refine ih ?_
      obtain ⟨q, hq, hy⟩ := h
      rcases List.mem_cons.mp hq with rfl | hq
      · exact absurd hy hp
      · exact ⟨q, hq, hy⟩

end Columns

/-- What a point adds to the bias's gradient. -/
theorem out10_A (t : Fin cfg0.N) (h : t.val % 32 = 0) (y : S1x3072.Idx) :
    (outsAt0 m c t.val t.isLt).2.2.2.2 y = ∑ k, all m c (row t k) (y 1) := by
  rw [outsAt0_A m c t h]; frame_out
  refine (over [_, _, _] [_] y (View.cover_of_tiled_head _ _ _ (by rfl) y)).trans ?_
  have start : View.canon [(⟨Rect.unit ![0, 0] ![1, 3072] inb_S1x3072_S1x3072_0_0, k0_pay4 (F := Ideal)⟩ : View.Piece (Elt Ideal) S1x3072 .f32)]
      = k0_pay4 (F := Ideal) := View.canon_cons_unit_lit (Val := Elt Ideal) (S := S1x3072) (e := .f32) (off := ![0, 0]) inb_S1x3072_S1x3072_0_0 (k0_pay4 (F := Ideal)) [] (by decide)
  canon_tiles x h
  · unfold k0_pay3
    pointwise
    refine (congrArg₂ (· + ·) (zeros _ _ _ _ ?_) (Finset.sum_congr rfl fun k _ => slope3 m c t _ _ _ rfl h1)).trans (zero_add _)
    rw [off_piece _ _ _ _ (.inr (by simp)), off_piece _ _ _ _ (.inr (by simp; omega)), start]
  · unfold k0_pay15
    pointwise
    refine (congrArg₂ (· + ·) (zeros _ _ _ _ ?_) (Finset.sum_congr rfl fun k _ => slope2 m c t _ _ _ rfl h1)).trans (zero_add _)
    rw [off_piece _ _ _ _ (.inr (by simp)), start]
  · unfold k0_pay9
    pointwise
    refine (congrArg₂ (· + ·) (zeros _ _ _ _ ?_) (Finset.sum_congr rfl fun k _ => slope1 m c t _ _ _ rfl h1)).trans (zero_add _)
    rw [start]

theorem out10_B (t : Fin cfg0.N) (h : ¬t.val % 32 = 0) (y : S1x3072.Idx) :
    (outsAt0 m c t.val t.isLt).2.2.2.2 y = (outsAt0 m c (t.val - 1) (Nat.lt_of_le_of_lt (Nat.sub_le _ _) t.isLt)).2.2.2.2 y
      + ∑ k, all m c (row t k) (y 1) := by
  rw [outsAt0_B m c t h]; frame_out
  canon_tiles x h
  · unfold k0_pay3
    pointwise
    exact congrArg₂ (· + ·) (congrArg _ (at_column y _ h1)) (Finset.sum_congr rfl fun k _ => slope3 m c t _ _ _ rfl h1)
  · unfold k0_pay15
    pointwise
    exact congrArg₂ (· + ·) (congrArg _ (at_column y _ h1)) (Finset.sum_congr rfl fun k _ => slope2 m c t _ _ _ rfl h1)
  · unfold k0_pay9
    pointwise
    exact congrArg₂ (· + ·) (congrArg _ (at_column y _ h1)) (Finset.sum_congr rfl fun k _ => slope1 m c t _ _ _ rfl h1)

theorem place10 (t : Fin cfg0.N) (y : S1x3072.Idx) : y = (win0_10.blk t).view.emb y := by
  blk_ext [idx]

theorem place9 (t : Fin cfg0.N) (y : S256x3072.Idx) : ix2 (row t (y 0)) (y 1) = (win0_9.blk t).view.emb y := by
  unfold row
  blk_ext [idx]

theorem arr10 : (dats m 0 c).arrAt 10 cfg0.N = fun i => ∑ r, all m c r (i 1) := by
  refine (dats m 0 c).arrAt_eq_of_covers 10 _ (by decide +kernel) fun t ht y => ?_
  blk_simp
  rw [after0_10, ← place10 t y]
  refine Cert.Prod.summed (J := 32) (tk := 256) (K := 8192) (fun n h => (outsAt0 m c n h).2.2.2.2) (fun t k y => all m c (row t k) (y 1))
    (fun r i => all m c r (i 1)) (fun y => y) t ((flush0_10 t).mp ht) (out10_A m c) (out10_B m c)
    (fun p k l y _ hl => ?_) y
  have hp : p.val < 32 := p.isLt
  have e : row p k = l := Fin.ext (by rw [hl, Nat.mod_eq_of_lt hp]; rfl)
  rw [e]

theorem arr9 : (dats m 0 c).arrAt 9 cfg0.N = fun i => all m c (i 0) (i 1) := by
  refine (dats m 0 c).arrAt_eq_of_covers 9 _ (by decide +kernel) fun t _ y => ?_
  blk_simp
  rw [after0_9]
  exact (out9 m c t y).trans (congrArg (fun i : S8192x3072.Idx => all m c (i 0) (i 1)) (place9 t y))

theorem gated_of {d g b d' g' b' : EReal} (hd : d = d') (hg : g = g') (hb : b = b') :
    d * Ideal.logistic (g + b) = d' * Ideal.logistic (g' + b') := by
  rw [hd, hg, hb]

theorem arr6 : (dats m 0 c).arrAt 6 cfg0.N = dbranch (m ((c : Thread nD τ).loc main_arg0)) (m ((c : Thread nD τ).loc main_arg1))
    (m ((c : Thread nD τ).loc main_arg2)) 0 (by decide) := by
  refine (dats m 0 c).arrAt_eq_of_covers 6 _ (by decide +kernel) fun t _ y => ?_
  blk_simp
  rw [after0_6]
  by_cases h : t.val % 32 = 0
  on_goal 1 => rw [outsAt0_A m c t h]
  on_goal 2 => rw [outsAt0_B m c t h]
  all_goals
    frame_out
    unfold k0_pay6 k0_pay5 dbranch gate
    pointwise
    refine gated_of ?_ ?_ ((bias m c t _).trans ?_)
    all_goals blk_ext [iblk, V, idx]

theorem arr7 : (dats m 0 c).arrAt 7 cfg0.N = dbranch (m ((c : Thread nD τ).loc main_arg0)) (m ((c : Thread nD τ).loc main_arg1))
    (m ((c : Thread nD τ).loc main_arg2)) 1024 (by decide) := by
  refine (dats m 0 c).arrAt_eq_of_covers 7 _ (by decide +kernel) fun t _ y => ?_
  blk_simp
  rw [after0_7]
  by_cases h : t.val % 32 = 0
  on_goal 1 => rw [outsAt0_A m c t h]
  on_goal 2 => rw [outsAt0_B m c t h]
  all_goals
    frame_out
    unfold k0_pay12 k0_pay11 k0_pay10 dbranch gate
    pointwise
    refine gated_of ?_ ?_ ((bias m c t _).trans ?_)
    all_goals blk_ext [iblk, V, idx]

theorem arr8 : (dats m 0 c).arrAt 8 cfg0.N = dbranch (m ((c : Thread nD τ).loc main_arg0)) (m ((c : Thread nD τ).loc main_arg1))
    (m ((c : Thread nD τ).loc main_arg2)) 2048 (by decide) := by
  refine (dats m 0 c).arrAt_eq_of_covers 8 _ (by decide +kernel) fun t _ y => ?_
  blk_simp
  rw [after0_8]
  by_cases h : t.val % 32 = 0
  on_goal 1 => rw [outsAt0_A m c t h]
  on_goal 2 => rw [outsAt0_B m c t h]
  all_goals
    frame_out
    unfold k0_pay17 k0_pay16 dbranch gate
    pointwise
    refine gated_of ?_ ?_ ((bias m c t _).trans ?_)
    all_goals blk_ext [iblk, V, idx]

theorem branches (j : ℕ) (hj : j < 3072) : j / 1024 = 0 ∨ j / 1024 = 1 ∨ j / 1024 = 2 := by omega

theorem column_lt (j : ℕ) : j % 1024 < 1024 := Nat.mod_lt _ (by decide)

/-- The reference adds the gradients of the three branches, each of which is zero on the columns of the others. -/
theorem picked {q w : ℕ} (hq : q = 0 ∨ q = 1 ∨ q = 2) (hw : w < 1024) (D : Vec Ideal S8192x1024 .f32) (A B C : Vec Ideal S8192x1024 .bf16)
    (r : Fin 8192) (z : EReal) :
    ((if h : (2 ≤ q ∧ q - 2 < 1) ∧ w < 1024 then D (ix2 r ⟨w, h.2⟩) * C (ix2 r ⟨w, h.2⟩) else (0 : EReal))
        + (if h : (1 ≤ q ∧ q - 1 < 1) ∧ w < 1024 then D (ix2 r ⟨w, h.2⟩) * B (ix2 r ⟨w, h.2⟩) else (0 : EReal))
        + (if h : q < 1 ∧ w < 1024 then D (ix2 r ⟨w, h.2⟩) * A (ix2 r ⟨w, h.2⟩) else (0 : EReal)))
      * (Ideal.div 1 (1 + Ideal.exp (-z)) * (1 - Ideal.div 1 (1 + Ideal.exp (-z))))
    = D (ix2 r ⟨w, hw⟩) * (if q = 0 then A else if q = 1 then B else C) (ix2 r ⟨w, hw⟩) * Ideal.logistic z * (1 - Ideal.logistic z) := by
  obtain rfl | rfl | rfl := hq <;> simp [hw, Ideal.logistic, mul_assoc]

set_option backward.isDefEq.respectTransparency false in
/-- The kernel as printed and the kernel at the extended reals are one text. -/
theorem same : @Cert.Kernel23.defs Bits _ Cert.Kernel23.Gen.facts = @defs Bits _ facts
    ∧ @Cert.Kernel23.main Bits _ = @main Bits _ :=
  ⟨congrArg (Pipeline.defs (pcfgs (F := Bits))) (congrArg Defs.onTc (funext₂ fun l a => match l, a with | 0, (_, _) => rfl)), rfl⟩

theorem frame_kernel : Cert.quiescent_Kernel23 (hKernel23 := Cert.Kernel23.Gen.facts) := by
  intro m ρ _
  rw [same.1, same.2]
  exact Gen.frame (F := Bits) m ρ

theorem frame_ideal : Cert.quiescent_Kernel23Ideal (hKernel23Ideal := facts) := fun m ρ _ => Gen.frame m ρ

theorem frame_reference : Cert.quiescent_Reference23Ideal (hReference23Ideal := Cert.Reference23Ideal.Gen.facts) := fun m ρ _ =>
  (θ_run Cert.Reference23Ideal.defs _ _).mono (fun r h => ⟨fun c => (h c).2.2.2.2.2, sem_eq_zero_of_no_sems (by decide) r.2⟩)
    (Cert.Reference23Ideal.Value.run (F := Ideal) m ρ)

set_option maxHeartbeats 1600000 in
theorem value : Cert.algebraic_Kernel23Ideal_Reference23Ideal (hKernel23Ideal := facts)
    (hReference23Ideal := Cert.Reference23Ideal.Gen.facts) := by
  intro m g m' g' _ hm
  refine ⟨_, _, _, _, _, (θ_run defs _ _).mono (fun r h c => ⟨(h c).1.trans (arr6 m c), (h c).2.1.trans (arr7 m c),
      (h c).2.2.1.trans (arr8 m c), (h c).2.2.2.1.trans (arr9 m c), (h c).2.2.2.2.1.trans (arr10 m c), (h c).2.2.2.2.2⟩) (Value.run_blocks m g),
    (θ_run Cert.Reference23Ideal.defs _ _).mono (fun r h c => ⟨(h c).1.trans (funext fun i => ?_), (h c).2.1.trans (funext fun i => ?_),
      (h c).2.2.1.trans (funext fun i => ?_), (h c).2.2.2.1.trans (funext fun i => ?_), (h c).2.2.2.2.1.trans (funext fun i => ?_), (h c).2.2.2.2.2⟩)
      (Cert.Reference23Ideal.Value.run (F := Ideal) m' g')⟩
  all_goals
    obtain ⟨h0, h1, h2, h3, h4, h5⟩ := hm c
    simp only [h0, h1, h2, h3, h4, h5]
  iterate 3
    · unfold dbranch gate
      pointwise
      simp only [Ideal.logistic, Nat.zero_add]
      exact mul_comm _ _
  all_goals
    unfold all slopes slope gate
    pointwise
  · exact picked (branches _ (i 1).isLt) (column_lt _) _ _ _ _ _ _
  · rw [Finset.univ_unique, Finset.sum_singleton]
    exact Finset.sum_congr rfl fun r _ => picked (branches _ (i 1).isLt) (column_lt _) _ _ _ _ _ _

end Cert.Kernel23Ideal.Merge
-- ==== Proof.ConvBwd.lean ====
/- `ff_conv_bwd`: the gradient of the causal convolution of the feed-forward layer. -/
module

public import proofs.«01_k».proof.Defs
public import proofs.«01_k».proof.Proof.Gen.Kernel24
public import proofs.«01_k».proof.Proof.Gen.Kernel24Ideal.Value
public import proofs.«01_k».proof.Proof.Gen.Reference24Ideal.Run
public import Idealize.ShloMosaic.Lib.Pipeline.ValueKit

@[expose] public section

set_option maxRecDepth 16384

noncomputable section

namespace Cert.Kernel24Ideal.Conv

open Idealize.ShloMosaic Idealize.ShloMosaic.TcCoe Idealize.SL.Sem
open Cert.Kernel24Ideal Cert.Kernel24Ideal.Gen

theorem idx : ∀ t : Fin cfg0.N, win0_0.index t = ![t.val / 11, t.val % 11] ∧ win0_1.index t = ![min (64 * (t.val / 11 + 1)) 511, t.val % 11]
    ∧ win0_2.index t = ![0, t.val % 11] ∧ win0_3.index t = ![t.val / 11, t.val % 11] := by
  decide +kernel

variable (m : (ℓ : Loc nD τ sig) → Buf (Elt Ideal) ℓ) (c : Dev nD)

/-- The entry `e` rows further on, zero beyond the last row. -/
def next (D : Vec Ideal S8192x5632 .bf16) (i : S8192x5632.Idx) (e : ℕ) : EReal :=
  if h : (i 0).val + e < 8192 then D (ix2 ⟨(i 0).val + e, h⟩ (i 1)) else 0

def du (D : Vec Ideal S8192x5632 .bf16) (W : Vec Ideal S3x5632 .f32) : Vec Ideal S8192x5632 .bf16 := fun i =>
  W (ix2 2 (i 1)) * D i + W (ix2 1 (i 1)) * next D i 1 + W (ix2 0 (i 1)) * next D i 2

/-- All blocks of rows but the last have rows after them. -/
theorem inner : ∀ t : Fin cfg0.N, Scalar.cmpi .slt (BitVec.ofNat 32 (grid0.coords t 0).val) 7#32 = if t.val / 11 < 7 then 1#1 else 0#1 := by
  decide +kernel

theorem turned1 (y : S1024x512.Idx) : ((y 0).val + 1040 - 1039) % 1040 = (y 0).val + 1 := by
  have : (y 0).val < 1024 := (y 0).isLt
  omega

theorem turned2 (y : S1024x512.Idx) : ((y 0).val + 1040 - 1038) % 1040 = (y 0).val + 2 := by
  have : (y 0).val < 1024 := (y 0).isLt
  omega

theorem place (t : Fin cfg0.N) (y : S1024x512.Idx) : ((win0_3.blk t).view.emb y 0).val = t.val / 11 * 1024 + (y 0).val := by
  blk_simp [idx]

theorem row_of (t : Fin cfg0.N) (y : S1024x512.Idx) {n : ℕ} (hn : n < 1024) (h : n + t.val / 11 * 1024 < 8192) :
    iblk m c 0 t (ix2 ⟨n, hn⟩ (y 1)) = m ((c : Thread nD τ).loc main_arg0) (ix2 ⟨n + t.val / 11 * 1024, h⟩ ((win0_3.blk t).view.emb y 1)) := by
  blk_ext [iblk, V, idx]

theorem row_after (t : Fin cfg0.N) (y : S1024x512.Idx) {n : ℕ} (hn : n < 16) (h : n + (t.val / 11 + 1) * 1024 < 8192) :
    iblk m c 1 t (ix2 ⟨n, hn⟩ (y 1)) = m ((c : Thread nD τ).loc main_arg0) (ix2 ⟨n + (t.val / 11 + 1) * 1024, h⟩ ((win0_3.blk t).view.emb y 1)) := by
  have : min (64 * (t.val / 11 + 1)) 511 = 64 * (t.val / 11 + 1) := by omega
  blk_ext [iblk, V, idx]

/-- A point reads its own block of rows and, unless that is the last, the first 16 rows of the next. -/
theorem ahead (t : Fin cfg0.N) (y : S1024x512.Idx) (e n : ℕ) (he : e ≤ 2) (hn : n = (y 0).val + e) (h16 : n - 1024 < 16) :
    @Eq (Ideal .f32) (@dite (Ideal .f32) (n < 1024) _ (fun h => iblk m c 0 t (ix2 ⟨n, h⟩ (y 1))) (fun _ =>
      Scalar.select (α := Ideal .f32) (Scalar.cmpi .slt (BitVec.ofNat 32 (grid0.coords t 0).val) 7#32) (iblk m c 1 t (ix2 ⟨n - 1024, h16⟩ (y 1))) 0))
    (next (m ((c : Thread nD τ).loc main_arg0)) ((win0_3.blk t).view.emb y) e) := by
  subst hn
  have ht : t.val < 88 := t.isLt
  have h0 := place t y
  have hy : (y 0).val < 1024 := (y 0).isLt
  rw [inner t]
  unfold next Scalar.select
  by_cases h1 : (y 0).val + e < 1024
  · rw [dif_pos h1, dif_pos (by omega), row_of m c t y h1 (by omega)]
    exact congrArg _ (congrArg (ix2 · _) (Fin.ext (by show (y 0).val + e + t.val / 11 * 1024 = ((win0_3.blk t).view.emb y 0).val + e; omega)))
  · rw [dif_neg h1]
    by_cases h2 : t.val / 11 < 7
    · rw [if_pos h2, dif_pos (by omega)]
      refine (if_pos rfl).trans ((row_after m c t y h16 (by omega)).trans ?_)
      exact congrArg _ (congrArg (ix2 · _) (Fin.ext (by show (y 0).val + e - 1024 + (t.val / 11 + 1) * 1024 = ((win0_3.blk t).view.emb y 0).val + e; omega)))
    · rw [if_neg h2, dif_neg (by omega)]
      exact if_neg (by decide)

theorem block (t : Fin cfg0.N) (y : S1024x512.Idx) :
    k0_pay1 (grid0.coords t) (iblk m c 1 t) (iblk m c 0 t) (View.ld (iblk m c 2 t) (Rect.unit ![2, 0] ![1, 512] inb_S3x512_S1x512_2_0))
      (View.ld (iblk m c 2 t) (Rect.unit ![1, 0] ![1, 512] inb_S3x512_S1x512_1_0))
      (View.ld (iblk m c 2 t) (Rect.unit ![0, 0] ![1, 512] inb_S3x512_S1x512_0_0)) y
    = du (m ((c : Thread nD τ).loc main_arg0)) (m ((c : Thread nD τ).loc main_arg1)) ((win0_3.blk t).view.emb y) := by
  unfold k0_pay1
  pointwise
  simp only [turned1 y, turned2 y]
  unfold du
  have e1 := ahead m c t y 1 _ (by decide) rfl (by have : (y 0).val < 1024 := (y 0).isLt; omega)
  have e2 := ahead m c t y 2 _ (by decide) rfl (by have : (y 0).val < 1024 := (y 0).isLt; omega)
  rw [← e1, ← e2]
  refine congrArg₂ (· + ·) (congrArg₂ (· + ·) (congrArg₂ (· * ·) ?_ ?_) (congrArg (· * _) ?_)) (congrArg (· * _) ?_)
  all_goals blk_ext [iblk, V, idx]

theorem arr3 : (dats m 0 c).arrAt 3 cfg0.N = du (m ((c : Thread nD τ).loc main_arg0)) (m ((c : Thread nD τ).loc main_arg1)) := by
  refine (dats m 0 c).arrAt_eq_of_covers 3 _ (by decide +kernel) fun t _ y => ?_
  blk_simp
  rw [after0_3]; frame_out
  exact block m c t y

/-- The reference multiplies before it shifts. -/
theorem shifted (D : Vec Ideal S8192x5632 .bf16) (w : EReal) (i : S8192x5632.Idx) {e n : ℕ} {P : Prop} [Decidable P] (hn : n = (i 0).val + e)
    (hP : P → n < 8192) (hP' : n < 8192 → P) :
    (if h : P then w * D (ix2 ⟨n, hP h⟩ (i 1)) else (0 : EReal)) = w * next D i e := by
  subst hn
  unfold next
  by_cases h : (i 0).val + e < 8192
  · rw [dif_pos h, dif_pos (hP' h)]
  · rw [dif_neg h, dif_neg fun p => h (hP p), mul_zero]

theorem after_one (n : ℕ) : 2 + n - 1 = n + 1 := by omega

theorem after_le (n : ℕ) : 1 ≤ 2 + n := by omega

set_option backward.isDefEq.respectTransparency false in
/-- The kernel as printed and the kernel at the extended reals are one text. -/
theorem same : @Cert.Kernel24.defs Bits _ Cert.Kernel24.Gen.facts = @defs Bits _ facts
    ∧ @Cert.Kernel24.main Bits _ = @main Bits _ :=
  ⟨congrArg (Pipeline.defs (pcfgs (F := Bits))) (congrArg Defs.onTc (funext₂ fun l a => match l, a with | 0, (_, _) => rfl)), rfl⟩

theorem frame_kernel : Cert.quiescent_Kernel24 (hKernel24 := Cert.Kernel24.Gen.facts) := by
  intro m ρ _
  rw [same.1, same.2]
  exact Gen.frame (F := Bits) m ρ

theorem frame_ideal : Cert.quiescent_Kernel24Ideal (hKernel24Ideal := facts) := fun m ρ _ => Gen.frame m ρ

theorem frame_reference : Cert.quiescent_Reference24Ideal (hReference24Ideal := Cert.Reference24Ideal.Gen.facts) := fun m ρ _ =>
  (θ_run Cert.Reference24Ideal.defs _ _).mono (fun r h => ⟨fun c => (h c).2, sem_eq_zero_of_no_sems (by decide) r.2⟩)
    (Cert.Reference24Ideal.Value.run (F := Ideal) m ρ)

theorem value : Cert.algebraic_Kernel24Ideal_Reference24Ideal (hKernel24Ideal := facts)
    (hReference24Ideal := Cert.Reference24Ideal.Gen.facts) := by
  intro m g m' g' _ hm
  refine ⟨_, (θ_run defs _ _).mono (fun r h c => ⟨(h c).1.trans (arr3 m c), (h c).2⟩) (Value.run_blocks m g),
    (θ_run Cert.Reference24Ideal.defs _ _).mono (fun r h c => ⟨(h c).1.trans (funext fun i => ?_), (h c).2⟩)
      (Cert.Reference24Ideal.Value.run (F := Ideal) m' g')⟩
  obtain ⟨h0, h1⟩ := hm c
  simp only [h0, h1]
  pointwise
  unfold du
  exact congrArg₂ (· + ·) (congrArg (_ + ·) (shifted _ _ i (after_one _) And.right (fun h => ⟨after_le _, h⟩)))
    (shifted _ _ i (Nat.add_comm _ _) id id)

end Cert.Kernel24Ideal.Conv
-- ==== Proof.Norm.lean ====
/- Normalising by the root of the mean square: the inverse root over the extended reals. -/
module

public import Idealize.ShloMosaic.Lib.Pipeline.ValueKit

@[expose] public section

namespace Cert.Norm

open Idealize.ShloMosaic

/-! The constants. -/

theorem width : Ideal.ofBits .f32 0x44800000#32 = ((1024 : ℝ) : EReal) := by
  simp [Ideal.ofBits, Ideal.ieee]
  norm_num [← EReal.coe_mul]

theorem minus_half : Ideal.ofBits .f32 0xBF000000#32 = ((-(1 / 2) : ℝ) : EReal) := by
  simp [Ideal.ofBits, Ideal.ieee]
  norm_num [← EReal.coe_mul]

theorem tiny : ∃ e : ℝ, 0 < e ∧ Ideal.ofBits .f32 0x358637BD#32 = (e : EReal) := by
  refine ⟨_, ?_, by simp [Ideal.ofBits, Ideal.ieee]; rfl⟩
  norm_num

/-- The reference divides the inverse root by what it is the root of, the kernel cubes it. -/
theorem cubed {v : EReal} (hv : 0 < v) :
    Ideal.div (Ideal.rsqrt v) v = Ideal.rsqrt v * Ideal.rsqrt v * Ideal.rsqrt v := by
  induction v with
  | bot => exact absurd hv (by simp)
  | top => simp [Ideal.div]
  | coe r =>
    have hr : 0 < r := by exact_mod_cast hv
    rw [Ideal.div_coe hr.ne', Ideal.rsqrt_coe, if_neg hr.not_gt, if_neg hr.ne', ← EReal.coe_mul, ← EReal.coe_mul, ← EReal.coe_mul]
    refine congrArg _ ?_
    rw [mul_assoc, ← mul_inv, Real.mul_self_sqrt hr.le, one_div]

theorem square (x : EReal) : 0 ≤ x * x := by
  rcases le_total 0 x with h | h
  · exact mul_nonneg h h
  · have := mul_nonneg (EReal.neg_nonneg.mpr h) (EReal.neg_nonneg.mpr h)
    rwa [neg_mul_neg] at this

theorem half (a : EReal) : ((-(1/2) : ℝ) : EReal) * a + ((-(1/2) : ℝ) : EReal) * a = -a := by
  induction a with
  | bot => rw [EReal.coe_mul_bot_of_neg (by norm_num)]; rfl
  | top => rw [EReal.coe_mul_top_of_neg (by norm_num)]; rfl
  | coe r => rw [← EReal.coe_mul, ← EReal.coe_add, ← EReal.coe_neg]; congr 1; ring

/-- What the root is taken of. -/
theorem positive {ι : Type*} (s : Finset ι) (x : ι → EReal) {n e : ℝ} (hn : 0 < n) (he : 0 < e) :
    0 < Ideal.div (∑ k ∈ s, x k * x k) n + e := by
  rw [Ideal.div_coe hn.ne']
  have h0 : (0 : EReal) ≤ ((1 / n : ℝ) : EReal) := EReal.coe_nonneg.mpr (by positivity)
  exact lt_of_lt_of_le (EReal.coe_pos.mpr he) (le_add_of_nonneg_left (mul_nonneg (Finset.sum_nonneg fun k _ => square _) h0))

/-- The reference adds half the inner term twice, the kernel subtracts it whole. -/
theorem combined (d a x s q : EReal) (h : ℝ) (n : ℝ) (hn : n ≠ 0) (hh : h = -(1/2)) :
    d + (a + x * Ideal.div (s * (h * q)) n + Ideal.div (s * (h * q)) n * x) = d + a - x * (q * Ideal.div s n) := by
  have e : x * Ideal.div (s * (h * q)) n = h * (x * (q * Ideal.div s n)) := by
    rw [Ideal.div_coe hn, Ideal.div_coe hn]; ac_rfl
  rw [mul_comm _ x, e, add_assoc a, hh, half, ← add_assoc, sub_eq_add_neg]

/-- The reference's gradient of the norm and the kernel's; the sums over one index are of the reference, which has a column of rows. -/
theorem backward {ι : Type*} [Fintype ι] (f : ι → EReal) (d p x s : EReal) {v : EReal}
    (hv : v = Ideal.div (∑ k, f k * f k) (Ideal.ofBits .f32 0x44800000#32) + Ideal.ofBits .f32 0x358637BD#32) :
    d + (p * Ideal.rsqrt v
        + x * ∑ _z : Fin 1, Ideal.div (s * (Ideal.ofBits .f32 0xBF000000#32 * Ideal.div (Ideal.rsqrt v) v)) (Ideal.ofBits .f32 0x44800000#32)
        + (∑ _z : Fin 1, Ideal.div (s * (Ideal.ofBits .f32 0xBF000000#32 * Ideal.div (Ideal.rsqrt v) v)) (Ideal.ofBits .f32 0x44800000#32)) * x)
    = d + Ideal.rsqrt v * p - x * (Ideal.rsqrt v * Ideal.rsqrt v * Ideal.rsqrt v * Ideal.div s (Ideal.ofBits .f32 0x44800000#32)) := by
  obtain ⟨e, he, hw⟩ := tiny
  have h0 : 0 < v := by
    rw [hv, width, hw]
    exact positive _ f (by norm_num) he
  rw [Finset.univ_unique, Finset.sum_singleton, width, minus_half, cubed h0, mul_comm p]
  exact combined _ _ _ _ _ _ _ (by norm_num) rfl

end Cert.Norm
-- ==== Proof.NormBwd.lean ====
/- `norm_bwd`: the gradient of an RMS norm, added to the residual's, and that of its gain. -/
module

public import proofs.«01_k».proof.Defs
public import proofs.«01_k».proof.Proof.Norm
public import proofs.«01_k».proof.Proof.Prod
public import proofs.«01_k».proof.Proof.Gen.Kernel25
public import proofs.«01_k».proof.Proof.Gen.Kernel25Ideal.Value
public import proofs.«01_k».proof.Proof.Gen.Reference25Ideal.Run
public import Idealize.ShloMosaic.Lib.Pipeline.ReadBack

@[expose] public section

set_option maxRecDepth 16384

noncomputable section

namespace Cert.Kernel25Ideal.Norm

open Idealize.ShloMosaic Idealize.ShloMosaic.TcCoe Idealize.SL.Sem
open Cert.Kernel25Ideal Cert.Kernel25Ideal.Gen

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] := by
  decide +kernel

variable (m : (ℓ : Loc nD τ sig) → Buf (Elt Ideal) ℓ) (c : Dev nD)

/-- The inverse root of a row's mean square. -/
def scale (X : Vec Ideal S8192x1024 .f32) (r : Fin 8192) : EReal :=
  Ideal.rsqrt (Ideal.div (∑ k : Fin 1024, X (ix2 r k) * X (ix2 r k)) (Ideal.ofBits .f32 0x44800000#32) + Ideal.ofBits .f32 0x358637BD#32)

/-- The gradient of the norm's argument, added to `R`. -/
def dx (X : Vec Ideal S8192x1024 .f32) (g : Vec Ideal S1024 .f32) (D R : Vec Ideal S8192x1024 .f32) (r : Fin 8192) (j : Fin 1024) : EReal :=
  R (ix2 r j) + scale X r * (D (ix2 r j) * g (ix1 j)) - X (ix2 r j) * (scale X r * scale X r * scale X r
    * Ideal.div (∑ k : Fin 1024, X (ix2 r k) * (D (ix2 r k) * g (ix1 k))) (Ideal.ofBits .f32 0x44800000#32))

/-- What a row adds to the gain's gradient. -/
def dgain (X D : Vec Ideal S8192x1024 .f32) (r : Fin 8192) (j : Fin 1024) : EReal := D (ix2 r j) * X (ix2 r j) * scale X r

/-- The row of the arrays that a block's row is. -/
def row (t : Fin cfg0.N) (k : Fin 512) : Fin 8192 := ⟨t.val * 512 + k.val, by
  have : t.val < 16 := t.isLt
  omega⟩

/-! What a point reads. -/

/-- The call takes the gain as a row. -/
theorem flat : V m c main_v0 = shapeCast S1x1024 (m ((c : Thread nD τ).loc main_arg1)) shapeCasts_S1024_S1x1024 := by
  dsimp only [V]
  rw [StableHlo.after_cons, StableHlo.after_nil]
  rfl

theorem gain (t : Fin cfg0.N) (j : Fin 1024) : iblk m c 1 t (ix2 0 j) = m ((c : Thread nD τ).loc main_arg1) (ix1 j) := by
  unfold iblk
  show V m c main_v0 _ = _
  rw [flat]
  pointwise
  blk_ext [idx]

theorem x_at (t : Fin cfg0.N) (k : Fin 512) (j : Fin 1024) : iblk m c 0 t (ix2 k j) = m ((c : Thread nD τ).loc main_arg0) (ix2 (row t k) j) := by
  unfold row
  blk_ext [iblk, V, idx]

theorem d_at (t : Fin cfg0.N) (k : Fin 512) (j : Fin 1024) : iblk m c 2 t (ix2 k j) = m ((c : Thread nD τ).loc main_arg2) (ix2 (row t k) j) := by
  unfold row
  blk_ext [iblk, V, idx]

theorem r_at (t : Fin cfg0.N) (k : Fin 512) (j : Fin 1024) : iblk m c 3 t (ix2 k j) = m ((c : Thread nD τ).loc main_arg3) (ix2 (row t k) j) := by
  unfold row
  blk_ext [iblk, V, idx]

theorem scale_at (t : Fin cfg0.N) (k : Fin 512) (z : Fin 1) :
    k0_pay3 (iblk m c 0 t) (ix2 k z) = scale (m ((c : Thread nD τ).loc main_arg0)) (row t k) := by
  unfold k0_pay3 scale
  pointwise
  simp only [x_at]

theorem dx_at (t : Fin cfg0.N) (y : S512x1024.Idx) : k0_pay4 (iblk m c 0 t) (iblk m c 2 t) (iblk m c 1 t) (iblk m c 3 t) y
    = dx (m ((c : Thread nD τ).loc main_arg0)) (m ((c : Thread nD τ).loc main_arg1)) (m ((c : Thread nD τ).loc main_arg2))
      (m ((c : Thread nD τ).loc main_arg3)) (row t (y 0)) (y 1) := by
  obtain ⟨k, j, rfl⟩ : ∃ (k : Fin 512) (j : Fin 1024), y = ix2 k j := ⟨y 0, y 1, by funext a; match a with | 0 => rfl | 1 => rfl⟩
  unfold k0_pay4 dx
  pointwise
  simp only [x_at, d_at, r_at, gain, scale_at]

theorem place (t : Fin cfg0.N) (y : S512x1024.Idx) : ix2 (row t (y 0)) (y 1) = (win0_4.blk t).view.emb y := by
  unfold row
  blk_ext [idx]

theorem place5 (t : Fin cfg0.N) (y : S512x1024.Idx) : ix2 (row t (y 0)) (y 1) = (win0_5.blk t).view.emb y := by
  unfold row
  blk_ext [idx]

theorem place6 (t : Fin cfg0.N) (y : S1x1024.Idx) : y = (win0_6.blk t).view.emb y := by
  blk_ext [idx]

/-- The gradient of the argument, as an array of either format. -/
def all (i : S8192x1024.Idx) : EReal :=
  dx (m ((c : Thread nD τ).loc main_arg0)) (m ((c : Thread nD τ).loc main_arg1)) (m ((c : Thread nD τ).loc main_arg2))
    (m ((c : Thread nD τ).loc main_arg3)) (i 0) (i 1)

theorem arr4 : (dats m 0 c).arrAt 4 cfg0.N = all m c := by
  refine (dats m 0 c).arrAt_eq_of_covers 4 _ (by decide +kernel) fun t _ y => ?_
  blk_simp
  rw [after0_4]
  by_cases h : t.val % 16 = 0
  on_goal 1 => rw [outsAt0_A m c t h]
  on_goal 2 => rw [outsAt0_B m c t h]
  all_goals
    frame_out
    exact (dx_at m c t y).trans (congrArg (all m c) (place t y))

theorem arr5 : (dats m 0 c).arrAt 5 cfg0.N = all m c := by
  refine (dats m 0 c).arrAt_eq_of_covers 5 _ (by decide +kernel) fun t _ y => ?_
  blk_simp
  rw [after0_5]
  by_cases h : t.val % 16 = 0
  on_goal 1 => rw [outsAt0_A m c t h]
  on_goal 2 => rw [outsAt0_B m c t h]
  all_goals
    frame_out
    exact (dx_at m c t y).trans (congrArg (all m c) (place5 t y))

def grow (r : Fin 8192) (j : Fin 1024) : EReal :=
  dgain (m ((c : Thread nD τ).loc main_arg0)) (m ((c : Thread nD τ).loc main_arg2)) r j

theorem out6_A (t : Fin cfg0.N) (h : t.val % 16 = 0) (y : S1x1024.Idx) :
    (outsAt0 m c t.val t.isLt).2.2 y = ∑ k, grow m c (row t k) (y 1) := by
  rw [outsAt0_A m c t h]; frame_out
  unfold k0_pay1 k0_pay2 grow dgain
  pointwise
  exact Finset.sum_congr rfl fun k _ => congrArg₂ (· * ·) (congrArg₂ (· * ·) (d_at m c t k _) (x_at m c t k _)) (scale_at m c t k _)

theorem out6_B (t : Fin cfg0.N) (h : ¬t.val % 16 = 0) (y : S1x1024.Idx) :
    (outsAt0 m c t.val t.isLt).2.2 y = (outsAt0 m c (t.val - 1) (Nat.lt_of_le_of_lt (Nat.sub_le _ _) t.isLt)).2.2 y
      + ∑ k, grow m c (row t k) (y 1) := by
  rw [outsAt0_B m c t h]; frame_out
  unfold k0_pay1 grow dgain
  pointwise
  exact congrArg _ (Finset.sum_congr rfl fun k _ => congrArg₂ (· * ·) (congrArg₂ (· * ·) (d_at m c t k _) (x_at m c t k _)) (scale_at m c t k _))

theorem arr6 : (dats m 0 c).arrAt 6 cfg0.N = fun i => ∑ r, grow m c r (i 1) := by
  refine (dats m 0 c).arrAt_eq_of_covers 6 _ (by decide +kernel) fun t ht y => ?_
  blk_simp
  rw [after0_6, ← place6 t y]
  refine Cert.Prod.summed (J := 16) (tk := 512) (K := 8192) (fun n h => (outsAt0 m c n h).2.2) (fun t k y => grow m c (row t k) (y 1))
    (fun r i => grow m c r (i 1)) (fun y => y) t ((flush0_6 t).mp ht) (out6_A m c) (out6_B m c)
    (fun p k l y _ hl => ?_) y
  have hp : p.val < 16 := p.isLt
  have e : row p k = l := Fin.ext (by rw [hl, Nat.mod_eq_of_lt hp]; rfl)
  rw [e]

set_option backward.isDefEq.respectTransparency false in
/-- The kernel as printed and the kernel at the extended reals are one text. -/
theorem same : @Cert.Kernel25.defs Bits _ Cert.Kernel25.Gen.facts = @defs Bits _ facts
    ∧ @Cert.Kernel25.main Bits _ = @main Bits _ :=
  ⟨congrArg (Pipeline.defs (pcfgs (F := Bits))) (congrArg Defs.onTc (funext₂ fun l a => match l, a with | 0, (_, _) => rfl)), rfl⟩

theorem frame_kernel : Cert.quiescent_Kernel25 (hKernel25 := Cert.Kernel25.Gen.facts) := by
  intro m ρ _
  rw [same.1, same.2]
  exact Gen.frame (F := Bits) m ρ

theorem frame_ideal : Cert.quiescent_Kernel25Ideal (hKernel25Ideal := facts) := fun m ρ _ => Gen.frame m ρ

theorem frame_reference : Cert.quiescent_Reference25Ideal (hReference25Ideal := Cert.Reference25Ideal.Gen.facts) := fun m ρ _ =>
  (θ_run Cert.Reference25Ideal.defs _ _).mono (fun r h => ⟨fun c => (h c).2.2.2, sem_eq_zero_of_no_sems (by decide) r.2⟩)
    (Cert.Reference25Ideal.Value.run (F := Ideal) m ρ)

theorem value : Cert.algebraic_Kernel25Ideal_Reference25Ideal (hKernel25Ideal := facts)
    (hReference25Ideal := Cert.Reference25Ideal.Gen.facts) := by
  intro m g m' g' _ hm
  refine ⟨_, _, _, (θ_run defs _ _).mono (fun r h c => ⟨(h c).1.trans (arr4 m c), (h c).2.1.trans (arr5 m c),
      (h c).2.2.1.trans (arr6 m c), (h c).2.2.2⟩) (Value.run_blocks m g),
    (θ_run Cert.Reference25Ideal.defs _ _).mono (fun r h c => ⟨(h c).1.trans (funext fun i => ?_), (h c).2.1.trans (funext fun i => ?_),
      (h c).2.2.1.trans (funext fun i => ?_), (h c).2.2.2⟩)
      (Cert.Reference25Ideal.Value.run (F := Ideal) m' g')⟩
  all_goals
    obtain ⟨h0, h1, h2, h3⟩ := hm c
    simp only [h0, h1, h2, h3]
    clear h
  iterate 2
    · obtain ⟨r, j, rfl⟩ : ∃ (r : Fin 8192) (j : Fin 1024), i = ix2 r j := ⟨i 0, i 1, by funext a; match a with | 0 => rfl | 1 => rfl⟩
      pointwise
      exact Cert.Norm.backward (fun k : Fin 1024 => m ((c : Thread nD τ).loc main_arg0) (ix2 r k)) _ _ _ _ rfl
  · pointwise
    rw [Finset.univ_unique, Finset.sum_singleton]
    refine Finset.sum_congr rfl fun r _ => ?_
    unfold grow dgain scale
    ac_rfl

end Cert.Kernel25Ideal.Norm
-- ==== Proof.NormFwd.lean ====
/- `norm_fwd`: an RMS norm. -/
module

public import proofs.«01_k».proof.Defs
public import proofs.«01_k».proof.Proof.Gen.Kernel26
public import proofs.«01_k».proof.Proof.Gen.Kernel26Ideal.Value
public import proofs.«01_k».proof.Proof.Gen.Reference26Ideal.Run
public import Idealize.ShloMosaic.Lib.Pipeline.ValueKit

@[expose] public section

set_option maxRecDepth 16384

noncomputable section

namespace Cert.Kernel26Ideal.Norm

open Idealize.ShloMosaic Idealize.ShloMosaic.TcCoe Idealize.SL.Sem
open Cert.Kernel26Ideal Cert.Kernel26Ideal.Gen

theorem idx : ∀ t : Fin cfg0.N, win0_0.index t = ![t.val, 0] ∧ win0_1.index t = ![0, 0] ∧ win0_2.index t = ![t.val, 0] := by
  decide +kernel

variable (m : (ℓ : Loc nD τ sig) → Buf (Elt Ideal) ℓ) (c : Dev nD)

def norm (X : Vec Ideal S8192x1024 .f32) (g : Vec Ideal S1024 .f32) : Vec Ideal S8192x1024 .bf16 := fun i =>
  X i * Ideal.rsqrt (Ideal.div (∑ k : Fin 1024, X (ix2 (i 0) k) * X (ix2 (i 0) k)) (Ideal.ofBits .f32 0x44800000#32)
    + Ideal.ofBits .f32 0x358637BD#32) * g (ix1 (i 1))

/-- The call takes the gain as a row. -/
theorem flat : V m c main_v0 = shapeCast S1x1024 (m ((c : Thread nD τ).loc main_arg1)) shapeCasts_S1024_S1x1024 := by
  dsimp only [V]
  rw [StableHlo.after_cons, StableHlo.after_nil]
  rfl

theorem gain (t : Fin cfg0.N) (y : S512x1024.Idx) :
    iblk m c 1 t (ix2 0 (y 1)) = m ((c : Thread nD τ).loc main_arg1) (ix1 ((win0_2.blk t).view.emb y 1)) := by
  unfold iblk
  show V m c main_v0 _ = _
  rw [flat]
  pointwise
  blk_ext [idx]

theorem row_at (t : Fin cfg0.N) (y : S512x1024.Idx) (k : Fin 1024) :
    iblk m c 0 t (ix2 (y 0) k) = m ((c : Thread nD τ).loc main_arg0) (ix2 ((win0_2.blk t).view.emb y 0) k) := by
  blk_ext [iblk, V, idx]

theorem entry (t : Fin cfg0.N) (y : S512x1024.Idx) :
    iblk m c 0 t y = m ((c : Thread nD τ).loc main_arg0) ((win0_2.blk t).view.emb y) := by
  blk_ext [iblk, V, idx]

theorem block (t : Fin cfg0.N) (y : S512x1024.Idx) : k0_pay1 (iblk m c 0 t) (iblk m c 1 t) y
    = norm (m ((c : Thread nD τ).loc main_arg0)) (m ((c : Thread nD τ).loc main_arg1)) ((win0_2.blk t).view.emb y) := by
  unfold k0_pay1 norm
  pointwise
  rw [entry m c t y]
  simp only [row_at, gain]

theorem arr2 : (dats m 0 c).arrAt 2 cfg0.N = norm (m ((c : Thread nD τ).loc main_arg0)) (m ((c : Thread nD τ).loc main_arg1)) := by
  refine (dats m 0 c).arrAt_eq_of_covers 2 _ (by decide +kernel) fun t _ y => ?_
  blk_simp
  rw [after0_2]; frame_out
  exact block m c t y

set_option backward.isDefEq.respectTransparency false in
/-- The kernel as printed and the kernel at the extended reals are one text. -/
theorem same : @Cert.Kernel26.defs Bits _ Cert.Kernel26.Gen.facts = @defs Bits _ facts
    ∧ @Cert.Kernel26.main Bits _ = @main Bits _ :=
  ⟨congrArg (Pipeline.defs (pcfgs (F := Bits))) (congrArg Defs.onTc (funext₂ fun l a => match l, a with | 0, (_, _) => rfl)), rfl⟩

theorem frame_kernel : Cert.quiescent_Kernel26 (hKernel26 := Cert.Kernel26.Gen.facts) := by
  intro m ρ _
  rw [same.1, same.2]
  exact Gen.frame (F := Bits) m ρ

theorem frame_ideal : Cert.quiescent_Kernel26Ideal (hKernel26Ideal := facts) := fun m ρ _ => Gen.frame m ρ

theorem frame_reference : Cert.quiescent_Reference26Ideal (hReference26Ideal := Cert.Reference26Ideal.Gen.facts) := fun m ρ _ =>
  (θ_run Cert.Reference26Ideal.defs _ _).mono (fun r h => ⟨fun c => (h c).2, sem_eq_zero_of_no_sems (by decide) r.2⟩)
    (Cert.Reference26Ideal.Value.run (F := Ideal) m ρ)

theorem value : Cert.algebraic_Kernel26Ideal_Reference26Ideal (hKernel26Ideal := facts)
    (hReference26Ideal := Cert.Reference26Ideal.Gen.facts) := by
  intro m g m' g' _ hm
  refine ⟨_, (θ_run defs _ _).mono (fun r h c => ⟨(h c).1.trans (arr2 m c), (h c).2⟩) (Value.run_blocks m g),
    (θ_run Cert.Reference26Ideal.defs _ _).mono (fun r h c => ⟨(h c).1.trans (funext fun i => ?_), (h c).2⟩)
      (Cert.Reference26Ideal.Value.run (F := Ideal) m' g')⟩
  obtain ⟨h0, h1⟩ := hm c
  simp only [h0, h1]
  unfold norm
  pointwise

end Cert.Kernel26Ideal.Norm
-- ==== Proof.ActFwd.lean ====
/- `ff_act_fwd`: the causal convolution of the feed-forward layer and its gated activation. -/
module

public import proofs.«01_k».proof.Defs
public import proofs.«01_k».proof.Proof.Gen.Kernel27
public import proofs.«01_k».proof.Proof.Gen.Kernel27Ideal.Value
public import proofs.«01_k».proof.Proof.Gen.Reference27Ideal.Run
public import Idealize.ShloMosaic.Lib.Pipeline.ValueKit

@[expose] public section

set_option maxRecDepth 16384

noncomputable section

namespace Cert.Kernel27Ideal.Act

open Idealize.ShloMosaic Idealize.ShloMosaic.TcCoe Idealize.SL.Sem
open Cert.Kernel27Ideal Cert.Kernel27Ideal.Gen

theorem idx : ∀ t : Fin cfg0.N, win0_0.index t = ![t.val / 11, t.val % 11] ∧ win0_1.index t = ![64 * (t.val / 11) - 1, t.val % 11]
    ∧ win0_2.index t = ![0, t.val % 11] ∧ win0_3.index t = ![0, t.val % 11] ∧ win0_4.index t = ![t.val / 11, t.val % 11] := by
  decide +kernel

variable (m : (ℓ : Loc nD τ sig) → Buf (Elt Ideal) ℓ) (c : Dev nD)

/-- The entry `e` rows before, zero before the first row. -/
def prev (U : Vec Ideal S8192x5632 .bf16) (r : Fin 8192) (j : Fin 5632) (e : ℕ) : EReal :=
  if e ≤ r.val then U (ix2 ⟨r.val - e, by omega⟩ j) else 0

/-- Three weights of three entries, on a bias. -/
def taps (b w0 w1 w2 x0 x1 x2 : EReal) : EReal := b + w2 * x2 + w1 * x1 + w0 * x0

def conv (U : Vec Ideal S8192x5632 .bf16) (W : Vec Ideal S3x5632 .f32) (b : Vec Ideal S5632 .f32) (r : Fin 8192) (j : Fin 5632) : EReal :=
  taps (b (ix1 j)) (W (ix2 0 j)) (W (ix2 1 j)) (W (ix2 2 j)) (prev U r j 2) (prev U r j 1) (U (ix2 r j))

/-- The columns come in tiles, 256 gates and then their 256 values. -/
def column (j : Fin 2816) (o : ℕ) (h : o ≤ 256) : Fin 5632 := ⟨j.val / 256 * 512 + o + j.val % 256, by omega⟩

def act (U : Vec Ideal S8192x5632 .bf16) (W : Vec Ideal S3x5632 .f32) (b : Vec Ideal S5632 .f32) : Vec Ideal S8192x2816 .bf16 := fun i =>
  conv U W b (i 0) (column (i 1) 0 (by decide)) * Ideal.logistic (conv U W b (i 0) (column (i 1) 0 (by decide)))
    * conv U W b (i 0) (column (i 1) 256 (by decide))

/-- The row and the column of the arrays that a block's are. -/
def row (t : Fin cfg0.N) (k : Fin 1024) : Fin 8192 := ⟨t.val / 11 * 1024 + k.val, by
  have : t.val < 88 := t.isLt
  omega⟩

def col (t : Fin cfg0.N) (l : Fin 512) : Fin 5632 := ⟨t.val % 11 * 512 + l.val, by omega⟩

/-- All blocks of rows but the first have rows before them. -/
theorem inner : ∀ t : Fin cfg0.N, Scalar.cmpi .sgt (BitVec.ofNat 32 (grid0.coords t 0).val) 0#32 = if 0 < t.val / 11 then 1#1 else 0#1 := by
  decide +kernel

theorem turned1 (k : Fin 1024) : (16 + k.val + 1040 - 1) % 1040 = k.val + 15 := by omega

theorem turned2 (k : Fin 1024) : (16 + k.val + 1040 - 2) % 1040 = k.val + 14 := by omega

/-- The call takes the bias as a row. -/
theorem flat : V m c main_v0 = shapeCast S1x5632 (m ((c : Thread nD τ).loc main_arg2)) shapeCasts_S5632_S1x5632 := by
  dsimp only [V]
  rw [StableHlo.after_cons, StableHlo.after_nil]
  rfl

theorem bias_row (t : Fin cfg0.N) (l : Fin 512) : iblk m c 3 t (ix2 0 l) = V m c main_v0 (ix2 0 (col t l)) := by
  unfold col
  blk_ext [iblk, idx]

theorem bias (t : Fin cfg0.N) (l : Fin 512) : iblk m c 3 t (ix2 0 l) = m ((c : Thread nD τ).loc main_arg2) (ix1 (col t l)) := by
  rw [bias_row, flat]
  generalize col t l = j
  simp only [pointwise]

theorem weight (t : Fin cfg0.N) (a : Fin 3) (l : Fin 512) : iblk m c 2 t (ix2 a l) = m ((c : Thread nD τ).loc main_arg1) (ix2 a (col t l)) := by
  unfold col
  blk_ext [iblk, V, idx]

theorem row_of (t : Fin cfg0.N) (k : Fin 1024) (l : Fin 512) :
    iblk m c 0 t (ix2 k l) = m ((c : Thread nD τ).loc main_arg0) (ix2 (row t k) (col t l)) := by
  unfold row col
  blk_ext [iblk, V, idx]

theorem row_before (t : Fin cfg0.N) (n : Fin 16) (l : Fin 512) (h : (64 * (t.val / 11) - 1) * 16 + n.val < 8192) :
    iblk m c 1 t (ix2 n l) = m ((c : Thread nD τ).loc main_arg0) (ix2 ⟨(64 * (t.val / 11) - 1) * 16 + n.val, h⟩ (col t l)) := by
  unfold col
  blk_ext [iblk, V, idx]

/-- A point reads its own block of rows and, unless that is the first, the last 16 rows of the block before. -/
theorem behind (t : Fin cfg0.N) (k : Fin 1024) (l : Fin 512) (e n : ℕ) (hn : n + e = k.val + 16) (he : e ≤ 16) (h16 : n - 16 < 1024) :
    @Eq (Ideal .f32) (@dite (Ideal .f32) (n < 16) _ (fun h => Scalar.select (α := Ideal .f32)
        (Scalar.cmpi .sgt (BitVec.ofNat 32 (grid0.coords t 0).val) 0#32) (iblk m c 1 t (ix2 ⟨n, h⟩ l)) 0)
      (fun _ => iblk m c 0 t (ix2 ⟨n - 16, h16⟩ l)))
    (prev (m ((c : Thread nD τ).loc main_arg0)) (row t k) (col t l) e) := by
  have ht : t.val < 88 := t.isLt
  have hr : (row t k).val = t.val / 11 * 1024 + k.val := rfl
  have hk := k.isLt
  rw [inner t]
  unfold prev
  by_cases h1 : n < 16
  · rw [dif_pos h1]
    by_cases h2 : 0 < t.val / 11
    · have h3 : e ≤ (row t k).val := by rw [hr]; omega
      have h4 : (64 * (t.val / 11) - 1) * 16 + n = (row t k).val - e := by rw [hr]; omega
      rw [if_pos h2, if_pos h3]
      exact (row_before m c t ⟨n, h1⟩ l (by show (64 * (t.val / 11) - 1) * 16 + n < _; omega)).trans
        (congrArg _ (congrArg (ix2 · _) (Fin.ext h4)))
    · have h3 : ¬ e ≤ (row t k).val := by rw [hr]; omega
      rw [if_neg h2, if_neg h3]
      rfl
  · have h3 : e ≤ (row t k).val := by rw [hr]; omega
    have h4 : t.val / 11 * 1024 + (n - 16) = (row t k).val - e := by rw [hr]; omega
    rw [dif_neg h1, if_pos h3]
    exact (row_of m c t ⟨n - 16, h16⟩ l).trans (congrArg _ (congrArg (ix2 · _) (Fin.ext h4)))

theorem conv_at (t : Fin cfg0.N) (k : Fin 1024) (l : Fin 512) {x1 x2 : EReal}
    (h1 : x1 = prev (m ((c : Thread nD τ).loc main_arg0)) (row t k) (col t l) 1)
    (h2 : x2 = prev (m ((c : Thread nD τ).loc main_arg0)) (row t k) (col t l) 2) :
    taps (iblk m c 3 t (ix2 0 l)) (iblk m c 2 t (ix2 0 l)) (iblk m c 2 t (ix2 1 l)) (iblk m c 2 t (ix2 2 l)) x2 x1 (iblk m c 0 t (ix2 k l))
    = conv (m ((c : Thread nD τ).loc main_arg0)) (m ((c : Thread nD τ).loc main_arg1)) (m ((c : Thread nD τ).loc main_arg2)) (row t k) (col t l) := by
  rw [h1, h2, bias, row_of, weight, weight, weight]
  rfl

theorem gated {a b a' b' : EReal} (ha : a = a') (hb : b = b') : a * Ideal.logistic a * b = a' * Ideal.logistic a' * b' := by
  rw [ha, hb]

theorem place (t : Fin cfg0.N) (k : Fin 1024) (l : Fin 256) (o : ℕ) (ho : o = 0 ∨ o = 256) (h : o + l.val < 512) :
    row t k = (win0_4.blk t).view.emb (ix2 k l) 0 ∧ col t ⟨o + l.val, h⟩ = column ((win0_4.blk t).view.emb (ix2 k l) 1) o (by omega) := by
  have e : ix2 (row t k) ⟨t.val % 11 * 256 + l.val, by omega⟩ = (win0_4.blk t).view.emb (ix2 k l) := by
    unfold row
    blk_ext [idx]
  rw [← e]
  refine ⟨rfl, Fin.ext ?_⟩
  show t.val % 11 * 512 + (o + l.val) = (t.val % 11 * 256 + l.val) / 256 * 512 + o + (t.val % 11 * 256 + l.val) % 256
  omega

theorem block (t : Fin cfg0.N) (y : S1024x256.Idx) :
    k0_pay1 (grid0.coords t) (iblk m c 1 t) (iblk m c 0 t) (iblk m c 3 t)
      (View.ld (iblk m c 2 t) (Rect.unit ![2, 0] ![1, 512] inb_S3x512_S1x512_2_0))
      (View.ld (iblk m c 2 t) (Rect.unit ![1, 0] ![1, 512] inb_S3x512_S1x512_1_0))
      (View.ld (iblk m c 2 t) (Rect.unit ![0, 0] ![1, 512] inb_S3x512_S1x512_0_0)) y
    = act (m ((c : Thread nD τ).loc main_arg0)) (m ((c : Thread nD τ).loc main_arg1)) (m ((c : Thread nD τ).loc main_arg2))
      ((win0_4.blk t).view.emb y) := by
  obtain ⟨k, l, rfl⟩ : ∃ (k : Fin 1024) (l : Fin 256), y = ix2 k l := ⟨y 0, y 1, by funext a; match a with | 0 => rfl | 1 => rfl⟩
  unfold act
  rw [← (place t k l 0 (.inl rfl) (by omega)).1, ← (place t k l 0 (.inl rfl) (by omega)).2, ← (place t k l 256 (.inr rfl) (by omega)).2]
  unfold k0_pay1
  pointwise
  simp only [turned1 k, turned2 k]
  have e1 (n) (h : n < 512) := behind m c t k ⟨n, h⟩ 1 (k.val + 15) (by omega) (by decide) (by omega)
  have e2 (n) (h : n < 512) := behind m c t k ⟨n, h⟩ 2 (k.val + 14) (by omega) (by decide) (by omega)
  exact gated (conv_at m c t k ⟨l.val, by omega⟩ (e1 l.val (by omega)) (e2 l.val (by omega)))
    (conv_at m c t k ⟨256 + l.val, by omega⟩ (e1 (256 + l.val) (by omega)) (e2 (256 + l.val) (by omega)))

theorem arr4 : (dats m 0 c).arrAt 4 cfg0.N = act (m ((c : Thread nD τ).loc main_arg0)) (m ((c : Thread nD τ).loc main_arg1))
    (m ((c : Thread nD τ).loc main_arg2)) := by
  refine (dats m 0 c).arrAt_eq_of_covers 4 _ (by decide +kernel) fun t _ y => ?_
  blk_simp
  rw [after0_4]; frame_out
  exact block m c t y

set_option backward.isDefEq.respectTransparency false in
/-- The kernel as printed and the kernel at the extended reals are one text. -/
theorem same : @Cert.Kernel27.defs Bits _ Cert.Kernel27.Gen.facts = @defs Bits _ facts
    ∧ @Cert.Kernel27.main Bits _ = @main Bits _ :=
  ⟨congrArg (Pipeline.defs (pcfgs (F := Bits))) (congrArg Defs.onTc (funext₂ fun l a => match l, a with | 0, (_, _) => rfl)), rfl⟩

theorem frame_kernel : Cert.quiescent_Kernel27 (hKernel27 := Cert.Kernel27.Gen.facts) := by
  intro m ρ _
  rw [same.1, same.2]
  exact Gen.frame (F := Bits) m ρ

theorem frame_ideal : Cert.quiescent_Kernel27Ideal (hKernel27Ideal := facts) := fun m ρ _ => Gen.frame m ρ

theorem frame_reference : Cert.quiescent_Reference27Ideal (hReference27Ideal := Cert.Reference27Ideal.Gen.facts) := fun m ρ _ =>
  (θ_run Cert.Reference27Ideal.defs _ _).mono (fun r h => ⟨fun c => (h c).2, sem_eq_zero_of_no_sems (by decide) r.2⟩)
    (Cert.Reference27Ideal.Value.run (F := Ideal) m ρ)

/-- The reference pads the rows with zeros in front. -/
theorem padded (U : Vec Ideal S8192x5632 .bf16) (r : Fin 8192) (j : Fin 5632) (e n k : ℕ) (he : e ≤ 2) (hn : n + e = r.val + 2) (hk : k = n - 2) (h : k < 8192) :
    @Eq (Ideal .f32) (@dite (Ideal .f32) (n < 2) _ (fun _ => 0) (fun _ => U (ix2 ⟨k, h⟩ j))) (prev U r j e) := by
  subst hk
  unfold prev
  by_cases h1 : n < 2
  · rw [dif_pos h1, if_neg (by omega)]
  · have h2 : n - 2 = r.val - e := by omega
    rw [dif_neg h1, if_pos (by omega)]
    exact congrArg U (congrArg (ix2 · j) (Fin.ext h2))

theorem taps_eq (b w0 w1 w2 x0 x1 x2 : EReal) : b + w0 * x0 + w1 * x1 + w2 * x2 = taps b w0 w1 w2 x0 x1 x2 := by
  unfold taps
  abel

theorem conv_ref (U : Vec Ideal S8192x5632 .bf16) (W : Vec Ideal S3x5632 .f32) (b : Vec Ideal S5632 .f32) (r : Fin 8192) (j : Fin 5632)
    {x0 x1 : EReal} (h0 : x0 = prev U r j 2) (h1 : x1 = prev U r j 1) :
    @Eq EReal ((fun b w0 w1 w2 x2 : EReal => b + w0 * x0 + w1 * x1 + w2 * x2) (b (ix1 j)) (W (ix2 0 j)) (W (ix2 1 j)) (W (ix2 2 j)) (U (ix2 r j)))
    (conv U W b r j) := by
  rw [h0, h1]
  exact taps_eq _ _ _ _ _ _ _

theorem gated_ref {a b a' b' : EReal} (ha : a = a') (hb : b = b') : a * Ideal.div 1 (1 + Ideal.exp (-a)) * b = a' * Ideal.logistic a' * b' := by
  rw [ha, hb]
  rfl

theorem value : Cert.algebraic_Kernel27Ideal_Reference27Ideal (hKernel27Ideal := facts)
    (hReference27Ideal := Cert.Reference27Ideal.Gen.facts) := by
  intro m g m' g' _ hm
  refine ⟨_, (θ_run defs _ _).mono (fun r h c => ⟨(h c).1.trans (arr4 m c), (h c).2⟩) (Value.run_blocks m g),
    (θ_run Cert.Reference27Ideal.defs _ _).mono (fun r h c => ⟨(h c).1.trans (funext fun i => ?_), (h c).2⟩)
      (Cert.Reference27Ideal.Value.run (F := Ideal) m' g')⟩
  obtain ⟨h0, h1, h2⟩ := hm c
  rw [← h0, ← h1, ← h2]
  clear h
  unfold Cert.Reference27Ideal.Value.res_main_v34 act
  pointwise
  have hi : (i 0).val < 8192 := (i 0).isLt
  have e0 (o : ℕ) (h : o ≤ 256) := padded (m' ((c : Thread Cert.Reference27Ideal.nD Cert.Reference27Ideal.τ).loc Cert.Reference27Ideal.main_arg0))
    (i 0) (column (i 1) o h) 2 (i 0).val _ (by decide) rfl rfl (by omega)
  have e1 (o : ℕ) (h : o ≤ 256) := padded (m' ((c : Thread Cert.Reference27Ideal.nD Cert.Reference27Ideal.τ).loc Cert.Reference27Ideal.main_arg0))
    (i 0) (column (i 1) o h) 1 (1 + (i 0).val) _ (by decide) (by omega) rfl (by omega)
  exact gated_ref (conv_ref _ _ _ (i 0) (column (i 1) 0 (by decide)) (e0 0 (by decide)) (e1 0 (by decide)))
    (conv_ref _ _ _ (i 0) (column (i 1) 256 (by decide)) (e0 256 (by decide)) (e1 256 (by decide)))

end Cert.Kernel27Ideal.Act
-- ==== Proof.Loss.lean ====
/- The mean square over the extended reals, summed by blocks of rows. -/
module

public import Idealize.ShloMosaic.Lib.Pipeline.ValueKit
public import proofs.«01_k».proof.Proof.Norm

@[expose] public section

noncomputable section

namespace Cert.Loss

open Idealize.ShloMosaic

/-! The constants. -/

theorem scale : Ideal.ofBits .f32 0x3A800000#32 = ((1 / 1024 : ℝ) : EReal) := by
  simp [Ideal.ofBits, Ideal.ieee]
  norm_num [← EReal.coe_mul]

theorem half_scale : Ideal.ofBits .f32 0x3A000000#32 = ((1 / 2048 : ℝ) : EReal) := by
  simp [Ideal.ofBits, Ideal.ieee]
  norm_num [← EReal.coe_mul]

theorem half : Ideal.ofBits .f32 0x3F000000#32 = ((1 / 2 : ℝ) : EReal) := by
  simp [Ideal.ofBits, Ideal.ieee]
  norm_num [← EReal.coe_mul]

theorem two : Ideal.ofBits .f32 0x40000000#32 = ((2 : ℝ) : EReal) := by
  simp [Ideal.ofBits, Ideal.ieee]
  norm_num [← EReal.coe_mul]

/-- Row `s` of block `b`. -/
def row (b : Fin 16) (s : Fin 512) : Fin 8192 := ⟨b.val * 512 + s.val, by omega⟩

/-- What one block gives for a column. -/
def part (e : Fin 8192 → Fin 1024 → EReal) (b : Fin 16) (l : Fin 1024) : EReal :=
  (∑ s, e (row b s) l * e (row b s) l) * Ideal.ofBits .f32 0x3A000000#32

def total (e : Fin 8192 → Fin 1024 → EReal) : EReal := ∑ b, ∑ l, part e b l

/-- The gradient of half the mean square. -/
theorem gradient (e : EReal) :
    Ideal.div (Ideal.ofBits .f32 0x3F000000#32) (Ideal.ofBits .f32 0x44800000#32)
      * (Ideal.ofBits .f32 0x40000000#32 * e) = e * Ideal.ofBits .f32 0x3A800000#32 := by
  rw [Cert.Norm.width, half, two, scale, Ideal.div_coe (by norm_num), ← EReal.coe_mul, ← mul_assoc, ← EReal.coe_mul,
    mul_comm e]
  norm_num

theorem sum_scaled {ι : Type*} (s : Finset ι) (f : ι → EReal) {a : ℝ} (ha : 0 ≤ a) : ∑ i ∈ s, (a : EReal) * f i = a * ∑ i ∈ s, f i := by
  classical
  induction s using Finset.induction_on with
  | empty => simp
  | insert i s hi h =>
    rw [Finset.sum_insert hi, Finset.sum_insert hi, h,
      EReal.left_distrib_of_nonneg_of_ne_top (EReal.coe_nonneg.mpr ha) (EReal.coe_ne_top a)]

theorem by_blocks (f : Fin 8192 → EReal) : ∑ b, ∑ s, f (row b s) = ∑ a, f a := by
  rw [← Fintype.sum_prod_type', ← (finProdFinEquiv (m := 16) (n := 512)).sum_comp f]
  exact Finset.sum_congr rfl fun p _ => congrArg f (Fin.ext (by simp [row, finProdFinEquiv]; omega))

/-- The kernel scales each block's sums of a column, the reference each row's sum and then the whole. -/
theorem total_eq (e : Fin 8192 → Fin 1024 → EReal) :
    Ideal.ofBits .f32 0x3F000000#32 * ∑ a, Ideal.div (∑ l, e a l * e a l) (Ideal.ofBits .f32 0x44800000#32) = total e := by
  unfold total part
  rw [Cert.Norm.width, half, half_scale]
  simp only [Ideal.div_coe (show (1024 : ℝ) ≠ 0 by norm_num), mul_comm _ ((1 / 1024 : ℝ) : EReal), mul_comm _ ((1 / 2048 : ℝ) : EReal)]
  rw [sum_scaled _ _ (by norm_num), ← mul_assoc, ← EReal.coe_mul, ← by_blocks]
  simp only [sum_scaled _ _ (show (0 : ℝ) ≤ 1 / 2048 by norm_num)]
  congr 1
  · norm_num
  · exact Finset.sum_congr rfl fun b _ => Finset.sum_comm

end Cert.Loss
-- ==== Proof.LossHead.lean ====
/- `loss_head`: the loss of one device's rows and its gradient. -/
module

public import proofs.«01_k».proof.Defs
public import proofs.«01_k».proof.Proof.Loss
public import proofs.«01_k».proof.Proof.Gen.Kernel28
public import proofs.«01_k».proof.Proof.Gen.Kernel28Ideal.Frame
public import proofs.«01_k».proof.Proof.Gen.Reference28Ideal.Run
public import Idealize.ShloMosaic.Lib.Pipeline.ValueKit

@[expose] public section

set_option maxRecDepth 16384

noncomputable section

namespace Cert.Kernel28Ideal.Loss

open Idealize.ShloMosaic Idealize.ShloMosaic.TcCoe Idealize.SL.Sem
open Cert.Kernel28Ideal Cert.Kernel28Ideal.Gen

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0, 0] := by
  decide +kernel

variable (m : (ℓ : Loc nD τ sig) → Buf (Elt Ideal) ℓ) (c : Dev nD)

abbrev Mat := Vec Ideal S8192x1024 .f32

def err (Y T : Mat) (a : Fin 8192) (l : Fin 1024) : EReal := Y (ix2 a l) - T (ix2 a l)

def grad (Y T : Mat) : Mat := fun i => (Y i - T i) * Ideal.ofBits .f32 0x3A800000#32

/-- A block of 512 rows gives one sum per column, which all eight rows of its part of the result hold. -/
def part (Y T : Mat) : Vec Ideal S16x8x1024 .f32 := fun i =>
  Cert.Loss.part (err Y T) (i 0) (i 2)

theorem left (t : Fin cfg0.N) (y : S512x1024.Idx) : iblk m c 0 t y = m ((c : Thread nD τ).loc main_arg0) ((win0_2.blk t).view.emb y) := by
  blk_ext [iblk, V, idx]

theorem right (t : Fin cfg0.N) (y : S512x1024.Idx) : iblk m c 1 t y = m ((c : Thread nD τ).loc main_arg1) ((win0_2.blk t).view.emb y) := by
  blk_ext [iblk, V, idx]

theorem same_place (t : Fin cfg0.N) (y : S512x1024.Idx) : (win0_3.blk t).view.emb y = (win0_2.blk t).view.emb y := by
  blk_ext [idx]

theorem block (t : Fin cfg0.N) (y : S512x1024.Idx) : k0_pay2 (iblk m c 0 t) (iblk m c 1 t) y
    = grad (m ((c : Thread nD τ).loc main_arg0)) (m ((c : Thread nD τ).loc main_arg1)) ((win0_2.blk t).view.emb y) := by
  unfold k0_pay2 k0_pay1 grad
  rw [← left m c t y, ← right m c t y]
  pointwise

theorem arr2 : (dats m 0 c).arrAt 2 cfg0.N = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact block m c t y

theorem arr3 : (dats m 0 c).arrAt 3 cfg0.N = grad (m ((c : Thread nD τ).loc main_arg0)) (m ((c : Thread nD τ).loc main_arg1)) := by
  refine (dats m 0 c).arrAt_eq_of_covers 3 _ (by decide +kernel) fun t _ y => ?_
  blk_simp
  rw [after0_3]; frame_out
  exact (block m c t y).trans (congrArg _ (same_place t y).symm)

theorem left_at (t : Fin cfg0.N) (y : S1x8x1024.Idx) (s : Fin 512) : iblk m c 0 t (ix2 s (y 2))
    = m ((c : Thread nD τ).loc main_arg0) (ix2 (Cert.Loss.row ((win0_4.blk t).view.emb y 0) s) ((win0_4.blk t).view.emb y 2)) := by
  blk_ext [iblk, V, idx, Cert.Loss.row]

theorem right_at (t : Fin cfg0.N) (y : S1x8x1024.Idx) (s : Fin 512) : iblk m c 1 t (ix2 s (y 2))
    = m ((c : Thread nD τ).loc main_arg1) (ix2 (Cert.Loss.row ((win0_4.blk t).view.emb y 0) s) ((win0_4.blk t).view.emb y 2)) := by
  blk_ext [iblk, V, idx, Cert.Loss.row]

theorem sums (t : Fin cfg0.N) (y : S1x8x1024.Idx) : k0_pay4 (iblk m c 0 t) (iblk m c 1 t) y
    = part (m ((c : Thread nD τ).loc main_arg0)) (m ((c : Thread nD τ).loc main_arg1)) ((win0_4.blk t).view.emb y) := by
  unfold k0_pay4 k0_pay1 part Cert.Loss.part err
  pointwise
  simp only [left_at, right_at]

theorem arr4 : (dats m 0 c).arrAt 4 cfg0.N = part (m ((c : Thread nD τ).loc main_arg0)) (m ((c : Thread nD τ).loc main_arg1)) := by
  refine (dats m 0 c).arrAt_eq_of_covers 4 _ (by decide +kernel) fun t _ y => ?_
  blk_simp
  rw [after0_4]; frame_out
  exact sums m c t y

/-- The lines after the call sum the blocks' sums. -/
theorem summed (A : Vec Ideal S16x8x1024 .f32) (j : S_.Idx) : Host.reduceAdd (F := Ideal)
    (shapeCast S16x1024 (extractStridedSlice S16x1x1024 ![0, 0, 0] A slices_S16x8x1024_S16x1x1024_0_0_0) shapeCasts_S16x1x1024_S16x1024)
    (constant S_ .f32 0x00000000#32) reducesTo_S16x1024_S_d0_1 h_S_ j = ∑ b : Fin 16, ∑ l : Fin 1024, A (ix3 b 0 l) := by
  rw [Host.reduceAdd_apply]
  refine (Ideal.hostReduceAdd_total _ (fun b => b.elim0) _ _ _).trans ?_
  rw [Idealize.ShloMosaic.ValueIdx.sum_idx2]
  pointwise

theorem total : Pipeline.afterTail₀ cfgs (dats m) 0 (V0 m) [hostOps1] c main_v3
    = fun _ => Cert.Loss.total (err (m ((c : Thread nD τ).loc main_arg0)) (m ((c : Thread nD τ).loc main_arg1))) := by
  unfold Pipeline.afterTail₀
  show StableHlo.after hostOps1 _ (Proc.devRef .tc main_v3) = _
  after_results
  rw [show Pipeline.withArrays cfg0.spec c (V0 m c) (fun w => (dats m 0 c).arrAt w cfg0.N) (Proc.devRef .tc main_v0_2) = _ from
    (Pipeline.withArrays_arr cfg0.spec (by decide) c (V0 m c) (fun w => (dats m 0 c).arrAt w cfg0.N) 4).trans (arr4 m c)]
  exact funext fun j => summed _ j

set_option backward.isDefEq.respectTransparency false in
/-- The kernel as printed and the kernel at the extended reals are one text. -/
theorem same : @Cert.Kernel28.defs Bits _ Cert.Kernel28.Gen.facts = @defs Bits _ facts
    ∧ @Cert.Kernel28.main Bits _ Cert.Kernel28.Gen.facts = @main Bits _ facts :=
  ⟨congrArg (Pipeline.defs (pcfgs (F := Bits))) (congrArg Defs.onTc (funext₂ fun l a => match l, a with | 0, (_, _) => rfl)), rfl⟩

theorem frame_kernel : Cert.quiescent_Kernel28 (hKernel28 := Cert.Kernel28.Gen.facts) := by
  intro m ρ _
  rw [same.1, same.2]
  exact Gen.frame (F := Bits) m ρ

theorem frame_ideal : Cert.quiescent_Kernel28Ideal (hKernel28Ideal := facts) := fun m ρ _ => Gen.frame m ρ

theorem frame_reference : Cert.quiescent_Reference28Ideal (hReference28Ideal := Cert.Reference28Ideal.Gen.facts) := fun m ρ _ =>
  (θ_run Cert.Reference28Ideal.defs _ _).mono (fun r h => ⟨fun c => (h c).2.2.2, sem_eq_zero_of_no_sems (by decide) r.2⟩)
    (Cert.Reference28Ideal.Value.run (F := Ideal) m ρ)

theorem value : Cert.algebraic_Kernel28Ideal_Reference28Ideal (hKernel28Ideal := facts)
    (hReference28Ideal := Cert.Reference28Ideal.Gen.facts) := by
  intro m g m' g' _ hm
  refine ⟨_, _, _, (θ_run defs _ _).mono (fun r h c => ⟨((h.1 c).1 2).trans (arr2 m c), ((h.1 c).1 3).trans (arr3 m c),
      ((h.1 c).2 main_v3 (Pipeline.mem_restRefs_of _ rfl (by decide))).trans (total m c), (h.2.1 c)⟩)
      (θ_run_and (run_main m g) (Gen.frame m g)),
    (θ_run Cert.Reference28Ideal.defs _ _).mono (fun r h c => ⟨(h c).1.trans (funext fun i => ?_), (h c).2.1.trans (funext fun i => ?_),
      (h c).2.2.1.trans (funext fun i => ?_), (h c).2.2.2⟩)
      (Cert.Reference28Ideal.Value.run (F := Ideal) m' g')⟩
  all_goals
    obtain ⟨h0, h1⟩ := hm c
    clear h
    simp only [← h0, ← h1]
  · pointwise
    exact Cert.Loss.gradient _
  · pointwise
    exact Cert.Loss.gradient _
  · pointwise
    exact Cert.Loss.total_eq _

end Cert.Kernel28Ideal.Loss
-- ==== Proof.AdamW.lean ====
/- One AdamW step of an entry, over the extended reals. -/
module

public import Idealize.ShloMosaic.Lib.Pipeline.ValueKit

@[expose] public section

noncomputable section

namespace Cert.AdamW

open Idealize.ShloMosaic

/-- The moments: nine tenths of the old one and a tenth of the gradient, and 0.999 and 0.001 with its square. -/
def first (g m : EReal) : EReal := Ideal.ofBits .f32 0x3F666666#32 * m + Ideal.ofBits .f32 0x3DCCCCCD#32 * g

def second (g v : EReal) : EReal := Ideal.ofBits .f32 0x3F7FBE77#32 * v + Ideal.ofBits .f32 0x3A83126F#32 * (g * g)

/-- The change of the weight. -/
def delta (g w m v : EReal) : EReal :=
  Ideal.ofBits .f32 0xBA83126F#32 * (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

/-- The gradient is the sum over the devices, which the kernel adds one after the other. -/
theorem eight (x : Fin 8 → EReal) : x 0 + x 1 + x 2 + x 3 + x 4 + x 5 + x 6 + x 7 = ∑ d, x d := (Fin.sum_univ_eight x).symm

end Cert.AdamW
-- ==== Proof.AdamWIn.lean ====
/- `adamw_w_in`: the optimizer's step of one device's columns of `w_in`. -/
module

public import proofs.«01_k».proof.Defs
public import proofs.«01_k».proof.Proof.AdamW
public import proofs.«01_k».proof.Proof.Gen.Kernel29
public import proofs.«01_k».proof.Proof.Gen.Kernel29Ideal.Value
public import proofs.«01_k».proof.Proof.Gen.Reference29Ideal.Run
public import Idealize.ShloMosaic.Lib.Pipeline.ValueKit

@[expose] public section

set_option maxRecDepth 16384

noncomputable section

namespace Cert.Kernel29Ideal.Step

open Idealize.ShloMosaic Idealize.ShloMosaic.TcCoe Idealize.SL.Sem
open Cert.Kernel29Ideal Cert.Kernel29Ideal.Gen

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

variable (m : (ℓ : Loc nD τ sig) → Buf (Elt Ideal) ℓ) (c : Dev nD)

abbrev Mat := Vec Ideal S1024x832 .f32

def grad (P : Vec Ideal S8x1024x832 .bf16) : Mat := fun i => ∑ d : Fin 8, P (ix3 d (i 0) (i 1))

def first (P : Vec Ideal S8x1024x832 .bf16) (M : Mat) : Mat := fun i => Cert.AdamW.first (grad P i) (M i)

def second (P : Vec Ideal S8x1024x832 .bf16) (V : Mat) : Mat := fun i => Cert.AdamW.second (grad P i) (V i)

def delta (P : Vec Ideal S8x1024x832 .bf16) (W M V : Mat) : Mat := fun i => Cert.AdamW.delta (grad P i) (W i) (M i) (V i)

theorem part (t : Fin cfg0.N) (d : Fin 8) (y : S256x832.Idx) : iblk m c 0 t (ix3 d (y 0) (y 1))
    = m ((c : Thread nD τ).loc main_arg0) (ix3 d ((win0_4.blk t).view.emb y 0) ((win0_4.blk t).view.emb y 1)) := by
  blk_ext [iblk, V, idx]

theorem weight (t : Fin cfg0.N) (y : S256x832.Idx) : iblk m c 1 t y = m ((c : Thread nD τ).loc main_arg1) ((win0_4.blk t).view.emb y) := by
  blk_ext [iblk, V, idx]

theorem mean (t : Fin cfg0.N) (y : S256x832.Idx) : iblk m c 2 t y = m ((c : Thread nD τ).loc main_arg2) ((win0_4.blk t).view.emb y) := by
  blk_ext [iblk, V, idx]

theorem square (t : Fin cfg0.N) (y : S256x832.Idx) : iblk m c 3 t y = m ((c : Thread nD τ).loc main_arg3) ((win0_4.blk t).view.emb y) := by
  blk_ext [iblk, V, idx]

theorem same_place (t : Fin cfg0.N) (y : S256x832.Idx) : (win0_5.blk t).view.emb y = (win0_4.blk t).view.emb y
    ∧ (win0_6.blk t).view.emb y = (win0_4.blk t).view.emb y ∧ (win0_7.blk t).view.emb y = (win0_4.blk t).view.emb y := by
  refine ⟨?_, ?_, ?_⟩ <;> blk_ext [idx]

theorem grads (t : Fin cfg0.N) (y : S256x832.Idx) : k0_pay5 (iblk m c 0 t) (iblk m c 1 t) (iblk m c 2 t) (iblk m c 3 t) y
    = grad (m ((c : Thread nD τ).loc main_arg0)) ((win0_4.blk t).view.emb y) := by
  unfold k0_pay5 k0_pay4
  pointwise
  refine (Cert.AdamW.eight (fun d => iblk m c 0 t (ix3 d (y 0) (y 1)))).trans (Finset.sum_congr rfl fun d _ => part m c t d y)

theorem arr4 : (dats m 0 c).arrAt 4 cfg0.N = grad (m ((c : Thread nD τ).loc main_arg0)) := by
  refine (dats m 0 c).arrAt_eq_of_covers 4 _ (by decide +kernel) fun t _ y => ?_
  blk_simp
  rw [after0_4]; frame_out
  exact grads m c t y

theorem firsts (t : Fin cfg0.N) (y : S256x832.Idx) :
    k0_pay1 (k0_pay5 (iblk m c 0 t) (iblk m c 1 t) (iblk m c 2 t) (iblk m c 3 t)) (iblk m c 2 t) y
    = first (m ((c : Thread nD τ).loc main_arg0)) (m ((c : Thread nD τ).loc main_arg2)) ((win0_4.blk t).view.emb y) := by
  unfold k0_pay1 first
  rw [← grads m c t y, ← mean m c t y]
  pointwise
  rfl

theorem seconds (t : Fin cfg0.N) (y : S256x832.Idx) :
    k0_pay2 (k0_pay5 (iblk m c 0 t) (iblk m c 1 t) (iblk m c 2 t) (iblk m c 3 t)) (iblk m c 3 t) y
    = second (m ((c : Thread nD τ).loc main_arg0)) (m ((c : Thread nD τ).loc main_arg3)) ((win0_4.blk t).view.emb y) := by
  unfold k0_pay2 second
  rw [← grads m c t y, ← square m c t y]
  pointwise
  rfl

theorem deltas (t : Fin cfg0.N) (y : S256x832.Idx) :
    k0_pay3 (k0_pay5 (iblk m c 0 t) (iblk m c 1 t) (iblk m c 2 t) (iblk m c 3 t)) (iblk m c 1 t) (iblk m c 2 t) (iblk m c 3 t) y
    = delta (m ((c : Thread nD τ).loc main_arg0)) (m ((c : Thread nD τ).loc main_arg1)) (m ((c : Thread nD τ).loc main_arg2))
      (m ((c : Thread nD τ).loc main_arg3)) ((win0_4.blk t).view.emb y) := by
  unfold k0_pay3 delta Cert.AdamW.delta
  rw [← weight m c t y]
  pointwise
  rw [firsts, seconds]
  rfl

theorem arr5 : (dats m 0 c).arrAt 5 cfg0.N = delta (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t _ y => ?_
  blk_simp
  rw [after0_5]; frame_out
  exact (deltas m c t y).trans (congrArg _ (same_place t y).1.symm)

theorem arr6 : (dats m 0 c).arrAt 6 cfg0.N = first (m ((c : Thread nD τ).loc main_arg0)) (m ((c : Thread nD τ).loc main_arg2)) := by
  refine (dats m 0 c).arrAt_eq_of_covers 6 _ (by decide +kernel) fun t _ y => ?_
  blk_simp
  rw [after0_6]; frame_out
  exact (firsts m c t y).trans (congrArg _ (same_place t y).2.1.symm)

theorem arr7 : (dats m 0 c).arrAt 7 cfg0.N = second (m ((c : Thread nD τ).loc main_arg0)) (m ((c : Thread nD τ).loc main_arg3)) := by
  refine (dats m 0 c).arrAt_eq_of_covers 7 _ (by decide +kernel) fun t _ y => ?_
  blk_simp
  rw [after0_7]; frame_out
  exact (seconds m c t y).trans (congrArg _ (same_place t y).2.2.symm)

set_option backward.isDefEq.respectTransparency false in
/-- The kernel as printed and the kernel at the extended reals are one text. -/
theorem same : @Cert.Kernel29.defs Bits _ Cert.Kernel29.Gen.facts = @defs Bits _ facts
    ∧ @Cert.Kernel29.main Bits _ = @main Bits _ :=
  ⟨congrArg (Pipeline.defs (pcfgs (F := Bits))) (congrArg Defs.onTc (funext₂ fun l a => match l, a with | 0, (_, _) => rfl)), rfl⟩

theorem frame_kernel : Cert.quiescent_Kernel29 (hKernel29 := Cert.Kernel29.Gen.facts) := by
  intro m ρ _
  rw [same.1, same.2]
  exact Gen.frame (F := Bits) m ρ

theorem frame_ideal : Cert.quiescent_Kernel29Ideal (hKernel29Ideal := facts) := fun m ρ _ => Gen.frame m ρ

theorem frame_reference : Cert.quiescent_Reference29Ideal (hReference29Ideal := Cert.Reference29Ideal.Gen.facts) := fun m ρ _ =>
  (θ_run Cert.Reference29Ideal.defs _ _).mono (fun r h => ⟨fun c => (h c).2.2.2.2, sem_eq_zero_of_no_sems (by decide) r.2⟩)
    (Cert.Reference29Ideal.Value.run (F := Ideal) m ρ)

theorem value : Cert.algebraic_Kernel29Ideal_Reference29Ideal (hKernel29Ideal := facts)
    (hReference29Ideal := Cert.Reference29Ideal.Gen.facts) := by
  intro m g m' g' _ hm
  refine ⟨_, _, _, _, (θ_run defs _ _).mono (fun r h c => ⟨(h c).1.trans (arr4 m c), (h c).2.1.trans (arr5 m c),
      (h c).2.2.1.trans (arr6 m c), (h c).2.2.2.1.trans (arr7 m c), (h c).2.2.2.2⟩) (Value.run_blocks m g),
    (θ_run Cert.Reference29Ideal.defs _ _).mono (fun r h c => ⟨(h c).1.trans (funext fun i => ?_), (h c).2.1.trans (funext fun i => ?_),
      (h c).2.2.1.trans (funext fun i => ?_), (h c).2.2.2.1.trans (funext fun i => ?_), (h c).2.2.2.2⟩)
      (Cert.Reference29Ideal.Value.run (F := Ideal) m' g')⟩
  all_goals
    obtain ⟨h0, h1, h2, h3⟩ := hm c
    clear h
    simp only [← h0, ← h1, ← h2, ← h3]
    pointwise
    rfl

end Cert.Kernel29Ideal.Step
-- ==== Proof.PoolFwd.lean ====
/- `pool_fwd`: each column less the mean of the rows that end at its own, by groups of 128 columns, through a matrix of
   the group's and scaled. -/
module

public import proofs.«01_k».proof.Defs
public import proofs.«01_k».proof.Proof.Finite
public import proofs.«01_k».proof.Proof.Host
public import proofs.«01_k».proof.Proof.Gen.Kernel30
public import proofs.«01_k».proof.Proof.Gen.Kernel30Ideal.Value
public import proofs.«01_k».proof.Proof.Gen.Reference30Ideal.Run
public import Idealize.ShloMosaic.Lib.Pipeline.ValueKit

@[expose] public section

set_option maxRecDepth 16384

noncomputable section

namespace Cert.Pre_finite_pool

open Idealize.ShloMosaic Cert.Spec

theorem facts : Facts where
  bcast_S_S8192x512 := by decide

variable [hF : Facts] (u : FVec Ideal S8192x512 .f32) (w : FVec Ideal S4x128x128 .f32) (s : FVec Ideal S512 .f32)

theorem real (h : fn (F := Ideal) u w s = fun _ => 1#1) : Is (n := 8192) (m := 512) u (Cert.Pre_finite.reals (n := 8192) (m := 512) u) :=
  Cert.Pre_finite.reals_is fun j => Cert.Pre_finite.sub_self_of_cmp (congrFun h j)

end Cert.Pre_finite_pool

namespace Cert.Kernel30Ideal.Pool

open Idealize.ShloMosaic Idealize.ShloMosaic.TcCoe Idealize.SL.Sem
open Cert.Kernel30Ideal Cert.Kernel30Ideal.Gen Cert.Spec Finset

theorem idx : ∀ t : Fin cfg0.N, win0_0.index t = ![t.val, 0] ∧ win0_1.index t = ![32 * t.val - 1, 0]
    ∧ win0_2.index t = ![0, 0, 0] ∧ win0_3.index t = ![0, 0] ∧ win0_4.index t = ![t.val, 0] := by
  decide +kernel

variable (m : (ℓ : Loc nD τ sig) → Buf (Elt Ideal) ℓ) (c : Dev nD)

/-- The entry `e` rows before, zero before the first row. -/
def prev (U : Vec Ideal S8192x512 .f32) (r : Fin 8192) (j : Fin 512) (e : ℕ) : EReal :=
  if e ≤ r.val then U (ix2 ⟨r.val - e, by omega⟩ j) else 0

/-- The mean of the `n` rows that end at `r`, of those there are, less the row. -/
def pooled (U : Vec Ideal S8192x512 .f32) (n : ℕ) (r : Fin 8192) (j : Fin 512) : EReal :=
  Ideal.div (∑ e ∈ range n, prev U r j e) (((min (r.val + 1) n : ℕ) : ℝ) : EReal) - U (ix2 r j)

/-- A column of group `g`, whose window is of `n` rows. -/
def mixed (U : Vec Ideal S8192x512 .f32) (W : Vec Ideal S4x128x128 .f32) (s : Vec Ideal S512 .f32) (n : ℕ) (g : Fin 4) (r : Fin 8192) (x : Fin 128) : EReal :=
  (∑ k : Fin 128, pooled U n r ⟨g.val * 128 + k.val, by omega⟩ * W (ix3 g k x)) * s (ix1 ⟨g.val * 128 + x.val, by omega⟩)

def pool (U : Vec Ideal S8192x512 .f32) (W : Vec Ideal S4x128x128 .f32) (s : Vec Ideal S512 .f32) : Vec Ideal S8192x512 .bf16 := fun i =>
  mixed U W s (2 ^ ((i 1).val / 128 + 1)) ⟨(i 1).val / 128, by have : (i 1).val < 512 := (i 1).isLt; omega⟩ (i 0) ⟨(i 1).val % 128, Nat.mod_lt _ (by decide)⟩

/-- The row of the arrays that a block's is. -/
def row (t : Fin cfg0.N) (k : Fin 512) : Fin 8192 := ⟨t.val * 512 + k.val, by
  have : t.val < 16 := t.isLt
  omega⟩

/-- All blocks but the first have rows before them. -/
theorem inner : ∀ t : Fin cfg0.N, Scalar.cmpi .sgt (BitVec.ofNat 32 (grid0.coords t 0).val) 0#32 = if 0 < t.val then 1#1 else 0#1 := by
  decide +kernel

theorem point : ∀ t : Fin cfg0.N, (grid0.coords t 0).val = t.val := by
  decide +kernel

/-! What a point reads. -/

theorem flat : V m c main_v1 = shapeCast S1x512 (m ((c : Thread nD τ).loc main_arg2)) shapeCasts_S512_S1x512 := by
  dsimp only [V]
  rw [StableHlo.after_cons, StableHlo.after_cons, StableHlo.after_nil]
  rfl

theorem scale_row (t : Fin cfg0.N) (j : Fin 512) : iblk m c 3 t (ix2 0 j) = V m c main_v1 (ix2 0 j) := by
  blk_ext [iblk, idx]

theorem scale (t : Fin cfg0.N) (j : Fin 512) : iblk m c 3 t (ix2 0 j) = m ((c : Thread nD τ).loc main_arg2) (ix1 j) := by
  rw [scale_row, flat]
  simp only [pointwise]

theorem narrowed : V m c main_v0 = truncf (F := Ideal) .bf16 (m ((c : Thread nD τ).loc main_arg1) : FVec Ideal S4x128x128 .f32) bitsLt_bf16_f32 := by
  dsimp only [V]
  rw [StableHlo.after_cons, StableHlo.after_cons, StableHlo.after_nil]
  rfl

theorem weight_at (t : Fin cfg0.N) (g : Fin 4) (k x : Fin 128) : iblk m c 2 t (ix3 g k x) = V m c main_v0 (ix3 g k x) := by
  blk_ext [iblk, idx]

theorem weight (t : Fin cfg0.N) (g : Fin 4) (k x : Fin 128) : iblk m c 2 t (ix3 g k x) = m ((c : Thread nD τ).loc main_arg1) (ix3 g k x) := by
  rw [weight_at, narrowed]
  rfl

theorem row_of (t : Fin cfg0.N) (k : Fin 512) (l : Fin 512) :
    iblk m c 0 t (ix2 k l) = m ((c : Thread nD τ).loc main_arg0) (ix2 (row t k) l) := by
  unfold row
  blk_ext [iblk, V, idx]

theorem row_before (t : Fin cfg0.N) (n : Fin 16) (l : Fin 512) (h : (32 * t.val - 1) * 16 + n.val < 8192) :
    iblk m c 1 t (ix2 n l) = m ((c : Thread nD τ).loc main_arg0) (ix2 ⟨(32 * t.val - 1) * 16 + n.val, h⟩ l) := by
  blk_ext [iblk, V, idx]

/-- A point's own rows behind the last 16 of the block before, if there is one. -/
def ext (t : Fin cfg0.N) : FVec Ideal S528x512 .f32 := k0_pay4 (F := Ideal) (grid0.coords t) (iblk m c 1 t) (iblk m c 0 t)

theorem behind (t : Fin cfg0.N) (k : Fin 512) (l : Fin 512) (e n : ℕ) (hn : n + e = k.val + 16) (he : e ≤ 16) (h : n < 528) :
    ext m c t (ix2 ⟨n, h⟩ l) = prev (m ((c : Thread nD τ).loc main_arg0)) (row t k) l e := by
  have ht : t.val < 16 := t.isLt
  have hr : (row t k).val = t.val * 512 + k.val := rfl
  have hk := k.isLt
  unfold ext k0_pay4
  pointwise
  rw [inner t]
  unfold prev
  by_cases h1 : n < 16
  · rw [dif_pos h1]
    by_cases h2 : 0 < t.val
    · have h3 : e ≤ (row t k).val := by rw [hr]; omega
      have h4 : (32 * t.val - 1) * 16 + n = (row t k).val - e := by rw [hr]; omega
      rw [if_pos h2, if_pos h3]
      exact (row_before m c t ⟨n, h1⟩ l (by show (32 * t.val - 1) * 16 + n < _; omega)).trans
        (congrArg _ (congrArg (ix2 · _) (Fin.ext h4)))
    · have h3 : ¬ e ≤ (row t k).val := by rw [hr]; omega
      rw [if_neg h2, if_neg h3]
      rfl
  · have h3 : e ≤ (row t k).val := by rw [hr]; omega
    have h4 : t.val * 512 + (n - 16) = (row t k).val - e := by rw [hr]; omega
    rw [dif_neg h1, if_pos h3]
    exact (row_of m c t ⟨n - 16, by omega⟩ l).trans (congrArg _ (congrArg (ix2 · _) (Fin.ext h4)))

/-! The sums of a window double it. -/

def at' (x : FVec Ideal S528x512 .f32) (r : ℕ) (l : Fin 512) : EReal := if h : r < 528 then x (ix2 ⟨r, h⟩ l) else 0

/-- The sums of the `n` rows that end at a row, where there are as many. -/
def Sums (x s : FVec Ideal S528x512 .f32) (n : ℕ) : Prop :=
  ∀ (r : Fin 528) (l : Fin 512), n ≤ r.val + 1 → s (ix2 r l) = ∑ k ∈ range n, at' x (r.val - k) l

theorem Sums.double {x s : FVec Ideal S528x512 .f32} {n : ℕ} (h : Sums x s n) (hn : n < 528) :
    Sums x (addf s (dynamicRotate 0 (BitVec.ofNat 32 n) none s rotates_S528x512_d0)) (n + n) := by
  intro r l hr
  have hr' := r.isLt
  pointwise
  have back (q : ℕ) (hq : q < 528) (e : q = r.val - n) : s (ix2 ⟨q, hq⟩ l) = ∑ k ∈ range n, at' x (r.val - (n + k)) l := by
    subst e
    refine (h ⟨_, hq⟩ l (by show n ≤ r.val - n + 1; omega)).trans (sum_congr rfl fun k _ => ?_)
    rw [Nat.sub_sub]
  rw [sum_range_add, h r l (by omega)]
  refine congrArg _ (back _ _ ?_)
  rw [BitVec.toNat_ofNat]
  omega

theorem one (x : FVec Ideal S528x512 .f32) : Sums x x 1 := by
  intro r l _
  rw [sum_range_one, Nat.sub_zero, at', dif_pos r.isLt]

theorem sums2 (t : Fin cfg0.N) : Sums (ext m c t) (k0_pay5 (F := Ideal) (grid0.coords t) (iblk m c 1 t) (iblk m c 0 t)) 2 :=
  (one _).double (by decide)

theorem sums4 (t : Fin cfg0.N) : Sums (ext m c t) (k0_pay6 (F := Ideal) (grid0.coords t) (iblk m c 1 t) (iblk m c 0 t)) 4 :=
  (sums2 m c t).double (by decide)

theorem sums8 (t : Fin cfg0.N) : Sums (ext m c t) (k0_pay7 (F := Ideal) (grid0.coords t) (iblk m c 1 t) (iblk m c 0 t)) 8 :=
  (sums4 m c t).double (by decide)

theorem sums16 (t : Fin cfg0.N) : Sums (ext m c t) (k0_pay8 (F := Ideal) (grid0.coords t) (iblk m c 1 t) (iblk m c 0 t)) 16 :=
  (sums8 m c t).double (by decide)

theorem Sums.prev {t : Fin cfg0.N} {s : FVec Ideal S528x512 .f32} {n : ℕ} (h : Sums (ext m c t) s n) (hn : n ≤ 16) (k l : Fin 512) (x : Fin 528) (hx : x.val = 16 + k.val) :
    s (ix2 x l) = ∑ e ∈ range n, Pool.prev (m ((c : Thread nD τ).loc main_arg0)) (row t k) l e := by
  rw [h x l (by omega)]
  refine sum_congr rfl fun e he => ?_
  have := mem_range.mp he
  rw [at', dif_pos (by omega)]
  exact behind m c t k l e _ (by omega) (by omega) _

/-! The rows a mean is of. -/

theorem add_nat (a b : ℕ) : IntOp.addi (BitVec.ofNat 32 a) (BitVec.ofNat 32 b) = BitVec.ofNat 32 (a + b) := (BitVec.ofNat_add a b).symm

theorem nat_int {a : ℕ} (ha : a < 2 ^ 31) : (BitVec.ofNat 32 a).toInt = a := by
  rw [BitVec.toInt_eq_toNat_of_lt] <;> rw [BitVec.toNat_ofNat] <;> omega

theorem slt_nat {a b : ℕ} (ha : a < 2 ^ 31) (hb : b < 2 ^ 31) : (BitVec.ofNat 32 a).slt (BitVec.ofNat 32 b) = decide (a < b) := by
  rw [BitVec.slt, nat_int ha, nat_int hb]
  simp

theorem min_nat {a b : ℕ} (ha : a < 2 ^ 31) (hb : b < 2 ^ 31) : IntOp.minsi (BitVec.ofNat 32 a) (BitVec.ofNat 32 b) = BitVec.ofNat 32 (min a b) := by
  rw [IntOp.minsi, slt_nat ha hb]
  by_cases h : a < b
  · simp [h, Nat.min_eq_left h.le]
  · simp [h, Nat.min_eq_right (Nat.le_of_not_lt h)]

theorem count (t : Fin cfg0.N) (k : Fin 512) (n : ℕ) (hn : n ≤ 16) :
    FloatOps.sitofp (F := Ideal) .f32 (IntOp.minsi (IntOp.addi (IntOp.addi (Scalar.muli (BitVec.ofNat 32 (grid0.coords t 0).val) 512#32) (BitVec.ofNat 32 k.val)) 1#32)
      (BitVec.ofNat 32 n)) = (((min ((row t k).val + 1) n : ℕ) : ℝ) : EReal) := by
  have ht : t.val < 16 := t.isLt
  have hk := k.isLt
  have hr : (row t k).val = t.val * 512 + k.val := rfl
  rw [point, show Scalar.muli (BitVec.ofNat 32 t.val) 512#32 = BitVec.ofNat 32 (t.val * 512) from (BitVec.ofNat_mul _ _).symm, add_nat, add_nat, min_nat (by omega) (by omega)]
  show (((BitVec.ofNat 32 _).toInt : ℝ) : EReal) = _
  rw [nat_int (by omega), hr, Int.cast_natCast]

theorem group {t : Fin cfg0.N} {s : FVec Ideal S528x512 .f32} {n : ℕ} (h : Sums (ext m c t) s n) (hn : n ≤ 16) (k j j' : Fin 512) (x : Fin 528)
    (hx : x.val = 16 + k.val) (hj : j' = j) :
    Ideal.div (s (ix2 x j')) (FloatOps.sitofp (F := Ideal) .f32 (IntOp.minsi (IntOp.addi (IntOp.addi (Scalar.muli (BitVec.ofNat 32 (grid0.coords t 0).val) 512#32)
      (BitVec.ofNat 32 k.val)) 1#32) (BitVec.ofNat 32 n))) - ext m c t (ix2 x j') = pooled (m ((c : Thread nD τ).loc main_arg0)) n (row t k) j := by
  subst hj
  have e : ext m c t (ix2 x j') = m ((c : Thread nD τ).loc main_arg0) (ix2 (row t k) j') :=
    (behind m c t k j' 0 x.val (by omega) (by decide) x.isLt).trans (if_pos (Nat.zero_le _))
  unfold pooled
  rw [count t k n hn, h.prev m c hn k j' x hx, e]

theorem group0 (t : Fin cfg0.N) (k : Fin 512) (x : Fin 128) (j : Fin 512) (hj : x.val = j.val) :
    k0_pay9 (F := Ideal) (grid0.coords t) (iblk m c 1 t) (iblk m c 0 t) (ix2 k x) = pooled (m ((c : Thread nD τ).loc main_arg0)) 2 (row t k) j := by
  unfold k0_pay9
  pointwise
  exact group m c (sums2 m c t) (by decide) k j _ _ rfl (Fin.ext hj)

theorem group1 (t : Fin cfg0.N) (k : Fin 512) (x : Fin 128) (j : Fin 512) (hj : 128 + x.val = j.val) :
    k0_pay10 (F := Ideal) (grid0.coords t) (iblk m c 1 t) (iblk m c 0 t) (ix2 k x) = pooled (m ((c : Thread nD τ).loc main_arg0)) 4 (row t k) j := by
  unfold k0_pay10
  pointwise
  exact group m c (sums4 m c t) (by decide) k j _ _ rfl (Fin.ext hj)

theorem group2 (t : Fin cfg0.N) (k : Fin 512) (x : Fin 128) (j : Fin 512) (hj : 256 + x.val = j.val) :
    k0_pay11 (F := Ideal) (BitVec.ofNat 32 (grid0.coords t 0).val) (ext m c t) (k0_pay7 (grid0.coords t) (iblk m c 1 t) (iblk m c 0 t)) 512#32 (ix2 k x)
    = pooled (m ((c : Thread nD τ).loc main_arg0)) 8 (row t k) j := by
  unfold k0_pay11
  pointwise
  exact group m c (sums8 m c t) (by decide) k j _ _ rfl (Fin.ext hj)

theorem group3 (t : Fin cfg0.N) (k : Fin 512) (x : Fin 128) (j : Fin 512) (hj : 384 + x.val = j.val) :
    k0_pay12 (F := Ideal) (BitVec.ofNat 32 (grid0.coords t 0).val) (ext m c t) (k0_pay8 (grid0.coords t) (iblk m c 1 t) (iblk m c 0 t)) (ix2 k x)
    = pooled (m ((c : Thread nD τ).loc main_arg0)) 16 (row t k) j := by
  unfold k0_pay12
  pointwise
  exact group m c (sums16 m c t) (by decide) k j _ _ rfl (Fin.ext hj)

theorem pool_at (U : Vec Ideal S8192x512 .f32) (W : Vec Ideal S4x128x128 .f32) (s : Vec Ideal S512 .f32) (r : Fin 8192) (j : Fin 512) (g : Fin 4) (x : Fin 128)
    (h : j.val = g.val * 128 + x.val) : pool U W s (ix2 r j) = mixed U W s (2 ^ (g.val + 1)) g r x := by
  have hg : j.val / 128 = g.val := by omega
  show mixed U W s (2 ^ (j.val / 128 + 1)) ⟨j.val / 128, _⟩ r ⟨j.val % 128, _⟩ = _
  congr 1
  · rw [hg]
  · exact Fin.ext hg
  · exact Fin.ext (by show j.val % 128 = _; omega)

theorem mixed_at {t : Fin cfg0.N} {P : Fin 128 → EReal} {n : ℕ} (g : Fin 4) (k : Fin 512) (x : Fin 128) (j : Fin 512)
    (hP : ∀ q : Fin 128, P q = pooled (m ((c : Thread nD τ).loc main_arg0)) n (row t k) ⟨g.val * 128 + q.val, by omega⟩) (hj : j.val = g.val * 128 + x.val) :
    @Eq EReal ((∑ q, P q * iblk m c 2 t (ix3 g q x)) * iblk m c 3 t (ix2 0 j))
    (mixed (m ((c : Thread nD τ).loc main_arg0)) (m ((c : Thread nD τ).loc main_arg1)) (m ((c : Thread nD τ).loc main_arg2)) n g (row t k) x) := by
  unfold mixed
  rw [scale, (Fin.ext hj : j = ⟨g.val * 128 + x.val, by omega⟩)]
  exact congrArg (· * _) (sum_congr rfl fun q _ => congrArg₂ (· * ·) (hP q) (weight m c t g q x))

theorem own (t : Fin cfg0.N) : k0_pay15 (F := Ideal) (grid0.coords t) (iblk m c 0 t) (iblk m c 1 t) (iblk m c 2 t) (iblk m c 3 t) = ext m c t := by
  unfold k0_pay15 ext
  frame_out

theorem out4 (t : Fin cfg0.N) (y : S512x512.Idx) :
    out0_4 (grid0.coords t) (iblk m c 0 t) (iblk m c 1 t) (iblk m c 2 t) (iblk m c 3 t) y = pool (m ((c : Thread nD τ).loc main_arg0)) (m ((c : Thread nD τ).loc main_arg1)) (m ((c : Thread nD τ).loc main_arg2)) (ix2 (row t (y 0)) (y 1)) := by
  frame_out
  rw [own m c t]
  canon_tiles x h
  all_goals rw [(Fin.ext h0 : y 0 = x 0)]
  · rw [pool_at _ _ _ _ (y 1) 3 (x 1) h1]
    unfold k0_pay3
    pointwise
    exact mixed_at m c 3 (x 0) (x 1) _ (fun q => group3 m c t (x 0) q _ rfl) rfl
  · rw [pool_at _ _ _ _ (y 1) 2 (x 1) h1]
    unfold k0_pay2
    pointwise
    exact mixed_at m c 2 (x 0) (x 1) _ (fun q => group2 m c t (x 0) q _ rfl) rfl
  · rw [pool_at _ _ _ _ (y 1) 1 (x 1) h1]
    unfold k0_pay1 k0_pay14
    pointwise
    exact mixed_at m c 1 (x 0) (x 1) _ (fun q => group1 m c t (x 0) q _ rfl) rfl
  · rw [pool_at _ _ _ _ (y 1) 0 (x 1) (h1.trans (Nat.zero_add _).symm)]
    unfold k0_pay13
    pointwise
    exact mixed_at m c 0 (x 0) (x 1) _ (fun q => group0 m c t (x 0) q _ (Nat.zero_add _).symm) (Nat.zero_add _).symm

theorem place (t : Fin cfg0.N) (k l : Fin 512) : ix2 (row t k) l = (win0_4.blk t).view.emb (ix2 k l) := by
  unfold row
  blk_ext [idx]

theorem arr4 : (dats m 0 c).arrAt 4 cfg0.N = pool (m ((c : Thread nD τ).loc main_arg0)) (m ((c : Thread nD τ).loc main_arg1))
    (m ((c : Thread nD τ).loc main_arg2)) := by
  refine (dats m 0 c).arrAt_eq_of_covers 4 _ (by decide +kernel) fun t _ y => ?_
  blk_simp
  rw [after0_4]
  obtain ⟨k, l, rfl⟩ : ∃ (k : Fin 512) (l : Fin 512), y = ix2 k l := ⟨y 0, y 1, by funext a; match a with | 0 => rfl | 1 => rfl⟩
  exact (out4 m c t (ix2 k l)).trans (congrArg _ (place t k l))

set_option backward.isDefEq.respectTransparency false in
/-- The kernel as printed and the kernel at the extended reals are one text. -/
theorem same : @Cert.Kernel30.defs Bits _ Cert.Kernel30.Gen.facts = @defs Bits _ facts
    ∧ @Cert.Kernel30.main Bits _ Cert.Kernel30.Gen.facts = @main Bits _ facts :=
  ⟨congrArg (Pipeline.defs (pcfgs (F := Bits))) (congrArg Defs.onTc (funext₂ fun l a => match l, a with | 0, (_, _) => rfl)), rfl⟩

theorem frame_kernel : Cert.quiescent_Kernel30 (hKernel30 := Cert.Kernel30.Gen.facts) := by
  intro m ρ _
  rw [same.1, same.2]
  exact Gen.frame (F := Bits) m ρ

theorem frame_ideal : Cert.quiescent_Kernel30Ideal (hKernel30Ideal := facts) := fun m ρ _ => Gen.frame m ρ

theorem frame_reference : Cert.quiescent_Reference30Ideal (hReference30Ideal := Cert.Reference30Ideal.Gen.facts) := fun m ρ _ =>
  (θ_run Cert.Reference30Ideal.defs _ _).mono (fun r h => ⟨fun c => (h c).2, sem_eq_zero_of_no_sems (by decide) r.2⟩)
    (Cert.Reference30Ideal.Value.run (F := Ideal) m ρ)

/-! The reference takes a window as the difference of two running sums, each a real. -/

def byGroup (U : Vec Ideal S8192x512 .f32) : Vec Ideal Cert.Reference30Ideal.S4x128x8192 .f32 :=
  open Cert.Reference30Ideal Cert.Reference30Ideal.Gen in
  shapeCast S4x128x8192 (transpose S512x8192 [1, 0] U transposes_S8192x512_S512x8192_1_0) shapeCasts_S512x8192_S4x128x8192

def running (U : Vec Ideal S8192x512 .f32) : FVec Ideal Cert.Reference30Ideal.S4x128x8192 .f32 :=
  open Cert.Reference30Ideal Cert.Reference30Ideal.Gen in
  Host.reduceWindowAdd (F := Ideal) ![1, 1, 8192] ![1, 1, 1] ![0, 0, 8191] ![0, 0, 0] (byGroup U) (broadcastInDim S_ ![] bcast_S_S_ (constant S_ .f32 0x00000000#32))
    reduceWindows_S4x128x8192_S4x128x8192_w1s1p0_0_w1s1p0_0_w8192s1p8191_0 h_S_

theorem running_is {U : Vec Ideal S8192x512 .f32} {A : ℕ → ℕ → ℝ} (h : Is U A) : Is3 (running U) fun g x r => ∑ v ∈ range (r + 1), A v (g * 128 + x) := by
  refine sum_to (Nm1 := 8191) rfl (f := fun g x r => A r (g * 128 + x)) (fun g x r => ?_) (fun i => ?_) _ _
  · unfold byGroup
    pointwise
    exact h r ⟨g.val * 128 + x.val, by omega⟩
  · pointwise

theorem window (f : ℕ → ℝ) (r n : ℕ) : ∑ v ∈ range (r + 1), f v - ∑ v ∈ range (r + 1 - n), f v = ∑ e ∈ range n, if e ≤ r then f (r - e) else 0 := by
  induction n with
  | zero => simp
  | succ n ih =>
    rw [sum_range_succ (fun e => if e ≤ r then f (r - e) else 0), ← ih]
    by_cases h : n ≤ r
    · rw [if_pos h, (by omega : r + 1 - n = r - n + 1), (by omega : r + 1 - (n + 1) = r - n), sum_range_succ f (r - n)]
      ring
    · rw [if_neg h, (by omega : r + 1 - n = 0), (by omega : r + 1 - (n + 1) = 0), add_zero]

section
variable {U : Vec Ideal S8192x512 .f32} {A : ℕ → ℕ → ℝ} (h : Is U A)
include h

theorem prev_is (r : Fin 8192) (j : Fin 512) (e : ℕ) : prev U r j e = ((if e ≤ r.val then A (r.val - e) j.val else 0 : ℝ) : EReal) := by
  unfold prev
  split
  · exact h _ j
  · rfl

theorem sums_is (r : Fin 8192) (j : Fin 512) (n : ℕ) :
    ∑ e ∈ range n, prev U r j e = ((∑ v ∈ range (r.val + 1), A v j.val - ∑ v ∈ range (r.val + 1 - n), A v j.val : ℝ) : EReal) := by
  rw [window (fun v => A v j.val)]
  induction n with
  | zero => simp
  | succ n ih => rw [sum_range_succ, sum_range_succ, ih, prev_is h, EReal.coe_add]

theorem window_ref {R : FVec Ideal Cert.Reference30Ideal.S4x128x8192 .f32} (hR : Is3 R fun g x r => ∑ v ∈ range (r + 1), A v (g * 128 + x))
    (g : Fin 4) (x : Fin 128) (r : Fin 8192) (n q : ℕ) (hq : q < 8192) (e : q = r.val - n) (hn : 0 < n) :
    @Eq EReal ((R (ix3 g x r) : EReal) - (if _h : r.val < n then (0 : EReal) else R (ix3 g x ⟨q, hq⟩))) (∑ e ∈ range n, prev U r ⟨g.val * 128 + x.val, by omega⟩ e) := by
  subst e
  rw [sums_is h, EReal.coe_sub, hR g x r]
  refine congrArg _ ?_
  by_cases hr : r.val < n
  · rw [dif_pos hr, (by omega : r.val + 1 - n = 0)]
    rfl
  · rw [dif_neg hr, (by omega : r.val + 1 - n = r.val - n + 1)]
    exact hR g x ⟨_, hq⟩

end

theorem sub_nat {a b : ℕ} (hb : b ≤ a) (ha : a < 2 ^ 31) : IntOp.subi (BitVec.ofNat 32 a) (BitVec.ofNat 32 b) = BitVec.ofNat 32 (a - b) := by
  refine BitVec.eq_of_toNat_eq ?_
  show (BitVec.ofNat 32 a - BitVec.ofNat 32 b).toNat = _
  rw [BitVec.toNat_sub, BitVec.toNat_ofNat, BitVec.toNat_ofNat, BitVec.toNat_ofNat]
  omega

theorem below (a b : ℕ) (ha : a < 2 ^ 31) (hb : b < 2 ^ 31) :
    IntOp.maxsi (IntOp.subi (BitVec.ofNat 32 a) (BitVec.ofNat 32 b)) (BitVec.ofNat 32 0) = BitVec.ofNat 32 (a - b) := by
  unfold IntOp.maxsi
  by_cases h : b ≤ a
  · rw [sub_nat h ha, slt_nat (by decide) (by omega)]
    by_cases h0 : 0 < a - b
    · simp [h0]
    · rw [(by omega : a - b = 0)]
      simp
  · have e : (IntOp.subi (BitVec.ofNat 32 a) (BitVec.ofNat 32 b)).toNat = 2 ^ 32 - b + a := by
      show (BitVec.ofNat 32 a - BitVec.ofNat 32 b).toNat = _
      rw [BitVec.toNat_sub, BitVec.toNat_ofNat, BitVec.toNat_ofNat]
      omega
    rw [if_neg, (by omega : a - b = 0)]
    rw [BitVec.slt, nat_int (by decide), BitVec.toInt_eq_toNat_cond, e, if_neg (by omega), decide_eq_true_eq]
    omega

theorem count_ref (r : Fin 8192) (n : ℕ) (hn : n ≤ 16) :
    FloatOps.sitofp (F := Ideal) .f32 (IntOp.subi (IntOp.addi (BitVec.ofNat 32 r.val) 1#32)
      (IntOp.maxsi (IntOp.subi (IntOp.addi (BitVec.ofNat 32 r.val) 1#32) (BitVec.ofNat 32 n)) 0#32)) = (((min (r.val + 1) n : ℕ) : ℝ) : EReal) := by
  have hr := r.isLt
  rw [add_nat, below _ _ (by omega) (by omega), sub_nat (by omega) (by omega), (by omega : r.val + 1 - (r.val + 1 - n) = min (r.val + 1) n)]
  show (((BitVec.ofNat 32 _).toInt : ℝ) : EReal) = _
  rw [nat_int (by omega), Int.cast_natCast]

theorem mixed_ref {U : Vec Ideal S8192x512 .f32} {A : ℕ → ℕ → ℝ} (h : Is U A) (W : Vec Ideal S4x128x128 .f32) (s : Vec Ideal S512 .f32)
    {R : FVec Ideal Cert.Reference30Ideal.S4x128x8192 .f32} (hR : Is3 R fun g x r => ∑ v ∈ range (r + 1), A v (g * 128 + x))
    (g : Fin 4) (n : ℕ) (hn : n = 2 ^ (g.val + 1)) (r : Fin 8192) (j : Fin 512) (x : Fin 128) (hx : j.val = g.val * 128 + x.val)
    (hn' : n ≤ 16) (hq : r.val - n < 8192) (col : Fin 128 → Fin 512) (ho : ∀ k, (col k).val = g.val * 128 + k.val) {D : Fin 128 → EReal}
    (hD : ∀ k, D k = (R (ix3 g k r) : EReal) - (if _h : r.val < n then (0 : EReal) else R (ix3 g k ⟨r.val - n, hq⟩))) :
    @Eq EReal ((∑ k : Fin 128, (Ideal.div (D k)
        (FloatOps.sitofp (F := Ideal) .f32 (IntOp.subi (IntOp.addi (BitVec.ofNat 32 r.val) 1#32)
          (IntOp.maxsi (IntOp.subi (IntOp.addi (BitVec.ofNat 32 r.val) 1#32) (BitVec.ofNat 32 n)) 0#32))) - U (ix2 r (col k))) * W (ix3 g k x))
      * s (ix1 j)) (pool U W s (ix2 r j)) := by
  rw [pool_at U W s r j g x hx, ← hn, count_ref r n hn']
  unfold mixed
  rw [(Fin.ext hx : j = ⟨g.val * 128 + x.val, by omega⟩)]
  refine congrArg (· * _) (sum_congr rfl fun k _ => ?_)
  rw [hD k, window_ref h hR g k r n _ hq rfl (by rw [hn]; exact Nat.two_pow_pos _), (Fin.ext (ho k) : col k = ⟨g.val * 128 + k.val, by omega⟩)]
  rfl

theorem value : Cert.algebraic_Kernel30Ideal_Reference30Ideal_pre_finite_pool (hKernel30Ideal := facts)
    (hReference30Ideal := Cert.Reference30Ideal.Gen.facts) (hPre_finite_pool := Cert.Pre_finite_pool.facts) := by
  intro m g m' g' hp hm
  refine ⟨_, (θ_run defs _ _).mono (fun r h c => ⟨(h c).1.trans (arr4 m c), (h c).2⟩) (Value.run_blocks m g),
    (θ_run Cert.Reference30Ideal.defs _ _).mono (fun r h c => ⟨(h c).1.trans (funext fun i => ?_), (h c).2⟩)
      (Cert.Reference30Ideal.Value.run (F := Ideal) m' g')⟩
  have ha := Cert.Pre_finite_pool.real (hF := Cert.Pre_finite_pool.facts) _ _ _ (hp c)
  obtain ⟨h0, h1, h2⟩ := hm c
  rw [← h0] at ha
  rw [← h0, ← h1, ← h2]
  clear h
  unfold Cert.Reference30Ideal.Value.res_main_v116
  have hR := running_is ha
  revert hR
  unfold running byGroup
  generalize Host.reduceWindowAdd (F := Ideal) _ _ _ _ _ _ _ _ = R
  intro hR
  obtain ⟨r, j, rfl⟩ : ∃ (r : Fin 8192) (j : Fin 512), i = ix2 r j := ⟨i 0, i 1, by funext a; match a with | 0 => rfl | 1 => rfl⟩
  pointwise
  have hj := j.isLt
  have key := mixed_ref ha (m' ((c : Thread Cert.Reference30Ideal.nD Cert.Reference30Ideal.τ).loc Cert.Reference30Ideal.main_arg1))
    (m' ((c : Thread Cert.Reference30Ideal.nD Cert.Reference30Ideal.τ).loc Cert.Reference30Ideal.main_arg2)) hR
  split
  · next h => exact key 0 2 (by decide) r j ⟨j.val, h⟩ (Nat.zero_add _).symm (by decide) (by omega) _ (fun k => (Nat.zero_add _).symm) fun k => rfl
  split
  · next h => exact key 1 4 (by decide) r j ⟨j.val - 128, h⟩ (by show j.val = 1 * 128 + (j.val - 128); omega) (by decide) (by omega) _ (fun k => rfl) fun k => rfl
  split
  · next h => exact key 2 8 (by decide) r j ⟨j.val - 128 - 128, h⟩ (by show j.val = 2 * 128 + (j.val - 128 - 128); omega) (by decide) (by omega) _ (fun k => rfl) fun k => rfl
  · exact key 3 16 (by decide) r j ⟨j.val - 128 - 128 - 128, by omega⟩ (by show j.val = 3 * 128 + (j.val - 128 - 128 - 128); omega) (by decide) (by omega) _ (fun k => rfl) fun k => rfl

end Cert.Kernel30Ideal.Pool
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Grid
public import proofs.«01_k».proof.Proof.Ref
public import proofs.«01_k».proof.Proof.Finite
public import proofs.«01_k».proof.Proof.FfUpDw
public import proofs.«01_k».proof.Proof.FfUpDx
public import proofs.«01_k».proof.Proof.FfDownDw
public import proofs.«01_k».proof.Proof.FfDownDx
public import proofs.«01_k».proof.Proof.ProjQkvDw
public import proofs.«01_k».proof.Proof.ProjQkvDx
public import proofs.«01_k».proof.Proof.ProjGateDx
public import proofs.«01_k».proof.Proof.FfUp
public import proofs.«01_k».proof.Proof.ProjQkv
public import proofs.«01_k».proof.Proof.ProjGate
public import proofs.«01_k».proof.Proof.FfDown
public import proofs.«01_k».proof.Proof.OutProjDw
public import proofs.«01_k».proof.Proof.OutProjDx
public import proofs.«01_k».proof.Proof.OutProj
public import proofs.«01_k».proof.Proof.BranchDw
public import proofs.«01_k».proof.Proof.BranchDx
public import proofs.«01_k».proof.Proof.ProjPool
public import proofs.«01_k».proof.Proof.ProjPoolDx
public import proofs.«01_k».proof.Proof.ProjPoolDw
public import proofs.«01_k».proof.Proof.Fwd
public import proofs.«01_k».proof.Proof.MergeFwd
public import proofs.«01_k».proof.Proof.MergeBwd
public import proofs.«01_k».proof.Proof.ConvBwd
public import proofs.«01_k».proof.Proof.NormBwd
public import proofs.«01_k».proof.Proof.NormFwd
public import proofs.«01_k».proof.Proof.ActFwd
public import proofs.«01_k».proof.Proof.LossHead
public import proofs.«01_k».proof.Proof.AdamWIn
public import proofs.«01_k».proof.Proof.PoolFwd

@[expose] public section

noncomputable section

namespace Cert.Proof

open Idealize.ShloMosaic Idealize.SL.Sem

theorem frame_ideal : Cert.quiescent_KernelIdeal (hKernelIdeal := Cert.KernelIdeal.Gen.facts) := fun m ρ _ =>
  Cert.KernelIdeal.Bwd.frame (F := Ideal) m ρ

/-- The two printed programs are one text, so the run at the bit patterns is the kernel's own. -/
theorem frame_kernel : Cert.quiescent_Kernel (hKernel := Cert.Kernel.Gen.facts) := by
  intro m ρ _
  rw [defs_eq, main_eq]
  exact Cert.KernelIdeal.Bwd.frame (F := Bits) m ρ

/-- The reference is host operations alone: it declares no counter. -/
theorem frame_reference : Cert.quiescent_ReferenceIdeal (hReferenceIdeal := Cert.ReferenceIdeal.Gen.facts) := fun m ρ _ =>
  (θ_run Cert.ReferenceIdeal.defs _ _).mono (fun r h => ⟨fun c => ⟨(h c).2.2.2.1, (h c).2.2.2.2⟩,
    sem_eq_zero_of_no_sems (by decide) r.2⟩) (Cert.ReferenceIdeal.Value.run (F := Ideal) m ρ)

/-- Of finite arguments, over the extended reals, kernel and reference leave the same three gradients. -/
theorem value : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hp hm
  have ha := fun c => Cert.Pre_finite.fst_real (hF := Cert.Pre_finite.facts) _ _ (hp c).1
  have hd := fun c => Cert.Pre_finite.snd_real (hF := Cert.Pre_finite.facts) _ _ (hp c).2
  refine ⟨_, _, _, (θ_run Cert.KernelIdeal.defs _ _).mono (fun r h c => ⟨(h c).1.1, (h c).1.2.1, (h c).1.2.2, (h c).2.1, (h c).2.2⟩)
    (Cert.KernelIdeal.Bwd.run_value m g ha hd), (θ_run Cert.ReferenceIdeal.defs _ _).mono (fun r h c => ?_) (Cert.ReferenceIdeal.Value.run (F := Ideal) m' g')⟩
  have hA : Cert.ReferenceIdeal.Value.Args (StableHlo.launchContents m' c)
      (Cert.Pre_finite.reals (n := 8192) (m := 3072) (m ((c.tc : Thread Cert.KernelIdeal.nD Cert.KernelIdeal.τ).loc Cert.KernelIdeal.main_arg0)))
      (Cert.Pre_finite.reals (n := 8192) (m := 512) (m ((c.tc : Thread Cert.KernelIdeal.nD Cert.KernelIdeal.τ).loc Cert.KernelIdeal.main_arg1))) :=
    ⟨(congrArg (fun x : Vec Ideal Cert.ReferenceIdeal.S8192x3072 .bf16 => Cert.Spec.Is (n := 8192) (m := 3072) x _) (hm c).1).mpr (ha c),
      (congrArg (fun x : Vec Ideal Cert.ReferenceIdeal.S8192x512 .bf16 => Cert.Spec.Is (n := 8192) (m := 512) x _) (hm c).2).mpr (hd c)⟩
  exact ⟨(h c).1.trans (Cert.KernelIdeal.Bwd.arr_is (Cert.ReferenceIdeal.Value.v60_is hA)),
    (h c).2.1.trans (Cert.KernelIdeal.Bwd.arr_is (Cert.ReferenceIdeal.Value.v62_is hA)),
    (h c).2.2.1.trans (Cert.KernelIdeal.Bwd.arr_is (Cert.ReferenceIdeal.Value.v64_is hA)), (h c).2.2.2.1, (h c).2.2.2.2⟩

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts,
  Cert.Kernel14Ideal.Gen.facts, Cert.Reference14Ideal.Gen.facts, Cert.Kernel15.Gen.facts, Cert.Kernel15Ideal.Gen.facts,
  Cert.Reference15Ideal.Gen.facts, Cert.Kernel16.Gen.facts, Cert.Kernel16Ideal.Gen.facts, Cert.Reference16Ideal.Gen.facts,
  Cert.Kernel17.Gen.facts, Cert.Kernel17Ideal.Gen.facts, Cert.Reference17Ideal.Gen.facts, Cert.Kernel18.Gen.facts,
  Cert.Kernel18Ideal.Gen.facts, Cert.Reference18Ideal.Gen.facts, Cert.Kernel19.Gen.facts, Cert.Kernel19Ideal.Gen.facts,
  Cert.Reference19Ideal.Gen.facts, Cert.Kernel20.Gen.facts, Cert.Kernel20Ideal.Gen.facts, Cert.Reference20Ideal.Gen.facts,
  Cert.Kernel22.Gen.facts, Cert.Kernel22Ideal.Gen.facts, Cert.Reference22Ideal.Gen.facts, Cert.Kernel23.Gen.facts,
  Cert.Kernel23Ideal.Gen.facts, Cert.Reference23Ideal.Gen.facts, Cert.Kernel24.Gen.facts, Cert.Kernel24Ideal.Gen.facts,
  Cert.Reference24Ideal.Gen.facts, Cert.Kernel25.Gen.facts, Cert.Kernel25Ideal.Gen.facts, Cert.Reference25Ideal.Gen.facts,
  Cert.Kernel26.Gen.facts, Cert.Kernel26Ideal.Gen.facts, Cert.Reference26Ideal.Gen.facts, Cert.Kernel27.Gen.facts,
  Cert.Kernel27Ideal.Gen.facts, Cert.Reference27Ideal.Gen.facts, Cert.Kernel28.Gen.facts, Cert.Kernel28Ideal.Gen.facts,
  Cert.Reference28Ideal.Gen.facts, Cert.Kernel29.Gen.facts, Cert.Kernel29Ideal.Gen.facts, Cert.Reference29Ideal.Gen.facts,
  Cert.Kernel21.Gen.facts, Cert.Kernel21Ideal.Gen.facts, Cert.Reference21Ideal.Gen.facts, Cert.Kernel30.Gen.facts,
  Cert.Kernel30Ideal.Gen.facts, Cert.Reference30Ideal.Gen.facts, Cert.Pre_finite.facts,
  Cert.Pre_finite_fwd.facts, Cert.Pre_finite_pool.facts, frame_kernel, frame_ideal, fun m ρ _ => frame_ideal m ρ trivial, frame_reference,
  fun m ρ _ => frame_reference m ρ trivial, Cert.Kernel2Ideal.Product.frame_kernel, Cert.Kernel2Ideal.Product.frame_ideal,
  Cert.Kernel2Ideal.Product.frame_reference, Cert.Kernel3Ideal.Product.frame_kernel, Cert.Kernel3Ideal.Product.frame_ideal,
  Cert.Kernel3Ideal.Product.frame_reference, Cert.Kernel4Ideal.Product.frame_kernel, Cert.Kernel4Ideal.Product.frame_ideal,
  Cert.Kernel4Ideal.Product.frame_reference, Cert.Kernel5Ideal.Product.frame_kernel, Cert.Kernel5Ideal.Product.frame_ideal,
  Cert.Kernel5Ideal.Product.frame_reference, Cert.Kernel6Ideal.Product.frame_kernel, Cert.Kernel6Ideal.Product.frame_ideal,
  Cert.Kernel6Ideal.Product.frame_reference, Cert.Kernel7Ideal.Product.frame_kernel, Cert.Kernel7Ideal.Product.frame_ideal,
  Cert.Kernel7Ideal.Product.frame_reference, Cert.Kernel8Ideal.Product.frame_kernel, Cert.Kernel8Ideal.Product.frame_ideal,
  Cert.Kernel8Ideal.Product.frame_reference, Cert.Kernel9Ideal.Product.frame_kernel, Cert.Kernel9Ideal.Product.frame_ideal,
  Cert.Kernel9Ideal.Product.frame_reference, Cert.Kernel10Ideal.Product.frame_kernel, Cert.Kernel10Ideal.Product.frame_ideal,
  Cert.Kernel10Ideal.Product.frame_reference, Cert.Kernel11Ideal.Product.frame_kernel, Cert.Kernel11Ideal.Product.frame_ideal,
  Cert.Kernel11Ideal.Product.frame_reference, Cert.Kernel12Ideal.Product.frame_kernel, Cert.Kernel12Ideal.Product.frame_ideal,
  Cert.Kernel12Ideal.Product.frame_reference, Cert.Kernel13Ideal.Product.frame_kernel, Cert.Kernel13Ideal.Product.frame_ideal,
  Cert.Kernel13Ideal.Product.frame_reference, Cert.Kernel14Ideal.Product.frame_kernel, Cert.Kernel14Ideal.Product.frame_ideal,
  Cert.Kernel14Ideal.Product.frame_reference, Cert.Kernel15Ideal.Product.frame_kernel, Cert.Kernel15Ideal.Product.frame_ideal,
  Cert.Kernel15Ideal.Product.frame_reference, Cert.Kernel16Ideal.Product.frame_kernel, Cert.Kernel16Ideal.Product.frame_ideal,
  Cert.Kernel16Ideal.Product.frame_reference, Cert.Kernel17Ideal.Product.frame_kernel, Cert.Kernel17Ideal.Product.frame_ideal,
  Cert.Kernel17Ideal.Product.frame_reference, Cert.Kernel18Ideal.Product.frame_kernel, Cert.Kernel18Ideal.Product.frame_ideal,
  Cert.Kernel18Ideal.Product.frame_reference, Cert.Kernel19Ideal.Product.frame_kernel, Cert.Kernel19Ideal.Product.frame_ideal,
  Cert.Kernel19Ideal.Product.frame_reference, Cert.Kernel20Ideal.Product.frame_kernel, Cert.Kernel20Ideal.Product.frame_ideal,
  Cert.Kernel20Ideal.Product.frame_reference, Cert.Kernel22Ideal.Merge.frame_kernel, Cert.Kernel22Ideal.Merge.frame_ideal,
  Cert.Kernel22Ideal.Merge.frame_reference, Cert.Kernel23Ideal.Merge.frame_kernel, Cert.Kernel23Ideal.Merge.frame_ideal,
  Cert.Kernel23Ideal.Merge.frame_reference, Cert.Kernel24Ideal.Conv.frame_kernel, Cert.Kernel24Ideal.Conv.frame_ideal,
  Cert.Kernel24Ideal.Conv.frame_reference, Cert.Kernel25Ideal.Norm.frame_kernel, Cert.Kernel25Ideal.Norm.frame_ideal,
  Cert.Kernel25Ideal.Norm.frame_reference, Cert.Kernel26Ideal.Norm.frame_kernel, Cert.Kernel26Ideal.Norm.frame_ideal,
  Cert.Kernel26Ideal.Norm.frame_reference, Cert.Kernel27Ideal.Act.frame_kernel, Cert.Kernel27Ideal.Act.frame_ideal,
  Cert.Kernel27Ideal.Act.frame_reference, Cert.Kernel28Ideal.Loss.frame_kernel, Cert.Kernel28Ideal.Loss.frame_ideal,
  Cert.Kernel28Ideal.Loss.frame_reference, Cert.Kernel29Ideal.Step.frame_kernel, Cert.Kernel29Ideal.Step.frame_ideal,
  Cert.Kernel29Ideal.Step.frame_reference, Cert.Kernel21Ideal.Fwd.frame_kernel, Cert.Kernel21Ideal.Fwd.frame_ideal,
  fun m ρ _ => Cert.Kernel21Ideal.Fwd.frame_ideal m ρ trivial, Cert.Kernel21Ideal.Fwd.frame_reference,
  fun m ρ _ => Cert.Kernel21Ideal.Fwd.frame_reference m ρ trivial, Cert.Kernel30Ideal.Pool.frame_kernel,
  Cert.Kernel30Ideal.Pool.frame_ideal, fun m ρ _ => Cert.Kernel30Ideal.Pool.frame_ideal m ρ trivial,
  Cert.Kernel30Ideal.Pool.frame_reference, fun m ρ _ => Cert.Kernel30Ideal.Pool.frame_reference m ρ trivial, trivial, value, trivial, Cert.Kernel2Ideal.Product.value,
  trivial, Cert.Kernel3Ideal.Product.value, trivial, Cert.Kernel4Ideal.Product.value, trivial, Cert.Kernel5Ideal.Product.value,
  trivial, Cert.Kernel6Ideal.Product.value, trivial, Cert.Kernel7Ideal.Product.value, trivial, Cert.Kernel8Ideal.Product.value,
  trivial, Cert.Kernel9Ideal.Product.value, trivial, Cert.Kernel10Ideal.Product.value, trivial, Cert.Kernel11Ideal.Product.value,
  trivial, Cert.Kernel12Ideal.Product.value, trivial, Cert.Kernel13Ideal.Product.value, trivial,
  Cert.Kernel14Ideal.Product.value, trivial, Cert.Kernel15Ideal.Product.value, trivial, Cert.Kernel16Ideal.Product.value,
  trivial, Cert.Kernel17Ideal.Product.value, trivial, Cert.Kernel18Ideal.Product.value, trivial,
  Cert.Kernel19Ideal.Product.value, trivial, Cert.Kernel20Ideal.Product.value, trivial, Cert.Kernel22Ideal.Merge.value, trivial,
  Cert.Kernel23Ideal.Merge.value, trivial, Cert.Kernel24Ideal.Conv.value, trivial, Cert.Kernel25Ideal.Norm.value, trivial,
  Cert.Kernel26Ideal.Norm.value, trivial, Cert.Kernel27Ideal.Act.value, trivial, Cert.Kernel28Ideal.Loss.value, trivial,
  Cert.Kernel29Ideal.Step.value, trivial, Cert.Kernel21Ideal.Fwd.value, trivial, Cert.Kernel30Ideal.Pool.value⟩

end Cert.Proof

end
